-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite [hPre_finite : Cert.Pre_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))) = (fun _ => 1#1)

def Pre_FfnEnd (m : (ℓ : Loc Cert.FfnEnd.nD Cert.FfnEnd.τ Cert.FfnEnd.sig) → Buf (Elt Bits) ℓ) : Prop :=
  True

def Pre_FfnEndIdeal (m : (ℓ : Loc Cert.FfnEndIdeal.nD Cert.FfnEndIdeal.τ Cert.FfnEndIdeal.sig) → Buf (Elt Ideal) ℓ) : Prop :=
  True

def Pre_FfnEndIdeal_finite [hPre_finite : Cert.Pre_finite.Facts] (m : (ℓ : Loc Cert.FfnEndIdeal.nD Cert.FfnEndIdeal.τ Cert.FfnEndIdeal.sig) → Buf (Elt Ideal) ℓ) : Prop :=
  ∀ c : Dev Cert.FfnEndIdeal.nD,
    (Cert.Pre_finite.fn (F := Ideal) (m ((c.tc : Thread Cert.FfnEndIdeal.nD Cert.FfnEndIdeal.τ).loc Cert.FfnEndIdeal.main_arg0)) (m ((c.tc : Thread Cert.FfnEndIdeal.nD Cert.FfnEndIdeal.τ).loc Cert.FfnEndIdeal.main_arg1)) (m ((c.tc : Thread Cert.FfnEndIdeal.nD Cert.FfnEndIdeal.τ).loc Cert.FfnEndIdeal.main_arg2)) (m ((c.tc : Thread Cert.FfnEndIdeal.nD Cert.FfnEndIdeal.τ).loc Cert.FfnEndIdeal.main_arg3)) (m ((c.tc : Thread Cert.FfnEndIdeal.nD Cert.FfnEndIdeal.τ).loc Cert.FfnEndIdeal.main_arg4)) (m ((c.tc : Thread Cert.FfnEndIdeal.nD Cert.FfnEndIdeal.τ).loc Cert.FfnEndIdeal.main_arg5)) (m ((c.tc : Thread Cert.FfnEndIdeal.nD Cert.FfnEndIdeal.τ).loc Cert.FfnEndIdeal.main_arg6))) = (fun _ => 1#1)

def Pre_FfnEndRefIdeal (m : (ℓ : Loc Cert.FfnEndRefIdeal.nD Cert.FfnEndRefIdeal.τ Cert.FfnEndRefIdeal.sig) → Buf (Elt Ideal) ℓ) : Prop :=
  True

def Pre_FfnEndRefIdeal_finite [hPre_finite : Cert.Pre_finite.Facts] (m : (ℓ : Loc Cert.FfnEndRefIdeal.nD Cert.FfnEndRefIdeal.τ Cert.FfnEndRefIdeal.sig) → Buf (Elt Ideal) ℓ) : Prop :=
  ∀ c : Dev Cert.FfnEndRefIdeal.nD,
    (Cert.Pre_finite.fn (F := Ideal) (m ((c.tc : Thread Cert.FfnEndRefIdeal.nD Cert.FfnEndRefIdeal.τ).loc Cert.FfnEndRefIdeal.main_arg0)) (m ((c.tc : Thread Cert.FfnEndRefIdeal.nD Cert.FfnEndRefIdeal.τ).loc Cert.FfnEndRefIdeal.main_arg1)) (m ((c.tc : Thread Cert.FfnEndRefIdeal.nD Cert.FfnEndRefIdeal.τ).loc Cert.FfnEndRefIdeal.main_arg2)) (m ((c.tc : Thread Cert.FfnEndRefIdeal.nD Cert.FfnEndRefIdeal.τ).loc Cert.FfnEndRefIdeal.main_arg3)) (m ((c.tc : Thread Cert.FfnEndRefIdeal.nD Cert.FfnEndRefIdeal.τ).loc Cert.FfnEndRefIdeal.main_arg4)) (m ((c.tc : Thread Cert.FfnEndRefIdeal.nD Cert.FfnEndRefIdeal.τ).loc Cert.FfnEndRefIdeal.main_arg5)) (m ((c.tc : Thread Cert.FfnEndRefIdeal.nD Cert.FfnEndRefIdeal.τ).loc Cert.FfnEndRefIdeal.main_arg6))) = (fun _ => 1#1)

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidIdeal_finite6 [hPre_finite6 : Cert.Pre_finite6.Facts] (m : (ℓ : Loc Cert.FfnMidIdeal.nD Cert.FfnMidIdeal.τ Cert.FfnMidIdeal.sig) → Buf (Elt Ideal) ℓ) : Prop :=
  ∀ c : Dev Cert.FfnMidIdeal.nD,
    (Cert.Pre_finite6.fn (F := Ideal) (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3)) (m ((c.tc : Thread Cert.FfnMidIdeal.nD Cert.FfnMidIdeal.τ).loc Cert.FfnMidIdeal.main_arg4)) (m ((c.tc : Thread Cert.FfnMidIdeal.nD Cert.FfnMidIdeal.τ).loc Cert.FfnMidIdeal.main_arg5))) = (fun _ => 1#1)

def Pre_FfnMidRefIdeal (m : (ℓ : Loc Cert.FfnMidRefIdeal.nD Cert.FfnMidRefIdeal.τ Cert.FfnMidRefIdeal.sig) → Buf (Elt Ideal) ℓ) : Prop :=
  True

def Pre_FfnMidRefIdeal_finite6 [hPre_finite6 : Cert.Pre_finite6.Facts] (m : (ℓ : Loc Cert.FfnMidRefIdeal.nD Cert.FfnMidRefIdeal.τ Cert.FfnMidRefIdeal.sig) → Buf (Elt Ideal) ℓ) : Prop :=
  ∀ c : Dev Cert.FfnMidRefIdeal.nD,
    (Cert.Pre_finite6.fn (F := Ideal) (m ((c.tc : Thread Cert.FfnMidRefIdeal.nD Cert.FfnMidRefIdeal.τ).loc Cert.FfnMidRefIdeal.main_arg0)) (m ((c.tc : Thread Cert.FfnMidRefIdeal.nD Cert.FfnMidRefIdeal.τ).loc Cert.FfnMidRefIdeal.main_arg1)) (m ((c.tc : Thread Cert.FfnMidRefIdeal.nD Cert.FfnMidRefIdeal.τ).loc Cert.FfnMidRefIdeal.main_arg2)) (m ((c.tc : Thread Cert.FfnMidRefIdeal.nD Cert.FfnMidRefIdeal.τ).loc Cert.FfnMidRefIdeal.main_arg3)) (m ((c.tc : Thread Cert.FfnMidRefIdeal.nD Cert.FfnMidRefIdeal.τ).loc Cert.FfnMidRefIdeal.main_arg4)) (m ((c.tc : Thread Cert.FfnMidRefIdeal.nD Cert.FfnMidRefIdeal.τ).loc Cert.FfnMidRefIdeal.main_arg5))) = (fun _ => 1#1)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_finite [hFfnRefIdeal : Cert.FfnRefIdeal.Facts] [hPre_finite : Cert.Pre_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnEnd [hFfnEnd : Cert.FfnEnd.Facts] : Prop :=
  ∀ (m : (ℓ : Loc Cert.FfnEnd.nD Cert.FfnEnd.τ Cert.FfnEnd.sig) → Buf (Elt Bits) ℓ) (g : Dev Cert.FfnEnd.nD → PrngReg), Pre_FfnEnd m →
    θ_run (Cert.FfnEnd.defs (F := Bits)) (onTc (τ := Cert.FfnEnd.τ) (Cert.FfnEnd.main (F := Bits))) ⟨m, fun _ => 0, g⟩ (fun r => (∀ c : Dev Cert.FfnEnd.nD,
      r.2.mem ((c.tc : Thread Cert.FfnEnd.nD Cert.FfnEnd.τ).loc Cert.FfnEnd.main_arg0) = m ((c.tc : Thread Cert.FfnEnd.nD Cert.FfnEnd.τ).loc Cert.FfnEnd.main_arg0)
      ∧ r.2.mem ((c.tc : Thread Cert.FfnEnd.nD Cert.FfnEnd.τ).loc Cert.FfnEnd.main_arg1) = m ((c.tc : Thread Cert.FfnEnd.nD Cert.FfnEnd.τ).loc Cert.FfnEnd.main_arg1)
      ∧ r.2.mem ((c.tc : Thread Cert.FfnEnd.nD Cert.FfnEnd.τ).loc Cert.FfnEnd.main_arg2) = m ((c.tc : Thread Cert.FfnEnd.nD Cert.FfnEnd.τ).loc Cert.FfnEnd.main_arg2)
      ∧ r.2.mem ((c.tc : Thread Cert.FfnEnd.nD Cert.FfnEnd.τ).loc Cert.FfnEnd.main_arg3) = m ((c.tc : Thread Cert.FfnEnd.nD Cert.FfnEnd.τ).loc Cert.FfnEnd.main_arg3)
      ∧ r.2.mem ((c.tc : Thread Cert.FfnEnd.nD Cert.FfnEnd.τ).loc Cert.FfnEnd.main_arg4) = m ((c.tc : Thread Cert.FfnEnd.nD Cert.FfnEnd.τ).loc Cert.FfnEnd.main_arg4)
      ∧ r.2.mem ((c.tc : Thread Cert.FfnEnd.nD Cert.FfnEnd.τ).loc Cert.FfnEnd.main_arg5) = m ((c.tc : Thread Cert.FfnEnd.nD Cert.FfnEnd.τ).loc Cert.FfnEnd.main_arg5)
      ∧ r.2.mem ((c.tc : Thread Cert.FfnEnd.nD Cert.FfnEnd.τ).loc Cert.FfnEnd.main_arg6) = m ((c.tc : Thread Cert.FfnEnd.nD Cert.FfnEnd.τ).loc Cert.FfnEnd.main_arg6))
      ∧ r.2.sem = fun _ => 0)

def quiescent_FfnEndIdeal [hFfnEndIdeal : Cert.FfnEndIdeal.Facts] : Prop :=
  ∀ (m : (ℓ : Loc Cert.FfnEndIdeal.nD Cert.FfnEndIdeal.τ Cert.FfnEndIdeal.sig) → Buf (Elt Ideal) ℓ) (g : Dev Cert.FfnEndIdeal.nD → PrngReg), Pre_FfnEndIdeal m →
    θ_run (Cert.FfnEndIdeal.defs (F := Ideal)) (onTc (τ := Cert.FfnEndIdeal.τ) (Cert.FfnEndIdeal.main (F := Ideal))) ⟨m, fun _ => 0, g⟩ (fun r => (∀ c : Dev Cert.FfnEndIdeal.nD,
      r.2.mem ((c.tc : Thread Cert.FfnEndIdeal.nD Cert.FfnEndIdeal.τ).loc Cert.FfnEndIdeal.main_arg0) = m ((c.tc : Thread Cert.FfnEndIdeal.nD Cert.FfnEndIdeal.τ).loc Cert.FfnEndIdeal.main_arg0)
      ∧ r.2.mem ((c.tc : Thread Cert.FfnEndIdeal.nD Cert.FfnEndIdeal.τ).loc Cert.FfnEndIdeal.main_arg1) = m ((c.tc : Thread Cert.FfnEndIdeal.nD Cert.FfnEndIdeal.τ).loc Cert.FfnEndIdeal.main_arg1)
      ∧ r.2.mem ((c.tc : Thread Cert.FfnEndIdeal.nD Cert.FfnEndIdeal.τ).loc Cert.FfnEndIdeal.main_arg2) = m ((c.tc : Thread Cert.FfnEndIdeal.nD Cert.FfnEndIdeal.τ).loc Cert.FfnEndIdeal.main_arg2)
      ∧ r.2.mem ((c.tc : Thread Cert.FfnEndIdeal.nD Cert.FfnEndIdeal.τ).loc Cert.FfnEndIdeal.main_arg3) = m ((c.tc : Thread Cert.FfnEndIdeal.nD Cert.FfnEndIdeal.τ).loc Cert.FfnEndIdeal.main_arg3)
      ∧ r.2.mem ((c.tc : Thread Cert.FfnEndIdeal.nD Cert.FfnEndIdeal.τ).loc Cert.FfnEndIdeal.main_arg4) = m ((c.tc : Thread Cert.FfnEndIdeal.nD Cert.FfnEndIdeal.τ).loc Cert.FfnEndIdeal.main_arg4)
      ∧ r.2.mem ((c.tc : Thread Cert.FfnEndIdeal.nD Cert.FfnEndIdeal.τ).loc Cert.FfnEndIdeal.main_arg5) = m ((c.tc : Thread Cert.FfnEndIdeal.nD Cert.FfnEndIdeal.τ).loc Cert.FfnEndIdeal.main_arg5)
      ∧ r.2.mem ((c.tc : Thread Cert.FfnEndIdeal.nD Cert.FfnEndIdeal.τ).loc Cert.FfnEndIdeal.main_arg6) = m ((c.tc : Thread Cert.FfnEndIdeal.nD Cert.FfnEndIdeal.τ).loc Cert.FfnEndIdeal.main_arg6))
      ∧ r.2.sem = fun _ => 0)

def quiescent_FfnEndIdeal_pre_finite [hFfnEndIdeal : Cert.FfnEndIdeal.Facts] [hPre_finite : Cert.Pre_finite.Facts] : Prop :=
  ∀ (m : (ℓ : Loc Cert.FfnEndIdeal.nD Cert.FfnEndIdeal.τ Cert.FfnEndIdeal.sig) → Buf (Elt Ideal) ℓ) (g : Dev Cert.FfnEndIdeal.nD → PrngReg), Pre_FfnEndIdeal_finite m →
    θ_run (Cert.FfnEndIdeal.defs (F := Ideal)) (onTc (τ := Cert.FfnEndIdeal.τ) (Cert.FfnEndIdeal.main (F := Ideal))) ⟨m, fun _ => 0, g⟩ (fun r => (∀ c : Dev Cert.FfnEndIdeal.nD,
      r.2.mem ((c.tc : Thread Cert.FfnEndIdeal.nD Cert.FfnEndIdeal.τ).loc Cert.FfnEndIdeal.main_arg0) = m ((c.tc : Thread Cert.FfnEndIdeal.nD Cert.FfnEndIdeal.τ).loc Cert.FfnEndIdeal.main_arg0)
      ∧ r.2.mem ((c.tc : Thread Cert.FfnEndIdeal.nD Cert.FfnEndIdeal.τ).loc Cert.FfnEndIdeal.main_arg1) = m ((c.tc : Thread Cert.FfnEndIdeal.nD Cert.FfnEndIdeal.τ).loc Cert.FfnEndIdeal.main_arg1)
      ∧ r.2.mem ((c.tc : Thread Cert.FfnEndIdeal.nD Cert.FfnEndIdeal.τ).loc Cert.FfnEndIdeal.main_arg2) = m ((c.tc : Thread Cert.FfnEndIdeal.nD Cert.FfnEndIdeal.τ).loc Cert.FfnEndIdeal.main_arg2)
      ∧ r.2.mem ((c.tc : Thread Cert.FfnEndIdeal.nD Cert.FfnEndIdeal.τ).loc Cert.FfnEndIdeal.main_arg3) = m ((c.tc : Thread Cert.FfnEndIdeal.nD Cert.FfnEndIdeal.τ).loc Cert.FfnEndIdeal.main_arg3)
      ∧ r.2.mem ((c.tc : Thread Cert.FfnEndIdeal.nD Cert.FfnEndIdeal.τ).loc Cert.FfnEndIdeal.main_arg4) = m ((c.tc : Thread Cert.FfnEndIdeal.nD Cert.FfnEndIdeal.τ).loc Cert.FfnEndIdeal.main_arg4)
      ∧ r.2.mem ((c.tc : Thread Cert.FfnEndIdeal.nD Cert.FfnEndIdeal.τ).loc Cert.FfnEndIdeal.main_arg5) = m ((c.tc : Thread Cert.FfnEndIdeal.nD Cert.FfnEndIdeal.τ).loc Cert.FfnEndIdeal.main_arg5)
      ∧ r.2.mem ((c.tc : Thread Cert.FfnEndIdeal.nD Cert.FfnEndIdeal.τ).loc Cert.FfnEndIdeal.main_arg6) = m ((c.tc : Thread Cert.FfnEndIdeal.nD Cert.FfnEndIdeal.τ).loc Cert.FfnEndIdeal.main_arg6))
      ∧ r.2.sem = fun _ => 0)

def quiescent_FfnEndRefIdeal [hFfnEndRefIdeal : Cert.FfnEndRefIdeal.Facts] : Prop :=
  ∀ (m : (ℓ : Loc Cert.FfnEndRefIdeal.nD Cert.FfnEndRefIdeal.τ Cert.FfnEndRefIdeal.sig) → Buf (Elt Ideal) ℓ) (g : Dev Cert.FfnEndRefIdeal.nD → PrngReg), Pre_FfnEndRefIdeal m →
    θ_run (Cert.FfnEndRefIdeal.defs (F := Ideal)) (onTc (τ := Cert.FfnEndRefIdeal.τ) (Cert.FfnEndRefIdeal.main (F := Ideal))) ⟨m, fun _ => 0, g⟩ (fun r => (∀ c : Dev Cert.FfnEndRefIdeal.nD,
      r.2.mem ((c.tc : Thread Cert.FfnEndRefIdeal.nD Cert.FfnEndRefIdeal.τ).loc Cert.FfnEndRefIdeal.main_arg0) = m ((c.tc : Thread Cert.FfnEndRefIdeal.nD Cert.FfnEndRefIdeal.τ).loc Cert.FfnEndRefIdeal.main_arg0)
      ∧ r.2.mem ((c.tc : Thread Cert.FfnEndRefIdeal.nD Cert.FfnEndRefIdeal.τ).loc Cert.FfnEndRefIdeal.main_arg1) = m ((c.tc : Thread Cert.FfnEndRefIdeal.nD Cert.FfnEndRefIdeal.τ).loc Cert.FfnEndRefIdeal.main_arg1)
      ∧ r.2.mem ((c.tc : Thread Cert.FfnEndRefIdeal.nD Cert.FfnEndRefIdeal.τ).loc Cert.FfnEndRefIdeal.main_arg2) = m ((c.tc : Thread Cert.FfnEndRefIdeal.nD Cert.FfnEndRefIdeal.τ).loc Cert.FfnEndRefIdeal.main_arg2)
      ∧ r.2.mem ((c.tc : Thread Cert.FfnEndRefIdeal.nD Cert.FfnEndRefIdeal.τ).loc Cert.FfnEndRefIdeal.main_arg3) = m ((c.tc : Thread Cert.FfnEndRefIdeal.nD Cert.FfnEndRefIdeal.τ).loc Cert.FfnEndRefIdeal.main_arg3)
      ∧ r.2.mem ((c.tc : Thread Cert.FfnEndRefIdeal.nD Cert.FfnEndRefIdeal.τ).loc Cert.FfnEndRefIdeal.main_arg4) = m ((c.tc : Thread Cert.FfnEndRefIdeal.nD Cert.FfnEndRefIdeal.τ).loc Cert.FfnEndRefIdeal.main_arg4)
      ∧ r.2.mem ((c.tc : Thread Cert.FfnEndRefIdeal.nD Cert.FfnEndRefIdeal.τ).loc Cert.FfnEndRefIdeal.main_arg5) = m ((c.tc : Thread Cert.FfnEndRefIdeal.nD Cert.FfnEndRefIdeal.τ).loc Cert.FfnEndRefIdeal.main_arg5)
      ∧ r.2.mem ((c.tc : Thread Cert.FfnEndRefIdeal.nD Cert.FfnEndRefIdeal.τ).loc Cert.FfnEndRefIdeal.main_arg6) = m ((c.tc : Thread Cert.FfnEndRefIdeal.nD Cert.FfnEndRefIdeal.τ).loc Cert.FfnEndRefIdeal.main_arg6))
      ∧ r.2.sem = fun _ => 0)

def quiescent_FfnEndRefIdeal_pre_finite [hFfnEndRefIdeal : Cert.FfnEndRefIdeal.Facts] [hPre_finite : Cert.Pre_finite.Facts] : Prop :=
  ∀ (m : (ℓ : Loc Cert.FfnEndRefIdeal.nD Cert.FfnEndRefIdeal.τ Cert.FfnEndRefIdeal.sig) → Buf (Elt Ideal) ℓ) (g : Dev Cert.FfnEndRefIdeal.nD → PrngReg), Pre_FfnEndRefIdeal_finite m →
    θ_run (Cert.FfnEndRefIdeal.defs (F := Ideal)) (onTc (τ := Cert.FfnEndRefIdeal.τ) (Cert.FfnEndRefIdeal.main (F := Ideal))) ⟨m, fun _ => 0, g⟩ (fun r => (∀ c : Dev Cert.FfnEndRefIdeal.nD,
      r.2.mem ((c.tc : Thread Cert.FfnEndRefIdeal.nD Cert.FfnEndRefIdeal.τ).loc Cert.FfnEndRefIdeal.main_arg0) = m ((c.tc : Thread Cert.FfnEndRefIdeal.nD Cert.FfnEndRefIdeal.τ).loc Cert.FfnEndRefIdeal.main_arg0)
      ∧ r.2.mem ((c.tc : Thread Cert.FfnEndRefIdeal.nD Cert.FfnEndRefIdeal.τ).loc Cert.FfnEndRefIdeal.main_arg1) = m ((c.tc : Thread Cert.FfnEndRefIdeal.nD Cert.FfnEndRefIdeal.τ).loc Cert.FfnEndRefIdeal.main_arg1)
      ∧ r.2.mem ((c.tc : Thread Cert.FfnEndRefIdeal.nD Cert.FfnEndRefIdeal.τ).loc Cert.FfnEndRefIdeal.main_arg2) = m ((c.tc : Thread Cert.FfnEndRefIdeal.nD Cert.FfnEndRefIdeal.τ).loc Cert.FfnEndRefIdeal.main_arg2)
      ∧ r.2.mem ((c.tc : Thread Cert.FfnEndRefIdeal.nD Cert.FfnEndRefIdeal.τ).loc Cert.FfnEndRefIdeal.main_arg3) = m ((c.tc : Thread Cert.FfnEndRefIdeal.nD Cert.FfnEndRefIdeal.τ).loc Cert.FfnEndRefIdeal.main_arg3)
      ∧ r.2.mem ((c.tc : Thread Cert.FfnEndRefIdeal.nD Cert.FfnEndRefIdeal.τ).loc Cert.FfnEndRefIdeal.main_arg4) = m ((c.tc : Thread Cert.FfnEndRefIdeal.nD Cert.FfnEndRefIdeal.τ).loc Cert.FfnEndRefIdeal.main_arg4)
      ∧ r.2.mem ((c.tc : Thread Cert.FfnEndRefIdeal.nD Cert.FfnEndRefIdeal.τ).loc Cert.FfnEndRefIdeal.main_arg5) = m ((c.tc : Thread Cert.FfnEndRefIdeal.nD Cert.FfnEndRefIdeal.τ).loc Cert.FfnEndRefIdeal.main_arg5)
      ∧ r.2.mem ((c.tc : Thread Cert.FfnEndRefIdeal.nD Cert.FfnEndRefIdeal.τ).loc Cert.FfnEndRefIdeal.main_arg6) = m ((c.tc : Thread Cert.FfnEndRefIdeal.nD Cert.FfnEndRefIdeal.τ).loc Cert.FfnEndRefIdeal.main_arg6))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidIdeal_pre_finite6 [hFfnMidIdeal : Cert.FfnMidIdeal.Facts] [hPre_finite6 : Cert.Pre_finite6.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal_finite6 m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5))
      ∧ r.2.sem = fun _ => 0)

def quiescent_FfnMidRefIdeal_pre_finite6 [hFfnMidRefIdeal : Cert.FfnMidRefIdeal.Facts] [hPre_finite6 : Cert.Pre_finite6.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal_finite6 m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5))
      ∧ r.2.sem = fun _ => 0)

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v6)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v6) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v60) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_Ffn_FfnIdeal : Prop :=
  True

def algebraic_FfnIdeal_FfnRefIdeal_pre_finite [hFfnIdeal : Cert.FfnIdeal.Facts] [hFfnRefIdeal : Cert.FfnRefIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v11_0)) (v1 : (c : Dev Cert.FfnIdeal.nD) → Buf (Elt Ideal) ((c.tc : Thread Cert.FfnIdeal.nD Cert.FfnIdeal.τ).loc Cert.FfnIdeal.main_v11_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11_0) = v0 c
          ∧ r.2.mem ((c.tc : Thread Cert.FfnIdeal.nD Cert.FfnIdeal.τ).loc Cert.FfnIdeal.main_v11_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v77) = v0 c
          ∧ r.2.mem ((c.tc : Thread Cert.FfnRefIdeal.nD Cert.FfnRefIdeal.τ).loc Cert.FfnRefIdeal.main_v78) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_FfnEnd_FfnEndIdeal : Prop :=
  True

def algebraic_FfnEndIdeal_FfnEndRefIdeal_pre_finite [hFfnEndIdeal : Cert.FfnEndIdeal.Facts] [hFfnEndRefIdeal : Cert.FfnEndRefIdeal.Facts] [hPre_finite : Cert.Pre_finite.Facts] : Prop :=
  ∀ (m : (ℓ : Loc Cert.FfnEndIdeal.nD Cert.FfnEndIdeal.τ Cert.FfnEndIdeal.sig) → Buf (Elt Ideal) ℓ) (g : Dev Cert.FfnEndIdeal.nD → PrngReg)
    (m' : (ℓ : Loc Cert.FfnEndRefIdeal.nD Cert.FfnEndRefIdeal.τ Cert.FfnEndRefIdeal.sig) → Buf (Elt Ideal) ℓ) (g' : Dev Cert.FfnEndRefIdeal.nD → PrngReg), Pre_FfnEndIdeal_finite m →
    (∀ c : Dev Cert.FfnEndIdeal.nD,
      m' ((c.tc : Thread Cert.FfnEndRefIdeal.nD Cert.FfnEndRefIdeal.τ).loc Cert.FfnEndRefIdeal.main_arg0) = m ((c.tc : Thread Cert.FfnEndIdeal.nD Cert.FfnEndIdeal.τ).loc Cert.FfnEndIdeal.main_arg0)
      ∧ m' ((c.tc : Thread Cert.FfnEndRefIdeal.nD Cert.FfnEndRefIdeal.τ).loc Cert.FfnEndRefIdeal.main_arg1) = m ((c.tc : Thread Cert.FfnEndIdeal.nD Cert.FfnEndIdeal.τ).loc Cert.FfnEndIdeal.main_arg1)
      ∧ m' ((c.tc : Thread Cert.FfnEndRefIdeal.nD Cert.FfnEndRefIdeal.τ).loc Cert.FfnEndRefIdeal.main_arg2) = m ((c.tc : Thread Cert.FfnEndIdeal.nD Cert.FfnEndIdeal.τ).loc Cert.FfnEndIdeal.main_arg2)
      ∧ m' ((c.tc : Thread Cert.FfnEndRefIdeal.nD Cert.FfnEndRefIdeal.τ).loc Cert.FfnEndRefIdeal.main_arg3) = m ((c.tc : Thread Cert.FfnEndIdeal.nD Cert.FfnEndIdeal.τ).loc Cert.FfnEndIdeal.main_arg3)
      ∧ m' ((c.tc : Thread Cert.FfnEndRefIdeal.nD Cert.FfnEndRefIdeal.τ).loc Cert.FfnEndRefIdeal.main_arg4) = m ((c.tc : Thread Cert.FfnEndIdeal.nD Cert.FfnEndIdeal.τ).loc Cert.FfnEndIdeal.main_arg4)
      ∧ m' ((c.tc : Thread Cert.FfnEndRefIdeal.nD Cert.FfnEndRefIdeal.τ).loc Cert.FfnEndRefIdeal.main_arg5) = m ((c.tc : Thread Cert.FfnEndIdeal.nD Cert.FfnEndIdeal.τ).loc Cert.FfnEndIdeal.main_arg5)
      ∧ m' ((c.tc : Thread Cert.FfnEndRefIdeal.nD Cert.FfnEndRefIdeal.τ).loc Cert.FfnEndRefIdeal.main_arg6) = m ((c.tc : Thread Cert.FfnEndIdeal.nD Cert.FfnEndIdeal.τ).loc Cert.FfnEndIdeal.main_arg6)) →
    ∃ (v0 : (c : Dev Cert.FfnEndIdeal.nD) → Buf (Elt Ideal) ((c.tc : Thread Cert.FfnEndIdeal.nD Cert.FfnEndIdeal.τ).loc Cert.FfnEndIdeal.main_v11)),
      θ_run (Cert.FfnEndIdeal.defs (F := Ideal)) (onTc (τ := Cert.FfnEndIdeal.τ) (Cert.FfnEndIdeal.main (F := Ideal))) ⟨m, fun _ => 0, g⟩ (fun r => ∀ c : Dev Cert.FfnEndIdeal.nD,
          r.2.mem ((c.tc : Thread Cert.FfnEndIdeal.nD Cert.FfnEndIdeal.τ).loc Cert.FfnEndIdeal.main_v11) = v0 c
          ∧ r.2.mem ((c.tc : Thread Cert.FfnEndIdeal.nD Cert.FfnEndIdeal.τ).loc Cert.FfnEndIdeal.main_arg0) = m ((c.tc : Thread Cert.FfnEndIdeal.nD Cert.FfnEndIdeal.τ).loc Cert.FfnEndIdeal.main_arg0)
          ∧ r.2.mem ((c.tc : Thread Cert.FfnEndIdeal.nD Cert.FfnEndIdeal.τ).loc Cert.FfnEndIdeal.main_arg1) = m ((c.tc : Thread Cert.FfnEndIdeal.nD Cert.FfnEndIdeal.τ).loc Cert.FfnEndIdeal.main_arg1)
          ∧ r.2.mem ((c.tc : Thread Cert.FfnEndIdeal.nD Cert.FfnEndIdeal.τ).loc Cert.FfnEndIdeal.main_arg2) = m ((c.tc : Thread Cert.FfnEndIdeal.nD Cert.FfnEndIdeal.τ).loc Cert.FfnEndIdeal.main_arg2)
          ∧ r.2.mem ((c.tc : Thread Cert.FfnEndIdeal.nD Cert.FfnEndIdeal.τ).loc Cert.FfnEndIdeal.main_arg3) = m ((c.tc : Thread Cert.FfnEndIdeal.nD Cert.FfnEndIdeal.τ).loc Cert.FfnEndIdeal.main_arg3)
          ∧ r.2.mem ((c.tc : Thread Cert.FfnEndIdeal.nD Cert.FfnEndIdeal.τ).loc Cert.FfnEndIdeal.main_arg4) = m ((c.tc : Thread Cert.FfnEndIdeal.nD Cert.FfnEndIdeal.τ).loc Cert.FfnEndIdeal.main_arg4)
          ∧ r.2.mem ((c.tc : Thread Cert.FfnEndIdeal.nD Cert.FfnEndIdeal.τ).loc Cert.FfnEndIdeal.main_arg5) = m ((c.tc : Thread Cert.FfnEndIdeal.nD Cert.FfnEndIdeal.τ).loc Cert.FfnEndIdeal.main_arg5)
          ∧ r.2.mem ((c.tc : Thread Cert.FfnEndIdeal.nD Cert.FfnEndIdeal.τ).loc Cert.FfnEndIdeal.main_arg6) = m ((c.tc : Thread Cert.FfnEndIdeal.nD Cert.FfnEndIdeal.τ).loc Cert.FfnEndIdeal.main_arg6))
      ∧ θ_run (Cert.FfnEndRefIdeal.defs (F := Ideal)) (onTc (τ := Cert.FfnEndRefIdeal.τ) (Cert.FfnEndRefIdeal.main (F := Ideal))) ⟨m', fun _ => 0, g'⟩ (fun r => ∀ c : Dev Cert.FfnEndRefIdeal.nD,
          r.2.mem ((c.tc : Thread Cert.FfnEndRefIdeal.nD Cert.FfnEndRefIdeal.τ).loc Cert.FfnEndRefIdeal.main_v76) = v0 c
          ∧ r.2.mem ((c.tc : Thread Cert.FfnEndRefIdeal.nD Cert.FfnEndRefIdeal.τ).loc Cert.FfnEndRefIdeal.main_arg0) = m' ((c.tc : Thread Cert.FfnEndRefIdeal.nD Cert.FfnEndRefIdeal.τ).loc Cert.FfnEndRefIdeal.main_arg0)
          ∧ r.2.mem ((c.tc : Thread Cert.FfnEndRefIdeal.nD Cert.FfnEndRefIdeal.τ).loc Cert.FfnEndRefIdeal.main_arg1) = m' ((c.tc : Thread Cert.FfnEndRefIdeal.nD Cert.FfnEndRefIdeal.τ).loc Cert.FfnEndRefIdeal.main_arg1)
          ∧ r.2.mem ((c.tc : Thread Cert.FfnEndRefIdeal.nD Cert.FfnEndRefIdeal.τ).loc Cert.FfnEndRefIdeal.main_arg2) = m' ((c.tc : Thread Cert.FfnEndRefIdeal.nD Cert.FfnEndRefIdeal.τ).loc Cert.FfnEndRefIdeal.main_arg2)
          ∧ r.2.mem ((c.tc : Thread Cert.FfnEndRefIdeal.nD Cert.FfnEndRefIdeal.τ).loc Cert.FfnEndRefIdeal.main_arg3) = m' ((c.tc : Thread Cert.FfnEndRefIdeal.nD Cert.FfnEndRefIdeal.τ).loc Cert.FfnEndRefIdeal.main_arg3)
          ∧ r.2.mem ((c.tc : Thread Cert.FfnEndRefIdeal.nD Cert.FfnEndRefIdeal.τ).loc Cert.FfnEndRefIdeal.main_arg4) = m' ((c.tc : Thread Cert.FfnEndRefIdeal.nD Cert.FfnEndRefIdeal.τ).loc Cert.FfnEndRefIdeal.main_arg4)
          ∧ r.2.mem ((c.tc : Thread Cert.FfnEndRefIdeal.nD Cert.FfnEndRefIdeal.τ).loc Cert.FfnEndRefIdeal.main_arg5) = m' ((c.tc : Thread Cert.FfnEndRefIdeal.nD Cert.FfnEndRefIdeal.τ).loc Cert.FfnEndRefIdeal.main_arg5)
          ∧ r.2.mem ((c.tc : Thread Cert.FfnEndRefIdeal.nD Cert.FfnEndRefIdeal.τ).loc Cert.FfnEndRefIdeal.main_arg6) = m' ((c.tc : Thread Cert.FfnEndRefIdeal.nD Cert.FfnEndRefIdeal.τ).loc Cert.FfnEndRefIdeal.main_arg6))

def preserves_FfnMid_FfnMidIdeal : Prop :=
  True

def algebraic_FfnMidIdeal_FfnMidRefIdeal_pre_finite6 [hFfnMidIdeal : Cert.FfnMidIdeal.Facts] [hFfnMidRefIdeal : Cert.FfnMidRefIdeal.Facts] [hPre_finite6 : Cert.Pre_finite6.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal_finite6 m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)
      ∧ m' ((c.tc : Thread Cert.FfnMidRefIdeal.nD Cert.FfnMidRefIdeal.τ).loc Cert.FfnMidRefIdeal.main_arg5) = m ((c.tc : Thread Cert.FfnMidIdeal.nD Cert.FfnMidIdeal.τ).loc Cert.FfnMidIdeal.main_arg5)) →
    ∃ (v0 : (c : Dev Cert.FfnMidIdeal.nD) → Buf (Elt Ideal) ((c.tc : Thread Cert.FfnMidIdeal.nD Cert.FfnMidIdeal.τ).loc Cert.FfnMidIdeal.main_v11)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v11) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v63) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4)
          ∧ r.2.mem ((c.tc : Thread Cert.FfnMidRefIdeal.nD Cert.FfnMidRefIdeal.τ).loc Cert.FfnMidRefIdeal.main_arg5) = m' ((c.tc : Thread Cert.FfnMidRefIdeal.nD Cert.FfnMidRefIdeal.τ).loc Cert.FfnMidRefIdeal.main_arg5))

def Claim : Prop :=
  ∃ (hGla : Cert.Gla.Facts) (hGlaIdeal : Cert.GlaIdeal.Facts) (hGlaRefIdeal : Cert.GlaRefIdeal.Facts) (hFfn : Cert.Ffn.Facts) (hFfnIdeal : Cert.FfnIdeal.Facts) (hFfnRefIdeal : Cert.FfnRefIdeal.Facts) (hFfnEnd : Cert.FfnEnd.Facts) (hFfnEndIdeal : Cert.FfnEndIdeal.Facts) (hFfnEndRefIdeal : Cert.FfnEndRefIdeal.Facts) (hFfnMid : Cert.FfnMid.Facts) (hFfnMidIdeal : Cert.FfnMidIdeal.Facts) (hFfnMidRefIdeal : Cert.FfnMidRefIdeal.Facts) (hPre_finite : Cert.Pre_finite.Facts) (hPre_finite6 : Cert.Pre_finite6.Facts),
    quiescent_Gla (hGla := hGla)
    ∧ quiescent_GlaIdeal (hGlaIdeal := hGlaIdeal)
    ∧ quiescent_GlaRefIdeal (hGlaRefIdeal := hGlaRefIdeal)
    ∧ quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnRefIdeal (hFfnRefIdeal := hFfnRefIdeal)
    ∧ quiescent_FfnRefIdeal_pre_finite (hFfnRefIdeal := hFfnRefIdeal) (hPre_finite := hPre_finite)
    ∧ quiescent_FfnEnd (hFfnEnd := hFfnEnd)
    ∧ quiescent_FfnEndIdeal (hFfnEndIdeal := hFfnEndIdeal)
    ∧ quiescent_FfnEndIdeal_pre_finite (hFfnEndIdeal := hFfnEndIdeal) (hPre_finite := hPre_finite)
    ∧ quiescent_FfnEndRefIdeal (hFfnEndRefIdeal := hFfnEndRefIdeal)
    ∧ quiescent_FfnEndRefIdeal_pre_finite (hFfnEndRefIdeal := hFfnEndRefIdeal) (hPre_finite := hPre_finite)
    ∧ quiescent_FfnMid (hFfnMid := hFfnMid)
    ∧ quiescent_FfnMidIdeal (hFfnMidIdeal := hFfnMidIdeal)
    ∧ quiescent_FfnMidIdeal_pre_finite6 (hFfnMidIdeal := hFfnMidIdeal) (hPre_finite6 := hPre_finite6)
    ∧ quiescent_FfnMidRefIdeal (hFfnMidRefIdeal := hFfnMidRefIdeal)
    ∧ quiescent_FfnMidRefIdeal_pre_finite6 (hFfnMidRefIdeal := hFfnMidRefIdeal) (hPre_finite6 := hPre_finite6)
    ∧ preserves_Gla_GlaIdeal
    ∧ algebraic_GlaIdeal_GlaRefIdeal (hGlaIdeal := hGlaIdeal) (hGlaRefIdeal := hGlaRefIdeal)
    ∧ preserves_Ffn_FfnIdeal
    ∧ algebraic_FfnIdeal_FfnRefIdeal_pre_finite (hFfnIdeal := hFfnIdeal) (hFfnRefIdeal := hFfnRefIdeal) (hPre_finite := hPre_finite)
    ∧ preserves_FfnEnd_FfnEndIdeal
    ∧ algebraic_FfnEndIdeal_FfnEndRefIdeal_pre_finite (hFfnEndIdeal := hFfnEndIdeal) (hFfnEndRefIdeal := hFfnEndRefIdeal) (hPre_finite := hPre_finite)
    ∧ preserves_FfnMid_FfnMidIdeal
    ∧ algebraic_FfnMidIdeal_FfnMidRefIdeal_pre_finite6 (hFfnMidIdeal := hFfnMidIdeal) (hFfnMidRefIdeal := hFfnMidRefIdeal) (hPre_finite6 := hPre_finite6)
-- ==== Pre_finite.lean ====
abbrev S32768x2048 : Shape := ⟨2, ![32768, 2048]⟩
abbrev S2048 : Shape := ⟨1, ![2048]⟩
abbrev S4x11x2x2048x512 : Shape := ⟨5, ![4, 11, 2, 2048, 512]⟩
abbrev S4x3x11008 : Shape := ⟨3, ![4, 3, 11008]⟩
abbrev S4x11008 : Shape := ⟨2, ![4, 11008]⟩
abbrev S4x5504x2048 : Shape := ⟨3, ![4, 5504, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048 : S_.BroadcastsInDim S2048 (![] : Fin 0 → Fin S2048.rank)
  reducesTo_S2048_S_d0 : S2048.ReducesTo [0] S_
  bitsLt_bf16_f32 : FTy.bits .bf16 < FTy.bits .f32
  bcast_S_S4x11x2x2048x512 : S_.BroadcastsInDim S4x11x2x2048x512 (![] : Fin 0 → Fin S4x11x2x2048x512.rank)
  reducesTo_S4x11x2x2048x512_S_d0_1_2_3_4 : S4x11x2x2048x512.ReducesTo [0, 1, 2, 3, 4] S_
  bcast_S_S4x3x11008 : S_.BroadcastsInDim S4x3x11008 (![] : Fin 0 → Fin S4x3x11008.rank)
  reducesTo_S4x3x11008_S_d0_1_2 : S4x3x11008.ReducesTo [0, 1, 2] S_
  bcast_S_S4x11008 : S_.BroadcastsInDim S4x11008 (![] : Fin 0 → Fin S4x11008.rank)
  reducesTo_S4x11008_S_d0_1 : S4x11008.ReducesTo [0, 1] S_

variable [Facts]

def fn_part1 {F : FTy → Type} [FloatOps F] (main_arg4 : FVec F S4x11008 .f32) (main_v14 : IVec S_ 1) (main_v15 : FVec F S4x3x11008 .f32) (main_v16 : FVec F S4x3x11008 .f32) : IVec S_ 1 :=
  let main_v17 : IVec S4x3x11008 1 := cmpf .olt main_v15 main_v16
  let main_c_5 : IVec S_ 1 := constantI S_ 1 1#1
  let main_v18 : IVec S_ 1 := (fun x v => Host.reduce IntOp.andi x v reducesTo_S4x3x11008_S_d0_1_2 h_S_) main_v17 main_c_5
  let main_v19 : IVec S_ 1 := andi main_v14 main_v18
  let main_v20 : FVec F S4x11008 .f32 := Host.absf main_arg4
  let main_cst_6 : FVec F S_ .f32 := constant S_ .f32 0x7F800000#32
  let main_v21 : FVec F S4x11008 .f32 := broadcastInDim S4x11008 ![] bcast_S_S4x11008 main_cst_6
  let main_v22 : IVec S4x11008 1 := cmpf .olt main_v20 main_v21
  let main_c_7 : IVec S_ 1 := constantI S_ 1 1#1
  let main_v23 : IVec S_ 1 := (fun x v => Host.reduce IntOp.andi x v reducesTo_S4x11008_S_d0_1 h_S_) main_v22 main_c_7
  let main_v24 : IVec S_ 1 := andi main_v19 main_v23
  main_v24

def fn {F : FTy → Type} [FloatOps F] (main_arg0 : FVec F S32768x2048 .f32) (main_arg1 : FVec F S2048 .f32) (main_arg2 : FVec F S4x11x2x2048x512 .bf16) (main_arg3 : FVec F S4x3x11008 .f32) (main_arg4 : FVec F S4x11008 .f32) (main_arg5 : FVec F S4x5504x2048 .f32) (main_arg6 : FVec F S2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4x11x2x2048x512 .f32 := (extf .f32 · bitsLt_bf16_f32) main_arg2
  let main_v10 : FVec F S4x11x2x2048x512 .f32 := Host.absf main_v9
  let main_cst_2 : FVec F S_ .f32 := constant S_ .f32 0x7F800000#32
  let main_v11 : FVec F S4x11x2x2048x512 .f32 := broadcastInDim S4x11x2x2048x512 ![] bcast_S_S4x11x2x2048x512 main_cst_2
  let main_v12 : IVec S4x11x2x2048x512 1 := cmpf .olt main_v10 main_v11
  let main_c_3 : IVec S_ 1 := constantI S_ 1 1#1
  let main_v13 : IVec S_ 1 := (fun x v => Host.reduce IntOp.andi x v reducesTo_S4x11x2x2048x512_S_d0_1_2_3_4 h_S_) main_v12 main_c_3
  let main_v14 : IVec S_ 1 := andi main_v8 main_v13
  let main_v15 : FVec F S4x3x11008 .f32 := Host.absf main_arg3
  let main_cst_4 : FVec F S_ .f32 := constant S_ .f32 0x7F800000#32
  let main_v16 : FVec F S4x3x11008 .f32 := broadcastInDim S4x3x11008 ![] bcast_S_S4x3x11008 main_cst_4
  fn_part1 (F := F) main_arg4 main_v14 main_v15 main_v16
-- ==== Pre_finite6.lean ====
abbrev S32768x2048 : Shape := ⟨2, ![32768, 2048]⟩
abbrev S2048 : Shape := ⟨1, ![2048]⟩
abbrev S4x11x2x2048x512 : Shape := ⟨5, ![4, 11, 2, 2048, 512]⟩
abbrev S4x3x11008 : Shape := ⟨3, ![4, 3, 11008]⟩
abbrev S4x11008 : Shape := ⟨2, ![4, 11008]⟩
abbrev S4x5504x2048 : Shape := ⟨3, ![4, 5504, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048 : S_.BroadcastsInDim S2048 (![] : Fin 0 → Fin S2048.rank)
  reducesTo_S2048_S_d0 : S2048.ReducesTo [0] S_
  bitsLt_bf16_f32 : FTy.bits .bf16 < FTy.bits .f32
  bcast_S_S4x11x2x2048x512 : S_.BroadcastsInDim S4x11x2x2048x512 (![] : Fin 0 → Fin S4x11x2x2048x512.rank)
  reducesTo_S4x11x2x2048x512_S_d0_1_2_3_4 : S4x11x2x2048x512.ReducesTo [0, 1, 2, 3, 4] S_
  bcast_S_S4x3x11008 : S_.BroadcastsInDim S4x3x11008 (![] : Fin 0 → Fin S4x3x11008.rank)
  reducesTo_S4x3x11008_S_d0_1_2 : S4x3x11008.ReducesTo [0, 1, 2] S_
  bcast_S_S4x11008 : S_.BroadcastsInDim S4x11008 (![] : Fin 0 → Fin S4x11008.rank)
  reducesTo_S4x11008_S_d0_1 : S4x11008.ReducesTo [0, 1] S_

variable [Facts]

def fn_part1 {F : FTy → Type} [FloatOps F] (main_arg4 : FVec F S4x11008 .f32) (main_v14 : IVec S_ 1) (main_v15 : FVec F S4x3x11008 .f32) (main_v16 : FVec F S4x3x11008 .f32) : IVec S_ 1 :=
  let main_v17 : IVec S4x3x11008 1 := cmpf .olt main_v15 main_v16
  let main_c_5 : IVec S_ 1 := constantI S_ 1 1#1
  let main_v18 : IVec S_ 1 := (fun x v => Host.reduce IntOp.andi x v reducesTo_S4x3x11008_S_d0_1_2 h_S_) main_v17 main_c_5
  let main_v19 : IVec S_ 1 := andi main_v14 main_v18
  let main_v20 : FVec F S4x11008 .f32 := Host.absf main_arg4
  let main_cst_6 : FVec F S_ .f32 := constant S_ .f32 0x7F800000#32
  let main_v21 : FVec F S4x11008 .f32 := broadcastInDim S4x11008 ![] bcast_S_S4x11008 main_cst_6
  let main_v22 : IVec S4x11008 1 := cmpf .olt main_v20 main_v21
  let main_c_7 : IVec S_ 1 := constantI S_ 1 1#1
  let main_v23 : IVec S_ 1 := (fun x v => Host.reduce IntOp.andi x v reducesTo_S4x11008_S_d0_1 h_S_) main_v22 main_c_7
  let main_v24 : IVec S_ 1 := andi main_v19 main_v23
  main_v24

def fn {F : FTy → Type} [FloatOps F] (main_arg0 : FVec F S32768x2048 .f32) (main_arg1 : FVec F S2048 .f32) (main_arg2 : FVec F S4x11x2x2048x512 .bf16) (main_arg3 : FVec F S4x3x11008 .f32) (main_arg4 : FVec F S4x11008 .f32) (main_arg5 : FVec F S4x5504x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4x11x2x2048x512 .f32 := (extf .f32 · bitsLt_bf16_f32) main_arg2
  let main_v10 : FVec F S4x11x2x2048x512 .f32 := Host.absf main_v9
  let main_cst_2 : FVec F S_ .f32 := constant S_ .f32 0x7F800000#32
  let main_v11 : FVec F S4x11x2x2048x512 .f32 := broadcastInDim S4x11x2x2048x512 ![] bcast_S_S4x11x2x2048x512 main_cst_2
  let main_v12 : IVec S4x11x2x2048x512 1 := cmpf .olt main_v10 main_v11
  let main_c_3 : IVec S_ 1 := constantI S_ 1 1#1
  let main_v13 : IVec S_ 1 := (fun x v => Host.reduce IntOp.andi x v reducesTo_S4x11x2x2048x512_S_d0_1_2_3_4 h_S_) main_v12 main_c_3
  let main_v14 : IVec S_ 1 := andi main_v8 main_v13
  let main_v15 : FVec F S4x3x11008 .f32 := Host.absf main_arg3
  let main_cst_4 : FVec F S_ .f32 := constant S_ .f32 0x7F800000#32
  let main_v16 : FVec F S4x3x11008 .f32 := broadcastInDim S4x3x11008 ![] bcast_S_S4x3x11008 main_cst_4
  fn_part1 (F := F) main_arg4 main_v14 main_v15 main_v16
-- ==== Gla.lean ====
abbrev S32768x6144 : Shape := ⟨2, ![32768, 6144]⟩
abbrev S32768x128 : Shape := ⟨2, ![32768, 128]⟩
abbrev S16x512 : Shape := ⟨2, ![16, 512]⟩
abbrev S512 : Shape := ⟨1, ![512]⟩
abbrev S1024 : Shape := ⟨1, ![1024]⟩
abbrev S_ : Shape := ⟨0, ![]⟩
abbrev S128x512 : Shape := ⟨2, ![128, 512]⟩
abbrev S1 : Shape := ⟨1, ![1]⟩
abbrev S1x512 : Shape := ⟨2, ![1, 512]⟩
abbrev S1x1024 : Shape := ⟨2, ![1, 1024]⟩
abbrev S32768x1024 : Shape := ⟨2, ![32768, 1024]⟩
abbrev S512x512 : Shape := ⟨2, ![512, 512]⟩
abbrev S512x1024 : Shape := ⟨2, ![512, 1024]⟩
abbrev S512x128 : Shape := ⟨2, ![512, 128]⟩
abbrev S4x256x128 : Shape := ⟨3, ![4, 256, 128]⟩
abbrev S64x64 : Shape := ⟨2, ![64, 64]⟩
abbrev S64x1 : Shape := ⟨2, ![64, 1]⟩
abbrev S64x512 : Shape := ⟨2, ![64, 512]⟩
abbrev S64x128 : Shape := ⟨2, ![64, 128]⟩
abbrev S64x256 : Shape := ⟨2, ![64, 256]⟩
abbrev S1x256x128 : Shape := ⟨3, ![1, 256, 128]⟩
abbrev S256x128 : Shape := ⟨2, ![256, 128]⟩
abbrev S1x128 : Shape := ⟨2, ![1, 128]⟩
abbrev S16x128 : Shape := ⟨2, ![16, 128]⟩
abbrev S16x64 : Shape := ⟨2, ![16, 64]⟩
abbrev S64 : Shape := ⟨1, ![64]⟩
abbrev S1x256 : Shape := ⟨2, ![1, 256]⟩

abbrev nBuf : Space → Nat
  | .hbm => 14
  | .vmem => 17
  | .smem => 0
  | _ => 0

abbrev bufTy : (tb : Table) → Fin (tcTables nBuf tb) → BufTy
  | .hbm, ⟨0, _⟩ => ⟨S32768x6144, .bf16⟩
  | .hbm, ⟨1, _⟩ => ⟨S32768x128, .f32⟩
  | .hbm, ⟨2, _⟩ => ⟨S16x512, .f32⟩
  | .hbm, ⟨3, _⟩ => ⟨S512, .f32⟩
  | .hbm, ⟨4, _⟩ => ⟨S1024, .f32⟩
  | .hbm, ⟨5, _⟩ => ⟨S_, .bf16⟩
  | .hbm, ⟨6, _⟩ => ⟨S128x512, .bf16⟩
  | .hbm, ⟨7, _⟩ => ⟨S16x512, .bf16⟩
  | .hbm, ⟨8, _⟩ => ⟨S_, .i32⟩
  | .hbm, ⟨9, _⟩ => ⟨S1, .i32⟩
  | .hbm, ⟨10, _⟩ => ⟨S128x512, .bf16⟩
  | .hbm, ⟨11, _⟩ => ⟨S1x512, .f32⟩
  | .hbm, ⟨12, _⟩ => ⟨S1x1024, .f32⟩
  | .hbm, ⟨13, _⟩ => ⟨S32768x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x128, .f32⟩
  | .local _ .vmem, ⟨9, _⟩ => ⟨S512x128, .f32⟩
  | .local _ .vmem, ⟨10, _⟩ => ⟨S128x512, .bf16⟩
  | .local _ .vmem, ⟨11, _⟩ => ⟨S1x512, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S4x256x128, .f32⟩
  | .local _ .vmem, ⟨16, _⟩ => ⟨S512x512, .f32⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_30 : BitVec 32 := 0#32
  let c8_i32 : BitVec 32 := 8#32
  let v72 : BitVec 32 := Scalar.addi c0_i32_30 c8_i32
  let c1_i32 : BitVec 32 := 1#32
  ⟨c0_i32_30, v72, c1_i32⟩
def k0_mult1 (k0_t1 : Fin k0_t1_loop.trips) : BitVec 32 :=
  let c0_i32_30 : BitVec 32 := 0#32
  let c1_i32 : BitVec 32 := 1#32
  let arg13 : BitVec 32 := Scf.iv c0_i32_30 c1_i32 k0_t1
  let c64_i32 : BitVec 32 := 64#32
  let v73 : BitVec 32 := Scalar.muli arg13 c64_i32
  v73
def k0_off1 (k0_t1 : Fin k0_t1_loop.trips) : Fin 2 → Nat :=
  let c0_i32_30 : BitVec 32 := 0#32
  let c1_i32 : BitVec 32 := 1#32
  let arg13 : BitVec 32 := Scf.iv c0_i32_30 c1_i32 k0_t1
  let c64_i32 : BitVec 32 := 64#32
  let v73 : BitVec 32 := Scalar.muli arg13 c64_i32
  let v74 : BitVec 32 := v73
  let v75 : Index := Scalar.indexCast v74
  let c0_32 : Index := 0#32
  ![v75.toNat, 0]
def k0_off2 (k0_t1 : Fin k0_t1_loop.trips) : Fin 2 → Nat :=
  let c0_i32_30 : BitVec 32 := 0#32
  let c1_i32 : BitVec 32 := 1#32
  let arg13 : BitVec 32 := Scf.iv c0_i32_30 c1_i32 k0_t1
  let c64_i32 : BitVec 32 := 64#32
  let v73 : BitVec 32 := Scalar.muli arg13 c64_i32
  let v74 : BitVec 32 := v73
  let v78 : Index := Scalar.indexCast v74
  let c0_33 : Index := 0#32
  ![v78.toNat, 0]
def k0_off3 (k0_t1 : Fin k0_t1_loop.trips) : Fin 2 → Nat :=
  let c0_i32_30 : BitVec 32 := 0#32
  let c1_i32 : BitVec 32 := 1#32
  let arg13 : BitVec 32 := Scf.iv c0_i32_30 c1_i32 k0_t1
  let c64_i32 : BitVec 32 := 64#32
  let v73 : BitVec 32 := Scalar.muli arg13 c64_i32
  let v74 : BitVec 32 := v73
  let v86 : Index := Scalar.indexCast v74
  let c0_36 : Index := 0#32
  ![v86.toNat, 0]
def k0_off4 (k0_t1 : Fin k0_t1_loop.trips) : Fin 2 → Nat :=
  let c0_i32_30 : BitVec 32 := 0#32
  let c1_i32 : BitVec 32 := 1#32
  let arg13 : BitVec 32 := Scf.iv c0_i32_30 c1_i32 k0_t1
  let c64_i32 : BitVec 32 := 64#32
  let v73 : BitVec 32 := Scalar.muli arg13 c64_i32
  let v74 : BitVec 32 := v73
  let v218 : Index := Scalar.indexCast v74
  let c128_66 : Index := 128#32
  ![v218.toNat, 128]
def k0_off5 (k0_t1 : Fin k0_t1_loop.trips) : Fin 2 → Nat :=
  let c0_i32_30 : BitVec 32 := 0#32
  let c1_i32 : BitVec 32 := 1#32
  let arg13 : BitVec 32 := Scf.iv c0_i32_30 c1_i32 k0_t1
  let c64_i32 : BitVec 32 := 64#32
  let v73 : BitVec 32 := Scalar.muli arg13 c64_i32
  let v74 : BitVec 32 := v73
  let v226 : Index := Scalar.indexCast v74
  let c256_69 : Index := 256#32
  ![v226.toNat, 256]
def k0_off6 (k0_t1 : Fin k0_t1_loop.trips) : Fin 2 → Nat :=
  let c0_i32_30 : BitVec 32 := 0#32
  let c1_i32 : BitVec 32 := 1#32
  let arg13 : BitVec 32 := Scf.iv c0_i32_30 c1_i32 k0_t1
  let c64_i32 : BitVec 32 := 64#32
  let v73 : BitVec 32 := Scalar.muli arg13 c64_i32
  let v74 : BitVec 32 := v73
  let v358 : Index := Scalar.indexCast v74
  let c256_101 : Index := 256#32
  ![v358.toNat, 256]
def k0_off7 (k0_t1 : Fin k0_t1_loop.trips) : Fin 2 → Nat :=
  let c0_i32_30 : BitVec 32 := 0#32
  let c1_i32 : BitVec 32 := 1#32
  let arg13 : BitVec 32 := Scf.iv c0_i32_30 c1_i32 k0_t1
  let c64_i32 : BitVec 32 := 64#32
  let v73 : BitVec 32 := Scalar.muli arg13 c64_i32
  let v74 : BitVec 32 := v73
  let v366 : Index := Scalar.indexCast v74
  let c512 : Index := 512#32
  ![v366.toNat, 512]
def k0_off8 (k0_t1 : Fin k0_t1_loop.trips) : Fin 2 → Nat :=
  let c0_i32_30 : BitVec 32 := 0#32
  let c1_i32 : BitVec 32 := 1#32
  let arg13 : BitVec 32 := Scf.iv c0_i32_30 c1_i32 k0_t1
  let c64_i32 : BitVec 32 := 64#32
  let v73 : BitVec 32 := Scalar.muli arg13 c64_i32
  let v74 : BitVec 32 := v73
  let v498 : Index := Scalar.indexCast v74
  let c384_135 : Index := 384#32
  ![v498.toNat, 384]
def k0_off9 (k0_t1 : Fin k0_t1_loop.trips) : Fin 2 → Nat :=
  let c0_i32_30 : BitVec 32 := 0#32
  let c1_i32 : BitVec 32 := 1#32
  let arg13 : BitVec 32 := Scf.iv c0_i32_30 c1_i32 k0_t1
  let c64_i32 : BitVec 32 := 64#32
  let v73 : BitVec 32 := Scalar.muli arg13 c64_i32
  let v74 : BitVec 32 := v73
  let v506 : Index := Scalar.indexCast v74
  let c768 : Index := 768#32
  ![v506.toNat, 768]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c7_i32 : BitVec 32 := 7#32
  let c0_i32 : BitVec 32 := 0#32
  ![v1.toNat, c7_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GlaRefIdeal.lean ====
abbrev S32768x6144 : Shape := ⟨2, ![32768, 6144]⟩
abbrev S32768x128 : Shape := ⟨2, ![32768, 128]⟩
abbrev S16x512 : Shape := ⟨2, ![16, 512]⟩
abbrev S512 : Shape := ⟨1, ![512]⟩
abbrev S1024 : Shape := ⟨1, ![1024]⟩
abbrev S8x4096x6144 : Shape := ⟨3, ![8, 4096, 6144]⟩
abbrev S8x4096x512 : Shape := ⟨3, ![8, 4096, 512]⟩
abbrev S8x4096x1024 : Shape := ⟨3, ![8, 4096, 1024]⟩
abbrev S8x4096x128 : Shape := ⟨3, ![8, 4096, 128]⟩
abbrev S8x4096x16 : Shape := ⟨3, ![8, 4096, 16]⟩
abbrev S1x1x512 : Shape := ⟨3, ![1, 1, 512]⟩
abbrev S_ : Shape := ⟨0, ![]⟩
abbrev S8x4096x4x128 : Shape := ⟨4, ![8, 4096, 4, 128]⟩
abbrev S8x4096x4x256 : Shape := ⟨4, ![8, 4096, 4, 256]⟩
abbrev S64x64 : Shape := ⟨2, ![64, 64]⟩
abbrev S8x4x128x256 : Shape := ⟨4, ![8, 4, 128, 256]⟩
abbrev S8x64x64x4x128 : Shape := ⟨5, ![8, 64, 64, 4, 128]⟩
abbrev S8x64x4x64x128 : Shape := ⟨5, ![8, 64, 4, 64, 128]⟩
abbrev S64x8x4x64x128 : Shape := ⟨5, ![64, 8, 4, 64, 128]⟩
abbrev S8x64x64x4x256 : Shape := ⟨5, ![8, 64, 64, 4, 256]⟩
abbrev S8x64x4x64x256 : Shape := ⟨5, ![8, 64, 4, 64, 256]⟩
abbrev S64x8x4x64x256 : Shape := ⟨5, ![64, 8, 4, 64, 256]⟩
abbrev S1x8x4x64x128 : Shape := ⟨5, ![1, 8, 4, 64, 128]⟩
abbrev S8x4x64x128 : Shape := ⟨4, ![8, 4, 64, 128]⟩
abbrev S1x8x4x64x256 : Shape := ⟨5, ![1, 8, 4, 64, 256]⟩
abbrev S8x4x64x256 : Shape := ⟨4, ![8, 4, 64, 256]⟩
abbrev S64x64x1 : Shape := ⟨3, ![64, 64, 1]⟩
abbrev S8x4x64x1x128 : Shape := ⟨5, ![8, 4, 64, 1, 128]⟩
abbrev S8x4x1x64x128 : Shape := ⟨5, ![8, 4, 1, 64, 128]⟩
abbrev S8x4x64x64x128 : Shape := ⟨5, ![8, 4, 64, 64, 128]⟩
abbrev S8x4x64x64 : Shape := ⟨4, ![8, 4, 64, 64]⟩
abbrev S8x4x1x128 : Shape := ⟨4, ![8, 4, 1, 128]⟩
abbrev S8x4x128 : Shape := ⟨3, ![8, 4, 128]⟩
abbrev S8x4x128x1 : Shape := ⟨4, ![8, 4, 128, 1]⟩
abbrev S8x4096x4 : Shape := ⟨3, ![8, 4096, 4]⟩
abbrev S8x4096x4x1 : Shape := ⟨4, ![8, 4096, 4, 1]⟩
abbrev S1x1x1024 : Shape := ⟨3, ![1, 1, 1024]⟩
abbrev S32768x1024 : Shape := ⟨2, ![32768, 1024]⟩

abbrev nBuf : Space → Nat
  | .hbm => 187
  | .vmem => 0
  | .smem => 0
  | _ => 0

abbrev hbmTy0_0 (i : Nat) : BufTy := match i % 128 with
  | 0 => ⟨S32768x6144, .bf16⟩
  | 1 => ⟨S32768x128, .f32⟩
  | 2 => ⟨S16x512, .f32⟩
  | 3 => ⟨S512, .f32⟩
  | 4 => ⟨S1024, .f32⟩
  | 5 => ⟨S32768x6144, .f32⟩
  | 6 => ⟨S8x4096x6144, .f32⟩
  | 7 => ⟨S8x4096x512, .f32⟩
  | 8 => ⟨S8x4096x512, .f32⟩
  | 9 => ⟨S8x4096x1024, .f32⟩
  | 10 => ⟨S8x4096x128, .f32⟩
  | 11 => ⟨S8x4096x16, .f32⟩
  | 12 => ⟨S8x4096x512, .f32⟩
  | 13 => ⟨S1x1x512, .f32⟩
  | 14 => ⟨S8x4096x512, .f32⟩
  | 15 => ⟨S8x4096x512, .f32⟩
  | 16 => ⟨S8x4096x512, .f32⟩
  | 17 => ⟨S_, .f32⟩
  | 18 => ⟨S8x4096x512, .f32⟩
  | 19 => ⟨S8x4096x512, .f32⟩
  | 20 => ⟨S8x4096x512, .f32⟩
  | 21 => ⟨S8x4096x512, .f32⟩
  | 22 => ⟨S8x4096x512, .i1⟩
  | 23 => ⟨S8x4096x512, .f32⟩
  | 24 => ⟨S8x4096x512, .f32⟩
  | 25 => ⟨S8x4096x512, .f32⟩
  | 26 => ⟨S8x4096x512, .f32⟩
  | 27 => ⟨S8x4096x512, .f32⟩
  | 28 => ⟨S8x4096x512, .f32⟩
  | 29 => ⟨S8x4096x512, .f32⟩
  | 30 => ⟨S8x4096x512, .f32⟩
  | 31 => ⟨S8x4096x512, .f32⟩
  | 32 => ⟨S_, .f32⟩
  | 33 => ⟨S8x4096x512, .f32⟩
  | 34 => ⟨S8x4096x512, .f32⟩
  | 35 => ⟨S8x4096x4x128, .f32⟩
  | 36 => ⟨S8x4096x4x128, .f32⟩
  | 37 => ⟨S8x4096x4x256, .f32⟩
  | 38 => ⟨S8x4096x4x128, .f32⟩
  | 39 => ⟨S_, .f32⟩
  | 40 => ⟨S8x4096x4x128, .f32⟩
  | 41 => ⟨S8x4096x4x128, .f32⟩
  | 42 => ⟨S_, .i1⟩
  | 43 => ⟨S64x64, .i1⟩
  | 44 => ⟨S64x64, .i32⟩
  | 45 => ⟨S_, .i32⟩
  | 46 => ⟨S64x64, .i32⟩
  | 47 => ⟨S64x64, .i32⟩
  | 48 => ⟨S64x64, .i32⟩
  | 49 => ⟨S64x64, .i1⟩
  | 50 => ⟨S_, .i1⟩
  | 51 => ⟨S64x64, .i1⟩
  | 52 => ⟨S64x64, .i1⟩
  | 53 => ⟨S_, .f32⟩
  | 54 => ⟨S8x4x128x256, .f32⟩
  | 55 => ⟨S8x64x64x4x128, .f32⟩
  | 56 => ⟨S8x64x4x64x128, .f32⟩
  | 57 => ⟨S64x8x4x64x128, .f32⟩
  | 58 => ⟨S8x64x64x4x128, .f32⟩
  | 59 => ⟨S8x64x4x64x128, .f32⟩
  | 60 => ⟨S64x8x4x64x128, .f32⟩
  | 61 => ⟨S8x64x64x4x256, .f32⟩
  | 62 => ⟨S8x64x4x64x256, .f32⟩
  | 63 => ⟨S64x8x4x64x256, .f32⟩
  | 64 => ⟨S8x64x64x4x128, .f32⟩
  | 65 => ⟨S8x64x4x64x128, .f32⟩
  | 66 => ⟨S64x8x4x64x128, .f32⟩
  | 67 => ⟨S_, .f32⟩
  | 68 => ⟨S64x8x4x64x256, .f32⟩
  | 69 => ⟨S_, .i32⟩
  | 70 => ⟨S64x8x4x64x128, .f32⟩
  | 71 => ⟨S64x8x4x64x128, .f32⟩
  | 72 => ⟨S64x8x4x64x256, .f32⟩
  | 73 => ⟨S64x8x4x64x128, .f32⟩
  | 74 => ⟨S64x64, .i1⟩
  | 75 => ⟨S_, .i32⟩
  | 76 => ⟨S8x4x128x256, .f32⟩
  | 77 => ⟨S64x8x4x64x256, .f32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S1x8x4x64x128, .f32⟩
  | 85 => ⟨S8x4x64x128, .f32⟩
  | 86 => ⟨S_, .i32⟩
  | 87 => ⟨S_, .i32⟩
  | 88 => ⟨S_, .i32⟩
  | 89 => ⟨S_, .i32⟩
  | 90 => ⟨S1x8x4x64x128, .f32⟩
  | 91 => ⟨S8x4x64x128, .f32⟩
  | 92 => ⟨S_, .i32⟩
  | 93 => ⟨S_, .i32⟩
  | 94 => ⟨S_, .i32⟩
  | 95 => ⟨S_, .i32⟩
  | 96 => ⟨S1x8x4x64x256, .f32⟩
  | 97 => ⟨S8x4x64x256, .f32⟩
  | 98 => ⟨S_, .i32⟩
  | 99 => ⟨S_, .i32⟩
  | 100 => ⟨S_, .i32⟩
  | 101 => ⟨S_, .i32⟩
  | 102 => ⟨S1x8x4x64x128, .f32⟩
  | 103 => ⟨S8x4x64x128, .f32⟩
  | 104 => ⟨S_, .f32⟩
  | 105 => ⟨S_, .f32⟩
  | 106 => ⟨S8x4x64x128, .f32⟩
  | 107 => ⟨S64x64x1, .i1⟩
  | 108 => ⟨S8x4x64x1x128, .f32⟩
  | 109 => ⟨S8x4x1x64x128, .f32⟩
  | 110 => ⟨S8x4x64x64x128, .f32⟩
  | 111 => ⟨S8x4x64x64x128, .f32⟩
  | 112 => ⟨S8x4x64x64x128, .f32⟩
  | 113 => ⟨S_, .f32⟩
  | 114 => ⟨S_, .f32⟩
  | 115 => ⟨S8x4x64x64x128, .i1⟩
  | 116 => ⟨S8x4x64x64x128, .f32⟩
  | 117 => ⟨S8x4x64x64x128, .f32⟩
  | 118 => ⟨S8x4x64x1x128, .f32⟩
  | 119 => ⟨S8x4x1x64x128, .f32⟩
  | 120 => ⟨S8x4x64x64x128, .f32⟩
  | 121 => ⟨S8x4x64x64x128, .f32⟩
  | 122 => ⟨S8x4x64x64x128, .f32⟩
  | 123 => ⟨S8x4x64x64x128, .f32⟩
  | 124 => ⟨S8x4x64x64x128, .f32⟩
  | 125 => ⟨S_, .f32⟩
  | 126 => ⟨S8x4x64x64, .f32⟩
  | 127 => ⟨S8x4x64x256, .f32⟩
  | _ => ⟨S32768x6144, .bf16⟩

abbrev hbmTy0_1 (i : Nat) : BufTy := match i % 128 with
  | 0 => ⟨S8x4x64x128, .f32⟩
  | 1 => ⟨S8x4x64x128, .f32⟩
  | 2 => ⟨S8x4x64x256, .f32⟩
  | 3 => ⟨S8x4x64x256, .f32⟩
  | 4 => ⟨S8x4x1x128, .f32⟩
  | 5 => ⟨S8x4x128, .f32⟩
  | 6 => ⟨S8x4x128, .f32⟩
  | 7 => ⟨S8x4x128x1, .f32⟩
  | 8 => ⟨S8x4x128x256, .f32⟩
  | 9 => ⟨S8x4x128x256, .f32⟩
  | 10 => ⟨S8x4x64x128, .f32⟩
  | 11 => ⟨S8x4x64x128, .f32⟩
  | 12 => ⟨S8x4x64x128, .f32⟩
  | 13 => ⟨S8x4x64x128, .f32⟩
  | 14 => ⟨S8x4x128x256, .f32⟩
  | 15 => ⟨S8x4x128x256, .f32⟩
  | 16 => ⟨S1x8x4x64x256, .f32⟩
  | 17 => ⟨S_, .i32⟩
  | 18 => ⟨S_, .i32⟩
  | 19 => ⟨S_, .i32⟩
  | 20 => ⟨S_, .i32⟩
  | 21 => ⟨S64x8x4x64x256, .f32⟩
  | 22 => ⟨S_, .i32⟩
  | 23 => ⟨S_, .i32⟩
  | 24 => ⟨S8x64x4x64x256, .f32⟩
  | 25 => ⟨S8x64x64x4x256, .f32⟩
  | 26 => ⟨S8x4096x4x256, .f32⟩
  | 27 => ⟨S8x4096x4x256, .f32⟩
  | 28 => ⟨S_, .f32⟩
  | 29 => ⟨S8x4096x4, .f32⟩
  | 30 => ⟨S8x4096x4x1, .f32⟩
  | 31 => ⟨S_, .f32⟩
  | 32 => ⟨S8x4096x4x1, .f32⟩
  | 33 => ⟨S8x4096x4x1, .f32⟩
  | 34 => ⟨S_, .f32⟩
  | 35 => ⟨S8x4096x4x1, .f32⟩
  | 36 => ⟨S8x4096x4x1, .f32⟩
  | 37 => ⟨S8x4096x4x1, .f32⟩
  | 38 => ⟨S8x4096x4x256, .f32⟩
  | 39 => ⟨S8x4096x4x256, .f32⟩
  | 40 => ⟨S32768x6144, .f32⟩
  | 41 => ⟨S8x4096x6144, .f32⟩
  | 42 => ⟨S8x4096x1024, .f32⟩
  | 43 => ⟨S8x4096x1024, .f32⟩
  | 44 => ⟨S8x4096x1024, .f32⟩
  | 45 => ⟨S_, .f32⟩
  | 46 => ⟨S8x4096x1024, .f32⟩
  | 47 => ⟨S8x4096x1024, .f32⟩
  | 48 => ⟨S_, .f32⟩
  | 49 => ⟨S8x4096x1024, .f32⟩
  | 50 => ⟨S8x4096x1024, .f32⟩
  | 51 => ⟨S8x4096x1024, .f32⟩
  | 52 => ⟨S8x4096x1024, .f32⟩
  | 53 => ⟨S1x1x1024, .f32⟩
  | 54 => ⟨S8x4096x1024, .f32⟩
  | 55 => ⟨S8x4096x1024, .f32⟩
  | 56 => ⟨S8x4096x1024, .f32⟩
  | 57 => ⟨S8x4096x1024, .bf16⟩
  | 58 => ⟨S32768x1024, .bf16⟩
  | _ => ⟨S32768x6144, .bf16⟩

abbrev hbmTy (i : Nat) : BufTy := match i / 128 with
  | 0 => hbmTy0_0 i
  | 1 => hbmTy0_1 i
  | _ => ⟨S32768x6144, .bf16⟩

abbrev bufTy : (tb : Table) → Fin (tcTables nBuf tb) → BufTy
  | .hbm, ⟨i, _⟩ => hbmTy i
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_0 : Ref sig .tc := ⟨.hbm, 39, rfl⟩
abbrev main_v18 : Ref sig .tc := ⟨.hbm, 40, rfl⟩
abbrev main_v19 : Ref sig .tc := ⟨.hbm, 41, rfl⟩
abbrev main_c : Ref sig .tc := ⟨.hbm, 42, rfl⟩
abbrev main_v20 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_0 : Ref sig .tc := ⟨.hbm, 50, rfl⟩
abbrev main_call1_v5 : Ref sig .tc := ⟨.hbm, 51, rfl⟩
abbrev main_v21 : Ref sig .tc := ⟨.hbm, 52, rfl⟩
abbrev main_cst_1 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_2 : Ref sig .tc := ⟨.hbm, 67, rfl⟩
abbrev main_v35 : Ref sig .tc := ⟨.hbm, 68, rfl⟩
abbrev main_c_3 : Ref sig .tc := ⟨.hbm, 69, rfl⟩
abbrev main_v36_0 : Ref sig .tc := ⟨.hbm, 70, rfl⟩
abbrev main_v36_1 : Ref sig .tc := ⟨.hbm, 71, rfl⟩
abbrev main_v36_2 : Ref sig .tc := ⟨.hbm, 72, rfl⟩
abbrev main_v36_3 : Ref sig .tc := ⟨.hbm, 73, rfl⟩
abbrev main_v36_4 : Ref sig .tc := ⟨.hbm, 74, rfl⟩
abbrev main_v36_5 : Ref sig .tc := ⟨.hbm, 75, rfl⟩
abbrev main_v36_6 : Ref sig .tc := ⟨.hbm, 76, rfl⟩
abbrev main_v36_7 : Ref sig .tc := ⟨.hbm, 77, rfl⟩
abbrev main_while0c_c_14 : Ref sig .tc := ⟨.hbm, 78, rfl⟩
abbrev main_while0c_v61 : Ref sig .tc := ⟨.hbm, 79, rfl⟩
abbrev main_while0b_call2_c : Ref sig .tc := ⟨.hbm, 80, rfl⟩
abbrev main_while0b_call2_c_0 : Ref sig .tc := ⟨.hbm, 81, rfl⟩
abbrev main_while0b_call2_c_1 : Ref sig .tc := ⟨.hbm, 82, rfl⟩
abbrev main_while0b_call2_c_2 : Ref sig .tc := ⟨.hbm, 83, rfl⟩
abbrev main_while0b_call2_v0 : Ref sig .tc := ⟨.hbm, 84, rfl⟩
abbrev main_while0b_v61 : Ref sig .tc := ⟨.hbm, 85, rfl⟩
abbrev main_while0b_call3_c : Ref sig .tc := ⟨.hbm, 86, rfl⟩
abbrev main_while0b_call3_c_0 : Ref sig .tc := ⟨.hbm, 87, rfl⟩
abbrev main_while0b_call3_c_1 : Ref sig .tc := ⟨.hbm, 88, rfl⟩
abbrev main_while0b_call3_c_2 : Ref sig .tc := ⟨.hbm, 89, rfl⟩
abbrev main_while0b_call3_v0 : Ref sig .tc := ⟨.hbm, 90, rfl⟩
abbrev main_while0b_v62 : Ref sig .tc := ⟨.hbm, 91, rfl⟩
abbrev main_while0b_call4_c : Ref sig .tc := ⟨.hbm, 92, rfl⟩
abbrev main_while0b_call4_c_0 : Ref sig .tc := ⟨.hbm, 93, rfl⟩
abbrev main_while0b_call4_c_1 : Ref sig .tc := ⟨.hbm, 94, rfl⟩
abbrev main_while0b_call4_c_2 : Ref sig .tc := ⟨.hbm, 95, rfl⟩
abbrev main_while0b_call4_v0 : Ref sig .tc := ⟨.hbm, 96, rfl⟩
abbrev main_while0b_v63 : Ref sig .tc := ⟨.hbm, 97, rfl⟩
abbrev main_while0b_call5_c : Ref sig .tc := ⟨.hbm, 98, rfl⟩
abbrev main_while0b_call5_c_0 : Ref sig .tc := ⟨.hbm, 99, rfl⟩
abbrev main_while0b_call5_c_1 : Ref sig .tc := ⟨.hbm, 100, rfl⟩
abbrev main_while0b_call5_c_2 : Ref sig .tc := ⟨.hbm, 101, rfl⟩
abbrev main_while0b_call5_v0 : Ref sig .tc := ⟨.hbm, 102, rfl⟩
abbrev main_while0b_v64 : Ref sig .tc := ⟨.hbm, 103, rfl⟩
abbrev main_while0b_call6_call0_cst : Ref sig .tc := ⟨.hbm, 104, rfl⟩
abbrev main_while0b_call6_call0_v0 : Ref sig .tc := ⟨.hbm, 105, rfl⟩
abbrev main_while0b_v65 : Ref sig .tc := ⟨.hbm, 106, rfl⟩
abbrev main_while0b_v66 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_v70 : Ref sig .tc := ⟨.hbm, 111, rfl⟩
abbrev main_while0b_v71 : Ref sig .tc := ⟨.hbm, 112, rfl⟩
abbrev main_while0b_cst_14 : Ref sig .tc := ⟨.hbm, 113, rfl⟩
abbrev main_while0b_call7_v0 : Ref sig .tc := ⟨.hbm, 114, rfl⟩
abbrev main_while0b_call7_v1 : Ref sig .tc := ⟨.hbm, 115, rfl⟩
abbrev main_while0b_call7_v2 : Ref sig .tc := ⟨.hbm, 116, rfl⟩
abbrev main_while0b_v72 : Ref sig .tc := ⟨.hbm, 117, rfl⟩
abbrev main_while0b_v73 : Ref sig .tc := ⟨.hbm, 118, rfl⟩
abbrev main_while0b_v74 : Ref sig .tc := ⟨.hbm, 119, rfl⟩
abbrev main_while0b_v75 : Ref sig .tc := ⟨.hbm, 120, rfl⟩
abbrev main_while0b_v76 : Ref sig .tc := ⟨.hbm, 121, rfl⟩
abbrev main_while0b_v77 : Ref sig .tc := ⟨.hbm, 122, rfl⟩
abbrev main_while0b_v78 : Ref sig .tc := ⟨.hbm, 123, rfl⟩
abbrev main_while0b_v79 : Ref sig .tc := ⟨.hbm, 124, rfl⟩
abbrev main_while0b_cst_15 : Ref sig .tc := ⟨.hbm, 125, rfl⟩
abbrev main_while0b_v80 : Ref sig .tc := ⟨.hbm, 126, rfl⟩
abbrev main_while0b_v81 : Ref sig .tc := ⟨.hbm, 127, rfl⟩
abbrev main_while0b_v82 : Ref sig .tc := ⟨.hbm, 128, rfl⟩
abbrev main_while0b_v83 : Ref sig .tc := ⟨.hbm, 129, rfl⟩
abbrev main_while0b_v84 : Ref sig .tc := ⟨.hbm, 130, rfl⟩
abbrev main_while0b_v85 : Ref sig .tc := ⟨.hbm, 131, rfl⟩
abbrev main_while0b_v86 : Ref sig .tc := ⟨.hbm, 132, rfl⟩
abbrev main_while0b_v87 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_v93 : Ref sig .tc := ⟨.hbm, 139, rfl⟩
abbrev main_while0b_v94 : Ref sig .tc := ⟨.hbm, 140, rfl⟩
abbrev main_while0b_v95 : Ref sig .tc := ⟨.hbm, 141, rfl⟩
abbrev main_while0b_v96 : Ref sig .tc := ⟨.hbm, 142, rfl⟩
abbrev main_while0b_v97 : Ref sig .tc := ⟨.hbm, 143, rfl⟩
abbrev main_while0b_call8_v0 : Ref sig .tc := ⟨.hbm, 144, rfl⟩
abbrev main_while0b_call8_c : Ref sig .tc := ⟨.hbm, 145, rfl⟩
abbrev main_while0b_call8_c_0 : Ref sig .tc := ⟨.hbm, 146, rfl⟩
abbrev main_while0b_call8_c_1 : Ref sig .tc := ⟨.hbm, 147, rfl⟩
abbrev main_while0b_call8_c_2 : Ref sig .tc := ⟨.hbm, 148, rfl⟩
abbrev main_while0b_v98 : Ref sig .tc := ⟨.hbm, 149, rfl⟩
abbrev main_while0b_c_16 : Ref sig .tc := ⟨.hbm, 150, rfl⟩
abbrev main_while0b_v99 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_v40 : Ref sig .tc := ⟨.hbm, 155, rfl⟩
abbrev main_cst_4 : Ref sig .tc := ⟨.hbm, 156, rfl⟩
abbrev main_v41 : Ref sig .tc := ⟨.hbm, 157, rfl⟩
abbrev main_v42 : Ref sig .tc := ⟨.hbm, 158, rfl⟩
abbrev main_cst_5 : Ref sig .tc := ⟨.hbm, 159, rfl⟩
abbrev main_v43 : Ref sig .tc := ⟨.hbm, 160, rfl⟩
abbrev main_v44 : Ref sig .tc := ⟨.hbm, 161, rfl⟩
abbrev main_cst_6 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_call9_v0 : Ref sig .tc := ⟨.hbm, 171, rfl⟩
abbrev main_call9_v1 : Ref sig .tc := ⟨.hbm, 172, rfl⟩
abbrev main_call9_cst : Ref sig .tc := ⟨.hbm, 173, rfl⟩
abbrev main_call9_v2 : Ref sig .tc := ⟨.hbm, 174, rfl⟩
abbrev main_call9_v3 : Ref sig .tc := ⟨.hbm, 175, rfl⟩
abbrev main_call9_cst_0 : Ref sig .tc := ⟨.hbm, 176, rfl⟩
abbrev main_call9_v4 : Ref sig .tc := ⟨.hbm, 177, rfl⟩
abbrev main_call9_v5 : Ref sig .tc := ⟨.hbm, 178, rfl⟩
abbrev main_v53 : Ref sig .tc := ⟨.hbm, 179, rfl⟩
abbrev main_v54 : Ref sig .tc := ⟨.hbm, 180, rfl⟩
abbrev main_v55 : Ref sig .tc := ⟨.hbm, 181, rfl⟩
abbrev main_v56 : Ref sig .tc := ⟨.hbm, 182, rfl⟩
abbrev main_v57 : Ref sig .tc := ⟨.hbm, 183, rfl⟩
abbrev main_v58 : Ref sig .tc := ⟨.hbm, 184, rfl⟩
abbrev main_v59 : Ref sig .tc := ⟨.hbm, 185, rfl⟩
abbrev main_v60 : Ref sig .tc := ⟨.hbm, 186, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S32768x2048 : Shape := ⟨2, ![32768, 2048]⟩
abbrev S2048 : Shape := ⟨1, ![2048]⟩
abbrev S4x11x2x2048x512 : Shape := ⟨5, ![4, 11, 2, 2048, 512]⟩
abbrev S4x3x11008 : Shape := ⟨3, ![4, 3, 11008]⟩
abbrev S4x11008 : Shape := ⟨2, ![4, 11008]⟩
abbrev S4x5504x2048 : Shape := ⟨3, ![4, 5504, 2048]⟩
abbrev S4x3x2x5504 : Shape := ⟨4, ![4, 3, 2, 5504]⟩
abbrev S_ : Shape := ⟨0, ![]⟩
abbrev S4x3x2x5632 : Shape := ⟨4, ![4, 3, 2, 5632]⟩
abbrev S4x3x11264 : Shape := ⟨3, ![4, 3, 11264]⟩
abbrev S4x2x5504 : Shape := ⟨3, ![4, 2, 5504]⟩
abbrev S4x2x5632 : Shape := ⟨3, ![4, 2, 5632]⟩
abbrev S4x11264 : Shape := ⟨2, ![4, 11264]⟩
abbrev S4x1x11264 : Shape := ⟨3, ![4, 1, 11264]⟩
abbrev S4x5632x2048 : Shape := ⟨3, ![4, 5632, 2048]⟩
abbrev S1x2048 : Shape := ⟨2, ![1, 2048]⟩
abbrev S512x2048 : Shape := ⟨2, ![512, 2048]⟩
abbrev S16x2048 : Shape := ⟨2, ![16, 2048]⟩
abbrev S1x1x1x2048x512 : Shape := ⟨5, ![1, 1, 1, 2048, 512]⟩
abbrev S1x3x512 : Shape := ⟨3, ![1, 3, 512]⟩
abbrev S1x1x512 : Shape := ⟨3, ![1, 1, 512]⟩
abbrev S1x512x2048 : Shape := ⟨3, ![1, 512, 2048]⟩
abbrev S528x2048 : Shape := ⟨2, ![528, 2048]⟩
abbrev S528x1024 : Shape := ⟨2, ![528, 1024]⟩
abbrev S16 : Shape := ⟨1, ![16]⟩
abbrev S16x1 : Shape := ⟨2, ![16, 1]⟩
abbrev S128x2048 : Shape := ⟨2, ![128, 2048]⟩
abbrev S128 : Shape := ⟨1, ![128]⟩
abbrev S128x1 : Shape := ⟨2, ![128, 1]⟩
abbrev S272x2048 : Shape := ⟨2, ![272, 2048]⟩
abbrev S1x1x1x2048x256 : Shape := ⟨5, ![1, 1, 1, 2048, 256]⟩
abbrev S2048x256 : Shape := ⟨2, ![2048, 256]⟩
abbrev S272x256 : Shape := ⟨2, ![272, 256]⟩
abbrev S16x1024 : Shape := ⟨2, ![16, 1024]⟩
abbrev S256x2048 : Shape := ⟨2, ![256, 2048]⟩
abbrev S256x256 : Shape := ⟨2, ![256, 256]⟩
abbrev S1x512 : Shape := ⟨2, ![1, 512]⟩
abbrev S1x1024 : Shape := ⟨2, ![1, 1024]⟩
abbrev S256x1024 : Shape := ⟨2, ![256, 1024]⟩
abbrev S256x512 : Shape := ⟨2, ![256, 512]⟩

abbrev nBuf : Space → Nat
  | .hbm => 26
  | .vmem => 26
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x11x2x2048x512, .bf16⟩
  | .hbm, ⟨3, _⟩ => ⟨S4x3x11008, .f32⟩
  | .hbm, ⟨4, _⟩ => ⟨S4x11008, .f32⟩
  | .hbm, ⟨5, _⟩ => ⟨S4x5504x2048, .f32⟩
  | .hbm, ⟨6, _⟩ => ⟨S2048, .f32⟩
  | .hbm, ⟨7, _⟩ => ⟨S4x3x2x5504, .f32⟩
  | .hbm, ⟨8, _⟩ => ⟨S_, .i32⟩
  | .hbm, ⟨9, _⟩ => ⟨S_, .f32⟩
  | .hbm, ⟨10, _⟩ => ⟨S4x3x2x5632, .f32⟩
  | .hbm, ⟨11, _⟩ => ⟨S4x3x11264, .f32⟩
  | .hbm, ⟨12, _⟩ => ⟨S4x2x5504, .f32⟩
  | .hbm, ⟨13, _⟩ => ⟨S_, .i32⟩
  | .hbm, ⟨14, _⟩ => ⟨S_, .f32⟩
  | .hbm, ⟨15, _⟩ => ⟨S4x2x5632, .f32⟩
  | .hbm, ⟨16, _⟩ => ⟨S4x11264, .f32⟩
  | .hbm, ⟨17, _⟩ => ⟨S4x1x11264, .f32⟩
  | .hbm, ⟨18, _⟩ => ⟨S_, .i32⟩
  | .hbm, ⟨19, _⟩ => ⟨S_, .f32⟩
  | .hbm, ⟨20, _⟩ => ⟨S4x5632x2048, .f32⟩
  | .hbm, ⟨21, _⟩ => ⟨S4x5632x2048, .bf16⟩
  | .hbm, ⟨22, _⟩ => ⟨S1x2048, .f32⟩
  | .hbm, ⟨23, _⟩ => ⟨S1x2048, .f32⟩
  | .hbm, ⟨24, _⟩ => ⟨S32768x2048, .f32⟩
  | .hbm, ⟨25, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x1x1x2048x512, .bf16⟩
  | .local _ .vmem, ⟨6, _⟩ => ⟨S1x1x1x2048x512, .bf16⟩
  | .local _ .vmem, ⟨7, _⟩ => ⟨S1x1x1x2048x512, .bf16⟩
  | .local _ .vmem, ⟨8, _⟩ => ⟨S1x1x1x2048x512, .bf16⟩
  | .local _ .vmem, ⟨9, _⟩ => ⟨S1x3x512, .f32⟩
  | .local _ .vmem, ⟨10, _⟩ => ⟨S1x3x512, .f32⟩
  | .local _ .vmem, ⟨11, _⟩ => ⟨S1x3x512, .f32⟩
  | .local _ .vmem, ⟨12, _⟩ => ⟨S1x3x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x512x2048, .bf16⟩
  | .local _ .vmem, ⟨18, _⟩ => ⟨S1x512x2048, .bf16⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .bf16⟩
  | .local _ .vmem, ⟨23, _⟩ => ⟨S512x2048, .bf16⟩
  | .local _ .vmem, ⟨24, _⟩ => ⟨S528x2048, .bf16⟩
  | .local _ .vmem, ⟨25, _⟩ => ⟨S528x1024, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v156 : BitVec 1 := Scalar.cmpi .eq arg1 c10_i32
  let v157 : BitVec 32 := Scalar.extui v156
  let c0_i32_131 : BitVec 32 := 0#32
  let v158 : BitVec 1 := Scalar.cmpi .ne v157 c0_i32_131
  v158

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, arg1.toNat, c1_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnRefIdeal.lean ====
abbrev S32768x2048 : Shape := ⟨2, ![32768, 2048]⟩
abbrev S2048 : Shape := ⟨1, ![2048]⟩
abbrev S4x11x2x2048x512 : Shape := ⟨5, ![4, 11, 2, 2048, 512]⟩
abbrev S4x3x11008 : Shape := ⟨3, ![4, 3, 11008]⟩
abbrev S4x11008 : Shape := ⟨2, ![4, 11008]⟩
abbrev S4x5504x2048 : Shape := ⟨3, ![4, 5504, 2048]⟩
abbrev S1x11x2x2048x512 : Shape := ⟨5, ![1, 11, 2, 2048, 512]⟩
abbrev S11x2x2048x512 : Shape := ⟨4, ![11, 2, 2048, 512]⟩
abbrev S2x2048x11x512 : Shape := ⟨4, ![2, 2048, 11, 512]⟩
abbrev S2x2048x5632 : Shape := ⟨3, ![2, 2048, 5632]⟩
abbrev S1x2048x5504 : Shape := ⟨3, ![1, 2048, 5504]⟩
abbrev S2048x5504 : Shape := ⟨2, ![2048, 5504]⟩
abbrev S2048x11008 : Shape := ⟨2, ![2048, 11008]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x11008 : Shape := ⟨3, ![8, 4096, 11008]⟩
abbrev S1x3x11008 : Shape := ⟨3, ![1, 3, 11008]⟩
abbrev S3x11008 : Shape := ⟨2, ![3, 11008]⟩
abbrev S1x11008 : Shape := ⟨2, ![1, 11008]⟩
abbrev S11008 : Shape := ⟨1, ![11008]⟩
abbrev S8x4098x11008 : Shape := ⟨3, ![8, 4098, 11008]⟩
abbrev S1x1x11008 : Shape := ⟨3, ![1, 1, 11008]⟩
abbrev S8x4096x5504 : Shape := ⟨3, ![8, 4096, 5504]⟩
abbrev S1x5504x2048 : Shape := ⟨3, ![1, 5504, 2048]⟩
abbrev S5504x2048 : Shape := ⟨2, ![5504, 2048]⟩

abbrev nBuf : Space → Nat
  | .hbm => 103
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x11x2x2048x512, .bf16⟩
  | .hbm, ⟨3, _⟩ => ⟨S4x3x11008, .f32⟩
  | .hbm, ⟨4, _⟩ => ⟨S4x11008, .f32⟩
  | .hbm, ⟨5, _⟩ => ⟨S4x5504x2048, .f32⟩
  | .hbm, ⟨6, _⟩ => ⟨S2048, .f32⟩
  | .hbm, ⟨7, _⟩ => ⟨S1x11x2x2048x512, .bf16⟩
  | .hbm, ⟨8, _⟩ => ⟨S11x2x2048x512, .bf16⟩
  | .hbm, ⟨9, _⟩ => ⟨S11x2x2048x512, .f32⟩
  | .hbm, ⟨10, _⟩ => ⟨S2x2048x11x512, .f32⟩
  | .hbm, ⟨11, _⟩ => ⟨S2x2048x5632, .f32⟩
  | .hbm, ⟨12, _⟩ => ⟨S1x2048x5504, .f32⟩
  | .hbm, ⟨13, _⟩ => ⟨S2048x5504, .f32⟩
  | .hbm, ⟨14, _⟩ => ⟨S1x2048x5504, .f32⟩
  | .hbm, ⟨15, _⟩ => ⟨S2048x5504, .f32⟩
  | .hbm, ⟨16, _⟩ => ⟨S2048x11008, .f32⟩
  | .hbm, ⟨17, _⟩ => ⟨S8x4096x2048, .f32⟩
  | .hbm, ⟨18, _⟩ => ⟨S8x4096x2048, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x2048, .f32⟩
  | .hbm, ⟨30, _⟩ => ⟨S8x4096x2048, .f32⟩
  | .hbm, ⟨31, _⟩ => ⟨S1x1x2048, .f32⟩
  | .hbm, ⟨32, _⟩ => ⟨S8x4096x2048, .f32⟩
  | .hbm, ⟨33, _⟩ => ⟨S8x4096x2048, .f32⟩
  | .hbm, ⟨34, _⟩ => ⟨S8x4096x11008, .f32⟩
  | .hbm, ⟨35, _⟩ => ⟨S1x3x11008, .f32⟩
  | .hbm, ⟨36, _⟩ => ⟨S3x11008, .f32⟩
  | .hbm, ⟨37, _⟩ => ⟨S1x11008, .f32⟩
  | .hbm, ⟨38, _⟩ => ⟨S11008, .f32⟩
  | .hbm, ⟨39, _⟩ => ⟨S_, .i32⟩
  | .hbm, ⟨40, _⟩ => ⟨S_, .f32⟩
  | .hbm, ⟨41, _⟩ => ⟨S8x4098x11008, .f32⟩
  | .hbm, ⟨42, _⟩ => ⟨S8x4096x11008, .f32⟩
  | .hbm, ⟨43, _⟩ => ⟨S1x11008, .f32⟩
  | .hbm, ⟨44, _⟩ => ⟨S11008, .f32⟩
  | .hbm, ⟨45, _⟩ => ⟨S1x1x11008, .f32⟩
  | .hbm, ⟨46, _⟩ => ⟨S8x4096x11008, .f32⟩
  | .hbm, ⟨47, _⟩ => ⟨S8x4096x11008, .f32⟩
  | .hbm, ⟨48, _⟩ => ⟨S_, .f32⟩
  | .hbm, ⟨49, _⟩ => ⟨S8x4096x11008, .f32⟩
  | .hbm, ⟨50, _⟩ => ⟨S8x4096x11008, .f32⟩
  | .hbm, ⟨51, _⟩ => ⟨S8x4096x11008, .f32⟩
  | .hbm, ⟨52, _⟩ => ⟨S1x11008, .f32⟩
  | .hbm, ⟨53, _⟩ => ⟨S11008, .f32⟩
  | .hbm, ⟨54, _⟩ => ⟨S1x1x11008, .f32⟩
  | .hbm, ⟨55, _⟩ => ⟨S8x4096x11008, .f32⟩
  | .hbm, ⟨56, _⟩ => ⟨S8x4096x11008, .f32⟩
  | .hbm, ⟨57, _⟩ => ⟨S8x4096x11008, .f32⟩
  | .hbm, ⟨58, _⟩ => ⟨S8x4096x11008, .f32⟩
  | .hbm, ⟨59, _⟩ => ⟨S1x11008, .f32⟩
  | .hbm, ⟨60, _⟩ => ⟨S11008, .f32⟩
  | .hbm, ⟨61, _⟩ => ⟨S1x1x11008, .f32⟩
  | .hbm, ⟨62, _⟩ => ⟨S8x4096x11008, .f32⟩
  | .hbm, ⟨63, _⟩ => ⟨S8x4096x11008, .f32⟩
  | .hbm, ⟨64, _⟩ => ⟨S8x4096x11008, .f32⟩
  | .hbm, ⟨65, _⟩ => ⟨S1x1x11008, .f32⟩
  | .hbm, ⟨66, _⟩ => ⟨S8x4096x11008, .f32⟩
  | .hbm, ⟨67, _⟩ => ⟨S8x4096x11008, .f32⟩
  | .hbm, ⟨68, _⟩ => ⟨S8x4096x5504, .f32⟩
  | .hbm, ⟨69, _⟩ => ⟨S8x4096x5504, .f32⟩
  | .hbm, ⟨70, _⟩ => ⟨S8x4096x5504, .f32⟩
  | .hbm, ⟨71, _⟩ => ⟨S8x4096x5504, .f32⟩
  | .hbm, ⟨72, _⟩ => ⟨S_, .f32⟩
  | .hbm, ⟨73, _⟩ => ⟨S8x4096x5504, .f32⟩
  | .hbm, ⟨74, _⟩ => ⟨S8x4096x5504, .f32⟩
  | .hbm, ⟨75, _⟩ => ⟨S_, .f32⟩
  | .hbm, ⟨76, _⟩ => ⟨S8x4096x5504, .f32⟩
  | .hbm, ⟨77, _⟩ => ⟨S8x4096x5504, .f32⟩
  | .hbm, ⟨78, _⟩ => ⟨S8x4096x5504, .f32⟩
  | .hbm, ⟨79, _⟩ => ⟨S8x4096x5504, .f32⟩
  | .hbm, ⟨80, _⟩ => ⟨S1x5504x2048, .f32⟩
  | .hbm, ⟨81, _⟩ => ⟨S5504x2048, .f32⟩
  | .hbm, ⟨82, _⟩ => ⟨S8x4096x2048, .f32⟩
  | .hbm, ⟨83, _⟩ => ⟨S8x4096x2048, .f32⟩
  | .hbm, ⟨84, _⟩ => ⟨S8x4096x2048, .f32⟩
  | .hbm, ⟨85, _⟩ => ⟨S_, .f32⟩
  | .hbm, ⟨86, _⟩ => ⟨S8x4096, .f32⟩
  | .hbm, ⟨87, _⟩ => ⟨S8x4096x1, .f32⟩
  | .hbm, ⟨88, _⟩ => ⟨S_, .f32⟩
  | .hbm, ⟨89, _⟩ => ⟨S8x4096x1, .f32⟩
  | .hbm, ⟨90, _⟩ => ⟨S8x4096x1, .f32⟩
  | .hbm, ⟨91, _⟩ => ⟨S_, .f32⟩
  | .hbm, ⟨92, _⟩ => ⟨S8x4096x1, .f32⟩
  | .hbm, ⟨93, _⟩ => ⟨S8x4096x1, .f32⟩
  | .hbm, ⟨94, _⟩ => ⟨S8x4096x1, .f32⟩
  | .hbm, ⟨95, _⟩ => ⟨S8x4096x2048, .f32⟩
  | .hbm, ⟨96, _⟩ => ⟨S8x4096x2048, .f32⟩
  | .hbm, ⟨97, _⟩ => ⟨S1x1x2048, .f32⟩
  | .hbm, ⟨98, _⟩ => ⟨S8x4096x2048, .f32⟩
  | .hbm, ⟨99, _⟩ => ⟨S8x4096x2048, .f32⟩
  | .hbm, ⟨100, _⟩ => ⟨S8x4096x2048, .bf16⟩
  | .hbm, ⟨101, _⟩ => ⟨S32768x2048, .f32⟩
  | .hbm, ⟨102, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_3 : Ref sig .tc := ⟨.hbm, 85, rfl⟩
abbrev main_v64 : Ref sig .tc := ⟨.hbm, 86, rfl⟩
abbrev main_v65 : Ref sig .tc := ⟨.hbm, 87, rfl⟩
abbrev main_cst_4 : Ref sig .tc := ⟨.hbm, 88, rfl⟩
abbrev main_v66 : Ref sig .tc := ⟨.hbm, 89, rfl⟩
abbrev main_v67 : Ref sig .tc := ⟨.hbm, 90, rfl⟩
abbrev main_cst_5 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== FfnEnd.lean ====
abbrev S32768x2048 : Shape := ⟨2, ![32768, 2048]⟩
abbrev S2048 : Shape := ⟨1, ![2048]⟩
abbrev S4x11x2x2048x512 : Shape := ⟨5, ![4, 11, 2, 2048, 512]⟩
abbrev S4x3x11008 : Shape := ⟨3, ![4, 3, 11008]⟩
abbrev S4x11008 : Shape := ⟨2, ![4, 11008]⟩
abbrev S4x5504x2048 : Shape := ⟨3, ![4, 5504, 2048]⟩
abbrev S4x3x2x5504 : Shape := ⟨4, ![4, 3, 2, 5504]⟩
abbrev S_ : Shape := ⟨0, ![]⟩
abbrev S4x3x2x5632 : Shape := ⟨4, ![4, 3, 2, 5632]⟩
abbrev S4x3x11264 : Shape := ⟨3, ![4, 3, 11264]⟩
abbrev S4x2x5504 : Shape := ⟨3, ![4, 2, 5504]⟩
abbrev S4x2x5632 : Shape := ⟨3, ![4, 2, 5632]⟩
abbrev S4x11264 : Shape := ⟨2, ![4, 11264]⟩
abbrev S4x1x11264 : Shape := ⟨3, ![4, 1, 11264]⟩
abbrev S4x5632x2048 : Shape := ⟨3, ![4, 5632, 2048]⟩
abbrev S1x2048 : Shape := ⟨2, ![1, 2048]⟩
abbrev S512x2048 : Shape := ⟨2, ![512, 2048]⟩
abbrev S16x2048 : Shape := ⟨2, ![16, 2048]⟩
abbrev S1x1x1x2048x512 : Shape := ⟨5, ![1, 1, 1, 2048, 512]⟩
abbrev S1x3x512 : Shape := ⟨3, ![1, 3, 512]⟩
abbrev S1x1x512 : Shape := ⟨3, ![1, 1, 512]⟩
abbrev S1x512x2048 : Shape := ⟨3, ![1, 512, 2048]⟩
abbrev S528x2048 : Shape := ⟨2, ![528, 2048]⟩
abbrev S528x1024 : Shape := ⟨2, ![528, 1024]⟩
abbrev S16 : Shape := ⟨1, ![16]⟩
abbrev S16x1 : Shape := ⟨2, ![16, 1]⟩
abbrev S128x2048 : Shape := ⟨2, ![128, 2048]⟩
abbrev S128 : Shape := ⟨1, ![128]⟩
abbrev S128x1 : Shape := ⟨2, ![128, 1]⟩
abbrev S272x2048 : Shape := ⟨2, ![272, 2048]⟩
abbrev S1x1x1x2048x256 : Shape := ⟨5, ![1, 1, 1, 2048, 256]⟩
abbrev S2048x256 : Shape := ⟨2, ![2048, 256]⟩
abbrev S272x256 : Shape := ⟨2, ![272, 256]⟩
abbrev S16x1024 : Shape := ⟨2, ![16, 1024]⟩
abbrev S256x2048 : Shape := ⟨2, ![256, 2048]⟩
abbrev S256x256 : Shape := ⟨2, ![256, 256]⟩
abbrev S1x512 : Shape := ⟨2, ![1, 512]⟩
abbrev S1x1024 : Shape := ⟨2, ![1, 1024]⟩
abbrev S256x1024 : Shape := ⟨2, ![256, 1024]⟩
abbrev S256x512 : Shape := ⟨2, ![256, 512]⟩

abbrev nBuf : Space → Nat
  | .hbm => 25
  | .vmem => 24
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x11x2x2048x512, .bf16⟩
  | .hbm, ⟨3, _⟩ => ⟨S4x3x11008, .f32⟩
  | .hbm, ⟨4, _⟩ => ⟨S4x11008, .f32⟩
  | .hbm, ⟨5, _⟩ => ⟨S4x5504x2048, .f32⟩
  | .hbm, ⟨6, _⟩ => ⟨S2048, .f32⟩
  | .hbm, ⟨7, _⟩ => ⟨S4x3x2x5504, .f32⟩
  | .hbm, ⟨8, _⟩ => ⟨S_, .i32⟩
  | .hbm, ⟨9, _⟩ => ⟨S_, .f32⟩
  | .hbm, ⟨10, _⟩ => ⟨S4x3x2x5632, .f32⟩
  | .hbm, ⟨11, _⟩ => ⟨S4x3x11264, .f32⟩
  | .hbm, ⟨12, _⟩ => ⟨S4x2x5504, .f32⟩
  | .hbm, ⟨13, _⟩ => ⟨S_, .i32⟩
  | .hbm, ⟨14, _⟩ => ⟨S_, .f32⟩
  | .hbm, ⟨15, _⟩ => ⟨S4x2x5632, .f32⟩
  | .hbm, ⟨16, _⟩ => ⟨S4x11264, .f32⟩
  | .hbm, ⟨17, _⟩ => ⟨S4x1x11264, .f32⟩
  | .hbm, ⟨18, _⟩ => ⟨S_, .i32⟩
  | .hbm, ⟨19, _⟩ => ⟨S_, .f32⟩
  | .hbm, ⟨20, _⟩ => ⟨S4x5632x2048, .f32⟩
  | .hbm, ⟨21, _⟩ => ⟨S4x5632x2048, .bf16⟩
  | .hbm, ⟨22, _⟩ => ⟨S1x2048, .f32⟩
  | .hbm, ⟨23, _⟩ => ⟨S1x2048, .f32⟩
  | .hbm, ⟨24, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x1x1x2048x512, .bf16⟩
  | .local _ .vmem, ⟨6, _⟩ => ⟨S1x1x1x2048x512, .bf16⟩
  | .local _ .vmem, ⟨7, _⟩ => ⟨S1x1x1x2048x512, .bf16⟩
  | .local _ .vmem, ⟨8, _⟩ => ⟨S1x1x1x2048x512, .bf16⟩
  | .local _ .vmem, ⟨9, _⟩ => ⟨S1x3x512, .f32⟩
  | .local _ .vmem, ⟨10, _⟩ => ⟨S1x3x512, .f32⟩
  | .local _ .vmem, ⟨11, _⟩ => ⟨S1x3x512, .f32⟩
  | .local _ .vmem, ⟨12, _⟩ => ⟨S1x3x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x512x2048, .bf16⟩
  | .local _ .vmem, ⟨18, _⟩ => ⟨S1x512x2048, .bf16⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S528x2048, .bf16⟩
  | .local _ .vmem, ⟨23, _⟩ => ⟨S528x1024, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![64, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, arg1.toNat, c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c3_i32 : BitVec 32 := 3#32
  let c0_i32 : BitVec 32 := 0#32
  let c0_i32_0 : BitVec 32 := 0#32
  ![c3_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c3_i32 : BitVec 32 := 3#32
  let c0_i32 : BitVec 32 := 0#32
  let c0_i32_0 : BitVec 32 := 0#32
  ![c3_i32.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnEndRefIdeal.lean ====
abbrev S32768x2048 : Shape := ⟨2, ![32768, 2048]⟩
abbrev S2048 : Shape := ⟨1, ![2048]⟩
abbrev S4x11x2x2048x512 : Shape := ⟨5, ![4, 11, 2, 2048, 512]⟩
abbrev S4x3x11008 : Shape := ⟨3, ![4, 3, 11008]⟩
abbrev S4x11008 : Shape := ⟨2, ![4, 11008]⟩
abbrev S4x5504x2048 : Shape := ⟨3, ![4, 5504, 2048]⟩
abbrev S1x11x2x2048x512 : Shape := ⟨5, ![1, 11, 2, 2048, 512]⟩
abbrev S11x2x2048x512 : Shape := ⟨4, ![11, 2, 2048, 512]⟩
abbrev S2x2048x11x512 : Shape := ⟨4, ![2, 2048, 11, 512]⟩
abbrev S2x2048x5632 : Shape := ⟨3, ![2, 2048, 5632]⟩
abbrev S1x2048x5504 : Shape := ⟨3, ![1, 2048, 5504]⟩
abbrev S2048x5504 : Shape := ⟨2, ![2048, 5504]⟩
abbrev S2048x11008 : Shape := ⟨2, ![2048, 11008]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x11008 : Shape := ⟨3, ![8, 4096, 11008]⟩
abbrev S1x3x11008 : Shape := ⟨3, ![1, 3, 11008]⟩
abbrev S3x11008 : Shape := ⟨2, ![3, 11008]⟩
abbrev S1x11008 : Shape := ⟨2, ![1, 11008]⟩
abbrev S11008 : Shape := ⟨1, ![11008]⟩
abbrev S8x4098x11008 : Shape := ⟨3, ![8, 4098, 11008]⟩
abbrev S1x1x11008 : Shape := ⟨3, ![1, 1, 11008]⟩
abbrev S8x4096x5504 : Shape := ⟨3, ![8, 4096, 5504]⟩
abbrev S1x5504x2048 : Shape := ⟨3, ![1, 5504, 2048]⟩
abbrev S5504x2048 : Shape := ⟨2, ![5504, 2048]⟩

abbrev nBuf : Space → Nat
  | .hbm => 101
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x11x2x2048x512, .bf16⟩
  | .hbm, ⟨3, _⟩ => ⟨S4x3x11008, .f32⟩
  | .hbm, ⟨4, _⟩ => ⟨S4x11008, .f32⟩
  | .hbm, ⟨5, _⟩ => ⟨S4x5504x2048, .f32⟩
  | .hbm, ⟨6, _⟩ => ⟨S2048, .f32⟩
  | .hbm, ⟨7, _⟩ => ⟨S1x11x2x2048x512, .bf16⟩
  | .hbm, ⟨8, _⟩ => ⟨S11x2x2048x512, .bf16⟩
  | .hbm, ⟨9, _⟩ => ⟨S11x2x2048x512, .f32⟩
  | .hbm, ⟨10, _⟩ => ⟨S2x2048x11x512, .f32⟩
  | .hbm, ⟨11, _⟩ => ⟨S2x2048x5632, .f32⟩
  | .hbm, ⟨12, _⟩ => ⟨S1x2048x5504, .f32⟩
  | .hbm, ⟨13, _⟩ => ⟨S2048x5504, .f32⟩
  | .hbm, ⟨14, _⟩ => ⟨S1x2048x5504, .f32⟩
  | .hbm, ⟨15, _⟩ => ⟨S2048x5504, .f32⟩
  | .hbm, ⟨16, _⟩ => ⟨S2048x11008, .f32⟩
  | .hbm, ⟨17, _⟩ => ⟨S8x4096x2048, .f32⟩
  | .hbm, ⟨18, _⟩ => ⟨S8x4096x2048, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x2048, .f32⟩
  | .hbm, ⟨30, _⟩ => ⟨S8x4096x2048, .f32⟩
  | .hbm, ⟨31, _⟩ => ⟨S1x1x2048, .f32⟩
  | .hbm, ⟨32, _⟩ => ⟨S8x4096x2048, .f32⟩
  | .hbm, ⟨33, _⟩ => ⟨S8x4096x2048, .f32⟩
  | .hbm, ⟨34, _⟩ => ⟨S8x4096x11008, .f32⟩
  | .hbm, ⟨35, _⟩ => ⟨S1x3x11008, .f32⟩
  | .hbm, ⟨36, _⟩ => ⟨S3x11008, .f32⟩
  | .hbm, ⟨37, _⟩ => ⟨S1x11008, .f32⟩
  | .hbm, ⟨38, _⟩ => ⟨S11008, .f32⟩
  | .hbm, ⟨39, _⟩ => ⟨S_, .i32⟩
  | .hbm, ⟨40, _⟩ => ⟨S_, .f32⟩
  | .hbm, ⟨41, _⟩ => ⟨S8x4098x11008, .f32⟩
  | .hbm, ⟨42, _⟩ => ⟨S8x4096x11008, .f32⟩
  | .hbm, ⟨43, _⟩ => ⟨S1x11008, .f32⟩
  | .hbm, ⟨44, _⟩ => ⟨S11008, .f32⟩
  | .hbm, ⟨45, _⟩ => ⟨S1x1x11008, .f32⟩
  | .hbm, ⟨46, _⟩ => ⟨S8x4096x11008, .f32⟩
  | .hbm, ⟨47, _⟩ => ⟨S8x4096x11008, .f32⟩
  | .hbm, ⟨48, _⟩ => ⟨S_, .f32⟩
  | .hbm, ⟨49, _⟩ => ⟨S8x4096x11008, .f32⟩
  | .hbm, ⟨50, _⟩ => ⟨S8x4096x11008, .f32⟩
  | .hbm, ⟨51, _⟩ => ⟨S8x4096x11008, .f32⟩
  | .hbm, ⟨52, _⟩ => ⟨S1x11008, .f32⟩
  | .hbm, ⟨53, _⟩ => ⟨S11008, .f32⟩
  | .hbm, ⟨54, _⟩ => ⟨S1x1x11008, .f32⟩
  | .hbm, ⟨55, _⟩ => ⟨S8x4096x11008, .f32⟩
  | .hbm, ⟨56, _⟩ => ⟨S8x4096x11008, .f32⟩
  | .hbm, ⟨57, _⟩ => ⟨S8x4096x11008, .f32⟩
  | .hbm, ⟨58, _⟩ => ⟨S8x4096x11008, .f32⟩
  | .hbm, ⟨59, _⟩ => ⟨S1x11008, .f32⟩
  | .hbm, ⟨60, _⟩ => ⟨S11008, .f32⟩
  | .hbm, ⟨61, _⟩ => ⟨S1x1x11008, .f32⟩
  | .hbm, ⟨62, _⟩ => ⟨S8x4096x11008, .f32⟩
  | .hbm, ⟨63, _⟩ => ⟨S8x4096x11008, .f32⟩
  | .hbm, ⟨64, _⟩ => ⟨S8x4096x11008, .f32⟩
  | .hbm, ⟨65, _⟩ => ⟨S1x1x11008, .f32⟩
  | .hbm, ⟨66, _⟩ => ⟨S8x4096x11008, .f32⟩
  | .hbm, ⟨67, _⟩ => ⟨S8x4096x11008, .f32⟩
  | .hbm, ⟨68, _⟩ => ⟨S8x4096x5504, .f32⟩
  | .hbm, ⟨69, _⟩ => ⟨S8x4096x5504, .f32⟩
  | .hbm, ⟨70, _⟩ => ⟨S8x4096x5504, .f32⟩
  | .hbm, ⟨71, _⟩ => ⟨S8x4096x5504, .f32⟩
  | .hbm, ⟨72, _⟩ => ⟨S_, .f32⟩
  | .hbm, ⟨73, _⟩ => ⟨S8x4096x5504, .f32⟩
  | .hbm, ⟨74, _⟩ => ⟨S8x4096x5504, .f32⟩
  | .hbm, ⟨75, _⟩ => ⟨S_, .f32⟩
  | .hbm, ⟨76, _⟩ => ⟨S8x4096x5504, .f32⟩
  | .hbm, ⟨77, _⟩ => ⟨S8x4096x5504, .f32⟩
  | .hbm, ⟨78, _⟩ => ⟨S8x4096x5504, .f32⟩
  | .hbm, ⟨79, _⟩ => ⟨S8x4096x5504, .f32⟩
  | .hbm, ⟨80, _⟩ => ⟨S1x5504x2048, .f32⟩
  | .hbm, ⟨81, _⟩ => ⟨S5504x2048, .f32⟩
  | .hbm, ⟨82, _⟩ => ⟨S8x4096x2048, .f32⟩
  | .hbm, ⟨83, _⟩ => ⟨S8x4096x2048, .f32⟩
  | .hbm, ⟨84, _⟩ => ⟨S8x4096x2048, .f32⟩
  | .hbm, ⟨85, _⟩ => ⟨S_, .f32⟩
  | .hbm, ⟨86, _⟩ => ⟨S8x4096, .f32⟩
  | .hbm, ⟨87, _⟩ => ⟨S8x4096x1, .f32⟩
  | .hbm, ⟨88, _⟩ => ⟨S_, .f32⟩
  | .hbm, ⟨89, _⟩ => ⟨S8x4096x1, .f32⟩
  | .hbm, ⟨90, _⟩ => ⟨S8x4096x1, .f32⟩
  | .hbm, ⟨91, _⟩ => ⟨S_, .f32⟩
  | .hbm, ⟨92, _⟩ => ⟨S8x4096x1, .f32⟩
  | .hbm, ⟨93, _⟩ => ⟨S8x4096x1, .f32⟩
  | .hbm, ⟨94, _⟩ => ⟨S8x4096x1, .f32⟩
  | .hbm, ⟨95, _⟩ => ⟨S8x4096x2048, .f32⟩
  | .hbm, ⟨96, _⟩ => ⟨S8x4096x2048, .f32⟩
  | .hbm, ⟨97, _⟩ => ⟨S1x1x2048, .f32⟩
  | .hbm, ⟨98, _⟩ => ⟨S8x4096x2048, .f32⟩
  | .hbm, ⟨99, _⟩ => ⟨S8x4096x2048, .f32⟩
  | .hbm, ⟨100, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_3 : Ref sig .tc := ⟨.hbm, 85, rfl⟩
abbrev main_v64 : Ref sig .tc := ⟨.hbm, 86, rfl⟩
abbrev main_v65 : Ref sig .tc := ⟨.hbm, 87, rfl⟩
abbrev main_cst_4 : Ref sig .tc := ⟨.hbm, 88, rfl⟩
abbrev main_v66 : Ref sig .tc := ⟨.hbm, 89, rfl⟩
abbrev main_v67 : Ref sig .tc := ⟨.hbm, 90, rfl⟩
abbrev main_cst_5 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== FfnMid.lean ====
abbrev S32768x2048 : Shape := ⟨2, ![32768, 2048]⟩
abbrev S2048 : Shape := ⟨1, ![2048]⟩
abbrev S4x11x2x2048x512 : Shape := ⟨5, ![4, 11, 2, 2048, 512]⟩
abbrev S4x3x11008 : Shape := ⟨3, ![4, 3, 11008]⟩
abbrev S4x11008 : Shape := ⟨2, ![4, 11008]⟩
abbrev S4x5504x2048 : Shape := ⟨3, ![4, 5504, 2048]⟩
abbrev S4x3x2x5504 : Shape := ⟨4, ![4, 3, 2, 5504]⟩
abbrev S_ : Shape := ⟨0, ![]⟩
abbrev S4x3x2x5632 : Shape := ⟨4, ![4, 3, 2, 5632]⟩
abbrev S4x3x11264 : Shape := ⟨3, ![4, 3, 11264]⟩
abbrev S4x2x5504 : Shape := ⟨3, ![4, 2, 5504]⟩
abbrev S4x2x5632 : Shape := ⟨3, ![4, 2, 5632]⟩
abbrev S4x11264 : Shape := ⟨2, ![4, 11264]⟩
abbrev S4x1x11264 : Shape := ⟨3, ![4, 1, 11264]⟩
abbrev S4x5632x2048 : Shape := ⟨3, ![4, 5632, 2048]⟩
abbrev S1x2048 : Shape := ⟨2, ![1, 2048]⟩
abbrev S512x2048 : Shape := ⟨2, ![512, 2048]⟩
abbrev S16x2048 : Shape := ⟨2, ![16, 2048]⟩
abbrev S1x1x1x2048x512 : Shape := ⟨5, ![1, 1, 1, 2048, 512]⟩
abbrev S1x3x512 : Shape := ⟨3, ![1, 3, 512]⟩
abbrev S1x1x512 : Shape := ⟨3, ![1, 1, 512]⟩
abbrev S1x512x2048 : Shape := ⟨3, ![1, 512, 2048]⟩
abbrev S528x2048 : Shape := ⟨2, ![528, 2048]⟩
abbrev S528x1024 : Shape := ⟨2, ![528, 1024]⟩
abbrev S16 : Shape := ⟨1, ![16]⟩
abbrev S16x1 : Shape := ⟨2, ![16, 1]⟩
abbrev S128x2048 : Shape := ⟨2, ![128, 2048]⟩
abbrev S128 : Shape := ⟨1, ![128]⟩
abbrev S128x1 : Shape := ⟨2, ![128, 1]⟩
abbrev S272x2048 : Shape := ⟨2, ![272, 2048]⟩
abbrev S1x1x1x2048x256 : Shape := ⟨5, ![1, 1, 1, 2048, 256]⟩
abbrev S2048x256 : Shape := ⟨2, ![2048, 256]⟩
abbrev S272x256 : Shape := ⟨2, ![272, 256]⟩
abbrev S16x1024 : Shape := ⟨2, ![16, 1024]⟩
abbrev S256x2048 : Shape := ⟨2, ![256, 2048]⟩
abbrev S256x256 : Shape := ⟨2, ![256, 256]⟩
abbrev S1x512 : Shape := ⟨2, ![1, 512]⟩
abbrev S1x1024 : Shape := ⟨2, ![1, 1024]⟩
abbrev S256x1024 : Shape := ⟨2, ![256, 1024]⟩
abbrev S256x512 : Shape := ⟨2, ![256, 512]⟩

abbrev nBuf : Space → Nat
  | .hbm => 24
  | .vmem => 24
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x11x2x2048x512, .bf16⟩
  | .hbm, ⟨3, _⟩ => ⟨S4x3x11008, .f32⟩
  | .hbm, ⟨4, _⟩ => ⟨S4x11008, .f32⟩
  | .hbm, ⟨5, _⟩ => ⟨S4x5504x2048, .f32⟩
  | .hbm, ⟨6, _⟩ => ⟨S4x3x2x5504, .f32⟩
  | .hbm, ⟨7, _⟩ => ⟨S_, .i32⟩
  | .hbm, ⟨8, _⟩ => ⟨S_, .f32⟩
  | .hbm, ⟨9, _⟩ => ⟨S4x3x2x5632, .f32⟩
  | .hbm, ⟨10, _⟩ => ⟨S4x3x11264, .f32⟩
  | .hbm, ⟨11, _⟩ => ⟨S4x2x5504, .f32⟩
  | .hbm, ⟨12, _⟩ => ⟨S_, .i32⟩
  | .hbm, ⟨13, _⟩ => ⟨S_, .f32⟩
  | .hbm, ⟨14, _⟩ => ⟨S4x2x5632, .f32⟩
  | .hbm, ⟨15, _⟩ => ⟨S4x11264, .f32⟩
  | .hbm, ⟨16, _⟩ => ⟨S4x1x11264, .f32⟩
  | .hbm, ⟨17, _⟩ => ⟨S_, .i32⟩
  | .hbm, ⟨18, _⟩ => ⟨S_, .f32⟩
  | .hbm, ⟨19, _⟩ => ⟨S4x5632x2048, .f32⟩
  | .hbm, ⟨20, _⟩ => ⟨S4x5632x2048, .bf16⟩
  | .hbm, ⟨21, _⟩ => ⟨S1x2048, .f32⟩
  | .hbm, ⟨22, _⟩ => ⟨S1x2048, .f32⟩
  | .hbm, ⟨23, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1x1x1x2048x512, .bf16⟩
  | .local _ .vmem, ⟨6, _⟩ => ⟨S1x1x1x2048x512, .bf16⟩
  | .local _ .vmem, ⟨7, _⟩ => ⟨S1x1x1x2048x512, .bf16⟩
  | .local _ .vmem, ⟨8, _⟩ => ⟨S1x1x1x2048x512, .bf16⟩
  | .local _ .vmem, ⟨9, _⟩ => ⟨S1x3x512, .f32⟩
  | .local _ .vmem, ⟨10, _⟩ => ⟨S1x3x512, .f32⟩
  | .local _ .vmem, ⟨11, _⟩ => ⟨S1x3x512, .f32⟩
  | .local _ .vmem, ⟨12, _⟩ => ⟨S1x3x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x512x2048, .bf16⟩
  | .local _ .vmem, ⟨18, _⟩ => ⟨S1x512x2048, .bf16⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S528x2048, .bf16⟩
  | .local _ .vmem, ⟨23, _⟩ => ⟨S528x1024, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![64, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg1.toNat, c0_i32.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, arg1.toNat, c1_i32_0.toNat, c0_i32.toNat, c0_i32_1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c1_i32 : BitVec 32 := 1#32
  let c0_i32 : BitVec 32 := 0#32
  let c0_i32_0 : BitVec 32 := 0#32
  ![c1_i32.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnMidRefIdeal.lean ====
abbrev S32768x2048 : Shape := ⟨2, ![32768, 2048]⟩
abbrev S2048 : Shape := ⟨1, ![2048]⟩
abbrev S4x11x2x2048x512 : Shape := ⟨5, ![4, 11, 2, 2048, 512]⟩
abbrev S4x3x11008 : Shape := ⟨3, ![4, 3, 11008]⟩
abbrev S4x11008 : Shape := ⟨2, ![4, 11008]⟩
abbrev S4x5504x2048 : Shape := ⟨3, ![4, 5504, 2048]⟩
abbrev S1x11x2x2048x512 : Shape := ⟨5, ![1, 11, 2, 2048, 512]⟩
abbrev S11x2x2048x512 : Shape := ⟨4, ![11, 2, 2048, 512]⟩
abbrev S2x2048x11x512 : Shape := ⟨4, ![2, 2048, 11, 512]⟩
abbrev S2x2048x5632 : Shape := ⟨3, ![2, 2048, 5632]⟩
abbrev S1x2048x5504 : Shape := ⟨3, ![1, 2048, 5504]⟩
abbrev S2048x5504 : Shape := ⟨2, ![2048, 5504]⟩
abbrev S2048x11008 : Shape := ⟨2, ![2048, 11008]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x11008 : Shape := ⟨3, ![8, 4096, 11008]⟩
abbrev S1x3x11008 : Shape := ⟨3, ![1, 3, 11008]⟩
abbrev S3x11008 : Shape := ⟨2, ![3, 11008]⟩
abbrev S1x11008 : Shape := ⟨2, ![1, 11008]⟩
abbrev S11008 : Shape := ⟨1, ![11008]⟩
abbrev S8x4098x11008 : Shape := ⟨3, ![8, 4098, 11008]⟩
abbrev S1x1x11008 : Shape := ⟨3, ![1, 1, 11008]⟩
abbrev S8x4096x5504 : Shape := ⟨3, ![8, 4096, 5504]⟩
abbrev S1x5504x2048 : Shape := ⟨3, ![1, 5504, 2048]⟩
abbrev S5504x2048 : Shape := ⟨2, ![5504, 2048]⟩

abbrev nBuf : Space → Nat
  | .hbm => 84
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x11x2x2048x512, .bf16⟩
  | .hbm, ⟨3, _⟩ => ⟨S4x3x11008, .f32⟩
  | .hbm, ⟨4, _⟩ => ⟨S4x11008, .f32⟩
  | .hbm, ⟨5, _⟩ => ⟨S4x5504x2048, .f32⟩
  | .hbm, ⟨6, _⟩ => ⟨S1x11x2x2048x512, .bf16⟩
  | .hbm, ⟨7, _⟩ => ⟨S11x2x2048x512, .bf16⟩
  | .hbm, ⟨8, _⟩ => ⟨S11x2x2048x512, .f32⟩
  | .hbm, ⟨9, _⟩ => ⟨S2x2048x11x512, .f32⟩
  | .hbm, ⟨10, _⟩ => ⟨S2x2048x5632, .f32⟩
  | .hbm, ⟨11, _⟩ => ⟨S1x2048x5504, .f32⟩
  | .hbm, ⟨12, _⟩ => ⟨S2048x5504, .f32⟩
  | .hbm, ⟨13, _⟩ => ⟨S1x2048x5504, .f32⟩
  | .hbm, ⟨14, _⟩ => ⟨S2048x5504, .f32⟩
  | .hbm, ⟨15, _⟩ => ⟨S2048x11008, .f32⟩
  | .hbm, ⟨16, _⟩ => ⟨S8x4096x2048, .f32⟩
  | .hbm, ⟨17, _⟩ => ⟨S8x4096x2048, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x2048, .f32⟩
  | .hbm, ⟨29, _⟩ => ⟨S8x4096x2048, .f32⟩
  | .hbm, ⟨30, _⟩ => ⟨S1x1x2048, .f32⟩
  | .hbm, ⟨31, _⟩ => ⟨S8x4096x2048, .f32⟩
  | .hbm, ⟨32, _⟩ => ⟨S8x4096x2048, .f32⟩
  | .hbm, ⟨33, _⟩ => ⟨S8x4096x11008, .f32⟩
  | .hbm, ⟨34, _⟩ => ⟨S1x3x11008, .f32⟩
  | .hbm, ⟨35, _⟩ => ⟨S3x11008, .f32⟩
  | .hbm, ⟨36, _⟩ => ⟨S1x11008, .f32⟩
  | .hbm, ⟨37, _⟩ => ⟨S11008, .f32⟩
  | .hbm, ⟨38, _⟩ => ⟨S_, .i32⟩
  | .hbm, ⟨39, _⟩ => ⟨S_, .f32⟩
  | .hbm, ⟨40, _⟩ => ⟨S8x4098x11008, .f32⟩
  | .hbm, ⟨41, _⟩ => ⟨S8x4096x11008, .f32⟩
  | .hbm, ⟨42, _⟩ => ⟨S1x11008, .f32⟩
  | .hbm, ⟨43, _⟩ => ⟨S11008, .f32⟩
  | .hbm, ⟨44, _⟩ => ⟨S1x1x11008, .f32⟩
  | .hbm, ⟨45, _⟩ => ⟨S8x4096x11008, .f32⟩
  | .hbm, ⟨46, _⟩ => ⟨S8x4096x11008, .f32⟩
  | .hbm, ⟨47, _⟩ => ⟨S_, .f32⟩
  | .hbm, ⟨48, _⟩ => ⟨S8x4096x11008, .f32⟩
  | .hbm, ⟨49, _⟩ => ⟨S8x4096x11008, .f32⟩
  | .hbm, ⟨50, _⟩ => ⟨S8x4096x11008, .f32⟩
  | .hbm, ⟨51, _⟩ => ⟨S1x11008, .f32⟩
  | .hbm, ⟨52, _⟩ => ⟨S11008, .f32⟩
  | .hbm, ⟨53, _⟩ => ⟨S1x1x11008, .f32⟩
  | .hbm, ⟨54, _⟩ => ⟨S8x4096x11008, .f32⟩
  | .hbm, ⟨55, _⟩ => ⟨S8x4096x11008, .f32⟩
  | .hbm, ⟨56, _⟩ => ⟨S8x4096x11008, .f32⟩
  | .hbm, ⟨57, _⟩ => ⟨S8x4096x11008, .f32⟩
  | .hbm, ⟨58, _⟩ => ⟨S1x11008, .f32⟩
  | .hbm, ⟨59, _⟩ => ⟨S11008, .f32⟩
  | .hbm, ⟨60, _⟩ => ⟨S1x1x11008, .f32⟩
  | .hbm, ⟨61, _⟩ => ⟨S8x4096x11008, .f32⟩
  | .hbm, ⟨62, _⟩ => ⟨S8x4096x11008, .f32⟩
  | .hbm, ⟨63, _⟩ => ⟨S8x4096x11008, .f32⟩
  | .hbm, ⟨64, _⟩ => ⟨S1x1x11008, .f32⟩
  | .hbm, ⟨65, _⟩ => ⟨S8x4096x11008, .f32⟩
  | .hbm, ⟨66, _⟩ => ⟨S8x4096x11008, .f32⟩
  | .hbm, ⟨67, _⟩ => ⟨S8x4096x5504, .f32⟩
  | .hbm, ⟨68, _⟩ => ⟨S8x4096x5504, .f32⟩
  | .hbm, ⟨69, _⟩ => ⟨S8x4096x5504, .f32⟩
  | .hbm, ⟨70, _⟩ => ⟨S8x4096x5504, .f32⟩
  | .hbm, ⟨71, _⟩ => ⟨S_, .f32⟩
  | .hbm, ⟨72, _⟩ => ⟨S8x4096x5504, .f32⟩
  | .hbm, ⟨73, _⟩ => ⟨S8x4096x5504, .f32⟩
  | .hbm, ⟨74, _⟩ => ⟨S_, .f32⟩
  | .hbm, ⟨75, _⟩ => ⟨S8x4096x5504, .f32⟩
  | .hbm, ⟨76, _⟩ => ⟨S8x4096x5504, .f32⟩
  | .hbm, ⟨77, _⟩ => ⟨S8x4096x5504, .f32⟩
  | .hbm, ⟨78, _⟩ => ⟨S8x4096x5504, .f32⟩
  | .hbm, ⟨79, _⟩ => ⟨S1x5504x2048, .f32⟩
  | .hbm, ⟨80, _⟩ => ⟨S5504x2048, .f32⟩
  | .hbm, ⟨81, _⟩ => ⟨S8x4096x2048, .f32⟩
  | .hbm, ⟨82, _⟩ => ⟨S8x4096x2048, .f32⟩
  | .hbm, ⟨83, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Proof.GlaHead.lean ====
module

public import proofs.«01_k».proof.Proof.Gen.GlaIdeal.Loops
public import Idealize.ShloMosaic.Lib.Pipeline.ValueKit
public import Idealize.ShloMosaic.Lib.Pointwise

@[expose] public section

set_option maxRecDepth 16384
set_option maxHeartbeats 1000000

noncomputable section

namespace Cert.GlaV
open Idealize.ShloMosaic Idealize.ShloMosaic.TcCoe Idealize.ShloMosaic.Tactic Idealize.SL.Sem
open Cert.GlaIdeal Cert.GlaIdeal.Gen
variable {F : FTy → Type} [FloatOps F]

/-! One head of one chunk of the kernel's loop, as functions of what the chunk loads. -/

/-- The queries, scaled. -/
def hQ (q : Vec F S64x128 .bf16) : FVec F S64x128 .f32 :=
  mulf (extf .f32 q bitsLt_bf16_f32) (broadcast S64x128 (Scalar.ofBits .f32 0x3DB504F3#32))

/-- The keys. -/
def hK (k : Vec F S64x128 .bf16) : FVec F S64x128 .f32 := extf .f32 k bitsLt_bf16_f32

/-- The state the chunk finds, without its leading axis. -/
def hSt (st : Vec F S1x256x128 .f32) : FVec F S256x128 .f32 := shapeCast S256x128 st shapeCasts_S1x256x128_S256x128

/-- The part of the head's output that comes from the state. -/
def hInter (bc : FVec F S64x128 .f32) (q : Vec F S64x128 .bf16) (st : Vec F S1x256x128 .f32) : FVec F S64x256 .f32 :=
  matmul dot_S64x128_S256x128_S64x256_1_1_0_0_n_n none (truncf .bf16 (mulf (hQ q) (exp bc)) bitsLt_bf16_f32)
    (truncf .bf16 (hSt st) bitsLt_bf16_f32) (constant S64x256 .f32 0x00000000#32)

/-- One row of the cumulated log gates, repeated over a sub-block of 16 rows. -/
def hRep (c : FVec F S1x128 .f32) : FVec F S16x128 .f32 :=
  broadcastTo S16x128 (shapeCast S1x128 c shapeCasts_S1x128_S1x128) broadcasts_S1x128_S16x128

/-- The first row of each sub-block of 16 rows, repeated over that sub-block. -/
def hBase (bc : FVec F S64x128 .f32) : FVec F S64x128 .f32 :=
  concatenate S64x128 0
    [⟨S16x128, hRep (extractStridedSlice S1x128 ![0, 0] bc slices_S64x128_o0_0_S1x128)⟩,
     ⟨S16x128, hRep (extractStridedSlice S1x128 ![16, 0] bc slices_S64x128_o16_0_S1x128)⟩,
     ⟨S16x128, hRep (extractStridedSlice S1x128 ![32, 0] bc slices_S64x128_o32_0_S1x128)⟩,
     ⟨S16x128, hRep (extractStridedSlice S1x128 ![48, 0] bc slices_S64x128_o48_0_S1x128)⟩]
    concatenates_S16x128_S16x128_S16x128_S16x128_S64x128_d0

/-- The queries, decayed from the first row of their sub-block. -/
def hQt (bc : FVec F S64x128 .f32) (q : Vec F S64x128 .bf16) : FVec F S64x128 .bf16 :=
  truncf .bf16 (mulf (hQ q) (exp (subf bc (hBase bc)))) bitsLt_bf16_f32

/-- The keys of the rows below `n`, decayed to the row `c`; zero at the other rows. -/
def hKt (rowk : IVec S64x1 32) (n : BitVec 32) (c : FVec F S1x128 .f32) (bc : FVec F S64x128 .f32) (k : Vec F S64x128 .bf16) : FVec F S64x128 .bf16 :=
  truncf .bf16 (select (broadcastTo S64x128 (shapeCast S64x1 (cmpi .slt rowk (broadcast S64x1 n)) shapeCasts_S64x1_S64x1) broadcasts_S64x1_S64x128)
    (mulf (hK k) (exp (subf (broadcastTo S64x128 c broadcasts_S1x128_S64x128) bc)))
    (broadcast S64x128 (Scalar.ofBits .f32 0x00000000#32))) bitsLt_bf16_f32

/-- One sub-block of the scores. -/
def hBlk (qt : FVec F S16x128 .bf16) (kt : FVec F S64x128 .bf16) : FVec F S16x64 .f32 :=
  matmul dot_S16x128_S64x128_S16x64_1_1_0_0_n_n none qt kt (constant S16x64 .f32 0x00000000#32)

/-- The scores before the causal mask: the four sub-blocks. -/
def hA (rowk : IVec S64x1 32) (bc : FVec F S64x128 .f32) (q k : Vec F S64x128 .bf16) : FVec F S64x64 .f32 :=
  concatenate S64x64 0
    [⟨S16x64, hBlk (extractStridedSlice S16x128 ![0, 0] (hQt bc q) slices_S64x128_o0_0_S16x128)
        (hKt rowk 16#32 (extractStridedSlice S1x128 ![0, 0] bc slices_S64x128_o0_0_S1x128) bc k)⟩,
     ⟨S16x64, hBlk (extractStridedSlice S16x128 ![16, 0] (hQt bc q) slices_S64x128_o16_0_S16x128)
        (hKt rowk 32#32 (extractStridedSlice S1x128 ![16, 0] bc slices_S64x128_o16_0_S1x128) bc k)⟩,
     ⟨S16x64, hBlk (extractStridedSlice S16x128 ![32, 0] (hQt bc q) slices_S64x128_o32_0_S16x128)
        (hKt rowk 48#32 (extractStridedSlice S1x128 ![32, 0] bc slices_S64x128_o32_0_S1x128) bc k)⟩,
     ⟨S16x64, hBlk (extractStridedSlice S16x128 ![48, 0] (hQt bc q) slices_S64x128_o48_0_S16x128)
        (hKt rowk 64#32 (extractStridedSlice S1x128 ![48, 0] bc slices_S64x128_o48_0_S1x128) bc k)⟩]
    concatenates_S16x64_S16x64_S16x64_S16x64_S64x64_d0

/-- The head's output before the norm. -/
def hO (tril : IVec S64x64 1) (rowk : IVec S64x1 32) (bc : FVec F S64x128 .f32) (q k : Vec F S64x128 .bf16) (v : Vec F S64x256 .bf16)
    (st : Vec F S1x256x128 .f32) : FVec F S64x256 .f32 :=
  addf (hInter bc q st)
    (matmul dot_S64x64_S64x256_S64x256_1_0_0_1_n_n none
      (truncf .bf16 (select tril (hA rowk bc q k) (broadcast S64x64 (Scalar.ofBits .f32 0x00000000#32))) bitsLt_bf16_f32) v
      (constant S64x256 .f32 0x00000000#32))

/-- The head's norm and output gate, of the output `o`. -/
def hOut (o : FVec F S64x256 .f32) (hn : Vec F S1x256 .f32) (gg : Vec F S64x256 .bf16) : FVec F S64x256 .bf16 :=
  truncf .bf16 (mulf
    (mulf (extf .f32 gg bitsLt_bf16_f32)
      (addf (broadcast S64x256 (Scalar.ofBits .f32 0x3F000000#32))
        (mulf (broadcast S64x256 (Scalar.ofBits .f32 0x3F000000#32))
          (tanh (mulf (broadcast S64x256 (Scalar.ofBits .f32 0x3F000000#32)) (extf .f32 gg bitsLt_bf16_f32))))))
    (mulf
      (mulf o (broadcastTo S64x256
        (rsqrt (addf
          (divf (shapeCast S64x1 (multiReduction .add [1] S64 (mulf o o) 0x00000000#32 reduces_S64x256_S64 (.inl rfl) rfl) shapeCasts_S64_S64x1)
            (broadcast S64x1 (Scalar.ofBits .f32 0x43800000#32)))
          (broadcast S64x1 (Scalar.ofBits .f32 0x358637BD#32)))) broadcasts_S64x1_S64x256))
      (broadcastTo S64x256 (shapeCast S1x256 hn shapeCasts_S1x256_S1x256) broadcasts_S1x256_S64x256))) bitsLt_bf16_f32

/-- The state the chunk leaves. -/
def hS (bc : FVec F S64x128 .f32) (k : Vec F S64x128 .bf16) (v : Vec F S64x256 .bf16) (st : Vec F S1x256x128 .f32) : FVec F S1x256x128 .f32 :=
  shapeCast S1x256x128
    (addf
      (mulf (hSt st) (broadcastTo S256x128 (exp (extractStridedSlice S1x128 ![63, 0] bc slices_S64x128_o63_0_S1x128)) broadcasts_S1x128_S256x128))
      (matmul dot_S64x256_S64x128_S256x128_0_0_1_1_n_n none v
        (truncf .bf16 (mulf (hK k) (exp (subf
          (broadcastTo S64x128 (extractStridedSlice S1x128 ![63, 0] bc slices_S64x128_o63_0_S1x128) broadcasts_S1x128_S64x128) bc))) bitsLt_bf16_f32)
        (constant S256x128 .f32 0x00000000#32)))
    shapeCasts_S256x128_S1x256x128

variable (v7 : IVec S64x64 1) (v10 : IVec S64x1 32) (x : Vec F S64x512 .f32) (q k : Vec F S64x128 .bf16) (v gg : Vec F S64x256 .bf16)
  (st : Vec F S1x256x128 .f32) (hn : Vec F S1x256 .f32)

/-- What the first head stores in the output is its output function. -/
theorem out_head0 : k0_pay12 v7 v (k0_pay7 x q st) (k0_pay11 v10 (k0_pay3 x) (k0_pay5 k) (k0_pay8 x q) (k0_pay9 x k) (FloatOps.ofBits FTy.f32 0#32)
      (k0_pay10 v10)) (FloatOps.ofBits FTy.f32 0#32) hn gg
    = hOut (hO v7 v10 (k0_pay3 x) q k v st) hn gg := rfl

/-- What the second head stores in the output is its output function. -/
theorem out_head1 : k0_pay25 v (k0_pay19 x q st) (k0_pay24 v7 v10 (k0_pay15 x) (k0_pay17 k) (k0_pay20 x q) (k0_pay21 x k) (k0_pay22 v10) k0_pay23) hn gg
    = hOut (hO v7 v10 (k0_pay15 x) q k v st) hn gg := rfl

/-- What the third head stores in the output is its output function. -/
theorem out_head2 : k0_pay36 v (k0_pay32 x q st) (k0_pay35 v7 v10 (k0_pay28 x) (k0_pay30 k) (k0_pay33 x q) (k0_pay34 v10 x k))
      (constant S64x256 FTy.f32 0#32) hn gg
    = hOut (hO v7 v10 (k0_pay28 x) q k v st) hn gg := rfl

/-- What the fourth head stores in the output is its output function. -/
theorem out_head3 : k0_pay47 (k0_pay46 v7 v10 (k0_pay38 x) (k0_pay40 k) v (k0_pay42 x q st) (k0_pay43 x q) (k0_pay44 v10 x k) (k0_pay45 x q)
      (constant S16x64 FTy.f32 0#32)) hn gg
    = hOut (hO v7 v10 (k0_pay38 x) q k v st) hn gg := rfl

/-- What the first head stores in the state is its state function. -/
theorem st_head0 : k0_pay14 (k0_pay13 (k0_pay3 x) (k0_pay5 k) v (k0_pay6 st)) = hS (k0_pay3 x) k v st := rfl

/-- What the second head stores in the state is its state function. -/
theorem st_head1 : k0_pay27 (k0_pay26 (k0_pay15 x) (k0_pay17 k) v (k0_pay18 st)) = hS (k0_pay15 x) k v st := rfl

/-- What the third head stores in the state is its state function. -/
theorem st_head2 : k0_pay37 (k0_pay28 x) (k0_pay30 k) v (k0_pay31 st) = hS (k0_pay28 x) k v st := rfl

/-- What the fourth head stores in the state is its state function. -/
theorem st_head3 : k0_pay2 v (k0_pay49 (k0_pay38 x) (k0_pay40 k)) (k0_pay50 (k0_pay38 x) (k0_pay41 st)) = hS (k0_pay38 x) k v st := rfl

end Cert.GlaV

end
-- ==== Proof.GlaMath.lean ====
module

public import Idealize.ShloMosaic.Lib.IdealHost
public import Idealize.ShloMosaic.Lib.Pointwise

@[expose] public section

set_option maxRecDepth 16384
set_option maxHeartbeats 1000000

noncomputable section

namespace Cert.GlaV
open Idealize.ShloMosaic Idealize.ShloMosaic.TcCoe Idealize.ShloMosaic.Tactic Idealize.SL.Sem

/-! Facts about the extended reals that the two programs' elementwise parts differ by. -/

/-- The constant one half. -/
theorem half_eq : Ideal.ofBits .f32 0x3F000000#32 = ((1 / 2 : ℝ) : EReal) := by
  simp [Ideal.ofBits, Ideal.ieee, -EReal.coe_mul]; norm_num

/-- The constant one sixteenth. -/
theorem sixteenth_eq : Ideal.ofBits .f32 0x3D800000#32 = ((1 / 16 : ℝ) : EReal) := by
  simp [Ideal.ofBits, Ideal.ieee, -EReal.coe_mul]; norm_num

/-- The constant sixteen. -/
theorem sixteen_eq : Ideal.ofBits .f32 0x41800000#32 = ((16 : ℝ) : EReal) := by
  simp [Ideal.ofBits, Ideal.ieee, -EReal.coe_mul]; norm_num

/-- The constant minus infinity. -/
theorem neg_inf_eq : Ideal.ofBits .f32 0xFF800000#32 = ⊥ := by
  simp [Ideal.ofBits, Ideal.ieee]

/-- A logistic function written with the hyperbolic tangent is the one written with the exponential. -/
theorem sigmoid_eq (x : EReal) :
    Ideal.ofBits .f32 0x3F000000#32 + Ideal.ofBits .f32 0x3F000000#32 * Ideal.tanh (Ideal.ofBits .f32 0x3F000000#32 * x)
      = Ideal.div 1 (1 + Ideal.exp (-x)) := by
  rw [half_eq]
  induction x using EReal.rec with
  | bot =>
    rw [EReal.coe_mul_bot_of_pos (by norm_num)]
    show ((1 / 2 : ℝ) : EReal) + ((1 / 2 : ℝ) : EReal) * (-1) = Ideal.div 1 (1 + ⊤)
    rw [show (1 : EReal) + ⊤ = ⊤ from EReal.add_top_of_ne_bot (by decide), Ideal.div, if_neg (by decide)]
    rw [show (-1 : EReal) = ((-1 : ℝ) : EReal) by simp]
    rw [← EReal.coe_mul, ← EReal.coe_add]
    norm_num
  | top =>
    rw [EReal.coe_mul_top_of_pos (by norm_num)]
    show ((1 / 2 : ℝ) : EReal) + ((1 / 2 : ℝ) : EReal) * 1 = Ideal.div 1 (1 + 0)
    rw [add_zero, mul_one, ← EReal.coe_add, Ideal.div, if_neg one_ne_zero]
    norm_num
  | coe x =>
    rw [← EReal.coe_mul, ← EReal.coe_neg]
    show ((1 / 2 : ℝ) : EReal) + ((1 / 2 : ℝ) : EReal) * ((Real.tanh (1 / 2 * x) : ℝ) : EReal) = Ideal.div 1 (1 + ((Real.exp (-x) : ℝ) : EReal))
    have hp := Real.exp_pos (-x)
    rw [← EReal.coe_one, ← EReal.coe_add, Ideal.div_coe (by positivity), ← EReal.coe_mul, ← EReal.coe_mul, ← EReal.coe_add]
    congr 1
    rw [Real.tanh_eq_sinh_div_cosh, Real.sinh_eq, Real.cosh_eq]
    have e1 : Real.exp (-x) = Real.exp (-(1 / 2 * x)) * Real.exp (-(1 / 2 * x)) := by
      rw [← Real.exp_add]; congr 1; ring
    have hu := Real.exp_pos (1 / 2 * x)
    rw [e1, Real.exp_neg]
    field_simp
    ring

/-- The maximum of two reals, among the extended reals. -/
theorem max_coe (a b : ℝ) : max (a : EReal) (b : EReal) = ((max a b : ℝ) : EReal) :=
  (EReal.coe_strictMono.monotone.map_max).symm

/-- The minimum of two reals, among the extended reals. -/
theorem min_coe (a b : ℝ) : min (a : EReal) (b : EReal) = ((min a b : ℝ) : EReal) :=
  (EReal.coe_strictMono.monotone.map_min).symm

/-- The logarithm of the logistic function, divided by sixteen, in the two programs' spellings. -/
theorem log_sigmoid_eq (x : EReal) :
    (min x 0 - Ideal.log (1 + Ideal.exp (0 - max x (-x)))) * Ideal.ofBits .f32 0x3D800000#32
      = Ideal.div (-(max (-x) 0 + Ideal.log1p (Ideal.exp (-max (-x - 0) (-(-x - 0)))))) (Ideal.ofBits .f32 0x41800000#32) := by
  rw [sixteenth_eq, sixteen_eq, Ideal.div_coe (by norm_num)]
  congr 1
  rw [sub_zero, neg_neg, zero_sub, max_comm (-x) x, Ideal.log1p]
  induction x using EReal.rec with
  | bot =>
    rw [show max (⊥ : EReal) (-⊥) = ⊤ by simp, show Ideal.exp (-⊤) = 0 from rfl]
    rw [show min (⊥ : EReal) 0 = ⊥ by simp, show max (-⊥ : EReal) 0 = ⊤ by simp, add_zero]
    rw [show Ideal.log 1 = 0 by
      show Ideal.log ((1 : ℝ) : EReal) = 0
      show (if (1 : ℝ) ≤ 0 then (⊥ : EReal) else ((Real.log 1 : ℝ) : EReal)) = 0
      norm_num]
    simp
  | top =>
    rw [show max (⊤ : EReal) (-⊤) = ⊤ by simp, show Ideal.exp (-⊤) = 0 from rfl]
    rw [show min (⊤ : EReal) 0 = 0 by simp, show max (-⊤ : EReal) 0 = 0 by simp, add_zero]
    rw [show Ideal.log 1 = 0 by
      show Ideal.log ((1 : ℝ) : EReal) = 0
      show (if (1 : ℝ) ≤ 0 then (⊥ : EReal) else ((Real.log 1 : ℝ) : EReal)) = 0
      norm_num]
    simp
  | coe x =>
    obtain ⟨l, hl⟩ : ∃ l : ℝ, Ideal.log (1 + Ideal.exp (-max (x : EReal) (-(x : EReal)))) = (l : EReal) := by
      rw [← EReal.coe_neg, max_coe, ← EReal.coe_neg]
      refine ⟨Real.log (1 + Real.exp (-max x (-x))), ?_⟩
      show Ideal.log ((1 : EReal) + ((Real.exp (-max x (-x)) : ℝ) : EReal)) = _
      rw [← EReal.coe_one, ← EReal.coe_add]
      have := Real.exp_pos (-max x (-x))
      exact if_neg (by linarith)
    rw [hl, ← EReal.coe_neg, ← EReal.coe_zero, min_coe, max_coe, ← EReal.coe_add, ← EReal.coe_neg, ← EReal.coe_sub]
    congr 1
    rcases le_total x 0 with h | h
    · rw [min_eq_left h, max_eq_left (by linarith)]; ring
    · rw [min_eq_right h, max_eq_right (by linarith)]; ring

/-- The kernel's log gate is not positive. -/
theorem log_gate_nonpos (x : EReal) :
    (min x 0 - Ideal.log (1 + Ideal.exp (0 - max x (-x)))) * Ideal.ofBits .f32 0x3D800000#32 ≤ 0 := by
  rw [sixteenth_eq]
  refine mul_nonpos_of_nonpos_of_nonneg ?_ (by positivity)
  have h0 : 0 ≤ Ideal.log (1 + Ideal.exp (0 - max x (-x))) := by
    generalize 0 - max x (-x) = y
    induction y using EReal.rec with
    | bot =>
      show 0 ≤ Ideal.log (1 + 0)
      rw [add_zero]
      show (0 : EReal) ≤ (if (1 : ℝ) ≤ 0 then (⊥ : EReal) else ((Real.log 1 : ℝ) : EReal))
      norm_num
    | top =>
      show 0 ≤ Ideal.log (1 + ⊤)
      rw [show (1 : EReal) + ⊤ = ⊤ from EReal.add_top_of_ne_bot (by decide)]
      exact le_top
    | coe y =>
      show 0 ≤ Ideal.log ((1 : EReal) + ((Real.exp y : ℝ) : EReal))
      have hp := Real.exp_pos y
      rw [← EReal.coe_one, ← EReal.coe_add]
      show (0 : EReal) ≤ (if 1 + Real.exp y ≤ 0 then (⊥ : EReal) else ((Real.log (1 + Real.exp y) : ℝ) : EReal))
      rw [if_neg (by linarith)]
      exact_mod_cast Real.log_nonneg (by linarith)
  calc min x 0 - Ideal.log (1 + Ideal.exp (0 - max x (-x))) ≤ 0 - 0 := EReal.sub_le_sub (min_le_right _ _) h0
    _ = 0 := by simp

/-- Two decays through a point between them are one decay. -/
theorem exp_split {x c y : EReal} (hxc : x ≤ c) (hc : c ≤ 0) (hxy : x ≤ y) (hy : y ≤ 0) :
    Ideal.exp (x - c) * Ideal.exp (c - y) = Ideal.exp (x - y) := by
  induction x using EReal.rec with
  | bot =>
    rw [sub_eq_add_neg, sub_eq_add_neg ⊥ y, EReal.bot_add, EReal.bot_add]
    show (0 : EReal) * _ = 0
    rw [zero_mul]
  | top => exact absurd (hxc.trans hc) (by decide)
  | coe x =>
    induction c using EReal.rec with
    | bot => exact absurd hxc (by simp)
    | top => exact absurd hc (by decide)
    | coe c =>
      induction y using EReal.rec with
      | bot => exact absurd hxy (by simp)
      | top => exact absurd hy (by decide)
      | coe y =>
        rw [← EReal.coe_sub, ← EReal.coe_sub, ← EReal.coe_sub]
        show ((Real.exp (x - c) : ℝ) : EReal) * ((Real.exp (c - y) : ℝ) : EReal) = ((Real.exp (x - y) : ℝ) : EReal)
        rw [← EReal.coe_mul, ← Real.exp_add]
        congr 2; ring

/-- The running sum of a chunk's log gates. -/
def runSum (la : Fin 64 → EReal) (t : Fin 64) : EReal := ∑ s, if s ≤ t then la s else 0

/-- A running sum of nonpositive terms is not positive. -/
theorem runSum_nonpos {la : Fin 64 → EReal} (h : ∀ s, la s ≤ 0) (t : Fin 64) : runSum la t ≤ 0 :=
  Finset.sum_nonpos fun s _ => by split <;> [exact h s; exact le_rfl]

/-- A running sum of nonpositive terms goes down. -/
theorem runSum_anti {la : Fin 64 → EReal} (h : ∀ s, la s ≤ 0) {s t : Fin 64} (hst : s ≤ t) : runSum la t ≤ runSum la s := by
  refine Finset.sum_le_sum fun i _ => ?_
  by_cases his : i ≤ s
  · rw [if_pos his, if_pos (his.trans hst)]
  · rw [if_neg his]; split <;> [exact h i; exact le_rfl]

end Cert.GlaV

end
-- ==== Proof.GlaElem.lean ====
module

public import proofs.«01_k».proof.Proof.GlaHead
public import proofs.«01_k».proof.Proof.GlaMath

@[expose] public section

set_option maxRecDepth 16384
set_option maxHeartbeats 1000000

noncomputable section

namespace Cert.GlaV
open Idealize.ShloMosaic Idealize.ShloMosaic.TcCoe Idealize.ShloMosaic.Tactic Idealize.SL.Sem
open Cert.GlaIdeal Cert.GlaIdeal.Gen

/-! ## One chunk of one head, as plain sums -/

/-- The decayed products of a query row with a key row of its chunk; nothing for a later key. -/
def chunkA (q k bc : Fin 64 → Fin 128 → EReal) (t s : Fin 64) : EReal :=
  ∑ d, q t d * k s d * Ideal.exp (if s ≤ t then bc t d - bc s d else ⊥)

/-- A chunk's output from its own rows and from the state it finds. -/
def chunkO (q k : Fin 64 → Fin 128 → EReal) (v : Fin 64 → Fin 256 → EReal) (bc : Fin 64 → Fin 128 → EReal) (S : Fin 128 → Fin 256 → EReal)
    (t : Fin 64) (e : Fin 256) : EReal :=
  (∑ s, chunkA q k bc t s * v s e) + ∑ d, q t d * Ideal.exp (bc t d) * S d e

/-- The state a chunk leaves. -/
def chunkS (k : Fin 64 → Fin 128 → EReal) (v : Fin 64 → Fin 256 → EReal) (bc : Fin 64 → Fin 128 → EReal) (S : Fin 128 → Fin 256 → EReal)
    (d : Fin 128) (e : Fin 256) : EReal :=
  Ideal.exp (bc 63 d) * S d e + ∑ t, k t d * Ideal.exp (bc 63 d - bc t d) * v t e

/-- A row of a head's output, normalised and gated. -/
def gated (o gg hn : Fin 256 → EReal) (e : Fin 256) : EReal :=
  gg e * Ideal.div 1 (1 + Ideal.exp (-gg e))
    * (o e * Ideal.rsqrt (Ideal.div (∑ x, o x * o x) (Ideal.ofBits .f32 0x43800000#32) + Ideal.ofBits .f32 0x358637BD#32) * hn e)

/-! ## The kernel's head is that -/

/-- The row numbers of a chunk. -/
def rowk : IVec S64x1 32 := iota .tc S64x1 32 [0] iota_S64x1_d0_w32

/-- The positions up to a row. -/
theorem tril_apply (t s : Fin 64) : k0_pay53 (ix2 t s) = if s ≤ t then 1#1 else 0#1 := by
  pointwise [k0_pay53]
  revert s t; decide +kernel

/-- The first row of the sub-block that a row lies in. -/
theorem hBase_apply (bc : FVec Ideal S64x128 .f32) (t : Fin 64) (d : Fin 128) :
    hBase bc (ix2 t d) = bc (ix2 ⟨16 * (t.val / 16), by omega⟩ d) := by
  pointwise [hBase, hRep]
  split_ifs with h1 h2 h3 <;> refine congrArg (fun r => bc (ix2 r d)) (Fin.ext ?_)
  · show 0 = 16 * (t.val / 16); omega
  · show 16 = 16 * (t.val / 16); omega
  · show 32 = 16 * (t.val / 16); omega
  · show 48 = 16 * (t.val / 16); omega

/-- A decayed key of a row below the bound. -/
theorem hKt_apply (n : BitVec 32) (c : FVec Ideal S1x128 .f32) (bc : FVec Ideal S64x128 .f32) (k : Vec Ideal S64x128 .bf16) (s : Fin 64) (d : Fin 128)
    (hs : (BitVec.ofNat 32 s.val).slt n = true) :
    hKt rowk n c bc k (ix2 s d) = k (ix2 s d) * Ideal.exp (c (ix2 0 d) - bc (ix2 s d)) := by
  pointwise [hKt, hK, rowk]
  show (if BitVec.ofBool ((BitVec.ofNat 32 s.val).slt n) = 1 then _ else _) = _
  rw [hs]; rfl

/-- A decayed query. -/
theorem hQt_apply (bc : FVec Ideal S64x128 .f32) (q : Vec Ideal S64x128 .bf16) (t : Fin 64) (d : Fin 128) :
    hQt bc q (ix2 t d) = q (ix2 t d) * Ideal.ofBits .f32 0x3DB504F3#32 * Ideal.exp (bc (ix2 t d) - hBase bc (ix2 t d)) := by
  pointwise [hQt, hQ]

section
variable (bc : FVec Ideal S64x128 .f32) (q k : Vec Ideal S64x128 .bf16) (v : Vec Ideal S64x256 .bf16) (st : Vec Ideal S1x256x128 .f32)

/-- The scaled queries, by row and column. -/
def qF : Fin 64 → Fin 128 → EReal := fun t d => q (ix2 t d) * Ideal.ofBits .f32 0x3DB504F3#32
/-- The keys, by row and column. -/
def kF : Fin 64 → Fin 128 → EReal := fun t d => k (ix2 t d)
/-- The values, by row and column. -/
def vF : Fin 64 → Fin 256 → EReal := fun t e => v (ix2 t e)
/-- The cumulated log gates, by row and column. -/
def bF : Fin 64 → Fin 128 → EReal := fun t d => bc (ix2 t d)
/-- The state, by key column and value column. -/
def sF : Fin 128 → Fin 256 → EReal := fun d e => st (ix3 0 e d)

variable (h0 : ∀ t d, bF bc t d ≤ 0) (hd : ∀ s t d, s ≤ t → bF bc t d ≤ bF bc s d)
include h0 hd

/-- A sub-block's product of a query row with a key row is the decayed product, for a key not later than the query. -/
theorem blk_eq (t t' s : Fin 64) (ht : t' = t) (hst : s ≤ t) (n : BitVec 32) (hs : (BitVec.ofNat 32 s.val).slt n = true)
    (c : FVec Ideal S1x128 .f32) (hc : ∀ d, c (ix2 0 d) = bc (ix2 ⟨16 * (t.val / 16), by omega⟩ d)) :
    ∑ x, hQt bc q (ix2 t' x) * hKt rowk n c bc k (ix2 s x) = chunkA (qF q) (kF k) (bF bc) t s := by
  subst ht
  unfold chunkA
  refine Finset.sum_congr rfl fun d _ => ?_
  rw [hQt_apply, hKt_apply n c bc k s d hs, hBase_apply, hc, if_pos hst, mul_mul_mul_comm]
  exact congrArg (_ * ·) (exp_split (hd _ _ d (Fin.mk_le_of_le_val (by omega))) (h0 _ d) (hd _ _ d hst) (h0 _ d))

/-- The products of a chunk, for a key not later than the query. -/
theorem hA_apply (t s : Fin 64) (hst : s ≤ t) : hA rowk bc q k (ix2 t s) = chunkA (qF q) (kF k) (bF bc) t s := by
  have hsv : s.val ≤ t.val := hst
  have h16 : ∀ s : Fin 64, s.val < 16 → (BitVec.ofNat 32 s.val).slt 16#32 = true := by decide +kernel
  have h32 : ∀ s : Fin 64, s.val < 32 → (BitVec.ofNat 32 s.val).slt 32#32 = true := by decide +kernel
  have h48 : ∀ s : Fin 64, s.val < 48 → (BitVec.ofNat 32 s.val).slt 48#32 = true := by decide +kernel
  have h64 : ∀ s : Fin 64, s.val < 64 → (BitVec.ofNat 32 s.val).slt 64#32 = true := by decide +kernel
  have hcs : ∀ (r : Fin 64) (d : Fin 128), r.val = 16 * (t.val / 16) → bc (ix2 r d) = bc (ix2 ⟨16 * (t.val / 16), by omega⟩ d) :=
    fun r d h => congrArg (fun r => bc (ix2 r d)) (Fin.ext h)
  pointwise [hA, hBlk]
  by_cases h1 : t.val < 16
  · rw [dif_pos h1]
    refine blk_eq bc q k h0 hd t _ s rfl hst _ (h16 s (by omega)) _ fun d => ?_
    pointwise []
    exact hcs _ d (by show 0 = _; omega)
  rw [dif_neg h1]
  by_cases h2 : t.val - 16 < 16
  · rw [dif_pos h2]
    refine blk_eq bc q k h0 hd t _ s (Fin.ext (by dsimp only; omega)) hst _ (h32 s (by omega)) _ fun d => ?_
    pointwise []
    exact hcs _ d (by show 16 = _; omega)
  rw [dif_neg h2]
  by_cases h3 : t.val - 16 - 16 < 16
  · rw [dif_pos h3]
    refine blk_eq bc q k h0 hd t _ s (Fin.ext (by dsimp only; omega)) hst _ (h48 s (by omega)) _ fun d => ?_
    pointwise []
    exact hcs _ d (by show 32 = _; omega)
  rw [dif_neg h3]
  refine blk_eq bc q k h0 hd t _ s (Fin.ext (by dsimp only; omega)) hst _ (h64 s (by omega)) _ fun d => ?_
  pointwise []
  exact hcs _ d (by show 48 = _; omega)

/-- The kernel's output of one head and chunk, before the normalisation. -/
theorem hO_apply (t : Fin 64) (e : Fin 256) :
    hO k0_pay53 rowk bc q k v st (ix2 t e) = chunkO (qF q) (kF k) (vF v) (bF bc) (sF st) t e := by
  have hi : hInter bc q st (ix2 t e) = ∑ d, qF q t d * Ideal.exp (bF bc t d) * sF st d e := by
    pointwise [hInter, hQ, hSt]
    rfl
  pointwise [hO]
  rw [hi, add_comm]
  unfold chunkO
  refine congrArg (· + _) (Finset.sum_congr rfl fun s _ => ?_)
  rw [tril_apply]
  by_cases h : s ≤ t
  · rw [if_pos h, hA_apply bc q k h0 hd t s h]; rfl
  · rw [if_neg h]
    refine Eq.trans (show _ = (0 : EReal) from rfl) ?_
    have : chunkA (qF q) (kF k) (bF bc) t s = 0 := by
      unfold chunkA
      refine Finset.sum_eq_zero fun d _ => ?_
      rw [if_neg h]
      show _ * (0 : EReal) = 0
      rw [mul_zero]
    rw [this, zero_mul]
end

/-- The kernel's state after one chunk of one head. -/
theorem hS_apply (bc : FVec Ideal S64x128 .f32) (k : Vec Ideal S64x128 .bf16) (v : Vec Ideal S64x256 .bf16) (st : Vec Ideal S1x256x128 .f32) (e : Fin 256) (d : Fin 128) :
    hS bc k v st (ix3 0 e d) = chunkS (kF k) (vF v) (bF bc) (sF st) d e := by
  pointwise [hS, hSt, hK]
  unfold chunkS
  refine congrArg₂ (· + ·) (mul_comm _ _) (Finset.sum_congr rfl fun t _ => ?_)
  exact mul_comm _ _

/-- The kernel's normalised and gated row. -/
theorem hOut_apply (o : FVec Ideal S64x256 .f32) (hn : Vec Ideal S1x256 .f32) (gg : Vec Ideal S64x256 .bf16) (t : Fin 64) (e : Fin 256) :
    hOut o hn gg (ix2 t e) = gated (fun x => o (ix2 t x)) (fun x => gg (ix2 t x)) (fun x => hn (ix2 0 x)) e := by
  pointwise [hOut]
  rw [sigmoid_eq]
  rfl

end Cert.GlaV

end
-- ==== Proof.GlaTrip.lean ====
module

public import proofs.«01_k».proof.Proof.GlaElem
public import Idealize.ShloMosaic.Lib.Pipeline.CanonAppend

@[expose] public section

set_option maxRecDepth 16384
set_option maxHeartbeats 1000000

noncomputable section

namespace Cert.GlaV
open Idealize.ShloMosaic Idealize.ShloMosaic.TcCoe Idealize.ShloMosaic.Tactic Idealize.SL.Sem
open Cert.GlaIdeal Cert.GlaIdeal.Gen

/-! ## A load of a box with unit strides, at an index -/

/-- A two-axis box. -/
theorem ld_box2 {m n a b : ℕ} {e : EltTy} (Y : (⟨2, ![m, n]⟩ : Shape).Idx → Elt Ideal e) (o p : ℕ)
    (w : ∀ i, (![o, p] : Fin 2 → ℕ) i + (![a, b] : Fin 2 → ℕ) i ≤ (⟨2, ![m, n]⟩ : Shape).size i) (t : Fin a) (d : Fin b)
    (r : Fin m) (j : Fin n) (hr : r.val = o + t.val) (hj : j.val = p + d.val) :
    View.ld Y (Rect.unit (s := ⟨2, ![m, n]⟩) ![o, p] ![a, b] w) (ix2 t d) = Y (ix2 r j) := by
  refine congrArg Y (funext fun i => Fin.ext ?_)
  match i with
  | ⟨0, _⟩ => show o + 1 * t.val = r.val; omega
  | ⟨1, _⟩ => show p + 1 * d.val = j.val; omega

/-- One member of a three-axis stack. -/
theorem ld_box3 {l m n : ℕ} {e : EltTy} (Y : (⟨3, ![l, m, n]⟩ : Shape).Idx → Elt Ideal e) (o : ℕ)
    (w : ∀ i, (![o, 0, 0] : Fin 3 → ℕ) i + (![1, m, n] : Fin 3 → ℕ) i ≤ (⟨3, ![l, m, n]⟩ : Shape).size i) (t : Fin m) (d : Fin n)
    (h : Fin l) (hh : h.val = o) :
    View.ld Y (Rect.unit (s := ⟨3, ![l, m, n]⟩) ![o, 0, 0] ![1, m, n] w) (ix3 0 t d) = Y (ix3 h t d) := by
  refine congrArg Y (funext fun i => Fin.ext ?_)
  match i with
  | ⟨0, _⟩ => show o + 1 * 0 = h.val; omega
  | ⟨1, _⟩ => show 0 + 1 * t.val = t.val; omega
  | ⟨2, _⟩ => show 0 + 1 * d.val = d.val; omega

/-! ## What one grid point's loop computes from its blocks -/

/-- Row `t` of chunk `k` of a block of 512 rows. -/
def row8 (k : ℕ) (t : Fin 64) : Fin 512 := ⟨(64 * k + t.val) % 512, Nat.mod_lt _ (by decide)⟩
theorem row8_val {k : ℕ} (hk : k < 8) (t : Fin 64) : (row8 k t).val = 64 * k + t.val := Nat.mod_eq_of_lt (by omega)
/-- Column `d` of head `h` of the keys. -/
def col4 (h : Fin 4) (d : Fin 128) : Fin 512 := ⟨128 * h.val + d.val, by omega⟩
/-- Column `e` of head `h` of the values. -/
def vcol4 (h : Fin 4) (e : Fin 256) : Fin 1024 := ⟨256 * h.val + e.val, by omega⟩

section
variable (Q K : Vec Ideal S512x512 .bf16) (V GG : Vec Ideal S512x1024 .bf16) (HN : Vec Ideal S1x1024 .f32) (B : Vec Ideal S512x512 .f32)
  (S0 : Vec Ideal S4x256x128 .f32)

/-- A chunk's scaled queries. -/
def lq (k : ℕ) (h : Fin 4) (t : Fin 64) (d : Fin 128) : EReal := Q (ix2 (row8 k t) (col4 h d)) * Ideal.ofBits .f32 0x3DB504F3#32
/-- A chunk's keys. -/
def lk (k : ℕ) (h : Fin 4) (t : Fin 64) (d : Fin 128) : EReal := K (ix2 (row8 k t) (col4 h d))
/-- A chunk's cumulated log gates. -/
def lb (k : ℕ) (h : Fin 4) (t : Fin 64) (d : Fin 128) : EReal := B (ix2 (row8 k t) (col4 h d))
/-- A chunk's values. -/
def lv (k : ℕ) (h : Fin 4) (t : Fin 64) (e : Fin 256) : EReal := V (ix2 (row8 k t) (vcol4 h e))

/-- The state before chunk `k` of the block. -/
def locS : ℕ → Fin 4 → Fin 128 → Fin 256 → EReal
  | 0 => fun h d e => S0 (ix3 h e d)
  | k + 1 => fun h => chunkS (lk K k h) (lv V k h) (lb B k h) (locS k h)

/-- The block's output. -/
def outG : Vec Ideal S512x1024 .bf16 := fun y =>
  let k := (y 0).val / 64
  let h : Fin 4 := ⟨(y 1).val / 256, by have := (y 1).isLt; change (y 1).val < 1024 at this; omega⟩
  gated (chunkO (lq Q k h) (lk K k h) (lv V k h) (lb B k h) (locS K V B S0 k h) ⟨(y 0).val % 64, Nat.mod_lt _ (by decide)⟩)
    (fun e => GG (ix2 (y 0) (vcol4 h e))) (fun e => HN (ix2 0 (vcol4 h e))) ⟨(y 1).val % 256, Nat.mod_lt _ (by decide)⟩

/-- The state before chunk `k`, as the kernel stores it. -/
def stG (k : ℕ) : Vec Ideal S4x256x128 .f32 := fun y => locS K V B S0 k (y 0) (y 2) (y 1)

theorem stG_zero : stG K V B S0 0 = S0 := funext fun y => congrArg S0 (funext fun i => by match i with | ⟨0, _⟩ => rfl | ⟨1, _⟩ => rfl | ⟨2, _⟩ => rfl)

variable (h0 : ∀ k, k < 8 → ∀ h t d, lb B k h t d ≤ 0) (hd : ∀ k, k < 8 → ∀ h s t d, s ≤ t → lb B k h t d ≤ lb B k h s d)
include h0 hd

/-- What one head of one chunk stores in the output is the output there. -/
theorem out_piece (k : ℕ) (hk : k < 8) (h : Fin 4) (bc : FVec Ideal S64x128 .f32) (q kk : Vec Ideal S64x128 .bf16) (v gg : Vec Ideal S64x256 .bf16)
    (st : Vec Ideal S1x256x128 .f32) (hn : Vec Ideal S1x256 .f32) (hb : bF bc = lb B k h) (hq : qF q = lq Q k h) (hkk : kF kk = lk K k h)
    (hv : vF v = lv V k h) (hg : ∀ t e, gg (ix2 t e) = GG (ix2 (row8 k t) (vcol4 h e))) (hs : sF st = locS K V B S0 k h)
    (hh : ∀ e, hn (ix2 0 e) = HN (ix2 0 (vcol4 h e))) (t : Fin 64) (e : Fin 256) (y : S512x1024.Idx)
    (hy0 : (y 0).val = 64 * k + t.val) (hy1 : (y 1).val = 256 * h.val + e.val) :
    hOut (hO k0_pay53 rowk bc q kk v st) hn gg (ix2 t e) = outG Q K V GG HN B S0 y := by
  have ho : ∀ x, hO k0_pay53 rowk bc q kk v st (ix2 t x) = chunkO (lq Q k h) (lk K k h) (lv V k h) (lb B k h) (locS K V B S0 k h) t x := fun x => by
    rw [hO_apply bc q kk v st (by rw [hb]; exact h0 k hk h) (by rw [hb]; exact hd k hk h) t x, hb, hq, hkk, hv, hs]
  rw [hOut_apply]
  have e1 : (y 0).val / 64 = k := by omega
  have e2 : (⟨(y 0).val % 64, Nat.mod_lt _ (by decide)⟩ : Fin 64) = t := Fin.ext (by show (y 0).val % 64 = t.val; omega)
  have e3 : (⟨(y 1).val / 256, by have := (y 1).isLt; change (y 1).val < 1024 at this; omega⟩ : Fin 4) = h := Fin.ext (by show (y 1).val / 256 = h.val; omega)
  have e4 : (⟨(y 1).val % 256, Nat.mod_lt _ (by decide)⟩ : Fin 256) = e := Fin.ext (by show (y 1).val % 256 = e.val; omega)
  have e5 : row8 k t = y 0 := Fin.ext ((row8_val hk t).trans hy0.symm)
  unfold outG
  dsimp only
  rw [e1, e2, e3, e4, ← e5]
  congr 1
  · exact funext ho
  · exact funext fun x => hg t x
  · exact funext hh

omit h0 hd in
/-- What one head of one chunk stores in the state is the next state there. -/
theorem st_piece (k : ℕ) (h : Fin 4) (bc : FVec Ideal S64x128 .f32) (kk : Vec Ideal S64x128 .bf16) (v : Vec Ideal S64x256 .bf16)
    (st : Vec Ideal S1x256x128 .f32) (hb : bF bc = lb B k h) (hkk : kF kk = lk K k h) (hv : vF v = lv V k h) (hs : sF st = locS K V B S0 k h)
    (e : Fin 256) (d : Fin 128) (y : S4x256x128.Idx) (hy0 : y 0 = h) (hy1 : y 1 = e) (hy2 : y 2 = d) :
    hS bc kk v st (ix3 0 e d) = stG K V B S0 (k + 1) y := by
  show _ = locS K V B S0 (k + 1) (y 0) (y 2) (y 1)
  rw [hy0, hy1, hy2, hS_apply, hb, hkk, hv, hs]
  rfl
end

/-- A two-axis index by its coordinates. -/
theorem two_axes {m n : ℕ} (j : (⟨2, ![m, n]⟩ : Shape).Idx) : j = ix2 (j 0) (j 1) :=
  funext fun i => by match i with | ⟨0, _⟩ => rfl | ⟨1, _⟩ => rfl
/-- A three-axis index by its coordinates. -/
theorem three_axes {l m n : ℕ} (j : (⟨3, ![l, m, n]⟩ : Shape).Idx) : j = ix3 (j 0) (j 1) (j 2) :=
  funext fun i => by match i with | ⟨0, _⟩ => rfl | ⟨1, _⟩ => rfl | ⟨2, _⟩ => rfl

/-- The rows a trip starts at. -/
theorem trip_row (k : Fin k0_t1_loop.trips) : BitVec.toNat (Scalar.indexCast (Scalar.muli (Scf.iv 0#32 1#32 k.val) 64#32)) = 64 * k.val := by
  revert k; decide +kernel
theorem trip_lt (k : Fin k0_t1_loop.trips) : k.val < 8 := lt_of_lt_of_eq k.isLt (by decide +kernel)

/-! ## The boxes a trip loads -/

section
variable (k : ℕ) (hk : k < 8) (h : Fin 4) (o p : ℕ) (ho : o = 64 * k)
include hk ho

/-- The queries of a chunk and head. -/
theorem q_box (Q : Vec Ideal S512x512 .bf16) (w) (hp : p = 128 * h.val) :
    qF (View.ld (S := S512x512) Q (Rect.unit (s := S512x512) ![o, p] ![64, 128] w)) = lq Q k h :=
  funext fun t => funext fun d => congrArg (· * _) (ld_box2 (m := 512) (n := 512) (e := .bf16) Q o p w t d (row8 k t) (col4 h d) (by rw [row8_val hk, ho]) (by rw [hp]; rfl))

/-- The keys of a chunk and head. -/
theorem k_box (Q : Vec Ideal S512x512 .bf16) (w) (hp : p = 128 * h.val) :
    kF (View.ld (S := S512x512) Q (Rect.unit (s := S512x512) ![o, p] ![64, 128] w)) = lk Q k h :=
  funext fun t => funext fun d => ld_box2 (m := 512) (n := 512) (e := .bf16) Q o p w t d (row8 k t) (col4 h d) (by rw [row8_val hk, ho]) (by rw [hp]; rfl)

/-- The values, or the output gates, of a chunk and head, at an index. -/
theorem g_box (V : Vec Ideal S512x1024 .bf16) (w) (hp : p = 256 * h.val) (t : Fin 64) (e : Fin 256) :
    View.ld (S := S512x1024) V (Rect.unit (s := S512x1024) ![o, p] ![64, 256] w) (ix2 t e) = V (ix2 (row8 k t) (vcol4 h e)) :=
  ld_box2 (m := 512) (n := 1024) (e := .bf16) V o p w t e (row8 k t) (vcol4 h e) (by rw [row8_val hk, ho]) (by rw [hp]; rfl)

/-- The values of a chunk and head. -/
theorem v_box (V : Vec Ideal S512x1024 .bf16) (w) (hp : p = 256 * h.val) :
    vF (View.ld (S := S512x1024) V (Rect.unit (s := S512x1024) ![o, p] ![64, 256] w)) = lv V k h :=
  funext fun t => funext fun e => g_box k hk h o p ho V w hp t e

/-- A column range of the cumulated log gates of a chunk. -/
theorem b_box (B : Vec Ideal S512x512 .f32) (w) (bc : FVec Ideal S64x128 .f32)
    (hbc : ∀ t d, bc (ix2 t d) = View.ld (S := S512x512) B (Rect.unit (s := S512x512) ![o, 0] ![64, 512] w) (ix2 t (col4 h d))) :
    bF bc = lb B k h :=
  funext fun t => funext fun d => (hbc t d).trans (ld_box2 (m := 512) (n := 512) (e := .f32) B o 0 w t (col4 h d) (row8 k t) (col4 h d) (by rw [row8_val hk, ho]) (by omega))
end

/-- The head norm's weights of a head. -/
theorem n_box (HN : Vec Ideal S1x1024 .f32) (h : Fin 4) (p : ℕ) (w) (hp : p = 256 * h.val) (e : Fin 256) :
    View.ld (S := S1x1024) HN (Rect.unit (s := S1x1024) ![0, p] ![1, 256] w) (ix2 0 e) = HN (ix2 0 (vcol4 h e)) :=
  ld_box2 (m := 1) (n := 1024) (e := .f32) HN 0 p w 0 e 0 (vcol4 h e) rfl (by rw [hp]; rfl)

/-- The state of a head. -/
theorem s_box (K : Vec Ideal S512x512 .bf16) (V : Vec Ideal S512x1024 .bf16) (B : Vec Ideal S512x512 .f32) (S0 S : Vec Ideal S4x256x128 .f32) (k : ℕ)
    (hS : S = stG K V B S0 k) (h : Fin 4) (p : ℕ) (w) (hp : h.val = p) :
    sF (View.ld (S := S4x256x128) S (Rect.unit (s := S4x256x128) ![p, 0, 0] ![1, 256, 128] w)) = locS K V B S0 k h :=
  funext fun d => funext fun e => (ld_box3 (l := 4) (m := 256) (n := 128) (e := .f32) S p w e d h hp).trans (by subst hS; exact rfl)

/-- The columns of each head in the cumulated log gates. -/
theorem pay3_apply (x : Vec Ideal S64x512 .f32) (t : Fin 64) (d : Fin 128) : k0_pay3 x (ix2 t d) = x (ix2 t (col4 0 d)) := by
  pointwise [k0_pay3]
  exact congrArg (fun j => x (ix2 t j)) (Fin.ext (by simp [col4]))
theorem pay15_apply (x : Vec Ideal S64x512 .f32) (t : Fin 64) (d : Fin 128) : k0_pay15 x (ix2 t d) = x (ix2 t (col4 1 d)) := by
  pointwise [k0_pay15]
  exact congrArg (fun j => x (ix2 t j)) (Fin.ext (by simp [col4]))
theorem pay28_apply (x : Vec Ideal S64x512 .f32) (t : Fin 64) (d : Fin 128) : k0_pay28 x (ix2 t d) = x (ix2 t (col4 2 d)) := by
  pointwise [k0_pay28]
  exact congrArg (fun j => x (ix2 t j)) (Fin.ext (by simp [col4]))
theorem pay38_apply (x : Vec Ideal S64x512 .f32) (t : Fin 64) (d : Fin 128) : k0_pay38 x (ix2 t d) = x (ix2 t (col4 3 d)) := by
  pointwise [k0_pay38]
  exact congrArg (fun j => x (ix2 t j)) (Fin.ext (by simp [col4]))

/-! ## One trip of the loop -/

section
variable (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S4x256x128 .f32) (harg11 : arg11.IsWhole) (arg12 : Memref sig .tc .vmem S512x512 .f32) (harg12 : arg12.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X9 : BufTy.Contents (Elt Ideal) arg9.view.ty) (X12 : BufTy.Contents (Elt Ideal) arg12.view.ty)
  (Q K : Vec Ideal S512x512 .bf16) (V GG : Vec Ideal S512x1024 .bf16) (HN : Vec Ideal S1x1024 .f32) (B : Vec Ideal S512x512 .f32)
  (S0 : Vec Ideal S4x256x128 .f32)
  (h2 : arg2.view.read (Elt Ideal) X2 = Q) (h3 : arg3.view.read (Elt Ideal) X3 = K) (h4 : arg4.view.read (Elt Ideal) X4 = V)
  (h5 : arg5.view.read (Elt Ideal) X5 = GG) (h9 : arg9.view.read (Elt Ideal) X9 = HN) (h12 : arg12.view.read (Elt Ideal) X12 = B)

section
variable (k : Fin k0_t1_loop.trips) (f10 : BufTy.Contents (Elt Ideal) arg10.view.ty) (f11 : BufTy.Contents (Elt Ideal) arg11.view.ty)

include h3 h4 h12 in
/-- What a trip stores in the state is the next state. -/
theorem trip_state (hf : arg11.view.read (Elt Ideal) f11 = stG K V B S0 k.val) :
    ∀ p ∈ (tripL_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 k f10 f11).2,
      ∀ x : p.1.shape.Idx, p.2 x = stG K V B S0 (k.val + 1) (p.1.emb x) := by
  have hk := trip_lt k
  have ho := trip_row k
  unfold tripL_k0_t1 trip_k0_t1
  dsimp only
  sl_unfold_words
  simp only [st_head0, st_head1, st_head2, st_head3, View.readAt_eq_ld, h3, h4, h12, hf]
  intro p hp
  simp only [List.mem_cons, List.not_mem_nil, or_false] at hp
  rcases hp with rfl | rfl | rfl | rfl <;> intro x <;> rw [three_axes (l := 1) (m := 256) (n := 128) x, Fin.eq_zero (x 0 : Fin 1)]
  · exact st_piece K V B S0 k.val 3 _ _ _ _ (b_box _ hk _ _ ho _ _ _ fun t d => pay38_apply _ t d) (k_box _ hk _ _ _ ho _ _ rfl) (v_box _ hk _ _ _ ho _ _ rfl)
      (s_box K V B S0 _ _ rfl _ _ _ rfl) (x 1) (x 2) _ (Fin.ext rfl) (Fin.ext (Nat.zero_add _ |>.trans (Nat.one_mul _))) (Fin.ext (Nat.zero_add _ |>.trans (Nat.one_mul _)))
  · exact st_piece K V B S0 k.val 2 _ _ _ _ (b_box _ hk _ _ ho _ _ _ fun t d => pay28_apply _ t d) (k_box _ hk _ _ _ ho _ _ rfl) (v_box _ hk _ _ _ ho _ _ rfl)
      (s_box K V B S0 _ _ rfl _ _ _ rfl) (x 1) (x 2) _ (Fin.ext rfl) (Fin.ext (Nat.zero_add _ |>.trans (Nat.one_mul _))) (Fin.ext (Nat.zero_add _ |>.trans (Nat.one_mul _)))
  · exact st_piece K V B S0 k.val 1 _ _ _ _ (b_box _ hk _ _ ho _ _ _ fun t d => pay15_apply _ t d) (k_box _ hk _ _ _ ho _ _ rfl) (v_box _ hk _ _ _ ho _ _ rfl)
      (s_box K V B S0 _ _ rfl _ _ _ rfl) (x 1) (x 2) _ (Fin.ext rfl) (Fin.ext (Nat.zero_add _ |>.trans (Nat.one_mul _))) (Fin.ext (Nat.zero_add _ |>.trans (Nat.one_mul _)))
  · exact st_piece K V B S0 k.val 0 _ _ _ _ (b_box _ hk _ _ ho _ _ _ fun t d => pay3_apply _ t d) (k_box _ hk _ _ _ ho _ _ rfl) (v_box _ hk _ _ _ ho _ _ rfl)
      (s_box K V B S0 _ _ rfl _ _ _ rfl) (x 1) (x 2) _ (Fin.ext rfl) (Fin.ext (Nat.zero_add _ |>.trans (Nat.one_mul _))) (Fin.ext (Nat.zero_add _ |>.trans (Nat.one_mul _)))

/-- A trip's stores in the state cover it. -/
theorem trip_state_cover (y : S4x256x128.Idx) :
    ∃ p ∈ (tripL_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 k f10 f11).2, y ∈ p.1.set := by
  have hy0 : (y 0).val < 4 := (y 0).isLt
  have hy1 : (y 1).val < 256 := (y 1).isLt
  have hy2 : (y 2).val < 128 := (y 2).isLt
  have hm : ∀ o : ℕ, (y 0).val = o → ∀ a, (![o, 0, 0] : Fin 3 → ℕ) a ≤ (y a).val ∧ (y a).val < (![o, 0, 0] : Fin 3 → ℕ) a + (![1, 256, 128] : Fin 3 → ℕ) a :=
    fun o h a => by
      match a with
      | ⟨0, _⟩ => exact ⟨le_of_eq h.symm, by show (y 0).val < o + 1; omega⟩
      | ⟨1, _⟩ => exact ⟨Nat.zero_le _, by show (y 1).val < 0 + 256; omega⟩
      | ⟨2, _⟩ => exact ⟨Nat.zero_le _, by show (y 2).val < 0 + 128; omega⟩
  unfold tripL_k0_t1 trip_k0_t1
  dsimp only
  sl_unfold_words
  rcases (by omega : (y 0).val = 3 ∨ (y 0).val = 2 ∨ (y 0).val = 1 ∨ (y 0).val = 0) with h | h | h | h
  · refine ⟨_, .head _, ?_⟩; dsimp only; rw [Rect.mem_set_unit]; exact hm _ h
  · refine ⟨_, .tail _ (.head _), ?_⟩; dsimp only; rw [Rect.mem_set_unit]; exact hm _ h
  · refine ⟨_, .tail _ (.tail _ (.head _)), ?_⟩; dsimp only; rw [Rect.mem_set_unit]; exact hm _ h
  · refine ⟨_, .tail _ (.tail _ (.tail _ (.head _))), ?_⟩; dsimp only; rw [Rect.mem_set_unit]; exact hm _ h

include h2 h3 h4 h5 h9 h12 in
/-- What a trip stores in the output is the block's output. -/
theorem trip_out (h0 : ∀ k, k < 8 → ∀ h t d, lb B k h t d ≤ 0) (hd : ∀ k, k < 8 → ∀ h s t d, s ≤ t → lb B k h t d ≤ lb B k h s d)
    (hf : arg11.view.read (Elt Ideal) f11 = stG K V B S0 k.val) :
    ∀ p ∈ (tripL_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 k f10 f11).1,
      ∀ x : p.1.shape.Idx, p.2 x = outG Q K V GG HN B S0 (p.1.emb x) := by
  have hk := trip_lt k
  have ho := trip_row k
  unfold tripL_k0_t1 trip_k0_t1
  dsimp only
  sl_unfold_words
  simp only [out_head0, out_head1, out_head2, out_head3, View.readAt_eq_ld, h2, h3, h4, h5, h9, h12, hf]
  intro p hp
  simp only [List.mem_cons, List.not_mem_nil, or_false] at hp
  rcases hp with rfl | rfl | rfl | rfl <;> intro x <;> rw [two_axes (m := 64) (n := 256) x]
  · exact out_piece Q K V GG HN B S0 h0 hd k.val hk 3 _ _ _ _ _ _ _ (b_box _ hk _ _ ho _ _ _ fun t d => pay38_apply _ t d) (q_box _ hk _ _ _ ho _ _ rfl)
      (k_box _ hk _ _ _ ho _ _ rfl) (v_box _ hk _ _ _ ho _ _ rfl) (g_box _ hk _ _ _ ho _ _ rfl) (s_box K V B S0 _ _ rfl _ _ _ rfl) (n_box _ _ _ _ rfl) (x 0) (x 1) _
      (congrArg₂ (· + ·) ho (Nat.one_mul _)) (congrArg (768 + ·) (Nat.one_mul _))
  · exact out_piece Q K V GG HN B S0 h0 hd k.val hk 2 _ _ _ _ _ _ _ (b_box _ hk _ _ ho _ _ _ fun t d => pay28_apply _ t d) (q_box _ hk _ _ _ ho _ _ rfl)
      (k_box _ hk _ _ _ ho _ _ rfl) (v_box _ hk _ _ _ ho _ _ rfl) (g_box _ hk _ _ _ ho _ _ rfl) (s_box K V B S0 _ _ rfl _ _ _ rfl) (n_box _ _ _ _ rfl) (x 0) (x 1) _
      (congrArg₂ (· + ·) ho (Nat.one_mul _)) (congrArg (512 + ·) (Nat.one_mul _))
  · exact out_piece Q K V GG HN B S0 h0 hd k.val hk 1 _ _ _ _ _ _ _ (b_box _ hk _ _ ho _ _ _ fun t d => pay15_apply _ t d) (q_box _ hk _ _ _ ho _ _ rfl)
      (k_box _ hk _ _ _ ho _ _ rfl) (v_box _ hk _ _ _ ho _ _ rfl) (g_box _ hk _ _ _ ho _ _ rfl) (s_box K V B S0 _ _ rfl _ _ _ rfl) (n_box _ _ _ _ rfl) (x 0) (x 1) _
      (congrArg₂ (· + ·) ho (Nat.one_mul _)) (congrArg (256 + ·) (Nat.one_mul _))
  · exact out_piece Q K V GG HN B S0 h0 hd k.val hk 0 _ _ _ _ _ _ _ (b_box _ hk _ _ ho _ _ _ fun t d => pay3_apply _ t d) (q_box _ hk _ _ _ ho _ _ rfl)
      (k_box _ hk _ _ _ ho _ _ rfl) (v_box _ hk _ _ _ ho _ _ rfl) (g_box _ hk _ _ _ ho _ _ rfl) (s_box K V B S0 _ _ rfl _ _ _ rfl) (n_box _ _ _ _ rfl) (x 0) (x 1) _
      (congrArg₂ (· + ·) ho (Nat.one_mul _)) (congrArg (0 + ·) (Nat.one_mul _))

/-- A trip's stores in the output cover its chunk's rows. -/
theorem trip_out_cover (y : S512x1024.Idx) (hy : (y 0).val / 64 = k.val) :
    ∃ p ∈ (tripL_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 k f10 f11).1, y ∈ p.1.set := by
  have ho := trip_row k
  have hy1 : (y 1).val < 1024 := (y 1).isLt
  have hk := trip_lt k
  have hm : ∀ (o p : ℕ) (hp : p ≤ 768) (h : o = 64 * k.val), p ≤ (y 1).val → (y 1).val < p + 256 →
      y ∈ (Rect.unit (s := S512x1024) ![o, p] ![64, 256] (fun a => by
        match a with
        | ⟨0, _⟩ => show o + 64 ≤ 512; omega
        | ⟨1, _⟩ => show p + 256 ≤ 1024; omega)).set :=
    fun o p hp h h1 h2 => Rect.mem_set_unit.mpr fun a => by
      match a with
      | ⟨0, _⟩ => exact ⟨by show o ≤ (y 0).val; omega, by show (y 0).val < o + 64; omega⟩
      | ⟨1, _⟩ => exact ⟨h1, h2⟩
  unfold tripL_k0_t1 trip_k0_t1
  dsimp only
  sl_unfold_words
  rcases (by omega : 768 ≤ (y 1).val ∨ (512 ≤ (y 1).val ∧ (y 1).val < 768) ∨ (256 ≤ (y 1).val ∧ (y 1).val < 512) ∨ (y 1).val < 256) with h | h | h | h
  · refine ⟨_, .head _, ?_⟩; exact hm _ _ (by decide) ho h (by omega)
  · refine ⟨_, .tail _ (.head _), ?_⟩; exact hm _ _ (by decide) ho h.1 h.2
  · refine ⟨_, .tail _ (.tail _ (.head _)), ?_⟩; exact hm _ _ (by decide) ho h.1 h.2
  · refine ⟨_, .tail _ (.tail _ (.tail _ (.head _))), ?_⟩; exact hm _ _ (by decide) ho (Nat.zero_le _) (by omega)
end

/-! ## The loop -/

section
variable (G10 : BufTy.Contents (Elt Ideal) arg10.view.ty) (G11 : BufTy.Contents (Elt Ideal) arg11.view.ty) (hG : arg11.view.read (Elt Ideal) G11 = S0)

include h3 h4 h12 hG

/-- The state after `n` trips. -/
theorem loop_state (n : ℕ) (hn : n ≤ 8) : arg11.view.read (Elt Ideal) (arg11.view.writes (Elt Ideal) G11 (pb_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 G10 G11 n).2) = stG K V B S0 n := by
  induction n with
  | zero => exact hG.trans (stG_zero K V B S0).symm
  | succ n ih =>
    have hlt : n < k0_t1_loop.trips := lt_of_lt_of_eq hn (by decide +kernel)
    have hpb := pb_k0_t1_succ (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 G10 G11 ⟨n, hlt⟩
    dsimp only at hpb
    rw [hpb, View.writes_append]
    funext y
    have hc := trip_state_cover c i arg2 harg2 arg3 harg3 arg4 harg4 arg5 harg5 arg6 harg6 arg7 harg7 arg8 harg8 arg9 harg9 arg10 harg10 arg11 harg11 arg12 harg12 X2 X3 X4 X5 X9 X12 ⟨n, hlt⟩ (arg10.view.writes (Elt Ideal) G10 (pb_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 G10 G11 n).1) (arg11.view.writes (Elt Ideal) G11 (pb_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 G10 G11 n).2) y
    rw [View.read_writes_apply_eq_canon _ _ _ _ hc]
    exact View.canon_apply_of_pieces _ _ (trip_state c i arg2 harg2 arg3 harg3 arg4 harg4 arg5 harg5 arg6 harg6 arg7 harg7 arg8 harg8 arg9 harg9 arg10 harg10 arg11 harg11 arg12 harg12 X2 X3 X4 X5 X9 X12 K V B S0 h3 h4 h12 ⟨n, hlt⟩ _ _ (ih (by omega))) y hc

/-- The state after the loop, whatever was stored before it. -/
theorem loop_state_canon (L' : List (View.Piece (Elt Ideal) S4x256x128 .f32)) (y : S4x256x128.Idx) :
    View.canon ((pb_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 G10 G11 8).2 ++ L') y = stG K V B S0 8 y ∧ ∃ p ∈ (pb_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 G10 G11 8).2 ++ L', y ∈ p.1.set := by
  have hlt : 7 < k0_t1_loop.trips := by decide +kernel
  have hpb := pb_k0_t1_succ (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 G10 G11 ⟨7, hlt⟩
  dsimp only at hpb
  have hc := trip_state_cover c i arg2 harg2 arg3 harg3 arg4 harg4 arg5 harg5 arg6 harg6 arg7 harg7 arg8 harg8 arg9 harg9 arg10 harg10 arg11 harg11 arg12 harg12 X2 X3 X4 X5 X9 X12 ⟨7, hlt⟩ (arg10.view.writes (Elt Ideal) G10 (pb_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 G10 G11 7).1) (arg11.view.writes (Elt Ideal) G11 (pb_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 G10 G11 7).2) y
  rw [hpb, List.append_assoc]
  refine ⟨View.canon_append_of_pieces _ _ _ (trip_state c i arg2 harg2 arg3 harg3 arg4 harg4 arg5 harg5 arg6 harg6 arg7 harg7 arg8 harg8 arg9 harg9 arg10 harg10 arg11 harg11 arg12 harg12 X2 X3 X4 X5 X9 X12 K V B S0 h3 h4 h12 ⟨7, hlt⟩ _ _
    (loop_state c i arg2 harg2 arg3 harg3 arg4 harg4 arg5 harg5 arg6 harg6 arg7 harg7 arg8 harg8 arg9 harg9 arg10 harg10 arg11 harg11 arg12 harg12 X2 X3 X4 X5 X9 X12 K V B S0 h3 h4 h12 G10 G11 hG 7 (by decide))) y hc, ?_⟩
  obtain ⟨p, hp, hy⟩ := hc
  exact ⟨p, List.mem_append_left _ hp, hy⟩

include h2 h5 h9
variable (h0 : ∀ k, k < 8 → ∀ h t d, lb B k h t d ≤ 0) (hd : ∀ k, k < 8 → ∀ h s t d, s ≤ t → lb B k h t d ≤ lb B k h s d)
include h0 hd

/-- The pieces of the output after `n` trips hold the output, and cover the rows of the chunks done. -/
theorem loop_out (n : ℕ) (hn : n ≤ 8) :
    (∀ p ∈ (pb_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 G10 G11 n).1, ∀ x : p.1.shape.Idx, p.2 x = outG Q K V GG HN B S0 (p.1.emb x)) ∧
      ∀ y : S512x1024.Idx, (y 0).val < 64 * n → ∃ p ∈ (pb_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 G10 G11 n).1, y ∈ p.1.set := by
  induction n with
  | zero => exact ⟨fun p hp => absurd hp (by rw [pb_k0_t1.eq_1]; exact List.not_mem_nil), fun y hy => absurd hy (by omega)⟩
  | succ n ih =>
    obtain ⟨ih1, ih2⟩ := ih (by omega)
    have hlt : n < k0_t1_loop.trips := lt_of_lt_of_eq hn (by decide +kernel)
    have hpb := pb_k0_t1_succ (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 G10 G11 ⟨n, hlt⟩
    dsimp only at hpb
    rw [hpb]
    constructor
    · intro p hp
      rcases List.mem_append.mp hp with hp | hp
      · exact trip_out c i arg2 harg2 arg3 harg3 arg4 harg4 arg5 harg5 arg6 harg6 arg7 harg7 arg8 harg8 arg9 harg9 arg10 harg10 arg11 harg11 arg12 harg12 X2 X3 X4 X5 X9 X12 Q K V GG HN B S0 h2 h3 h4 h5 h9 h12 ⟨n, hlt⟩ _ _ h0 hd
          (loop_state c i arg2 harg2 arg3 harg3 arg4 harg4 arg5 harg5 arg6 harg6 arg7 harg7 arg8 harg8 arg9 harg9 arg10 harg10 arg11 harg11 arg12 harg12 X2 X3 X4 X5 X9 X12 K V B S0 h3 h4 h12 G10 G11 hG n (by omega)) p hp
      · exact ih1 p hp
    · intro y hy
      by_cases h : (y 0).val < 64 * n
      · obtain ⟨p, hp, hy⟩ := ih2 y h
        exact ⟨p, List.mem_append_right _ hp, hy⟩
      · obtain ⟨p, hp, hy⟩ := trip_out_cover c i arg2 harg2 arg3 harg3 arg4 harg4 arg5 harg5 arg6 harg6 arg7 harg7 arg8 harg8 arg9 harg9 arg10 harg10 arg11 harg11 arg12 harg12 X2 X3 X4 X5 X9 X12 ⟨n, hlt⟩ (arg10.view.writes (Elt Ideal) G10 (pb_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 G10 G11 n).1)
          (arg11.view.writes (Elt Ideal) G11 (pb_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 G10 G11 n).2) y (by show (y 0).val / 64 = n; omega)
        exact ⟨p, List.mem_append_left _ hp, hy⟩

/-- The output after the loop, whatever was stored before it. -/
theorem loop_out_canon (L' : List (View.Piece (Elt Ideal) S512x1024 .bf16)) :
    View.canon ((pb_k0_t1 (F := Ideal) Variants.none c none i arg2 harg2 arg3 harg3 arg4 harg4 arg5 harg5 arg6 harg6 arg7 harg7 arg8 harg8 arg9 harg9 arg10 harg10 arg11 harg11 arg12 harg12 k0_pay53 rowk X2 X3 X4 X5 X9 X12 G10 G11 8).1 ++ L') = outG Q K V GG HN B S0 := by
  obtain ⟨h1, h2'⟩ := loop_out c i arg2 harg2 arg3 harg3 arg4 harg4 arg5 harg5 arg6 harg6 arg7 harg7 arg8 harg8 arg9 harg9 arg10 harg10 arg11 harg11 arg12 harg12 X2 X3 X4 X5 X9 X12 Q K V GG HN B S0 h2 h3 h4 h5 h9 h12 G10 G11 hG h0 hd 8 (by decide)
  exact funext fun y => View.canon_append_of_pieces _ _ _ h1 y (h2' y (y 0).isLt)
end
end

end Cert.GlaV

end
-- ==== Proof.GlaGate.lean ====
module

public import proofs.«01_k».proof.Proof.GlaTrip
public import proofs.«01_k».proof.Proof.Gen.GlaIdeal.Value

@[expose] public section

set_option maxRecDepth 16384
set_option maxHeartbeats 1000000

noncomputable section

namespace Cert.GlaV
open Idealize.ShloMosaic Idealize.ShloMosaic.TcCoe Idealize.ShloMosaic.Tactic Idealize.SL.Sem
open Cert.GlaIdeal Cert.GlaIdeal.Gen
/-! ## The log gates and their running sums, as the kernel computes them -/

/-- The log of a gate, a sixteenth of the log sigmoid, in the kernel's spelling. -/
def rate (x : EReal) : EReal :=
  (min x 0 - Ideal.log (1 + Ideal.exp (0 - max x (-x)))) * Ideal.ofBits .f32 0x3D800000#32

theorem rate_nonpos (x : EReal) : rate x ≤ 0 := log_gate_nonpos x

/-- The log gates of a block. -/
theorem pay55_apply (x4 : Vec Ideal S512x128 .f32) (x5 : Vec Ideal S128x512 .bf16) (x6 : Vec Ideal S1x512 .f32) (r j : Fin 512) :
    k0_pay55 x4 x5 x6 (ix2 r j) = rate ((∑ l : Fin 128, x4 (ix2 r l) * x5 (ix2 l j)) + x6 (ix2 0 j)) := by
  pointwise [k0_pay55, rate]
  rfl

/-- The lower triangle of ones. -/
theorem pay54_apply (t s : Fin 64) : k0_pay54 (F := Ideal) (ix2 t s) = if s ≤ t then 1 else 0 := by
  pointwise [k0_pay54]
  rw [tril_apply]
  by_cases h : s ≤ t
  · rw [if_pos h, if_pos h]
    show (((BitVec.setWidth 32 1#1).toInt : ℝ) : EReal) = 1
    rw [show (BitVec.setWidth 32 1#1).toInt = 1 from by decide]; simp
  · rw [if_neg h, if_neg h]
    show (((BitVec.setWidth 32 0#1).toInt : ℝ) : EReal) = 0
    rw [show (BitVec.setWidth 32 0#1).toInt = 0 from by decide]; simp

theorem tri_sum (f : Fin 64 → EReal) (t : Fin 64) : (∑ s, k0_pay54 (F := Ideal) (ix2 t s) * f s) = runSum f t :=
  Finset.sum_congr rfl fun s _ => by rw [pay54_apply]; by_cases h : s ≤ t <;> simp [h]

/-- The running sums of chunk 1 of a block. -/
theorem pay57_apply (x : FVec Ideal S512x512 .f32) (t : Fin 64) (j : Fin 512) :
    k0_pay57 (F := Ideal) k0_pay54 x (ix2 t j) = runSum (fun s => x (ix2 (row8 1 s) j)) t := by
  rw [← tri_sum]
  pointwise [k0_pay57]
  refine Finset.sum_congr rfl fun s _ => congrArg (_ * ·) (congrArg (fun r => x (ix2 r j)) (Fin.ext ?_))
  rw [row8_val (by decide)]

/-- The running sums of chunk 2 of a block. -/
theorem pay58_apply (x : FVec Ideal S512x512 .f32) (t : Fin 64) (j : Fin 512) :
    k0_pay58 (F := Ideal) k0_pay54 x (ix2 t j) = runSum (fun s => x (ix2 (row8 2 s) j)) t := by
  rw [← tri_sum]
  pointwise [k0_pay58]
  refine Finset.sum_congr rfl fun s _ => congrArg (_ * ·) (congrArg (fun r => x (ix2 r j)) (Fin.ext ?_))
  rw [row8_val (by decide)]

/-- The running sums of chunk 3 of a block. -/
theorem pay59_apply (x : FVec Ideal S512x512 .f32) (t : Fin 64) (j : Fin 512) :
    k0_pay59 (F := Ideal) k0_pay54 x (ix2 t j) = runSum (fun s => x (ix2 (row8 3 s) j)) t := by
  rw [← tri_sum]
  pointwise [k0_pay59]
  refine Finset.sum_congr rfl fun s _ => congrArg (_ * ·) (congrArg (fun r => x (ix2 r j)) (Fin.ext ?_))
  rw [row8_val (by decide)]

/-- The running sums of chunk 4 of a block. -/
theorem pay60_apply (x : FVec Ideal S512x512 .f32) (t : Fin 64) (j : Fin 512) :
    k0_pay60 (F := Ideal) k0_pay54 x (ix2 t j) = runSum (fun s => x (ix2 (row8 4 s) j)) t := by
  rw [← tri_sum]
  pointwise [k0_pay60]
  refine Finset.sum_congr rfl fun s _ => congrArg (_ * ·) (congrArg (fun r => x (ix2 r j)) (Fin.ext ?_))
  rw [row8_val (by decide)]

/-- The running sums of chunk 5 of a block. -/
theorem pay61_apply (x : FVec Ideal S512x512 .f32) (t : Fin 64) (j : Fin 512) :
    k0_pay61 (F := Ideal) k0_pay54 x (ix2 t j) = runSum (fun s => x (ix2 (row8 5 s) j)) t := by
  rw [← tri_sum]
  pointwise [k0_pay61]
  refine Finset.sum_congr rfl fun s _ => congrArg (_ * ·) (congrArg (fun r => x (ix2 r j)) (Fin.ext ?_))
  rw [row8_val (by decide)]

/-- The running sums of chunk 6 of a block. -/
theorem pay62_apply (x : FVec Ideal S512x512 .f32) (t : Fin 64) (j : Fin 512) :
    k0_pay62 (F := Ideal) k0_pay54 x (ix2 t j) = runSum (fun s => x (ix2 (row8 6 s) j)) t := by
  rw [← tri_sum]
  pointwise [k0_pay62]
  refine Finset.sum_congr rfl fun s _ => congrArg (_ * ·) (congrArg (fun r => x (ix2 r j)) (Fin.ext ?_))
  rw [row8_val (by decide)]

/-- The running sums of chunk 7 of a block. -/
theorem pay63_apply (x : FVec Ideal S512x512 .f32) (t : Fin 64) (j : Fin 512) :
    k0_pay63 (F := Ideal) k0_pay54 x (ix2 t j) = runSum (fun s => x (ix2 (row8 7 s) j)) t := by
  rw [← tri_sum]
  pointwise [k0_pay63]
  refine Finset.sum_congr rfl fun s _ => congrArg (_ * ·) (congrArg (fun r => x (ix2 r j)) (Fin.ext ?_))
  rw [row8_val (by decide)]

/-- The running sums of chunk 0 of a block. -/
theorem pay56_apply (x4 : Vec Ideal S512x128 .f32) (x5 : Vec Ideal S128x512 .bf16) (x6 : Vec Ideal S1x512 .f32) (t : Fin 64) (j : Fin 512) :
    k0_pay56 x4 x5 x6 (ix2 t j) = runSum (fun s => k0_pay55 x4 x5 x6 (ix2 (row8 0 s) j)) t := by
  rw [← tri_sum]
  pointwise [k0_pay56]
  refine Finset.sum_congr rfl fun s _ => congrArg (_ * ·) (congrArg (fun r => k0_pay55 x4 x5 x6 (ix2 r j)) (Fin.ext ?_))
  rw [row8_val (by decide)]
  show s.val = 64 * 0 + s.val
  omega

/-- The whole of a buffer stored at once leaves what was stored. -/
theorem pay1_apply (x : FVec Ideal S64x512 .f32) (t : Fin 64) (j : Fin 512) : k0_pay1 x (ix2 t j) = x (ix2 t j) := by
  pointwise [k0_pay1]

/-- The running sums of the log gates of a block, chunk by chunk. -/
def bcOf (x4 : Vec Ideal S512x128 .f32) (x5 : Vec Ideal S128x512 .bf16) (x6 : Vec Ideal S1x512 .f32) : Vec Ideal S512x512 .f32 := fun y =>
  runSum (fun s => rate ((∑ l : Fin 128, x4 (ix2 (row8 ((y 0).val / 64) s) l) * x5 (ix2 l (y 1))) + x6 (ix2 0 (y 1)))) ⟨(y 0).val % 64, Nat.mod_lt _ (by decide)⟩

section
variable (x4 : Vec Ideal S512x128 .f32) (x5 : Vec Ideal S128x512 .bf16) (x6 : Vec Ideal S1x512 .f32)

theorem bc_piece (k : ℕ) (hk : k < 8) (p : FVec Ideal S64x512 .f32) (hp : ∀ t j, p (ix2 t j) = runSum (fun s => k0_pay55 x4 x5 x6 (ix2 (row8 k s) j)) t)
    (t : Fin 64) (j : Fin 512) (y : S512x512.Idx) (hy0 : (y 0).val = 64 * k + t.val) (hy1 : (y 1).val = j.val) :
    p (ix2 t j) = bcOf x4 x5 x6 y := by
  have e1 : (y 0).val / 64 = k := by omega
  have e2 : (⟨(y 0).val % 64, Nat.mod_lt _ (by decide)⟩ : Fin 64) = t := Fin.ext (by show (y 0).val % 64 = t.val; omega)
  have e3 : y 1 = j := Fin.ext hy1
  rw [hp]
  unfold bcOf
  rw [e1, e2, e3]
  exact congrArg (runSum · t) (funext fun s => pay55_apply x4 x5 x6 _ _)

/-- The eight stores of running sums leave them all. -/
theorem bc_writes (arg12 : Memref sig .tc .vmem S512x512 .f32) (f : BufTy.Contents (Elt Ideal) arg12.view.ty) (p0 p1 p2 p3 p4 p5 p6 p7 : FVec Ideal S64x512 .f32)
    (w0 : ∀ a, (![0, 0] : Fin 2 → ℕ) a + (![64, 512] : Fin 2 → ℕ) a ≤ S512x512.size a) (h0 : ∀ t j, p0 (ix2 t j) = runSum (fun s => k0_pay55 x4 x5 x6 (ix2 (row8 0 s) j)) t)
    (w1 : ∀ a, (![64, 0] : Fin 2 → ℕ) a + (![64, 512] : Fin 2 → ℕ) a ≤ S512x512.size a) (h1 : ∀ t j, p1 (ix2 t j) = runSum (fun s => k0_pay55 x4 x5 x6 (ix2 (row8 1 s) j)) t)
    (w2 : ∀ a, (![128, 0] : Fin 2 → ℕ) a + (![64, 512] : Fin 2 → ℕ) a ≤ S512x512.size a) (h2 : ∀ t j, p2 (ix2 t j) = runSum (fun s => k0_pay55 x4 x5 x6 (ix2 (row8 2 s) j)) t)
    (w3 : ∀ a, (![192, 0] : Fin 2 → ℕ) a + (![64, 512] : Fin 2 → ℕ) a ≤ S512x512.size a) (h3 : ∀ t j, p3 (ix2 t j) = runSum (fun s => k0_pay55 x4 x5 x6 (ix2 (row8 3 s) j)) t)
    (w4 : ∀ a, (![256, 0] : Fin 2 → ℕ) a + (![64, 512] : Fin 2 → ℕ) a ≤ S512x512.size a) (h4 : ∀ t j, p4 (ix2 t j) = runSum (fun s => k0_pay55 x4 x5 x6 (ix2 (row8 4 s) j)) t)
    (w5 : ∀ a, (![320, 0] : Fin 2 → ℕ) a + (![64, 512] : Fin 2 → ℕ) a ≤ S512x512.size a) (h5 : ∀ t j, p5 (ix2 t j) = runSum (fun s => k0_pay55 x4 x5 x6 (ix2 (row8 5 s) j)) t)
    (w6 : ∀ a, (![384, 0] : Fin 2 → ℕ) a + (![64, 512] : Fin 2 → ℕ) a ≤ S512x512.size a) (h6 : ∀ t j, p6 (ix2 t j) = runSum (fun s => k0_pay55 x4 x5 x6 (ix2 (row8 6 s) j)) t)
    (w7 : ∀ a, (![448, 0] : Fin 2 → ℕ) a + (![64, 512] : Fin 2 → ℕ) a ≤ S512x512.size a) (h7 : ∀ t j, p7 (ix2 t j) = runSum (fun s => k0_pay55 x4 x5 x6 (ix2 (row8 7 s) j)) t)
    : arg12.view.read (Elt Ideal) (arg12.view.writes (Elt Ideal) f [⟨Rect.unit (s := S512x512) ![448, 0] ![64, 512] w7, p7⟩, ⟨Rect.unit (s := S512x512) ![384, 0] ![64, 512] w6, p6⟩, ⟨Rect.unit (s := S512x512) ![320, 0] ![64, 512] w5, p5⟩, ⟨Rect.unit (s := S512x512) ![256, 0] ![64, 512] w4, p4⟩, ⟨Rect.unit (s := S512x512) ![192, 0] ![64, 512] w3, p3⟩, ⟨Rect.unit (s := S512x512) ![128, 0] ![64, 512] w2, p2⟩, ⟨Rect.unit (s := S512x512) ![64, 0] ![64, 512] w1, p1⟩, ⟨Rect.unit (s := S512x512) ![0, 0] ![64, 512] w0, p0⟩]) = bcOf x4 x5 x6 := by
  funext y
  have hy0 : (y 0).val < 512 := (y 0).isLt
  have hy1 : (y 1).val < 512 := (y 1).isLt
  have hm : ∀ (o : ℕ) (w : ∀ a, (![o, 0] : Fin 2 → ℕ) a + (![64, 512] : Fin 2 → ℕ) a ≤ S512x512.size a), o ≤ (y 0).val → (y 0).val < o + 64 →
      y ∈ (Rect.unit (s := S512x512) ![o, 0] ![64, 512] w).set := fun o w h1 h2 => Rect.mem_set_unit.mpr fun a => by
    match a with
    | ⟨0, _⟩ => exact ⟨h1, h2⟩
    | ⟨1, _⟩ => exact ⟨Nat.zero_le _, by show (y 1).val < 0 + 512; omega⟩
  have hc : ∃ p ∈ ([⟨Rect.unit (s := S512x512) ![448, 0] ![64, 512] w7, p7⟩, ⟨Rect.unit (s := S512x512) ![384, 0] ![64, 512] w6, p6⟩, ⟨Rect.unit (s := S512x512) ![320, 0] ![64, 512] w5, p5⟩, ⟨Rect.unit (s := S512x512) ![256, 0] ![64, 512] w4, p4⟩, ⟨Rect.unit (s := S512x512) ![192, 0] ![64, 512] w3, p3⟩, ⟨Rect.unit (s := S512x512) ![128, 0] ![64, 512] w2, p2⟩, ⟨Rect.unit (s := S512x512) ![64, 0] ![64, 512] w1, p1⟩, ⟨Rect.unit (s := S512x512) ![0, 0] ![64, 512] w0, p0⟩] : List (View.Piece (Elt Ideal) S512x512 .f32)), y ∈ p.1.set := by
    rcases (by omega : (448 ≤ (y 0).val) ∨ (384 ≤ (y 0).val ∧ (y 0).val < 448) ∨ (320 ≤ (y 0).val ∧ (y 0).val < 384) ∨ (256 ≤ (y 0).val ∧ (y 0).val < 320) ∨ (192 ≤ (y 0).val ∧ (y 0).val < 256) ∨ (128 ≤ (y 0).val ∧ (y 0).val < 192) ∨ (64 ≤ (y 0).val ∧ (y 0).val < 128) ∨ (0 ≤ (y 0).val ∧ (y 0).val < 64)) with h | h | h | h | h | h | h | h
    · exact ⟨_, .head _, hm 448 w7 h (by omega)⟩
    · exact ⟨_, .tail _ (.head _), hm 384 w6 h.1 h.2⟩
    · exact ⟨_, .tail _ (.tail _ (.head _)), hm 320 w5 h.1 h.2⟩
    · exact ⟨_, .tail _ (.tail _ (.tail _ (.head _))), hm 256 w4 h.1 h.2⟩
    · exact ⟨_, .tail _ (.tail _ (.tail _ (.tail _ (.head _)))), hm 192 w3 h.1 h.2⟩
    · exact ⟨_, .tail _ (.tail _ (.tail _ (.tail _ (.tail _ (.head _))))), hm 128 w2 h.1 h.2⟩
    · exact ⟨_, .tail _ (.tail _ (.tail _ (.tail _ (.tail _ (.tail _ (.head _)))))), hm 64 w1 h.1 h.2⟩
    · exact ⟨_, .tail _ (.tail _ (.tail _ (.tail _ (.tail _ (.tail _ (.tail _ (.head _))))))), hm 0 w0 h.1 h.2⟩
  rw [View.read_writes_apply_eq_canon _ _ _ _ hc]
  refine View.canon_apply_of_pieces _ _ ?_ y hc
  intro p hp
  simp only [List.mem_cons, List.not_mem_nil, or_false] at hp
  rcases hp with rfl | rfl | rfl | rfl | rfl | rfl | rfl | rfl <;> intro x <;> rw [two_axes (m := 64) (n := 512) x]
  · exact bc_piece x4 x5 x6 7 (by decide) p7 h7 (x 0) (x 1) _ (congrArg (448 + ·) (Nat.one_mul _)) ((Nat.zero_add _).trans (Nat.one_mul _))
  · exact bc_piece x4 x5 x6 6 (by decide) p6 h6 (x 0) (x 1) _ (congrArg (384 + ·) (Nat.one_mul _)) ((Nat.zero_add _).trans (Nat.one_mul _))
  · exact bc_piece x4 x5 x6 5 (by decide) p5 h5 (x 0) (x 1) _ (congrArg (320 + ·) (Nat.one_mul _)) ((Nat.zero_add _).trans (Nat.one_mul _))
  · exact bc_piece x4 x5 x6 4 (by decide) p4 h4 (x 0) (x 1) _ (congrArg (256 + ·) (Nat.one_mul _)) ((Nat.zero_add _).trans (Nat.one_mul _))
  · exact bc_piece x4 x5 x6 3 (by decide) p3 h3 (x 0) (x 1) _ (congrArg (192 + ·) (Nat.one_mul _)) ((Nat.zero_add _).trans (Nat.one_mul _))
  · exact bc_piece x4 x5 x6 2 (by decide) p2 h2 (x 0) (x 1) _ (congrArg (128 + ·) (Nat.one_mul _)) ((Nat.zero_add _).trans (Nat.one_mul _))
  · exact bc_piece x4 x5 x6 1 (by decide) p1 h1 (x 0) (x 1) _ (congrArg (64 + ·) (Nat.one_mul _)) ((Nat.zero_add _).trans (Nat.one_mul _))
  · exact bc_piece x4 x5 x6 0 (by decide) p0 h0 (x 0) (x 1) _ (congrArg (0 + ·) (Nat.one_mul _)) ((Nat.zero_add _).trans (Nat.one_mul _))

theorem lb_bcOf (k : ℕ) (hk : k < 8) (h : Fin 4) (t : Fin 64) (d : Fin 128) :
    lb (bcOf x4 x5 x6) k h t d = runSum (fun s => rate ((∑ l : Fin 128, x4 (ix2 (row8 k s) l) * x5 (ix2 l (col4 h d))) + x6 (ix2 0 (col4 h d)))) t := by
  have e1 : (row8 k t).val / 64 = k := by rw [row8_val hk]; omega
  have e2 : (⟨(row8 k t).val % 64, Nat.mod_lt _ (by decide)⟩ : Fin 64) = t := Fin.ext (by show (row8 k t).val % 64 = t.val; rw [row8_val hk]; omega)
  show runSum (fun s => rate ((∑ l : Fin 128, x4 (ix2 (row8 ((row8 k t).val / 64) s) l) * x5 (ix2 l (col4 h d))) + x6 (ix2 0 (col4 h d)))) ⟨(row8 k t).val % 64, _⟩ = _
  rw [e1, e2]

theorem lb_nonpos (k : ℕ) (hk : k < 8) (h : Fin 4) (t : Fin 64) (d : Fin 128) : lb (bcOf x4 x5 x6) k h t d ≤ 0 := by
  rw [lb_bcOf x4 x5 x6 k hk]; exact runSum_nonpos (fun s => rate_nonpos _) t

theorem lb_anti (k : ℕ) (hk : k < 8) (h : Fin 4) (s t : Fin 64) (d : Fin 128) (hst : s ≤ t) : lb (bcOf x4 x5 x6) k h t d ≤ lb (bcOf x4 x5 x6) k h s d := by
  rw [lb_bcOf x4 x5 x6 k hk, lb_bcOf x4 x5 x6 k hk]; exact runSum_anti (fun s => rate_nonpos _) hst
end

end Cert.GlaV

end
-- ==== Proof.GlaCase.lean ====
module

public import proofs.«01_k».proof.Proof.GlaGate

@[expose] public section

set_option maxRecDepth 16384
set_option maxHeartbeats 1000000

noncomputable section

namespace Cert.GlaV
open Idealize.ShloMosaic Idealize.ShloMosaic.TcCoe Idealize.ShloMosaic.Tactic Idealize.SL.Sem
open Cert.GlaIdeal Cert.GlaIdeal.Gen
/-! ## What each kind of grid point leaves, from its blocks -/

theorem eight_trips : Scf.trips (0#32) (Scalar.addi 0#32 8#32) 1#32 = 8 := by decide +kernel

section
variable (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x128 .f32) (harg6 : arg6.IsWhole) (arg7 : Memref sig .tc .vmem S128x512 .bf16) (harg7 : arg7.IsWhole) (arg8 : Memref sig .tc .vmem S1x512 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S4x256x128 .f32) (harg11 : arg11.IsWhole) (arg12 : Memref sig .tc .vmem S512x512 .f32) (harg12 : arg12.IsWhole)
  (x0 x1 : Vec Ideal S512x512 .bf16) (x2 x3 : Vec Ideal S512x1024 .bf16) (x4 : Vec Ideal S512x128 .f32) (x5 : Vec Ideal S128x512 .bf16)
  (x6 : Vec Ideal S1x512 .f32) (x7 : Vec Ideal S1x1024 .f32) (xs : Vec Ideal S4x256x128 .f32)

/-- The state a point starts a sequence with. -/
theorem pay51_eq : k0_pay51 (F := Ideal) = fun _ => 0 := by
  funext y
  rw [three_axes (l := 4) (m := 256) (n := 128) y]
  pointwise [k0_pay51]

/-- A buffer stored at once reads what was stored. -/
theorem read_whole (f : BufTy.Contents (Elt Ideal) arg11.view.ty) (w) (p : Vec Ideal S4x256x128 .f32) :
    arg11.view.read (Elt Ideal) (arg11.view.writes (Elt Ideal) f [⟨Rect.unit (s := S4x256x128) ![0, 0, 0] S4x256x128.size w, p⟩]) = p := by
  funext y
  have hc : ∃ q ∈ ([⟨Rect.unit (s := S4x256x128) ![0, 0, 0] S4x256x128.size w, p⟩] : List (View.Piece (Elt Ideal) S4x256x128 .f32)), y ∈ q.1.set :=
    ⟨_, .head _, (Rect.mem_set_unit (inb := w)).mpr fun a => by
      match a with
      | ⟨0, _⟩ => exact ⟨Nat.zero_le _, lt_of_lt_of_eq (y 0).isLt (Nat.zero_add _).symm⟩
      | ⟨1, _⟩ => exact ⟨Nat.zero_le _, lt_of_lt_of_eq (y 1).isLt (Nat.zero_add _).symm⟩
      | ⟨2, _⟩ => exact ⟨Nat.zero_le _, lt_of_lt_of_eq (y 2).isLt (Nat.zero_add _).symm⟩⟩
  rw [View.read_writes_apply_eq_canon _ _ _ _ hc]
  refine View.canon_apply_of_pieces p _ ?_ y hc
  intro q hq
  simp only [List.mem_cons, List.not_mem_nil, or_false] at hq
  subst hq
  intro x
  refine congrArg p (funext fun a => Fin.ext ?_)
  match a with
  | ⟨0, _⟩ => exact ((Nat.zero_add _).trans (Nat.one_mul _)).symm
  | ⟨1, _⟩ => exact ((Nat.zero_add _).trans (Nat.one_mul _)).symm
  | ⟨2, _⟩ => exact ((Nat.zero_add _).trans (Nat.one_mul _)).symm

/-- A load of a whole block. -/
theorem load_gates (Y : Vec Ideal S512x128 .f32) (w) : View.ld (S := S512x128) Y (Rect.unit (s := S512x128) ![0, 0] ![512, 128] w) = Y :=
  funext fun y => congrArg Y (funext fun a => Fin.ext (by
    match a with
    | ⟨0, _⟩ => exact (Nat.zero_add _).trans (Nat.one_mul _)
    | ⟨1, _⟩ => exact (Nat.zero_add _).trans (Nat.one_mul _)))

/-- A load of a whole block. -/
theorem load_weights (Y : Vec Ideal S128x512 .bf16) (w) : View.ld (S := S128x512) Y (Rect.unit (s := S128x512) ![0, 0] ![128, 512] w) = Y :=
  funext fun y => congrArg Y (funext fun a => Fin.ext (by
    match a with
    | ⟨0, _⟩ => exact (Nat.zero_add _).trans (Nat.one_mul _)
    | ⟨1, _⟩ => exact (Nat.zero_add _).trans (Nat.one_mul _)))

/-- A load of a whole block. -/
theorem load_bias (Y : Vec Ideal S1x512 .f32) (w) : View.ld (S := S1x512) Y (Rect.unit (s := S1x512) ![0, 0] ![1, 512] w) = Y :=
  funext fun y => congrArg Y (funext fun a => Fin.ext (by
    match a with
    | ⟨0, _⟩ => exact (Nat.zero_add _).trans (Nat.one_mul _)
    | ⟨1, _⟩ => exact (Nat.zero_add _).trans (Nat.one_mul _)))

/-- The output block of a later point of a sequence. -/
theorem out_later (hc : ¬cond0_0 i) : out0_B_8 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 xs = outG x0 x1 x2 x3 x7 (bcOf x4 x5 x6) xs := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc x0 x1 x2 x3 x4 x5 x6 x7 xs)]
  unfold kernelRun0_B
  dsimp only
  sl_unfold_words
  rw [eight_trips, show iota Kind.tc S64x1 32 [0] iota_S64x1_d0_w32 = rowk from rfl]
  refine loop_out_canon c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg9.unread x7) _ x0 x1 x2 x3 x7 (bcOf x4 x5 x6) _ (harg2.read_unread x0) (harg3.read_unread x1) (harg4.read_unread x2) (harg5.read_unread x3) (harg9.read_unread x7) ?_ _ _ (harg11.read_unread xs) (lb_nonpos x4 x5 x6) (lb_anti x4 x5 x6) _
  simp only [View.readAt_eq_ld, harg6.read_unread, harg7.read_unread, harg8.read_unread, load_gates, load_weights, load_bias]
  exact bc_writes x4 x5 x6 arg12 _ _ _ _ _ _ _ _ _ _ (pay56_apply _ _ _) _ (pay57_apply _) _ (pay58_apply _) _ (pay59_apply _) _ (pay60_apply _) _ (pay61_apply _) _ (pay62_apply _) _ (fun t j => (pay1_apply _ t j).trans (pay63_apply _ t j))

/-- The output block of the first point of a sequence. -/
theorem out_first (hc : cond0_0 i) : out0_A_8 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 = outG x0 x1 x2 x3 x7 (bcOf x4 x5 x6) (fun _ => 0) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc x0 x1 x2 x3 x4 x5 x6 x7)]
  unfold kernelRun0_A
  dsimp only
  sl_unfold_words
  rw [eight_trips, show iota Kind.tc S64x1 32 [0] iota_S64x1_d0_w32 = rowk from rfl]
  have hz : ∀ f w, arg11.view.read (Elt Ideal) (arg11.view.writes (Elt Ideal) f [⟨Rect.unit (s := S4x256x128) ![0, 0, 0] S4x256x128.size w, k0_pay51 (F := Ideal)⟩]) = (fun _ => 0 : Vec Ideal S4x256x128 .f32) :=
    fun f w => (read_whole arg11 f w (k0_pay51 (F := Ideal))).trans pay51_eq
  refine loop_out_canon c i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg9.unread x7) _ x0 x1 x2 x3 x7 (bcOf x4 x5 x6) _ (harg2.read_unread x0) (harg3.read_unread x1) (harg4.read_unread x2) (harg5.read_unread x3) (harg9.read_unread x7) ?_ _ _ (hz _ _) (lb_nonpos x4 x5 x6) (lb_anti x4 x5 x6) _
  simp only [View.readAt_eq_ld, harg6.read_unread, harg7.read_unread, harg8.read_unread, load_gates, load_weights, load_bias]
  exact bc_writes x4 x5 x6 arg12 _ _ _ _ _ _ _ _ _ _ (pay56_apply _ _ _) _ (pay57_apply _) _ (pay58_apply _) _ (pay59_apply _) _ (pay60_apply _) _ (pay61_apply _) _ (pay62_apply _) _ (fun t j => (pay1_apply _ t j).trans (pay63_apply _ t j))

/-- The state after a later point of a sequence. -/
theorem state_later (hc : ¬cond0_0 i) : sout0_B_0 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 xs = stG x1 x2 (bcOf x4 x5 x6) xs 8 := by
  unfold sout0_B_0
  unfold kernelRun0_B
  dsimp only
  sl_unfold_words
  rw [eight_trips, show iota Kind.tc S64x1 32 [0] iota_S64x1_d0_w32 = rowk from rfl]
  have h12 : ∀ f, arg12.view.read (Elt Ideal) f = bcOf x4 x5 x6 → ∀ X2 X5 X9 G10 G11, arg11.view.read (Elt Ideal) G11 = xs → ∀ L',
      VS0_0.read (Elt Ideal) (VS0_0.writes (Elt Ideal) VS0_0.junk ((pb_k0_t1 (F := Ideal) Variants.none c none i arg2 harg2 arg3 harg3 arg4 harg4 arg5 harg5 arg6 harg6 arg7 harg7 arg8 harg8 arg9 harg9 arg10 harg10 arg11 harg11 arg12 harg12 k0_pay53 rowk X2 (harg3.unread x1) (harg4.unread x2) X5 X9 f G10 G11 8).2 ++ L')) = stG x1 x2 (bcOf x4 x5 x6) xs 8 := by
    intro f hf X2 X5 X9 G10 G11 hG L'
    funext y
    obtain ⟨h1, h2⟩ := loop_state_canon c i arg2 harg2 arg3 harg3 arg4 harg4 arg5 harg5 arg6 harg6 arg7 harg7 arg8 harg8 arg9 harg9 arg10 harg10 arg11 harg11 arg12 harg12 X2 _ _ X5 X9 f _ _ _ _ (harg3.read_unread x1) (harg4.read_unread x2) hf G10 G11 hG L' y
    rw [View.read_writes_apply_eq_canon _ _ _ _ h2]
    exact h1
  refine (congrArg (fun L => VS0_0.read (Elt Ideal) (VS0_0.writes (Elt Ideal) VS0_0.junk L)) (List.append_nil _).symm).trans (h12 _ ?_ _ _ _ _ _ (harg11.read_unread xs) [])
  simp only [View.readAt_eq_ld, harg6.read_unread, harg7.read_unread, harg8.read_unread, load_gates, load_weights, load_bias]
  exact bc_writes x4 x5 x6 arg12 _ _ _ _ _ _ _ _ _ _ (pay56_apply _ _ _) _ (pay57_apply _) _ (pay58_apply _) _ (pay59_apply _) _ (pay60_apply _) _ (pay61_apply _) _ (pay62_apply _) _ (fun t j => (pay1_apply _ t j).trans (pay63_apply _ t j))

/-- The state after the first point of a sequence. -/
theorem state_first (hc : cond0_0 i) : sout0_A_0 (F := Ideal) c i arg2 harg2 arg3 harg3 arg4 harg4 arg5 harg5 arg6 harg6 arg7 harg7 arg8 harg8 arg9 harg9 arg10 harg10 arg11 harg11 arg12 harg12 hc x0 x1 x2 x3 x4 x5 x6 x7 = stG x1 x2 (bcOf x4 x5 x6) (fun _ => 0) 8 := by
  unfold sout0_A_0
  unfold kernelRun0_A
  dsimp only
  sl_unfold_words
  rw [eight_trips, show iota Kind.tc S64x1 32 [0] iota_S64x1_d0_w32 = rowk from rfl]
  have hz : ∀ f w, arg11.view.read (Elt Ideal) (arg11.view.writes (Elt Ideal) f [⟨Rect.unit (s := S4x256x128) ![0, 0, 0] S4x256x128.size w, k0_pay51 (F := Ideal)⟩]) = (fun _ => 0 : Vec Ideal S4x256x128 .f32) :=
    fun f w => (read_whole arg11 f w (k0_pay51 (F := Ideal))).trans pay51_eq
  have h12 : ∀ f, arg12.view.read (Elt Ideal) f = bcOf x4 x5 x6 → ∀ X2 X5 X9 G10 G11, arg11.view.read (Elt Ideal) G11 = (fun _ => 0) → ∀ L',
      VS0_0.read (Elt Ideal) (VS0_0.writes (Elt Ideal) VS0_0.junk ((pb_k0_t1 (F := Ideal) Variants.none c none i arg2 harg2 arg3 harg3 arg4 harg4 arg5 harg5 arg6 harg6 arg7 harg7 arg8 harg8 arg9 harg9 arg10 harg10 arg11 harg11 arg12 harg12 k0_pay53 rowk X2 (harg3.unread x1) (harg4.unread x2) X5 X9 f G10 G11 8).2 ++ L')) = stG x1 x2 (bcOf x4 x5 x6) (fun _ => 0) 8 := by
    intro f hf X2 X5 X9 G10 G11 hG L'
    funext y
    obtain ⟨h1, h2⟩ := loop_state_canon c i arg2 harg2 arg3 harg3 arg4 harg4 arg5 harg5 arg6 harg6 arg7 harg7 arg8 harg8 arg9 harg9 arg10 harg10 arg11 harg11 arg12 harg12 X2 _ _ X5 X9 f _ _ _ _ (harg3.read_unread x1) (harg4.read_unread x2) hf G10 G11 hG L' y
    rw [View.read_writes_apply_eq_canon _ _ _ _ h2]
    exact h1
  refine h12 _ ?_ _ _ _ _ _ (hz _ _) _
  simp only [View.readAt_eq_ld, harg6.read_unread, harg7.read_unread, harg8.read_unread, load_gates, load_weights, load_bias]
  exact bc_writes x4 x5 x6 arg12 _ _ _ _ _ _ _ _ _ _ (pay56_apply _ _ _) _ (pay57_apply _) _ (pay58_apply _) _ (pay59_apply _) _ (pay60_apply _) _ (pay61_apply _) _ (pay62_apply _) _ (fun t j => (pay1_apply _ t j).trans (pay63_apply _ t j))

end

end Cert.GlaV

end
-- ==== Proof.GlaHost.lean ====
module

public import proofs.«01_k».proof.Proof.GlaCase
public import Idealize.ShloMosaic.Lib.Routing.OpsSet
public import Idealize.ShloMosaic.Lib.Routing.OpsPair

@[expose] public section

set_option maxRecDepth 16384
set_option maxHeartbeats 1000000

noncomputable section

namespace Cert.GlaV
open Idealize.ShloMosaic Idealize.ShloMosaic.TcCoe Idealize.ShloMosaic.Tactic Idealize.SL.Sem
open Cert.GlaIdeal Cert.GlaIdeal.Gen
open Idealize.ShloMosaic.Tactic

/-! ## The gate projection's rows, placed by the host -/

/-- An update lands in the row sixteen below its own. -/
theorem lands_rows (idx : IVec S1 32) (hidx : ∀ j, (idx j).toInt = 16) (a : Fin 16) (b : Fin 512) (r : Fin 128) (j : Fin 512) :
    scatter_S128x512_S1_S16x512_01_n_0_0.resultIdx? (ix2 a b) idx = some (ix2 r j) ↔ 16 + a.val = r.val ∧ b = j := by
  have hw0 : scatter_S128x512_S1_S16x512_01_n_0_0.window (ix2 a b) 0 = a.val := rfl
  have hw1 : scatter_S128x512_S1_S16x512_01_n_0_0.window (ix2 a b) 1 = b.val := rfl
  have hs0 : scatter_S128x512_S1_S16x512_01_n_0_0.start (ix2 a b) idx 0 = 16 := hidx _
  have hs1 : scatter_S128x512_S1_S16x512_01_n_0_0.start (ix2 a b) idx 1 = 0 := rfl
  have := Routing.resultIdx?_ix2 scatter_S128x512_S1_S16x512_01_n_0_0 (ix2 a b) idx r j
  rw [hw0, hw1, hs0, hs1] at this
  refine Iff.trans this ?_
  rw [Fin.ext_iff]
  omega

/-- The padded projection: its rows at 16 to 31, zero elsewhere. -/
theorem pad_apply (x : S128x512.Idx → EReal) (hx : ∀ y, x y = 0) (idx : IVec S1 32) (hidx : ∀ j, (idx j).toInt = 16) (u : S16x512.Idx → EReal) (r : Fin 128) (j : Fin 512) :
    Host.scatter scatter_S128x512_S1_S16x512_01_n_0_0 (fun _ b => b) x idx u (ix2 r j)
      = if h : 16 ≤ r.val ∧ r.val < 32 then u (ix2 ⟨r.val - 16, by omega⟩ j) else 0 := by
  by_cases h : 16 ≤ r.val ∧ r.val < 32
  · rw [dif_pos h]
    refine Routing.scatter_set_hit _ x idx u _ _ (fun k hk => ?_) (ix2 ⟨r.val - 16, by omega⟩ j) ((lands_rows idx hidx _ _ r j).2 ⟨by show 16 + (r.val - 16) = r.val; omega, rfl⟩)
    rw [two_axes (m := 16) (n := 512) k] at hk ⊢
    have := (lands_rows idx hidx _ _ r j).1 hk
    rw [this.2]
    exact congrArg (fun a => u (ix2 a j)) (Fin.ext (by show (k 0).val = r.val - 16; omega))
  · rw [dif_neg h]
    refine (Routing.scatter_set_miss _ x idx u _ fun k hk => h ?_).trans (hx _)
    rw [two_axes (m := 16) (n := 512) k] at hk
    have := (lands_rows idx hidx _ _ r j).1 hk
    have : (k 0).val < 16 := (k 0).isLt
    omega

/-- A sum against the padded projection is the sum over its own rows. -/
theorem pad_sum (g : Fin 128 → EReal) (w : Fin 128 → EReal) (u : Fin 16 → EReal) (hw : ∀ r, w r = if h : 16 ≤ r.val ∧ r.val < 32 then u ⟨r.val - 16, by omega⟩ else 0) :
    (∑ l, g l * w l) = ∑ i : Fin 16, g ⟨16 + i.val, by omega⟩ * u i := by
  have h1 : (∑ l, g l * w l) = ∑ l ∈ Finset.univ.filter (fun l : Fin 128 => 16 ≤ l.val ∧ l.val < 32), g l * w l := by
    refine (Finset.sum_filter_of_ne fun l _ hl => ?_).symm
    by_contra h
    exact hl (by rw [hw, dif_neg h, mul_zero])
  rw [h1]
  refine (Finset.sum_bij (fun (i : Fin 16) _ => (⟨16 + i.val, by omega⟩ : Fin 128)) (fun i _ => ?_) (fun i _ j _ hij => ?_) (fun l hl => ?_) (fun i _ => ?_)).symm
  · exact Finset.mem_filter.2 ⟨Finset.mem_univ _, by show 16 ≤ 16 + i.val ∧ 16 + i.val < 32; omega⟩
  · have := Fin.mk.inj_iff.1 hij; exact Fin.ext (by omega)
  · have := (Finset.mem_filter.1 hl).2
    exact ⟨⟨l.val - 16, by omega⟩, Finset.mem_univ _, Fin.ext (by show 16 + (l.val - 16) = l.val; omega)⟩
  · rw [hw, dif_pos (by show 16 ≤ 16 + i.val ∧ 16 + i.val < 32; omega)]
    exact congrArg (g _ * u ·) (Fin.ext (by show i.val = 16 + i.val - 16; omega))

/-! ## The blocks of a grid point, from the arrays the program is given -/

section
variable (m : (ℓ : Loc nD τ sig) → Buf (Elt Ideal) ℓ) (c : Dev nD)

theorem idx_0 : ∀ t : Fin cfg0.N, win0_0.index t (0 : Fin 2) = t.val ∧ win0_0.index t (1 : Fin 2) = 6 := by decide +kernel
theorem idx_1 : ∀ t : Fin cfg0.N, win0_1.index t (0 : Fin 2) = t.val ∧ win0_1.index t (1 : Fin 2) = 7 := by decide +kernel
theorem idx_2 : ∀ t : Fin cfg0.N, win0_2.index t (0 : Fin 2) = t.val ∧ win0_2.index t (1 : Fin 2) = 4 := by decide +kernel
theorem idx_3 : ∀ t : Fin cfg0.N, win0_3.index t (0 : Fin 2) = t.val ∧ win0_3.index t (1 : Fin 2) = 5 := by decide +kernel
theorem idx_4 : ∀ t : Fin cfg0.N, win0_4.index t (0 : Fin 2) = t.val ∧ win0_4.index t (1 : Fin 2) = 0 := by decide +kernel
theorem idx_5 : ∀ t : Fin cfg0.N, win0_5.index t (0 : Fin 2) = 0 ∧ win0_5.index t (1 : Fin 2) = 0 := by decide +kernel
theorem idx_6 : ∀ t : Fin cfg0.N, win0_6.index t (0 : Fin 2) = 0 ∧ win0_6.index t (1 : Fin 2) = 0 := by decide +kernel
theorem idx_7 : ∀ t : Fin cfg0.N, win0_7.index t (0 : Fin 2) = 0 ∧ win0_7.index t (1 : Fin 2) = 0 := by decide +kernel

/-- A row of a grid point's block in the whole array. -/
def gridRow (t : Fin cfg0.N) (r : Fin 512) : Fin 32768 := ⟨512 * t.val + r.val, by have := lt_of_lt_of_eq t.isLt (show cfg0.N = 64 from N_0); omega⟩

/-- The queries of a grid point. -/
theorem blk_q (t : Fin cfg0.N) (r : Fin 512) (j : Fin 512) : (iblk m c 0 t : Vec Ideal S512x512 .bf16) (ix2 r j) = m ((c : Thread nD τ).loc main_arg0) (ix2 (gridRow t r) (⟨3072 + j.val, by omega⟩ : Fin 6144)) := by
  have h := idx_0 t
  unfold iblk
  blk_ext [V, gridRow, h.1, h.2]

/-- The keys of a grid point. -/
theorem blk_k (t : Fin cfg0.N) (r : Fin 512) (j : Fin 512) : (iblk m c 1 t : Vec Ideal S512x512 .bf16) (ix2 r j) = m ((c : Thread nD τ).loc main_arg0) (ix2 (gridRow t r) (⟨3584 + j.val, by omega⟩ : Fin 6144)) := by
  have h := idx_1 t
  unfold iblk
  blk_ext [V, gridRow, h.1, h.2]

/-- The values of a grid point. -/
theorem blk_v (t : Fin cfg0.N) (r : Fin 512) (j : Fin 1024) : (iblk m c 2 t : Vec Ideal S512x1024 .bf16) (ix2 r j) = m ((c : Thread nD τ).loc main_arg0) (ix2 (gridRow t r) (⟨4096 + j.val, by omega⟩ : Fin 6144)) := by
  have h := idx_2 t
  unfold iblk
  blk_ext [V, gridRow, h.1, h.2]

/-- The output gates of a grid point. -/
theorem blk_g (t : Fin cfg0.N) (r : Fin 512) (j : Fin 1024) : (iblk m c 3 t : Vec Ideal S512x1024 .bf16) (ix2 r j) = m ((c : Thread nD τ).loc main_arg0) (ix2 (gridRow t r) (⟨5120 + j.val, by omega⟩ : Fin 6144)) := by
  have h := idx_3 t
  unfold iblk
  blk_ext [V, gridRow, h.1, h.2]

/-- The gate inputs of a grid point. -/
theorem blk_gates (t : Fin cfg0.N) (r : Fin 512) (j : Fin 128) : (iblk m c 4 t : Vec Ideal S512x128 .f32) (ix2 r j) = m ((c : Thread nD τ).loc main_arg1) (ix2 (gridRow t r) j) := by
  have h := idx_4 t
  unfold iblk
  blk_ext [V, gridRow, h.1, h.2]

/-- The gates' bias. -/
theorem blk_bias (t : Fin cfg0.N) (j : Fin 512) : (iblk m c 6 t : Vec Ideal S1x512 .f32) (ix2 0 j) = m ((c : Thread nD τ).loc main_arg3) (ix1 j) := by
  have h := idx_6 t
  unfold iblk
  entry_read
  have e : ((cfg0.win 6).blk t).view.emb (ix2 0 j) = (ix2 0 j : S1x512.Idx) := by blk_ext [h.1, h.2]
  refine (congrArg (shapeCast S1x512 (m ((c : Thread nD τ).loc main_arg3) : Vec Ideal S512 .f32) shapeCasts_S512_S1x512) e).trans ?_
  pointwise

/-- The head norm's weights. -/
theorem blk_norm (t : Fin cfg0.N) (j : Fin 1024) : (iblk m c 7 t : Vec Ideal S1x1024 .f32) (ix2 0 j) = m ((c : Thread nD τ).loc main_arg4) (ix1 j) := by
  have h := idx_7 t
  unfold iblk
  entry_read
  have e : ((cfg0.win 7).blk t).view.emb (ix2 0 j) = (ix2 0 j : S1x1024.Idx) := by blk_ext [h.1, h.2]
  refine (congrArg (shapeCast S1x1024 (m ((c : Thread nD τ).loc main_arg4) : Vec Ideal S1024 .f32) shapeCasts_S1024_S1x1024) e).trans ?_
  pointwise

/-- The block of the padded gate projection is the whole of it. -/
theorem read_w (t : Fin cfg0.N) (l : Fin 128) (j : Fin 512) (A : Vec Ideal S128x512 .bf16) :
    ((cfg0.win 5).blk t).view.read (Elt Ideal) A (ix2 l j) = A (ix2 l j) := by
  have h := idx_5 t
  have e : ((cfg0.win 5).blk t).view.emb (ix2 l j) = (ix2 l j : S128x512.Idx) := by blk_ext [h.1, h.2]
  exact congrArg A e

/-- The padded gate projection. -/
theorem blk_w (t : Fin cfg0.N) (l : Fin 128) (j : Fin 512) : (iblk m c 5 t : Vec Ideal S128x512 .bf16) (ix2 l j)
    = if h : 16 ≤ l.val ∧ l.val < 32 then (m ((c : Thread nD τ).loc main_arg2) : Vec Ideal S16x512 .f32) (ix2 ⟨l.val - 16, by omega⟩ j) else (0 : EReal) := by
  refine (read_w t l j _).trans ?_
  entry_read
  have hx : ∀ y, (broadcastInDim S128x512 ![] bcast_S_S128x512 (constant (F := Ideal) S_ FTy.bf16 0#16) : S128x512.Idx → EReal) y = 0 := fun y => by
    rw [two_axes (m := 128) (n := 512) y]; pointwise
  have hi : ∀ j, (broadcastInDim S1 ![] bcast_S_S1 (constantI S_ 32 16#32) j).toInt = 16 := fun j => by
    rw [show j = ix1 (j 0) from funext fun i => by match i with | ⟨0, _⟩ => rfl]; pointwise; decide
  rw [pad_apply _ hx _ hi _ l j]
  by_cases h' : 16 ≤ l.val ∧ l.val < 32
  · rw [dif_pos h', dif_pos h']; pointwise
  · rw [dif_neg h', dif_neg h']
end

end Cert.GlaV

end
-- ==== Proof.GlaSpec.lean ====
module

public import proofs.«01_k».proof.Proof.GlaGate

@[expose] public section

set_option maxRecDepth 16384
set_option maxHeartbeats 1000000

noncomputable section

namespace Cert.GlaV
open Idealize.ShloMosaic Idealize.ShloMosaic.TcCoe Idealize.ShloMosaic.Tactic Idealize.SL.Sem
open Cert.GlaIdeal Cert.GlaIdeal.Gen
/-! ## The mixer's result from its five inputs -/

/-- Row `t` of chunk `n` of sequence `b`. -/
def rowOf (b n : ℕ) (t : Fin 64) : Fin 32768 := ⟨(4096 * b + 64 * n + t.val) % 32768, Nat.mod_lt _ (by decide)⟩
theorem rowOf_val {b n : ℕ} (hb : b < 8) (hn : n < 64) (t : Fin 64) : (rowOf b n t).val = 4096 * b + 64 * n + t.val := Nat.mod_eq_of_lt (by omega)

section
variable (PM : Fin 32768 → Fin 6144 → EReal) (GT : Fin 32768 → Fin 128 → EReal) (WG : Fin 16 → Fin 512 → EReal) (BG : Fin 512 → EReal) (HN : Fin 1024 → EReal)

/-- The log gates. -/
def sLa (r : Fin 32768) (j : Fin 512) : EReal := rate ((∑ i : Fin 16, GT r ⟨16 + i.val, by omega⟩ * WG i j) + BG j)
/-- The scaled queries of a chunk. -/
def sQ (b n : ℕ) (h : Fin 4) (t : Fin 64) (d : Fin 128) : EReal := PM (rowOf b n t) ⟨3072 + (col4 h d).val, by have := (col4 h d).isLt; omega⟩ * Ideal.ofBits .f32 0x3DB504F3#32
/-- The keys of a chunk. -/
def sK (b n : ℕ) (h : Fin 4) (t : Fin 64) (d : Fin 128) : EReal := PM (rowOf b n t) ⟨3584 + (col4 h d).val, by have := (col4 h d).isLt; omega⟩
/-- The values of a chunk. -/
def sV (b n : ℕ) (h : Fin 4) (t : Fin 64) (e : Fin 256) : EReal := PM (rowOf b n t) ⟨4096 + (vcol4 h e).val, by have := (vcol4 h e).isLt; omega⟩
/-- The running sums of a chunk's log gates. -/
def sB (b n : ℕ) (h : Fin 4) (t : Fin 64) (d : Fin 128) : EReal := runSum (fun s => sLa GT WG BG (rowOf b n s) (col4 h d)) t
/-- The state before chunk `n`. -/
def sS (b : ℕ) : ℕ → Fin 4 → Fin 128 → Fin 256 → EReal
  | 0 => fun _ _ _ => 0
  | n + 1 => fun h => chunkS (sK PM b n h) (sV PM b n h) (sB GT WG BG b n h) (sS b n h)
/-- The heads' outputs of a chunk. -/
def sO (b n : ℕ) (h : Fin 4) : Fin 64 → Fin 256 → EReal :=
  chunkO (sQ PM b n h) (sK PM b n h) (sV PM b n h) (sB GT WG BG b n h) (sS PM GT WG BG b n h)
/-- The mixer's output. -/
def sOut (r : Fin 32768) (j : Fin 1024) : EReal :=
  let h : Fin 4 := ⟨j.val / 256, by omega⟩
  gated (sO PM GT WG BG (r.val / 4096) (r.val % 4096 / 64) h ⟨r.val % 64, Nat.mod_lt _ (by decide)⟩)
    (fun e => PM r ⟨5120 + (vcol4 h e).val, by have := (vcol4 h e).isLt; omega⟩) (fun e => HN (vcol4 h e)) ⟨j.val % 256, Nat.mod_lt _ (by decide)⟩
end

end Cert.GlaV

end
-- ==== Proof.GlaGrid.lean ====
module

public import proofs.«01_k».proof.Proof.GlaHost
public import proofs.«01_k».proof.Proof.GlaSpec

@[expose] public section

set_option maxRecDepth 16384
set_option maxHeartbeats 1000000

noncomputable section

namespace Cert.GlaV
open Idealize.ShloMosaic Idealize.ShloMosaic.TcCoe Idealize.ShloMosaic.Tactic Idealize.SL.Sem
open Cert.GlaIdeal Cert.GlaIdeal.Gen
/-! ## The kernel's blocks are the mixer's inputs -/

section
variable (m : (ℓ : Loc nD τ sig) → Buf (Elt Ideal) ℓ) (c : Dev nD)

/-- The projections. -/
def aPM (r : Fin 32768) (j : Fin 6144) : EReal := (m ((c : Thread nD τ).loc main_arg0) : Vec Ideal S32768x6144 .bf16) (ix2 r j)
/-- The gate inputs. -/
def aGT (r : Fin 32768) (j : Fin 128) : EReal := (m ((c : Thread nD τ).loc main_arg1) : Vec Ideal S32768x128 .f32) (ix2 r j)
/-- The gate projection. -/
def aWG (i : Fin 16) (j : Fin 512) : EReal := (m ((c : Thread nD τ).loc main_arg2) : Vec Ideal S16x512 .f32) (ix2 i j)
/-- The gate bias. -/
def aBG (j : Fin 512) : EReal := (m ((c : Thread nD τ).loc main_arg3) : Vec Ideal S512 .f32) (ix1 j)
/-- The head norm's weights. -/
def aHN (j : Fin 1024) : EReal := (m ((c : Thread nD τ).loc main_arg4) : Vec Ideal S1024 .f32) (ix1 j)

theorem point_lt (t : Fin cfg0.N) : t.val < 64 := lt_of_lt_of_eq t.isLt N_0

section
variable (t : Fin cfg0.N) (k : ℕ) (hk : k < 8)
include hk

/-- A row of a chunk of a grid point's block. -/
theorem grid_row (s : Fin 64) : gridRow t (row8 k s) = rowOf (t.val / 8) (8 * (t.val % 8) + k) s := by
  have ht := point_lt t
  refine Fin.ext ?_
  rw [rowOf_val (by omega) (by omega)]
  show 512 * t.val + (row8 k s).val = _
  rw [row8_val hk]
  omega

theorem lq_eq (h : Fin 4) : lq (iblk m c 0 t) k h = sQ (aPM m c) (t.val / 8) (8 * (t.val % 8) + k) h :=
  funext fun s => funext fun d => congrArg (· * _) ((blk_q m c t (row8 k s) (col4 h d)).trans (congrArg (fun r => aPM m c r _) (grid_row t k hk s)))
theorem lk_eq (h : Fin 4) : lk (iblk m c 1 t) k h = sK (aPM m c) (t.val / 8) (8 * (t.val % 8) + k) h :=
  funext fun s => funext fun d => (blk_k m c t (row8 k s) (col4 h d)).trans (congrArg (fun r => aPM m c r _) (grid_row t k hk s))
theorem lv_eq (h : Fin 4) : lv (iblk m c 2 t) k h = sV (aPM m c) (t.val / 8) (8 * (t.val % 8) + k) h :=
  funext fun s => funext fun d => (blk_v m c t (row8 k s) (vcol4 h d)).trans (congrArg (fun r => aPM m c r _) (grid_row t k hk s))
theorem lb_eq (h : Fin 4) : lb (bcOf (iblk m c 4 t) (iblk m c 5 t) (iblk m c 6 t)) k h = sB (aGT m c) (aWG m c) (aBG m c) (t.val / 8) (8 * (t.val % 8) + k) h := by
  funext s d
  rw [lb_bcOf _ _ _ k hk h s d]
  refine congrArg (runSum · s) (funext fun s' => ?_)
  refine congrArg rate (congrArg₂ (· + ·) ?_ (blk_bias m c t (col4 h d)))
  refine (pad_sum _ _ (fun i => aWG m c i (col4 h d)) (fun r => blk_w m c t r (col4 h d))).trans (Finset.sum_congr rfl fun i _ => congrArg (· * _) ?_)
  exact (blk_gates m c t (row8 k s') ⟨16 + i.val, by omega⟩).trans (congrArg (fun r => aGT m c r _) (grid_row t k hk s'))
end

/-- The state before a chunk of a grid point. -/
theorem locS_eq (t : Fin cfg0.N) (S0 : Vec Ideal S4x256x128 .f32)
    (hS : ∀ h d e, S0 (ix3 h e d) = sS (aPM m c) (aGT m c) (aWG m c) (aBG m c) (t.val / 8) (8 * (t.val % 8)) h d e) (k : ℕ) (hk : k ≤ 8) :
    locS (iblk m c 1 t) (iblk m c 2 t) (bcOf (iblk m c 4 t) (iblk m c 5 t) (iblk m c 6 t)) S0 k
      = sS (aPM m c) (aGT m c) (aWG m c) (aBG m c) (t.val / 8) (8 * (t.val % 8) + k) := by
  induction k with
  | zero => exact funext fun h => funext fun d => funext fun e => hS h d e
  | succ k ih =>
    funext h
    show chunkS _ _ _ _ = chunkS _ _ _ _
    rw [lk_eq m c t k (by omega), lv_eq m c t k (by omega), lb_eq m c t k (by omega), ih (by omega)]
    rfl

theorem outG_at (Q K : Vec Ideal S512x512 .bf16) (V GG : Vec Ideal S512x1024 .bf16) (HN : Vec Ideal S1x1024 .f32) (B : Vec Ideal S512x512 .f32) (S0 : Vec Ideal S4x256x128 .f32) (r : Fin 512) (j : Fin 1024) :
    outG Q K V GG HN B S0 (ix2 r j) = gated (chunkO (lq Q (r.val / 64) ⟨j.val / 256, by omega⟩) (lk K (r.val / 64) ⟨j.val / 256, by omega⟩) (lv V (r.val / 64) ⟨j.val / 256, by omega⟩)
      (lb B (r.val / 64) ⟨j.val / 256, by omega⟩) (locS K V B S0 (r.val / 64) ⟨j.val / 256, by omega⟩) ⟨r.val % 64, Nat.mod_lt _ (by decide)⟩)
      (fun e => GG (ix2 r (vcol4 ⟨j.val / 256, by omega⟩ e))) (fun e => HN (ix2 0 (vcol4 ⟨j.val / 256, by omega⟩ e))) ⟨j.val % 256, Nat.mod_lt _ (by decide)⟩ := rfl

/-- The output of a grid point. -/
theorem outG_eq (t : Fin cfg0.N) (S0 : Vec Ideal S4x256x128 .f32)
    (hS : ∀ h d e, S0 (ix3 h e d) = sS (aPM m c) (aGT m c) (aWG m c) (aBG m c) (t.val / 8) (8 * (t.val % 8)) h d e) (r : Fin 512) (j : Fin 1024) :
    outG (iblk m c 0 t) (iblk m c 1 t) (iblk m c 2 t) (iblk m c 3 t) (iblk m c 7 t) (bcOf (iblk m c 4 t) (iblk m c 5 t) (iblk m c 6 t)) S0 (ix2 r j)
      = sOut (aPM m c) (aGT m c) (aWG m c) (aBG m c) (aHN m c) (gridRow t r) j := by
  have ht := point_lt t
  have hk : r.val / 64 < 8 := by omega
  have e1 : (gridRow t r).val = 512 * t.val + r.val := rfl
  rw [outG_at]
  unfold sOut sO
  dsimp only
  rw [lq_eq m c t _ hk, lk_eq m c t _ hk, lv_eq m c t _ hk, lb_eq m c t _ hk, locS_eq m c t S0 hS _ (by omega)]
  rw [show (gridRow t r).val / 4096 = t.val / 8 by omega, show (gridRow t r).val % 4096 / 64 = 8 * (t.val % 8) + r.val / 64 by omega]
  have e2 : (⟨(gridRow t r).val % 64, Nat.mod_lt _ (by decide)⟩ : Fin 64) = ⟨r.val % 64, Nat.mod_lt _ (by decide)⟩ := Fin.ext (by show (gridRow t r).val % 64 = r.val % 64; omega)
  rw [e2]
  refine congrFun (congr (congrArg (gated _) ?_) ?_) _
  · exact funext fun e => blk_g m c t r _
  · exact funext fun e => blk_norm m c t _

/-- What the grid points leave: the output's block, and the state after it. -/
theorem points (n : ℕ) (hn : n < cfg0.N) :
    (∀ (r : Fin 512) (j : Fin 1024), (outsAt0 m c n hn).1 (ix2 r j) = sOut (aPM m c) (aGT m c) (aWG m c) (aBG m c) (aHN m c) (gridRow ⟨n, hn⟩ r) j) ∧
      ∀ h d e, (outsAt0 m c n hn).2 (ix3 h e d) = sS (aPM m c) (aGT m c) (aWG m c) (aBG m c) (n / 8) (8 * (n % 8) + 8) h d e := by
  induction n with
  | zero =>
    have h0 : (⟨0, hn⟩ : Fin cfg0.N).val % 8 = 0 := rfl
    have hA := outsAt0_A m c ⟨0, hn⟩ h0
    have hS : ∀ (h : Fin 4) (d : Fin 128) (e : Fin 256), (fun _ => 0 : Vec Ideal S4x256x128 .f32) (ix3 h e d) = sS (aPM m c) (aGT m c) (aWG m c) (aBG m c) (0 / 8) (8 * (0 % 8)) h d e := fun _ _ _ => rfl
    rw [hA]
    dsimp only
    rw [out_first, state_first]
    exact ⟨fun r j => outG_eq m c ⟨0, hn⟩ _ hS r j, fun h d e => congrFun (congrFun (congrFun (locS_eq m c ⟨0, hn⟩ _ hS 8 (by decide)) h) d) e⟩
  | succ n ih =>
    by_cases h0 : (n + 1) % 8 = 0
    · have hA := outsAt0_A m c ⟨n + 1, hn⟩ h0
      have hS : ∀ (h : Fin 4) (d : Fin 128) (e : Fin 256), (fun _ => 0 : Vec Ideal S4x256x128 .f32) (ix3 h e d) = sS (aPM m c) (aGT m c) (aWG m c) (aBG m c) ((n + 1) / 8) (8 * ((n + 1) % 8)) h d e := fun _ _ _ => by
        rw [h0]; rfl
      dsimp only at hA
      rw [hA]
      dsimp only
      rw [out_first, state_first]
      exact ⟨fun r j => outG_eq m c ⟨n + 1, hn⟩ _ hS r j, fun h d e => congrFun (congrFun (congrFun (locS_eq m c ⟨n + 1, hn⟩ _ hS 8 (by decide)) h) d) e⟩
    · have hB := outsAt0_B m c ⟨n + 1, hn⟩ h0
      have hS : ∀ (h : Fin 4) (d : Fin 128) (e : Fin 256), (outsAt0 m c n (by omega)).2 (ix3 h e d) = sS (aPM m c) (aGT m c) (aWG m c) (aBG m c) ((n + 1) / 8) (8 * ((n + 1) % 8)) h d e := fun h d e => by
        rw [(ih (by omega)).2 h d e, show (n + 1) / 8 = n / 8 by omega, show 8 * ((n + 1) % 8) = 8 * (n % 8) + 8 by omega]
      dsimp only [Nat.add_sub_cancel] at hB
      rw [hB]
      dsimp only
      rw [out_later, state_later]
      exact ⟨fun r j => outG_eq m c ⟨n + 1, hn⟩ _ hS r j, fun h d e => congrFun (congrFun (congrFun (locS_eq m c ⟨n + 1, hn⟩ _ hS 8 (by decide)) h) d) e⟩

/-- The kernel's result array. -/
theorem result (r : Fin 32768) (j : Fin 1024) : Cert.GlaIdeal.Value.G8 m c (ix2 r j) = sOut (aPM m c) (aGT m c) (aWG m c) (aBG m c) (aHN m c) r j := by
  have hp : Cert.GlaIdeal.Value.pt8Of (ix2 r j) = r.val / 512 := by
    show 1 * (r.val / 512 - 0) + 1 * (j.val / 1024 - 0) = _
    omega
  have hlt : Cert.GlaIdeal.Value.pt8Of (ix2 r j) < cfg0.N := by rw [hp, show cfg0.N = 64 from N_0]; omega
  have e : Cert.GlaIdeal.Value.G8 m c (ix2 r j) = (outsAt0 m c _ hlt).1 (Cert.GlaIdeal.Value.loc8Of (ix2 r j)) := by
    rw [Cert.GlaIdeal.Value.outsAt0_sweep]
    exact dif_pos hlt
  rw [e]
  refine (congrArg _ (two_axes (m := 512) (n := 1024) (Cert.GlaIdeal.Value.loc8Of (ix2 r j)))).trans (((points m c _ hlt).1 _ _).trans ?_)
  refine congrArg₂ (sOut (aPM m c) (aGT m c) (aWG m c) (aBG m c) (aHN m c)) (Fin.ext ?_) (Fin.ext ?_)
  · show 512 * (Cert.GlaIdeal.Value.pt8Of (ix2 r j)) + r.val % 512 = r.val
    rw [hp]; omega
  · show j.val % 1024 = j.val
    omega
end

end Cert.GlaV

end
-- ==== Proof.GlaRefLay.lean ====
module

public import proofs.«01_k».proof.Proof.GlaSpec
public import proofs.«01_k».proof.Proof.Gen.GlaRefIdeal.Run
public import Idealize.ShloMosaic.Lib.Tactic.CleanTypes

@[expose] public section

set_option maxRecDepth 16384
set_option maxHeartbeats 1000000

noncomputable section

namespace Cert.GlaV
open Idealize.ShloMosaic Idealize.ShloMosaic.TcCoe Idealize.ShloMosaic.Tactic Idealize.SL.Sem
open Cert.GlaRefIdeal Cert.GlaRefIdeal.Gen Cert.GlaRefIdeal.Value Idealize.ShloMosaic.StableHlo
/-! ## What the reference's scan starts from -/

/-- Row `t` of chunk `n` in a sequence. -/
def seqRow (n t : Fin 64) : Fin 4096 := ⟨64 * n.val + t.val, by omega⟩

theorem lay_in (X : Vec Ideal S8x4096x512 .f32) (n : Fin 64) (b : Fin 8) (h : Fin 4) (t : Fin 64) (d : Fin 128) :
    transpose S64x8x4x64x128 [1, 0, 2, 3, 4] (transpose S8x64x4x64x128 [0, 1, 3, 2, 4] (shapeCast S8x64x64x4x128 (shapeCast S8x4096x4x128 X shapeCasts_S8x4096x512_S8x4096x4x128)
      shapeCasts_S8x4096x4x128_S8x64x64x4x128) transposes_S8x64x64x4x128_S8x64x4x64x128_0_1_3_2_4) transposes_S8x64x4x64x128_S64x8x4x64x128_1_0_2_3_4 (ix5 n b h t d)
      = X (ix3 b (seqRow n t) (col4 h d)) := by
  pointwise
  refine congrArg X (congrArg₂ (ix3 b) (Fin.ext ?_) (Fin.ext ?_))
  · show n.val * 64 + t.val = 64 * n.val + t.val
    omega
  · show h.val * 128 + d.val = 128 * h.val + d.val
    omega

theorem lay_in4 (X : Vec Ideal S8x4096x4x128 .f32) (n : Fin 64) (b : Fin 8) (h : Fin 4) (t : Fin 64) (d : Fin 128) :
    transpose S64x8x4x64x128 [1, 0, 2, 3, 4] (transpose S8x64x4x64x128 [0, 1, 3, 2, 4] (shapeCast S8x64x64x4x128 X
      shapeCasts_S8x4096x4x128_S8x64x64x4x128) transposes_S8x64x64x4x128_S8x64x4x64x128_0_1_3_2_4) transposes_S8x64x4x64x128_S64x8x4x64x128_1_0_2_3_4 (ix5 n b h t d)
      = X (ix4 b (seqRow n t) h d) := by
  pointwise
  refine congrArg X (congrArg (fun s => ix4 b s h d) (Fin.ext ?_))
  show n.val * 64 + t.val = 64 * n.val + t.val
  omega

theorem lay_inv (X : Vec Ideal S8x4096x1024 .f32) (n : Fin 64) (b : Fin 8) (h : Fin 4) (t : Fin 64) (e : Fin 256) :
    transpose S64x8x4x64x256 [1, 0, 2, 3, 4] (transpose S8x64x4x64x256 [0, 1, 3, 2, 4] (shapeCast S8x64x64x4x256 (shapeCast S8x4096x4x256 X shapeCasts_S8x4096x1024_S8x4096x4x256)
      shapeCasts_S8x4096x4x256_S8x64x64x4x256) transposes_S8x64x64x4x256_S8x64x4x64x256_0_1_3_2_4) transposes_S8x64x4x64x256_S64x8x4x64x256_1_0_2_3_4 (ix5 n b h t e)
      = X (ix3 b (seqRow n t) (vcol4 h e)) := by
  pointwise
  refine congrArg X (congrArg₂ (ix3 b) (Fin.ext ?_) (Fin.ext ?_))
  · show n.val * 64 + t.val = 64 * n.val + t.val
    omega
  · show h.val * 256 + e.val = 256 * h.val + e.val
    omega

/-- The sequences' rows as the array's. -/
theorem rows_in (X : Vec Ideal S32768x6144 .f32) (n t : Fin 64) (b : Fin 8) (j : Fin 6144) :
    shapeCast S8x4096x6144 X shapeCasts_S32768x6144_S8x4096x6144 (ix3 b (seqRow n t) j) = X (ix2 (rowOf b.val n.val t) j) := by
  pointwise
  refine congrArg X (congrArg (ix2 · j) (Fin.ext ?_))
  rw [rowOf_val b.isLt n.isLt]
  show b.val * 4096 + (64 * n.val + t.val) = _
  omega

theorem cols_k (X : Vec Ideal S32768x6144 .f32) (n t : Fin 64) (b : Fin 8) (j : Fin 512) :
    extractStridedSlice S8x4096x512 ![0, 0, 3584] (shapeCast S8x4096x6144 X shapeCasts_S32768x6144_S8x4096x6144) slices_S8x4096x6144_S8x4096x512_0_0_3584 (ix3 b (seqRow n t) j)
      = X (ix2 (rowOf b.val n.val t) ⟨3584 + j.val, by omega⟩) :=
  (by pointwise : _ = shapeCast S8x4096x6144 X shapeCasts_S32768x6144_S8x4096x6144 (ix3 b (seqRow n t) ⟨3584 + j.val, by omega⟩)).trans (rows_in X n t b _)
theorem cols_q (X : Vec Ideal S32768x6144 .f32) (n t : Fin 64) (b : Fin 8) (j : Fin 512) :
    extractStridedSlice S8x4096x512 ![0, 0, 3072] (shapeCast S8x4096x6144 X shapeCasts_S32768x6144_S8x4096x6144) slices_S8x4096x6144_S8x4096x512_0_0_3072 (ix3 b (seqRow n t) j)
      = X (ix2 (rowOf b.val n.val t) ⟨3072 + j.val, by omega⟩) :=
  (by pointwise : _ = shapeCast S8x4096x6144 X shapeCasts_S32768x6144_S8x4096x6144 (ix3 b (seqRow n t) ⟨3072 + j.val, by omega⟩)).trans (rows_in X n t b _)
theorem cols_v (X : Vec Ideal S32768x6144 .f32) (n t : Fin 64) (b : Fin 8) (j : Fin 1024) :
    extractStridedSlice S8x4096x1024 ![0, 0, 4096] (shapeCast S8x4096x6144 X shapeCasts_S32768x6144_S8x4096x6144) slices_S8x4096x6144_S8x4096x1024_0_0_4096 (ix3 b (seqRow n t) j)
      = X (ix2 (rowOf b.val n.val t) ⟨4096 + j.val, by omega⟩) :=
  (by pointwise : _ = shapeCast S8x4096x6144 X shapeCasts_S32768x6144_S8x4096x6144 (ix3 b (seqRow n t) ⟨4096 + j.val, by omega⟩)).trans (rows_in X n t b _)
theorem cols_g (X : Vec Ideal S32768x6144 .f32) (n t : Fin 64) (b : Fin 8) (j : Fin 1024) :
    extractStridedSlice S8x4096x1024 ![0, 0, 5120] (shapeCast S8x4096x6144 X shapeCasts_S32768x6144_S8x4096x6144) slices_S8x4096x6144_S8x4096x1024_0_0_5120 (ix3 b (seqRow n t) j)
      = X (ix2 (rowOf b.val n.val t) ⟨5120 + j.val, by omega⟩) :=
  (by pointwise : _ = shapeCast S8x4096x6144 X shapeCasts_S32768x6144_S8x4096x6144 (ix3 b (seqRow n t) ⟨5120 + j.val, by omega⟩)).trans (rows_in X n t b _)

end Cert.GlaV

end
-- ==== Proof.GlaRefWin.lean ====
module

public import proofs.«01_k».proof.Proof.GlaRefLay
public import Idealize.ShloMosaic.Lib.Tactic.CleanTypes

@[expose] public section

set_option maxRecDepth 16384
set_option maxHeartbeats 1000000

noncomputable section

namespace Cert.GlaV
open Idealize.ShloMosaic Idealize.ShloMosaic.TcCoe Idealize.ShloMosaic.Tactic Idealize.SL.Sem
open Cert.GlaRefIdeal Cert.GlaRefIdeal.Gen Cert.GlaRefIdeal.Value Idealize.ShloMosaic.StableHlo
/-! ## The running sums as the reference takes them -/

theorem foldl_add {N : ℕ} (f : Fin N → EReal) (l : List (Fin N)) (v : EReal) : l.foldl (fun r n => r + f n) v = v + (l.map f).sum := by
  induction l generalizing v with
  | nil => simp
  | cons a l ih => rw [List.foldl_cons, ih, List.map_cons, List.sum_cons, add_assoc]

/-- A sum over a window of the last 64 rows, padded by zeros in front, is the running sum. -/
theorem window_sum (f : Fin 64 → EReal) (t : Fin 64) :
    (∑ n : Fin 64, if h : 63 ≤ t.val + n.val ∧ t.val + n.val - 63 < 64 then f ⟨t.val + n.val - 63, h.2⟩ else 0) = runSum f t := by
  unfold runSum
  refine Fintype.sum_equiv (Equiv.addRight (t + 1)) _ _ fun n => ?_
  have hv : (n + (t + 1)).val = (n.val + (t.val + 1)) % 64 := by
    rw [Fin.val_add, Fin.val_add]
    show (n.val + (t.val + 1) % 64) % 64 = _
    omega
  show _ = if n + (t + 1) ≤ t then f (n + (t + 1)) else 0
  by_cases h : 63 ≤ t.val + n.val
  · have e : (n + (t + 1)).val = t.val + n.val - 63 := by omega
    rw [dif_pos ⟨h, by omega⟩, if_pos (by rw [Fin.le_def]; omega)]
    exact congrArg f (Fin.ext e.symm)
  · rw [dif_neg (fun h' => h h'.1), if_neg (by rw [Fin.le_def]; omega)]

/-- The window's shape. -/
abbrev WS : Shape := ⟨4, ![1, 1, 64, 1]⟩

theorem fold_window (g : WS.Idx → EReal) (v : EReal) (hv : v = 0) :
    (List.finRange WS.numel).foldl (fun r n => r + g (WS.rowMajor.symm n)) v = ∑ n : Fin 64, g (ix4 0 0 n 0) := by
  rw [foldl_add, hv, zero_add, ← Fin.sum_univ_def, Equiv.sum_comp WS.rowMajor.symm g, sum_idx4]
  simp only [Finset.univ_unique, Finset.sum_singleton]
  rfl

section
variable (X : Vec Ideal S8x4x64x128 .f32) (b : Fin 8) (h : Fin 4) (t : Fin 64) (d : Fin 128)

/-- The position a window's entry reads. -/
def winP (w : WS.Idx) (a : Fin 4) : ℕ := ((ix4 b h t d : S8x4x64x128.Idx) a).val * (![1, 1, 1, 1] : Fin 4 → ℕ) a + (w a).val
/-- A window's entry. -/
def winG (w : WS.Idx) : EReal :=
  if hin : ∀ a : Fin 4, (![0, 0, 63, 0] : Fin 4 → ℕ) a ≤ winP b h t d w a ∧ winP b h t d w a - (![0, 0, 63, 0] : Fin 4 → ℕ) a < S8x4x64x128.size a then
    X (fun a => ⟨winP b h t d w a - (![0, 0, 63, 0] : Fin 4 → ℕ) a, (hin a).2⟩) else Ideal.ofBits .f32 0x00000000#32

theorem winG_at (n : Fin 64) : winG X b h t d (ix4 0 0 n 0) = if h' : 63 ≤ t.val + n.val ∧ t.val + n.val - 63 < 64 then X (ix4 b h ⟨t.val + n.val - 63, h'.2⟩ d) else 0 := by
  have e0 : winP b h t d (ix4 0 0 n 0) 0 = b.val := by show b.val * 1 + 0 = b.val; omega
  have e1 : winP b h t d (ix4 0 0 n 0) 1 = h.val := by show h.val * 1 + 0 = h.val; omega
  have e2 : winP b h t d (ix4 0 0 n 0) 2 = t.val + n.val := by show t.val * 1 + n.val = t.val + n.val; omega
  have e3 : winP b h t d (ix4 0 0 n 0) 3 = d.val := by show d.val * 1 + 0 = d.val; omega
  unfold winG
  by_cases h' : 63 ≤ t.val + n.val ∧ t.val + n.val - 63 < 64
  · have hin : ∀ a : Fin 4, (![0, 0, 63, 0] : Fin 4 → ℕ) a ≤ winP b h t d (ix4 0 0 n 0) a ∧ winP b h t d (ix4 0 0 n 0) a - (![0, 0, 63, 0] : Fin 4 → ℕ) a < S8x4x64x128.size a := by
      intro a
      match a with
      | 0 => rw [e0]; exact ⟨Nat.zero_le _, (by show b.val - 0 < 8; omega)⟩
      | 1 => rw [e1]; exact ⟨Nat.zero_le _, (by show h.val - 0 < 4; omega)⟩
      | 2 => rw [e2]; exact h'
      | 3 => rw [e3]; exact ⟨Nat.zero_le _, (by show d.val - 0 < 128; omega)⟩
    rw [dif_pos h', dif_pos hin]
    refine congrArg X (funext fun a => Fin.ext ?_)
    match a with
    | 0 => exact (congrArg (· - 0) e0)
    | 1 => exact (congrArg (· - 0) e1)
    | 2 => exact (congrArg (· - 63) e2)
    | 3 => exact (congrArg (· - 0) e3)
  · rw [dif_neg h', dif_neg fun hin => h' (by have h2 := hin 2; rw [e2] at h2; exact h2)]
    exact Ideal.ofBits_zero_f32

theorem window_at :
    Host.reduceWindowAdd (F := Ideal) (φ := .f32) ![1, 1, 64, 1] ![1, 1, 1, 1] ![0, 0, 63, 0] ![0, 0, 0, 0] X (broadcastInDim S_ ![] bcast_S_S_ (constant (F := Ideal) S_ .f32 0x00000000#32))
      reduceWindows_S8x4x64x128_S8x4x64x128_w1s1p0_0_w1s1p0_0_w64s1p63_0_w1s1p0_0 h_S_ (ix4 b h t d) = runSum (fun s => X (ix4 b h s d)) t := by
  refine Eq.trans ?_ ((fold_window (winG X b h t d) _ Ideal.ofBits_zero_f32).trans ((Finset.sum_congr rfl fun n _ => winG_at X b h t d n).trans (window_sum (fun s => X (ix4 b h s d)) t)))
  unfold Host.reduceWindowAdd
  simp only [FloatOps.hostReduceWindowAdd]
  unfold Ideal.hostReduceWindowAdd Host.reduceWindow
  dsimp only
  refine congrArg₂ (fun f v => List.foldl f v (List.finRange WS.numel)) (funext fun r => funext fun n => congrArg (r + ·) ?_) rfl
  unfold winG
  by_cases hin : ∀ a : Fin 4, (![0, 0, 63, 0] : Fin 4 → ℕ) a ≤ winP b h t d (WS.rowMajor.symm n) a ∧ winP b h t d (WS.rowMajor.symm n) a - (![0, 0, 63, 0] : Fin 4 → ℕ) a < S8x4x64x128.size a
  · rw [dif_pos hin]
    exact dif_pos hin
  · rw [dif_neg hin]
    exact dif_neg hin
end

end Cert.GlaV

end
-- ==== Proof.GlaRefStep.lean ====
module

public import proofs.«01_k».proof.Proof.GlaRefWin
public import Idealize.ShloMosaic.Lib.Tactic.CleanTypes
public import Idealize.ShloMosaic.Lib.DynamicIndex
public import Idealize.ShloMosaic.Lib.Pipeline.Value

@[expose] public section

set_option maxRecDepth 16384
set_option maxHeartbeats 1000000

noncomputable section

namespace Cert.GlaV
open Idealize.ShloMosaic Idealize.ShloMosaic.TcCoe Idealize.ShloMosaic.Tactic Idealize.SL.Sem
open Cert.GlaRefIdeal Cert.GlaRefIdeal.Gen Cert.GlaRefIdeal.Value Idealize.ShloMosaic.StableHlo
/-! ## One trip of the reference's scan -/

/-- The starts of a trip's slices. -/
def starts (C : IVec S_ 32) (k : Fin 5) : Int :=
  ((![C, constantI S_ 32 0#32, constantI S_ 32 0#32, constantI S_ 32 0#32, constantI S_ 32 0#32] : Fin 5 → IVec S_ 32) k (Shape.Idx.first h_S_)).toInt

theorem starts_eq (C : IVec S_ 32) (n : ℕ) (hn : n < 64) (hC : C = fun _ => BitVec.ofNat 32 n) (k : Fin 5) : starts C k = ((![n, 0, 0, 0, 0] : Fin 5 → ℕ) k : Int) := by
  subst hC
  match k with
  | 0 => exact toInt_ofNat_of_lt (by omega)
  | 1 => rfl
  | 2 => rfl
  | 3 => rfl
  | 4 => rfl

theorem slice_at (X : Vec Ideal S64x8x4x64x128 .f32) (C : IVec S_ 32) (n : Fin 64) (hC : C = fun _ => BitVec.ofNat 32 n.val) (b : Fin 8) (h : Fin 4) (t : Fin 64) (d : Fin 128) :
    shapeCast S8x4x64x128 (Host.dynamicSlice S1x8x4x64x128 X (starts C) sliceFits_S64x8x4x64x128_S1x8x4x64x128) shapeCasts_S1x8x4x64x128_S8x4x64x128 (ix4 b h t d) = X (ix5 n b h t d) := by
  have hoff : S64x8x4x64x128.Slices ![n.val, 0, 0, 0, 0] S1x8x4x64x128 := ⟨rfl, fun a => by
    match a with
    | 0 => show n.val + 1 ≤ 64; omega
    | 1 => exact le_refl _
    | 2 => exact le_refl _
    | 3 => exact le_refl _
    | 4 => exact le_refl _⟩
  rw [Host.dynamicSlice_eq_extractStridedSlice _ X (starts C) ![n.val, 0, 0, 0, 0] _ hoff (starts_eq C n.val n.isLt hC)]
  pointwise

theorem slicev_at (X : Vec Ideal S64x8x4x64x256 .f32) (C : IVec S_ 32) (n : Fin 64) (hC : C = fun _ => BitVec.ofNat 32 n.val) (b : Fin 8) (h : Fin 4) (t : Fin 64) (d : Fin 256) :
    shapeCast S8x4x64x256 (Host.dynamicSlice S1x8x4x64x256 X (starts C) sliceFits_S64x8x4x64x256_S1x8x4x64x256) shapeCasts_S1x8x4x64x256_S8x4x64x256 (ix4 b h t d) = X (ix5 n b h t d) := by
  have hoff : S64x8x4x64x256.Slices ![n.val, 0, 0, 0, 0] S1x8x4x64x256 := ⟨rfl, fun a => by
    match a with
    | 0 => show n.val + 1 ≤ 64; omega
    | 1 => exact le_refl _
    | 2 => exact le_refl _
    | 3 => exact le_refl _
    | 4 => exact le_refl _⟩
  rw [Host.dynamicSlice_eq_extractStridedSlice _ X (starts C) ![n.val, 0, 0, 0, 0] _ hoff (starts_eq C n.val n.isLt hC)]
  pointwise

theorem update_at (X : Vec Ideal S64x8x4x64x256 .f32) (U : Vec Ideal S8x4x64x256 .f32) (C : IVec S_ 32) (n : Fin 64) (hC : C = fun _ => BitVec.ofNat 32 n.val) (p : Fin 64) (b : Fin 8) (h : Fin 4) (t : Fin 64) (d : Fin 256) :
    Host.dynamicUpdateSlice X (broadcastInDim S1x8x4x64x256 ![1, 2, 3, 4] bcast_S8x4x64x256_S1x8x4x64x256_1_2_3_4 U) (starts C) updateFits_S64x8x4x64x256_S1x8x4x64x256 (ix5 p b h t d)
      = if p = n then U (ix4 b h t d) else X (ix5 p b h t d) := by
  have hoff : S64x8x4x64x256.Slices ![n.val, 0, 0, 0, 0] S1x8x4x64x256 := ⟨rfl, fun a => by
    match a with
    | 0 => show n.val + 1 ≤ 64; omega
    | 1 => exact le_refl _
    | 2 => exact le_refl _
    | 3 => exact le_refl _
    | 4 => exact le_refl _⟩
  rw [Host.dynamicUpdateSlice_eq_updateSlice X _ (starts C) _ ![n.val, 0, 0, 0, 0] (fun a => by
    rw [starts_eq C n.val n.isLt hC a]
    match a with
    | 0 => show (min (max ((n.val : ℕ) : Int) 0) ((64 - 1 : ℕ) : Int)).toNat = n.val; omega
    | 1 => rfl
    | 2 => rfl
    | 3 => rfl
    | 4 => rfl) hoff]
  pointwise
  by_cases hp : p = n
  · rw [if_pos hp]
    exact dif_pos (by rw [hp]; omega)
  · rw [if_neg hp]
    exact dif_neg (fun h' => hp (Fin.ext (by omega)))

/-- The state's update, over arrays. -/
theorem state_upd (k bc : Vec Ideal S8x4x64x128 .f32) (v : Vec Ideal S8x4x64x256 .f32) (S : Vec Ideal S8x4x128x256 .f32) (b : Fin 8) (h : Fin 4) (d : Fin 128) (e : Fin 256) :
    addf (F := Ideal) (φ := .f32) (mulf (F := Ideal) (φ := .f32) (broadcastInDim S8x4x128x256 ![0, 1, 2, 3] bcast_S8x4x128x1_S8x4x128x256_0_1_2_3 (broadcastInDim S8x4x128x1 ![0, 1, 2] bcast_S8x4x128_S8x4x128x1_0_1_2
        (Host.exp (F := Ideal) (φ := .f32) (shapeCast S8x4x128 (extractStridedSlice S8x4x1x128 ![0, 0, 63, 0] bc slices_S8x4x64x128_S8x4x1x128_0_0_63_0) shapeCasts_S8x4x1x128_S8x4x128)))) S)
      (Host.dotGeneral (φ₁ := .f32) (φ₂ := .f32) dot_S8x4x64x128_S8x4x64x256_S8x4x128x256_2_2_3_3_01_01 none
        (mulf k (Host.exp (subf (broadcastInDim S8x4x64x128 ![0, 1, 2, 3] bcast_S8x4x1x128_S8x4x64x128_0_1_2_3 (extractStridedSlice S8x4x1x128 ![0, 0, 63, 0] bc slices_S8x4x64x128_S8x4x1x128_0_0_63_0)) bc))) v)
      (ix4 b h d e)
      = chunkS (fun t d => k (ix4 b h t d)) (fun t e => v (ix4 b h t e)) (fun t d => bc (ix4 b h t d)) (fun d e => S (ix4 b h d e)) d e := by
  unfold chunkS
  pointwise

/-- The scores, over arrays. -/
theorem score_upd (q k bc : Vec Ideal S8x4x64x128 .f32) (M : IVec S64x64 1) (hM : ∀ t s : Fin 64, M (ix2 t s) = if s ≤ t then 1#1 else 0#1) (b : Fin 8) (h : Fin 4) (t s : Fin 64) :
    Host.reduceAdd (F := Ideal) (φ := .f32) (mulf (F := Ideal) (φ := .f32) (mulf (F := Ideal) (φ := .f32) (broadcastInDim S8x4x64x64x128 ![0, 1, 2, 3, 4] bcast_S8x4x64x1x128_S8x4x64x64x128_0_1_2_3_4 (broadcastInDim S8x4x64x1x128 ![0, 1, 2, 4] bcast_S8x4x64x128_S8x4x64x1x128_0_1_2_4 q))
        (broadcastInDim S8x4x64x64x128 ![0, 1, 2, 3, 4] bcast_S8x4x1x64x128_S8x4x64x64x128_0_1_2_3_4 (broadcastInDim S8x4x1x64x128 ![0, 1, 3, 4] bcast_S8x4x64x128_S8x4x1x64x128_0_1_3_4 k)))
        (Host.exp (select (broadcastInDim S8x4x64x64x128 ![2, 3, 4] bcast_S64x64x1_S8x4x64x64x128_2_3_4 (broadcastInDim S64x64x1 ![0, 1] bcast_S64x64_S64x64x1_0_1 M))
          (subf (F := Ideal) (φ := .f32) (broadcastInDim S8x4x64x64x128 ![0, 1, 2, 3, 4] bcast_S8x4x64x1x128_S8x4x64x64x128_0_1_2_3_4 (broadcastInDim S8x4x64x1x128 ![0, 1, 2, 4] bcast_S8x4x64x128_S8x4x64x1x128_0_1_2_4 bc))
            (broadcastInDim S8x4x64x64x128 ![0, 1, 2, 3, 4] bcast_S8x4x1x64x128_S8x4x64x64x128_0_1_2_3_4 (broadcastInDim S8x4x1x64x128 ![0, 1, 3, 4] bcast_S8x4x64x128_S8x4x1x64x128_0_1_3_4 bc)))
          (broadcastInDim S8x4x64x64x128 ![] bcast_S_S8x4x64x64x128 (id (constant (F := Ideal) S_ .f32 0xFF800000#32))))))
      (constant (F := Ideal) S_ .f32 0x00000000#32) reducesTo_S8x4x64x64x128_S8x4x64x64_d4 h_S_ (ix4 b h t s)
      = chunkA (fun t d => q (ix4 b h t d)) (fun t d => k (ix4 b h t d)) (fun t d => bc (ix4 b h t d)) t s := by
  unfold chunkA
  pointwise
  refine Finset.sum_congr rfl fun x _ => congrArg (fun z : EReal => q (ix4 b h t x) * k (ix4 b h s x) * Ideal.exp z) ?_
  rw [hM t s]
  by_cases hst : s ≤ t
  · rw [if_pos hst, if_pos hst]
    rfl
  · rw [if_neg hst, if_neg hst]
    exact neg_inf_eq

/-- The output, over arrays. -/
theorem out_upd (q k bc : Vec Ideal S8x4x64x128 .f32) (v : Vec Ideal S8x4x64x256 .f32) (S : Vec Ideal S8x4x128x256 .f32) (A : Vec Ideal S8x4x64x64 .f32)
    (hA : ∀ b h t s, A (ix4 b h t s) = chunkA (fun t d => q (ix4 b h t d)) (fun t d => k (ix4 b h t d)) (fun t d => bc (ix4 b h t d)) t s)
    (b : Fin 8) (h : Fin 4) (t : Fin 64) (e : Fin 256) :
    addf (F := Ideal) (φ := .f32) (Host.dotGeneral (φ₁ := .f32) (φ₂ := .f32) dot_S8x4x64x64_S8x4x64x256_S8x4x64x256_3_2_2_3_01_01 none A v)
      (Host.dotGeneral (φ₁ := .f32) (φ₂ := .f32) dot_S8x4x64x128_S8x4x128x256_S8x4x64x256_3_2_2_3_01_01 none (mulf q (Host.exp bc)) S) (ix4 b h t e)
      = chunkO (fun t d => q (ix4 b h t d)) (fun t d => k (ix4 b h t d)) (fun t e => v (ix4 b h t e)) (fun t d => bc (ix4 b h t d)) (fun d e => S (ix4 b h d e)) t e := by
  unfold chunkO
  simp only [← hA]
  pointwise

section
variable (V0 : Valuation τ sig (Elt Ideal)) (n : Fin 64) (Q K : Fin 8 → Fin 4 → Fin 64 → Fin 128 → EReal) (VV : Fin 8 → Fin 4 → Fin 64 → Fin 256 → EReal)
  (L : Fin 8 → Fin 4 → Fin 64 → Fin 128 → EReal)
  (hC : (V0 (Proc.devRef .tc main_v36_5) : IVec S_ 32) = fun _ => BitVec.ofNat 32 n.val)
  (hM : ∀ t s : Fin 64, (V0 (Proc.devRef .tc main_v36_4) : IVec S64x64 1) (ix2 t s) = if s ≤ t then 1#1 else 0#1)
  (hQ : ∀ b h t d, (V0 (Proc.devRef .tc main_v36_0) : Vec Ideal S64x8x4x64x128 .f32) (ix5 n b h t d) = Q b h t d)
  (hK : ∀ b h t d, (V0 (Proc.devRef .tc main_v36_1) : Vec Ideal S64x8x4x64x128 .f32) (ix5 n b h t d) = K b h t d)
  (hV : ∀ b h t e, (V0 (Proc.devRef .tc main_v36_2) : Vec Ideal S64x8x4x64x256 .f32) (ix5 n b h t e) = VV b h t e)
  (hL : ∀ b h t d, (V0 (Proc.devRef .tc main_v36_3) : Vec Ideal S64x8x4x64x128 .f32) (ix5 n b h t d) = L b h t d)
include hC

include hQ in
theorem q_at (b : Fin 8) (h : Fin 4) (t : Fin 64) (d : Fin 128) : (res_main_while0b_v61 V0 : Vec Ideal S8x4x64x128 .f32) (ix4 b h t d) = Q b h t d :=
  (slice_at (V0 (Proc.devRef .tc main_v36_0)) (V0 (Proc.devRef .tc main_v36_5)) n hC b h t d).trans (hQ b h t d)
include hK in
theorem k_at (b : Fin 8) (h : Fin 4) (t : Fin 64) (d : Fin 128) : (res_main_while0b_v62 V0 : Vec Ideal S8x4x64x128 .f32) (ix4 b h t d) = K b h t d :=
  (slice_at (V0 (Proc.devRef .tc main_v36_1)) (V0 (Proc.devRef .tc main_v36_5)) n hC b h t d).trans (hK b h t d)
include hV in
theorem v_at (b : Fin 8) (h : Fin 4) (t : Fin 64) (e : Fin 256) : (res_main_while0b_v63 V0 : Vec Ideal S8x4x64x256 .f32) (ix4 b h t e) = VV b h t e :=
  (slicev_at (V0 (Proc.devRef .tc main_v36_2)) (V0 (Proc.devRef .tc main_v36_5)) n hC b h t e).trans (hV b h t e)
include hL in
theorem b_at (b : Fin 8) (h : Fin 4) (t : Fin 64) (d : Fin 128) : (res_main_while0b_v65 V0 : Vec Ideal S8x4x64x128 .f32) (ix4 b h t d) = runSum (fun s => L b h s d) t :=
  (window_at _ b h t d).trans (congrArg (runSum · t) (funext fun s => (slice_at (V0 (Proc.devRef .tc main_v36_3)) (V0 (Proc.devRef .tc main_v36_5)) n hC b h s d).trans (hL b h s d)))

include hK hV hL in
/-- The state after a trip. -/
theorem state_at (b : Fin 8) (h : Fin 4) (d : Fin 128) (e : Fin 256) :
    (step_main_v36_6 V0 : Vec Ideal S8x4x128x256 .f32) (ix4 b h d e)
      = chunkS (K b h) (VV b h) (fun t d => runSum (fun s => L b h s d) t) (fun d e => (V0 (Proc.devRef .tc main_v36_6) : Vec Ideal S8x4x128x256 .f32) (ix4 b h d e)) d e := by
  refine (state_upd (res_main_while0b_v62 V0) (res_main_while0b_v65 V0) (res_main_while0b_v63 V0) (V0 (Proc.devRef .tc main_v36_6)) b h d e).trans ?_
  simp only [k_at V0 n K hC hK, v_at V0 n VV hC hV, b_at V0 n L hC hL]

include hM hQ hK hV hL in
/-- The outputs after a trip. -/
theorem output_at (p : Fin 64) (b : Fin 8) (h : Fin 4) (t : Fin 64) (e : Fin 256) :
    (step_main_v36_7 V0 : Vec Ideal S64x8x4x64x256 .f32) (ix5 p b h t e)
      = if p = n then chunkO (Q b h) (K b h) (VV b h) (fun t d => runSum (fun s => L b h s d) t) (fun d e => (V0 (Proc.devRef .tc main_v36_6) : Vec Ideal S8x4x128x256 .f32) (ix4 b h d e)) t e
        else (V0 (Proc.devRef .tc main_v36_7) : Vec Ideal S64x8x4x64x256 .f32) (ix5 p b h t e) := by
  refine (update_at (V0 (Proc.devRef .tc main_v36_7)) _ (V0 (Proc.devRef .tc main_v36_5)) n hC p b h t e).trans ?_
  refine congrArg (fun z => if p = n then z else _) ?_
  refine (out_upd (res_main_while0b_v61 V0) (res_main_while0b_v62 V0) (res_main_while0b_v65 V0) (res_main_while0b_v63 V0) (V0 (Proc.devRef .tc main_v36_6)) _
    (score_upd (res_main_while0b_v61 V0) (res_main_while0b_v62 V0) (res_main_while0b_v65 V0) (V0 (Proc.devRef .tc main_v36_4)) hM) b h t e).trans ?_
  simp only [q_at V0 n Q hC hQ, k_at V0 n K hC hK, v_at V0 n VV hC hV, b_at V0 n L hC hL]
end

end Cert.GlaV

end
-- ==== Proof.GlaRefEntry.lean ====
module

public import proofs.«01_k».proof.Proof.GlaRefLay
public import Idealize.ShloMosaic.Lib.Tactic.CleanTypes

@[expose] public section

set_option maxRecDepth 16384
set_option maxHeartbeats 1000000

noncomputable section

namespace Cert.GlaV
open Idealize.ShloMosaic Idealize.ShloMosaic.TcCoe Idealize.ShloMosaic.Tactic Idealize.SL.Sem
open Cert.GlaRefIdeal Cert.GlaRefIdeal.Gen Cert.GlaRefIdeal.Value Idealize.ShloMosaic.StableHlo
/-! ## What the reference's scan starts from -/

section
variable (m : (ℓ : Loc nD τ sig) → Buf (Elt Ideal) ℓ) (c : Dev nD)

/-- The projections. -/
def rPM (r : Fin 32768) (j : Fin 6144) : EReal := (m ((c : Thread nD τ).loc main_arg0) : Vec Ideal S32768x6144 .bf16) (ix2 r j)
/-- The gate inputs. -/
def rGT (r : Fin 32768) (j : Fin 128) : EReal := (m ((c : Thread nD τ).loc main_arg1) : Vec Ideal S32768x128 .f32) (ix2 r j)
/-- The gate projection. -/
def rWG (i : Fin 16) (j : Fin 512) : EReal := (m ((c : Thread nD τ).loc main_arg2) : Vec Ideal S16x512 .f32) (ix2 i j)
/-- The gate bias. -/
def rBG (j : Fin 512) : EReal := (m ((c : Thread nD τ).loc main_arg3) : Vec Ideal S512 .f32) (ix1 j)
/-- The head norm's weights. -/
def rHN (j : Fin 1024) : EReal := (m ((c : Thread nD τ).loc main_arg4) : Vec Ideal S1024 .f32) (ix1 j)

theorem entry_k (n : Fin 64) (b : Fin 8) (h : Fin 4) (t : Fin 64) (d : Fin 128) :
    (entryContents preI m c (Proc.devRef .tc main_v36_1) : Vec Ideal S64x8x4x64x128 .f32) (ix5 n b h t d) = sK (rPM m c) b n h t d := by
  simp only [entryContents, afterL_cons, afterL_nil]
  after_reads_simp
  exact (lay_in _ n b h t d).trans (cols_k _ n t b _)

theorem entry_v (n : Fin 64) (b : Fin 8) (h : Fin 4) (t : Fin 64) (d : Fin 256) :
    (entryContents preI m c (Proc.devRef .tc main_v36_2) : Vec Ideal S64x8x4x64x256 .f32) (ix5 n b h t d) = sV (rPM m c) b n h t d := by
  simp only [entryContents, afterL_cons, afterL_nil]
  after_reads_simp
  exact (lay_inv _ n b h t d).trans (cols_v _ n t b _)

theorem scaled (X : Vec Ideal S8x4096x512 .f32) (b : Fin 8) (r : Fin 4096) (h : Fin 4) (d : Fin 128) :
    mulf (shapeCast S8x4096x4x128 X shapeCasts_S8x4096x512_S8x4096x4x128) (broadcastInDim S8x4096x4x128 ![] bcast_S_S8x4096x4x128 (constant (F := Ideal) S_ .f32 0x3DB504F3#32)) (ix4 b r h d)
      = X (ix3 b r (col4 h d)) * Ideal.ofBits .f32 0x3DB504F3#32 := by
  pointwise
  refine congrArg (X · * _) (congrArg (ix3 b r) (Fin.ext ?_))
  show h.val * 128 + d.val = 128 * h.val + d.val
  omega

theorem entry_q (n : Fin 64) (b : Fin 8) (h : Fin 4) (t : Fin 64) (d : Fin 128) :
    (entryContents preI m c (Proc.devRef .tc main_v36_0) : Vec Ideal S64x8x4x64x128 .f32) (ix5 n b h t d) = sQ (rPM m c) b n h t d := by
  simp only [entryContents, afterL_cons, afterL_nil]
  after_reads_simp
  exact (lay_in4 _ n b h t d).trans ((scaled _ b _ h d).trans (congrArg (· * _) (cols_q _ n t b _)))

theorem entry_s (b : Fin 8) (h : Fin 4) (d : Fin 128) (e : Fin 256) :
    (entryContents preI m c (Proc.devRef .tc main_v36_6) : Vec Ideal S8x4x128x256 .f32) (ix4 b h d e) = (0 : EReal) := by
  simp only [entryContents, afterL_cons, afterL_nil]
  after_reads_simp
  exact Ideal.ofBits_zero_f32

theorem mask_at (t s : Fin 64) :
    select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 1#1)) (broadcastInDim S64x64 ![] bcast_S_S64x64 (constantI S_ 1 0#1)) (ix2 t s)
      = if s ≤ t then 1#1 else 0#1 := by
  revert t s
  pointwise
  decide

theorem entry_m (t s : Fin 64) :
    (entryContents (F := Ideal) preI m c (Proc.devRef .tc main_v36_4) : IVec S64x64 1) (ix2 t s) = if s ≤ t then 1#1 else 0#1 := by
  simp only [entryContents, afterL_cons, afterL_nil]
  after_reads_simp
  exact mask_at t s

/-- The reference's log gates from their arguments. -/
theorem gates_at (X : Vec Ideal S8x4096x512 .f32) (b : Fin 8) (r : Fin 4096) (j : Fin 512) :
    Host.divf (Host.negf (select (cmpf .une (subf (Host.negf X) (broadcastInDim S8x4096x512 ![] bcast_S_S8x4096x512 (constant (F := Ideal) S_ .f32 0x00000000#32)))
        (subf (Host.negf X) (broadcastInDim S8x4096x512 ![] bcast_S_S8x4096x512 (constant (F := Ideal) S_ .f32 0x00000000#32))))
      (addf (Host.negf X) (broadcastInDim S8x4096x512 ![] bcast_S_S8x4096x512 (constant (F := Ideal) S_ .f32 0x00000000#32)))
      (addf (maximumf (Host.negf X) (broadcastInDim S8x4096x512 ![] bcast_S_S8x4096x512 (constant (F := Ideal) S_ .f32 0x00000000#32)))
        (Host.log1p (Host.exp (Host.negf (Host.absf (subf (Host.negf X) (broadcastInDim S8x4096x512 ![] bcast_S_S8x4096x512 (constant (F := Ideal) S_ .f32 0x00000000#32))))))))))
      (broadcastInDim S8x4096x512 ![] bcast_S_S8x4096x512 (constant (F := Ideal) S_ .f32 0x41800000#32)) (ix3 b r j)
      = rate (X (ix3 b r j)) := by
  unfold rate
  rw [log_sigmoid_eq]
  pointwise
  rw [if_neg (not_not.2 rfl)]
  rfl

/-- The low-rank gate projection. -/
theorem lowrank_at (G : Vec Ideal S32768x128 .f32) (W : Vec Ideal S16x512 .f32) (B : Vec Ideal S512 .f32) (b : Fin 8) (n t : Fin 64) (j : Fin 512) :
    addf (F := Ideal) (φ := .f32) (Host.dotGeneral (φ₁ := .f32) (φ₂ := .f32) dot_S8x4096x16_S16x512_S8x4096x512_2_0_01_1_n_n none
      (extractStridedSlice S8x4096x16 ![0, 0, 16] (shapeCast S8x4096x128 G shapeCasts_S32768x128_S8x4096x128) slices_S8x4096x128_S8x4096x16_0_0_16) W)
      (broadcastInDim S8x4096x512 ![0, 1, 2] bcast_S1x1x512_S8x4096x512_0_1_2 (broadcastInDim S1x1x512 ![2] bcast_S512_S1x1x512_2 B)) (ix3 b (seqRow n t) j)
      = (∑ i : Fin 16, G (ix2 (rowOf b n t) ⟨16 + i.val, by omega⟩) * W (ix2 i j)) + B (ix1 j) := by
  pointwise
  refine congrArg (· + _) (Finset.sum_congr rfl fun i _ => congrArg (G · * _) (congrArg (ix2 · _) (Fin.ext ?_)))
  rw [rowOf_val b.isLt n.isLt]
  show b.val * 4096 + (64 * n.val + t.val) = _
  omega

theorem entry_l (n : Fin 64) (b : Fin 8) (h : Fin 4) (t : Fin 64) (d : Fin 128) :
    (entryContents preI m c (Proc.devRef .tc main_v36_3) : Vec Ideal S64x8x4x64x128 .f32) (ix5 n b h t d) = sLa (rGT m c) (rWG m c) (rBG m c) (rowOf b n t) (col4 h d) := by
  simp only [entryContents, afterL_cons, afterL_nil]
  after_reads_simp
  simp -implicitDefEqProofs only [TRef.toBuf, TRef.ofBuf, cast_cast, cast_eq]
  exact (lay_in _ n b h t d).trans ((gates_at _ b _ _).trans (congrArg rate (lowrank_at _ _ _ b n t _)))
end

end Cert.GlaV

end
-- ==== Proof.GlaRefFold.lean ====
module

public import proofs.«01_k».proof.Proof.GlaRefStep
public import proofs.«01_k».proof.Proof.GlaRefEntry

@[expose] public section

set_option maxRecDepth 16384
set_option maxHeartbeats 1000000

noncomputable section

namespace Cert.GlaV
open Idealize.ShloMosaic Idealize.ShloMosaic.TcCoe Idealize.ShloMosaic.Tactic Idealize.SL.Sem
open Cert.GlaRefIdeal Cert.GlaRefIdeal.Gen Cert.GlaRefIdeal.Value Idealize.ShloMosaic.StableHlo
/-! ## The reference's result -/

section
variable (m : (ℓ : Loc nD τ sig) → Buf (Elt Ideal) ℓ) (c : Dev nD)

/-- The buffers before trip `k`. -/
abbrev atTrip' (k : ℕ) : Valuation τ sig (Elt Ideal) := STEP^[k] (entryContents preI m c)

theorem trip_0 (k : ℕ) : atTrip' m c k (Proc.devRef .tc main_v36_0) = entryContents preI m c (Proc.devRef .tc main_v36_0) := by
  induction k with
  | zero => rfl
  | succ k ih => exact (congrFun (Function.iterate_succ_apply' STEP k _) _).trans ((STEP_main_v36_0 _).trans ih)
theorem trip_1 (k : ℕ) : atTrip' m c k (Proc.devRef .tc main_v36_1) = entryContents preI m c (Proc.devRef .tc main_v36_1) := by
  induction k with
  | zero => rfl
  | succ k ih => exact (congrFun (Function.iterate_succ_apply' STEP k _) _).trans ((STEP_main_v36_1 _).trans ih)
theorem trip_2 (k : ℕ) : atTrip' m c k (Proc.devRef .tc main_v36_2) = entryContents preI m c (Proc.devRef .tc main_v36_2) := by
  induction k with
  | zero => rfl
  | succ k ih => exact (congrFun (Function.iterate_succ_apply' STEP k _) _).trans ((STEP_main_v36_2 _).trans ih)
theorem trip_3 (k : ℕ) : atTrip' m c k (Proc.devRef .tc main_v36_3) = entryContents preI m c (Proc.devRef .tc main_v36_3) := by
  induction k with
  | zero => rfl
  | succ k ih => exact (congrFun (Function.iterate_succ_apply' STEP k _) _).trans ((STEP_main_v36_3 _).trans ih)
theorem trip_4 (k : ℕ) : atTrip' m c k (Proc.devRef .tc main_v36_4) = entryContents preI m c (Proc.devRef .tc main_v36_4) := by
  induction k with
  | zero => rfl
  | succ k ih => exact (congrFun (Function.iterate_succ_apply' STEP k _) _).trans ((STEP_main_v36_4 _).trans ih)

/-- The trip counter. -/
theorem trip_5 (k : ℕ) : (atTrip' m c k (Proc.devRef .tc main_v36_5) : IVec S_ 32) = fun _ => BitVec.ofNat 32 k := by
  induction k with
  | zero => exact ctr_entry m c
  | succ k ih =>
    refine (congrFun (Function.iterate_succ_apply' STEP k _) _).trans ((STEP_main_v36_5 _).trans ?_)
    refine (congrArg (fun x : IVec S_ 32 => (id (addi x (constantI S_ 32 1#32)) : IVec S_ 32)) ih).trans (funext fun _ => ?_)
    exact BitVec.ofNat_add_ofNat k 1

/-- The state before trip `k`, and the outputs of the trips done. -/
theorem trip_67 (k : ℕ) (hk : k ≤ 64) :
    (∀ (b : Fin 8) h d e, (atTrip' m c k (Proc.devRef .tc main_v36_6) : Vec Ideal S8x4x128x256 .f32) (ix4 b h d e) = sS (rPM m c) (rGT m c) (rWG m c) (rBG m c) b k h d e) ∧
      ∀ (p : Fin 64) (b : Fin 8) h t e, p.val < k → (atTrip' m c k (Proc.devRef .tc main_v36_7) : Vec Ideal S64x8x4x64x256 .f32) (ix5 p b h t e) = sO (rPM m c) (rGT m c) (rWG m c) (rBG m c) b p h t e := by
  induction k with
  | zero => exact ⟨fun b h d e => entry_s m c b h d e, fun p b h t e hp => absurd hp (Nat.not_lt_zero _)⟩
  | succ k ih =>
    obtain ⟨ih6, ih7⟩ := ih (by omega)
    have hC := trip_5 m c k
    have hM : ∀ t s : Fin 64, (atTrip' m c k (Proc.devRef .tc main_v36_4) : IVec S64x64 1) (ix2 t s) = if s ≤ t then 1#1 else 0#1 := fun t s => by
      rw [trip_4]; exact entry_m m c t s
    have hQ : ∀ (b : Fin 8) h t d, (atTrip' m c k (Proc.devRef .tc main_v36_0) : Vec Ideal S64x8x4x64x128 .f32) (ix5 ⟨k, hk⟩ b h t d) = sQ (rPM m c) b k h t d := fun b h t d => by
      rw [trip_0]; exact entry_q m c ⟨k, hk⟩ b h t d
    have hK : ∀ (b : Fin 8) h t d, (atTrip' m c k (Proc.devRef .tc main_v36_1) : Vec Ideal S64x8x4x64x128 .f32) (ix5 ⟨k, hk⟩ b h t d) = sK (rPM m c) b k h t d := fun b h t d => by
      rw [trip_1]; exact entry_k m c ⟨k, hk⟩ b h t d
    have hV : ∀ (b : Fin 8) h t e, (atTrip' m c k (Proc.devRef .tc main_v36_2) : Vec Ideal S64x8x4x64x256 .f32) (ix5 ⟨k, hk⟩ b h t e) = sV (rPM m c) b k h t e := fun b h t e => by
      rw [trip_2]; exact entry_v m c ⟨k, hk⟩ b h t e
    have hL : ∀ (b : Fin 8) h t d, (atTrip' m c k (Proc.devRef .tc main_v36_3) : Vec Ideal S64x8x4x64x128 .f32) (ix5 ⟨k, hk⟩ b h t d) = sLa (rGT m c) (rWG m c) (rBG m c) (rowOf b k t) (col4 h d) := fun b h t d => by
      rw [trip_3]; exact entry_l m c ⟨k, hk⟩ b h t d
    refine ⟨fun b h d e => ?_, fun p b h t e hp => ?_⟩
    · refine (congrFun ((congrFun (Function.iterate_succ_apply' STEP k _) _).trans (STEP_main_v36_6 _)) _).trans ?_
      refine (state_at (atTrip' m c k) ⟨k, hk⟩ (fun b => sK (rPM m c) b k) (fun b => sV (rPM m c) b k) (fun b h t d => sLa (rGT m c) (rWG m c) (rBG m c) (rowOf b k t) (col4 h d)) hC hK hV hL b h d e).trans ?_
      simp only [ih6]
      rfl
    · refine (congrFun ((congrFun (Function.iterate_succ_apply' STEP k _) _).trans (STEP_main_v36_7 _)) _).trans ?_
      refine (output_at (atTrip' m c k) ⟨k, hk⟩ (fun b => sQ (rPM m c) b k) (fun b => sK (rPM m c) b k) (fun b => sV (rPM m c) b k) (fun b h t d => sLa (rGT m c) (rWG m c) (rBG m c) (rowOf b k t) (col4 h d))
        hC hM hQ hK hV hL p b h t e).trans ?_
      by_cases hpk : p = ⟨k, hk⟩
      · rw [if_pos hpk, hpk]
        simp only [ih6]
        rfl
      · rw [if_neg hpk]
        exact ih7 p b h t e (by have : p.val ≠ k := fun h' => hpk (Fin.ext h'); omega)
end

end Cert.GlaV

end
-- ==== Proof.GlaRefOut.lean ====
module

public import proofs.«01_k».proof.Proof.GlaRefLay

@[expose] public section

set_option maxRecDepth 16384
set_option maxHeartbeats 1000000

noncomputable section

namespace Cert.GlaV
open Idealize.ShloMosaic Idealize.ShloMosaic.TcCoe Idealize.ShloMosaic.Tactic Idealize.SL.Sem
open Cert.GlaRefIdeal Cert.GlaRefIdeal.Gen Cert.GlaRefIdeal.Value Idealize.ShloMosaic.StableHlo
/-! ## The reference's result, from its scan's outputs -/

/-- The scan's outputs, back in the sequences' order. -/
theorem order_at (O : Vec Ideal S64x8x4x64x256 .f32) (b : Fin 8) (s : Fin 4096) (h : Fin 4) (e : Fin 256) :
    shapeCast S8x4096x4x256 (transpose S8x64x64x4x256 [0, 1, 3, 2, 4] (transpose S8x64x4x64x256 [1, 0, 2, 3, 4] O transposes_S64x8x4x64x256_S8x64x4x64x256_1_0_2_3_4)
      transposes_S8x64x4x64x256_S8x64x64x4x256_0_1_3_2_4) shapeCasts_S8x64x64x4x256_S8x4096x4x256 (ix4 b s h e)
      = O (ix5 ⟨s.val / 64, by omega⟩ b h ⟨s.val % 64, Nat.mod_lt _ (by decide)⟩ e) := by
  pointwise

/-- The norm and the gate, over arrays. -/
theorem gate_at (g : Vec Ideal S8x4096x1024 .f32) (Y : Vec Ideal S8x4096x4x256 .f32) (hn : Vec Ideal S1024 .f32) (b : Fin 8) (s : Fin 4096) (j : Fin 1024) :
    mulf (F := Ideal) (φ := .f32) (mulf (F := Ideal) (φ := .f32) g (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf g)))))
      (mulf (shapeCast S8x4096x1024 (mulf (F := Ideal) (φ := .f32) Y (broadcastInDim S8x4096x4x256 ![0, 1, 2, 3] bcast_S8x4096x4x1_S8x4096x4x256_0_1_2_3 (Host.rsqrt (addf (Host.divf (broadcastInDim S8x4096x4x1 ![0, 1, 2] bcast_S8x4096x4_S8x4096x4x1_0_1_2
        (Host.reduceAdd (F := Ideal) (φ := .f32) (mulf Y Y) (constant S_ .f32 0x00000000#32) reducesTo_S8x4096x4x256_S8x4096x4_d3 h_S_))
        (broadcastInDim S8x4096x4x1 ![] bcast_S_S8x4096x4x1 (constant S_ .f32 0x43800000#32))) (broadcastInDim S8x4096x4x1 ![] bcast_S_S8x4096x4x1 (constant S_ .f32 0x358637BD#32)))))) shapeCasts_S8x4096x4x256_S8x4096x1024)
        (broadcastInDim S8x4096x1024 ![0, 1, 2] bcast_S1x1x1024_S8x4096x1024_0_1_2 (broadcastInDim S1x1x1024 ![2] bcast_S1024_S1x1x1024_2 hn))) (ix3 b s j)
      = gated (fun e => Y (ix4 b s ⟨j.val / 256, by omega⟩ e)) (fun e => g (ix3 b s (vcol4 ⟨j.val / 256, by omega⟩ e))) (fun e => hn (ix1 (vcol4 ⟨j.val / 256, by omega⟩ e))) ⟨j.val % 256, Nat.mod_lt _ (by decide)⟩ := by
  have hj : vcol4 ⟨j.val / 256, by omega⟩ ⟨j.val % 256, Nat.mod_lt _ (by decide)⟩ = j := Fin.ext (by show 256 * (j.val / 256) + j.val % 256 = j.val; omega)
  unfold gated
  dsimp only
  rw [hj]
  pointwise

end Cert.GlaV

end
-- ==== Proof.GlaRef.lean ====
module

public import proofs.«01_k».proof.Proof.GlaRefFold
public import proofs.«01_k».proof.Proof.GlaRefOut

@[expose] public section

set_option maxRecDepth 16384
set_option maxHeartbeats 1000000

noncomputable section

namespace Cert.GlaV
open Idealize.ShloMosaic Idealize.ShloMosaic.TcCoe Idealize.ShloMosaic.Tactic Idealize.SL.Sem
open Cert.GlaRefIdeal Cert.GlaRefIdeal.Gen Cert.GlaRefIdeal.Value Idealize.ShloMosaic.StableHlo
/-! ## The reference computes the mixer -/

theorem last_at (X : Vec Ideal S8x4096x1024 .f32) (r : Fin 32768) (j : Fin 1024) :
    shapeCast S32768x1024 (truncf (F := Ideal) .bf16 X bitsLt_bf16_f32) shapeCasts_S8x4096x1024_S32768x1024 (ix2 r j) = X (ix3 ⟨r.val / 4096, by omega⟩ ⟨r.val % 4096, Nat.mod_lt _ (by decide)⟩ j) := by
  pointwise

section
variable (m : (ℓ : Loc nD τ sig) → Buf (Elt Ideal) ℓ) (c : Dev nD)

/-- The reference's result array. -/
theorem refResult (r : Fin 32768) (j : Fin 1024) :
    (out_main_v60 (STEP^[64] (entryContents preI m c)) : Vec Ideal S32768x1024 .bf16) (ix2 r j) = sOut (rPM m c) (rGT m c) (rWG m c) (rBG m c) (rHN m c) r j := by
  refine (last_at _ r j).trans ((gate_at _ _ _ _ _ _).trans ?_)
  have hs : (⟨r.val % 4096, Nat.mod_lt _ (by decide)⟩ : Fin 4096) = seqRow ⟨r.val % 4096 / 64, by omega⟩ ⟨r.val % 64, Nat.mod_lt _ (by decide)⟩ := Fin.ext (by
    show r.val % 4096 = 64 * (r.val % 4096 / 64) + r.val % 64
    omega)
  have hr : rowOf (r.val / 4096) (r.val % 4096 / 64) ⟨r.val % 64, Nat.mod_lt _ (by decide)⟩ = r := Fin.ext (by
    rw [rowOf_val (by omega) (by omega)]
    show 4096 * (r.val / 4096) + 64 * (r.val % 4096 / 64) + r.val % 64 = r.val
    omega)
  unfold sOut
  dsimp only
  refine congrFun (congr (congr (congrArg gated (funext fun e => ?_)) (funext fun e => ?_)) (funext fun e => ?_)) _
  · refine (order_at _ _ _ _ _).trans ?_
    refine ((trip_67 m c 64 (le_refl _)).2 _ _ _ _ _ (by show r.val % 4096 / 64 < 64; omega)).trans ?_
    have ht : (⟨r.val % 4096 % 64, Nat.mod_lt _ (by decide)⟩ : Fin 64) = ⟨r.val % 64, Nat.mod_lt _ (by decide)⟩ := Fin.ext (by show r.val % 4096 % 64 = r.val % 64; omega)
    exact congrArg (fun t => sO (rPM m c) (rGT m c) (rWG m c) (rBG m c) (r.val / 4096) (r.val % 4096 / 64) _ t e) ht
  · rw [hs]
    refine (cols_g _ _ _ _ _).trans ?_
    refine (congrArg (fun X : Vec Ideal S32768x6144 .bf16 => X (ix2 (rowOf (r.val / 4096) (r.val % 4096 / 64) ⟨r.val % 64, Nat.mod_lt _ (by decide)⟩) _)) (iter_main_arg0 m c 64)).trans ?_
    exact congrArg (fun r => rPM m c r _) hr
  · exact congrArg (fun X : Vec Ideal S1024 .f32 => X (ix1 _)) (iter_main_arg4 m c 64)
end

end Cert.GlaV

end
-- ==== Proof.GlaClaim.lean ====
/- The claims about the GLA mixer: the frames of its kernel and of its reference, and that the two compute the same array. -/
module

public import proofs.«01_k».proof.Defs
public import proofs.«01_k».proof.Proof.Gen.Gla.Frame
public import proofs.«01_k».proof.Proof.Gen.GlaIdeal.Frame
public import proofs.«01_k».proof.Proof.Gen.GlaIdeal.Value
public import proofs.«01_k».proof.Proof.Gen.GlaRefIdeal.Run
public import proofs.«01_k».proof.Proof.GlaGrid
public import proofs.«01_k».proof.Proof.GlaRef

@[expose] public section

set_option maxHeartbeats 1000000

noncomputable section

namespace Cert.GlaV
open Idealize.ShloMosaic Idealize.ShloMosaic.TcCoe Idealize.SL.Sem

/-- The kernel runs and leaves its arguments as they were. -/
theorem frame_kernel : Cert.quiescent_Gla (hGla := Cert.Gla.Gen.facts) := fun m ρ _ => Cert.Gla.Gen.frame m ρ

/-- The same over the extended reals. -/
theorem frame_ideal : Cert.quiescent_GlaIdeal (hGlaIdeal := Cert.GlaIdeal.Gen.facts) := fun m ρ _ => Cert.GlaIdeal.Gen.frame m ρ

/-- The reference runs and leaves its arguments as they were. -/
theorem frame_ref : Cert.quiescent_GlaRefIdeal (hGlaRefIdeal := Cert.GlaRefIdeal.Gen.facts) := fun m ρ _ =>
  (θ_run Cert.GlaRefIdeal.defs _ _).mono (fun r h => ⟨fun c => (h c).2, Idealize.ShloMosaic.sem_eq_zero_of_no_sems (by decide) r.2⟩)
    (Cert.GlaRefIdeal.Value.run (F := Ideal) m ρ)

/-- The kernel and the reference compute the same array. -/
theorem same_result : Cert.algebraic_GlaIdeal_GlaRefIdeal (hGlaIdeal := Cert.GlaIdeal.Gen.facts) (hGlaRefIdeal := Cert.GlaRefIdeal.Gen.facts) := by
  intro m ρ m' ρ' _ hagree
  refine ⟨fun c => Cert.GlaIdeal.Value.G8 m c, Cert.GlaIdeal.Value.run m ρ, (θ_run _ _ _).mono (fun _ h c => ⟨(h c).1.trans ?_, (h c).2⟩) (Cert.GlaRefIdeal.Value.run m' ρ')⟩
  obtain ⟨h0, h1, h2, h3, h4⟩ := hagree c
  have e0 : rPM m' c = aPM m c := funext fun r => funext fun j => congrArg (fun X : Vec Ideal Cert.GlaIdeal.S32768x6144 .bf16 => X (ix2 r j)) h0
  have e1 : rGT m' c = aGT m c := funext fun r => funext fun j => congrArg (fun X : Vec Ideal Cert.GlaIdeal.S32768x128 .f32 => X (ix2 r j)) h1
  have e2 : rWG m' c = aWG m c := funext fun r => funext fun j => congrArg (fun X : Vec Ideal Cert.GlaIdeal.S16x512 .f32 => X (ix2 r j)) h2
  have e3 : rBG m' c = aBG m c := funext fun j => congrArg (fun X : Vec Ideal Cert.GlaIdeal.S512 .f32 => X (ix1 j)) h3
  have e4 : rHN m' c = aHN m c := funext fun j => congrArg (fun X : Vec Ideal Cert.GlaIdeal.S1024 .f32 => X (ix1 j)) h4
  refine funext fun (j : Cert.GlaIdeal.S32768x1024.Idx) => ?_
  rw [two_axes (m := 32768) (n := 1024) j]
  refine (refResult m' c _ _).trans ?_
  rw [e0, e1, e2, e3, e4]
  exact (result m c _ _).symm

end Cert.GlaV

end
-- ==== Proof.FfnElem.lean ====
module

public import proofs.«01_k».proof.Proof.Gen.FfnIdeal.Value
public import Idealize.ShloMosaic.Lib.Pipeline.ValueKit
public import Idealize.ShloMosaic.Lib.Pointwise

@[expose] public section

set_option maxRecDepth 16384
set_option maxHeartbeats 1000000

noncomputable section

namespace Cert.FfnV
open Idealize.ShloMosaic Idealize.ShloMosaic.TcCoe Idealize.ShloMosaic.Tactic Idealize.SL.Sem
open Cert.FfnIdeal Cert.FfnIdeal.Gen

/-! One point's arithmetic, entry by entry. -/

/-- A row divided by the root of its mean square, times a gain. -/
def nrm (row g : Fin 2048 → EReal) (d : Fin 2048) : EReal :=
  row d * Ideal.rsqrt (Ideal.div (∑ e : Fin 2048, row e * row e) (Ideal.ofBits .f32 0x45000000#32) + Ideal.ofBits .f32 0x358637BD#32) * g d

/-- The gate's half, with the hyperbolic tangent. -/
def act (cg cv : EReal) : EReal :=
  (Ideal.ofBits .f32 0x3F000000#32 * cg + Ideal.ofBits .f32 0x3F000000#32 * cg * Ideal.tanh (Ideal.ofBits .f32 0x3F000000#32 * cg)) * cv

theorem pay4_apply (g : Vec Ideal S1x2048 .f32) (x : Vec Ideal S16x2048 .f32) (r : Fin 16) (d : Fin 2048) :
    k0_pay4 g x (ix2 r d) = nrm (fun e => x (ix2 r e)) (fun e => g (ix2 0 e)) d := by
  pointwise [k0_pay4, nrm]

theorem pay6_apply (g : Vec Ideal S1x2048 .f32) (x : Vec Ideal S128x2048 .f32) (r : Fin 128) (d : Fin 2048) :
    k0_pay6 g x (ix2 r d) = nrm (fun e => x (ix2 r e)) (fun e => g (ix2 0 e)) d := by
  pointwise [k0_pay6, k0_pay5, nrm]

theorem pay7_apply (g : Vec Ideal S1x2048 .f32) (x : Vec Ideal S128x2048 .f32) (r : Fin 128) (d : Fin 2048) :
    k0_pay7 (k0_pay5 g) x (ix2 r d) = nrm (fun e => x (ix2 r e)) (fun e => g (ix2 0 e)) d := by
  pointwise [k0_pay7, k0_pay5, nrm]

theorem pay8_apply (g : Vec Ideal S1x2048 .f32) (x : Vec Ideal S128x2048 .f32) (r : Fin 128) (d : Fin 2048) :
    k0_pay8 (k0_pay5 g) x (ix2 r d) = nrm (fun e => x (ix2 r e)) (fun e => g (ix2 0 e)) d := by
  pointwise [k0_pay8, k0_pay5, nrm]

theorem pay16_apply (g : Vec Ideal S1x2048 .f32) (x : Vec Ideal S128x2048 .f32) (r : Fin 128) (d : Fin 2048) :
    k0_pay16 (k0_pay5 g) x (k0_pay9 x) (k0_pay10 (F := Ideal)) (ix2 r d) = nrm (fun e => x (ix2 r e)) (fun e => g (ix2 0 e)) d := by
  pointwise [k0_pay16, k0_pay5, k0_pay9, k0_pay10, nrm]

theorem pay12_apply (g : Vec Ideal S1x2048 .f32) (x : Vec Ideal S128x2048 .f32) (r : Fin 128) (d : Fin 2048) :
    k0_pay12 g x (ix2 r d) = nrm (fun e => x (ix2 r e)) (fun e => g (ix2 0 e)) d := by
  pointwise [k0_pay12, k0_pay11, nrm]

theorem pay13_apply (g : Vec Ideal S1x2048 .f32) (x : Vec Ideal S128x2048 .f32) (r : Fin 128) (d : Fin 2048) :
    k0_pay13 g x (ix2 r d) = nrm (fun e => x (ix2 r e)) (fun e => g (ix2 0 e)) d := by
  pointwise [k0_pay13, k0_pay11, nrm]

theorem pay2_apply (g : Vec Ideal S1x2048 .f32) (x : Vec Ideal S128x2048 .f32) (r : Fin 128) (d : Fin 2048) :
    k0_pay2 (k0_pay11 g) (k0_pay14 x) (k0_pay15 x) (ix2 r d) = nrm (fun e => x (ix2 r e)) (fun e => g (ix2 0 e)) d := by
  pointwise [k0_pay2, k0_pay11, k0_pay14, k0_pay15, nrm]

theorem pay3_apply (g : Vec Ideal S1x2048 .f32) (x : Vec Ideal S128x2048 .f32) (r : Fin 128) (d : Fin 2048) :
    k0_pay3 (k0_pay11 g) x (ix2 r d) = nrm (fun e => x (ix2 r e)) (fun e => g (ix2 0 e)) d := by
  pointwise [k0_pay3, k0_pay11, nrm]

theorem pay18_apply (x : Vec Ideal S272x2048 .bf16) (w : Vec Ideal S1x1x1x2048x256 .bf16) (r : Fin 272) (j : Fin 256) :
    k0_pay18 x w (ix2 r j) = ∑ l : Fin 2048, x (ix2 r l) * w (ix5 0 0 0 l j) := by
  pointwise [k0_pay18]

theorem pay20_apply (x : Vec Ideal S272x2048 .bf16) (w : Vec Ideal S1x1x1x2048x256 .bf16) (r : Fin 272) (j : Fin 256) :
    k0_pay20 (k0_pay19 x w) (ix2 r j) = ∑ l : Fin 2048, x (ix2 r l) * w (ix5 0 0 0 l j) := by
  pointwise [k0_pay20, k0_pay19]

theorem pay21_apply (x : Vec Ideal S272x2048 .bf16) (w : Vec Ideal S1x1x1x2048x256 .bf16) (r : Fin 272) (j : Fin 256) :
    k0_pay21 x w (ix2 r j) = ∑ l : Fin 2048, x (ix2 r l) * w (ix5 0 0 0 l j) := by
  pointwise [k0_pay21]

theorem pay22_apply (x : Vec Ideal S272x2048 .bf16) (w : Vec Ideal S1x1x1x2048x256 .bf16) (r : Fin 272) (j : Fin 256) :
    k0_pay22 x w (ix2 r j) = ∑ l : Fin 2048, x (ix2 r l) * w (ix5 0 0 0 l j) := by
  pointwise [k0_pay22]

theorem pay24_apply (x : Vec Ideal S256x2048 .bf16) (w : Vec Ideal S1x1x1x2048x256 .bf16) (r : Fin 256) (j : Fin 256) :
    k0_pay24 x w (ix2 r j) = ∑ l : Fin 2048, x (ix2 r l) * w (ix5 0 0 0 l j) := by
  pointwise [k0_pay24]

theorem pay25_apply (x : Vec Ideal S256x2048 .bf16) (w : Vec Ideal S1x1x1x2048x256 .bf16) (r : Fin 256) (j : Fin 256) :
    k0_pay25 x w (ix2 r j) = ∑ l : Fin 2048, x (ix2 r l) * w (ix5 0 0 0 l j) := by
  pointwise [k0_pay25]

theorem pay26_apply (x : Vec Ideal S256x2048 .bf16) (w : Vec Ideal S1x1x1x2048x256 .bf16) (r : Fin 256) (j : Fin 256) :
    k0_pay26 x w (ix2 r j) = ∑ l : Fin 2048, x (ix2 r l) * w (ix5 0 0 0 l j) := by
  pointwise [k0_pay26]

theorem pay28_apply (x : Vec Ideal S256x2048 .bf16) (w : Vec Ideal S1x1x1x2048x256 .bf16) (r : Fin 256) (j : Fin 256) :
    k0_pay28 (k0_pay27 x w) (ix2 r j) = ∑ l : Fin 2048, x (ix2 r l) * w (ix5 0 0 0 l j) := by
  pointwise [k0_pay28, k0_pay27]

theorem pay23_apply (kp : EReal) (x : Vec Ideal S16x1024 .f32) (r : Fin 16) (j : Fin 1024) :
    k0_pay23 (F := Ideal) kp x (ix2 r j) = x (ix2 r j) * kp := by
  pointwise [k0_pay23]

/-- Three taps and a bias. -/
def tap (w0 w1 w2 b a0 a1 a2 : EReal) : EReal := w2 * a0 + w1 * a1 + w0 * a2 + b

/-- A gate column among the two halves. -/
def lo (j : Fin 512) : Fin 1024 := ⟨j.val, by omega⟩

/-- A value column among the two halves. -/
def hi (j : Fin 512) : Fin 1024 := ⟨512 + j.val, by omega⟩

theorem pay34_apply (w0g w0v w1g w1v w2g w2v bg bv : Vec Ideal S1x1x512 .f32) (a0 a1 a2 : Vec Ideal S256x1024 .f32) (xo : Vec Ideal S256x2048 .f32)
    (wd : Vec Ideal S1x512x2048 .bf16) (r : Fin 256) (d : Fin 2048) :
    k0_pay34 (k0_pay29 w0g w0v) (k0_pay32 bg bv) (k0_pay33 w1g w1v w2g w2v a0 a1) a2 xo wd (ix2 r d)
      = xo (ix2 r d) + ∑ j : Fin 512, act
          (tap (w0g (ix3 0 0 j)) (w1g (ix3 0 0 j)) (w2g (ix3 0 0 j)) (bg (ix3 0 0 j)) (a0 (ix2 r (lo j))) (a1 (ix2 r (lo j))) (a2 (ix2 r (lo j))))
          (tap (w0v (ix3 0 0 j)) (w1v (ix3 0 0 j)) (w2v (ix3 0 0 j)) (bv (ix3 0 0 j)) (a0 (ix2 r (hi j))) (a1 (ix2 r (hi j))) (a2 (ix2 r (hi j))))
          * wd (ix3 0 j d) := by
  pointwise [k0_pay34, k0_pay29, k0_pay30, k0_pay31, k0_pay32, k0_pay33, act, tap, lo, hi]

theorem pay1_apply (w0g w0v w1g w1v w2g w2v bg bv : Vec Ideal S1x1x512 .f32) (a0 a1 a2 : Vec Ideal S256x1024 .f32) (xo : Vec Ideal S256x2048 .f32)
    (wd : Vec Ideal S1x512x2048 .bf16) (r : Fin 256) (d : Fin 2048) :
    k0_pay1 (k0_pay35 (k0_pay29 w0g w0v) (k0_pay30 w1g w1v) (k0_pay31 w2g w2v) (k0_pay32 bg bv) a0 a1 a2) xo wd (ix2 r d)
      = xo (ix2 r d) + ∑ j : Fin 512, act
          (tap (w0g (ix3 0 0 j)) (w1g (ix3 0 0 j)) (w2g (ix3 0 0 j)) (bg (ix3 0 0 j)) (a0 (ix2 r (lo j))) (a1 (ix2 r (lo j))) (a2 (ix2 r (lo j))))
          (tap (w0v (ix3 0 0 j)) (w1v (ix3 0 0 j)) (w2v (ix3 0 0 j)) (bv (ix3 0 0 j)) (a0 (ix2 r (hi j))) (a1 (ix2 r (hi j))) (a2 (ix2 r (hi j))))
          * wd (ix3 0 j d) := by
  pointwise [k0_pay1, k0_pay35, k0_pay29, k0_pay30, k0_pay31, k0_pay32, act, tap, lo, hi]

/-- Whether a block of rows is not the first of its sequence. -/
def keepAt (b : Fin 64) : EReal := if b.val % 8 = 0 then 0 else 1
theorem pay17_eq (i : grid0.Coords) : k0_pay17 (F := Ideal) i = if (i 0).val % 8 = 0 then 0 else 1 := by
  have h : ∀ b : Fin 64, (let arg0 : BitVec 32 := BitVec.ofNat 32 b.val
    let v4 : BitVec 32 := Scalar.select (Scalar.cmpi .eq 8#32 0#32) 1#32 8#32
    let v5 : BitVec 32 := Scalar.remsi arg0 v4
    let v10 : BitVec 1 := Scalar.andi (Scalar.xori (Scalar.cmpi .slt v5 0#32) (Scalar.cmpi .slt v4 0#32)) (Scalar.cmpi .ne v5 0#32)
    let v12 : BitVec 32 := Scalar.select v10 (Scalar.addi v5 v4) v5
    (Scalar.extui (Scalar.cmpi .ne v12 0#32) : BitVec 32)) = if b.val % 8 = 0 then 0#32 else 1#32 := by decide +kernel
  show ((((_ : BitVec 32).toInt : ℝ) : EReal)) = _
  rw [h (i 0)]
  by_cases h8 : (i 0).val % 8 = 0
  · rw [if_pos h8, if_pos h8]; norm_num
  · rw [if_neg h8, if_neg h8]; norm_num

end Cert.FfnV

end
-- ==== Proof.FfnUp.lean ====
module

public import proofs.«01_k».proof.Proof.FfnElem
public import Idealize.ShloMosaic.Lib.Pipeline.CanonAppend

@[expose] public section

set_option maxRecDepth 16384
set_option maxHeartbeats 1000000

noncomputable section

namespace Cert.FfnV
open Idealize.ShloMosaic Idealize.ShloMosaic.TcCoe Idealize.ShloMosaic.Tactic Idealize.SL.Sem
open Cert.FfnIdeal Cert.FfnIdeal.Gen

/-! ## The scratch of up-projected rows, and the block of results -/

/-- Entry (r, j) of a block of rows times a block of columns. -/
def upG (xs : Vec Ideal S528x2048 .bf16) (w : Vec Ideal S1x1x1x2048x512 .bf16) (r : Fin 528) (j : Fin 512) : EReal :=
  ∑ l : Fin 2048, xs (ix2 r l) * w (ix5 0 0 0 l j)

/-- The up-projected rows, gate columns before value columns. -/
def upOf (xs : Vec Ideal S528x2048 .bf16) (x3 x4 : Vec Ideal S1x1x1x2048x512 .bf16) : Vec Ideal S528x1024 .f32 := fun y =>
  if h : (y 1).val < 512 then upG xs x3 (y 0) ⟨(y 1).val, h⟩ else upG xs x4 (y 0) ⟨(y 1).val - 512, by have h1 : (y 1).val < 1024 := (y 1).isLt; omega⟩

/-- The same with the halo's rows times `kp`. -/
def aOf (kp : EReal) (xs : Vec Ideal S528x2048 .bf16) (x3 x4 : Vec Ideal S1x1x1x2048x512 .bf16) : Vec Ideal S528x1024 .f32 := fun y =>
  if (y 0).val < 16 then upOf xs x3 x4 y * kp else upOf xs x3 x4 y

/-- A row of the scratch's first part. -/
def topRow (r : Fin 272) : Fin 528 := ⟨r.val, by omega⟩
/-- A row of its second part. -/
def botRow (r : Fin 256) : Fin 528 := ⟨272 + r.val, by omega⟩
/-- An index of the first half. -/
def half0 (j : Fin 256) : Fin 512 := ⟨j.val, by omega⟩
/-- An index of the second half. -/
def half1 (j : Fin 256) : Fin 512 := ⟨256 + j.val, by omega⟩

/-- Membership in a rectangle of a scratch. -/
theorem mem_rect {M N m n a b : ℕ} (w : ∀ q, (![a, b] : Fin 2 → ℕ) q + (![m, n] : Fin 2 → ℕ) q ≤ (⟨2, ![M, N]⟩ : Shape).size q) (y : (⟨2, ![M, N]⟩ : Shape).Idx) :
    y ∈ (Rect.unit (s := ⟨2, ![M, N]⟩) ![a, b] ![m, n] w).set ↔ (a ≤ (y 0).val ∧ (y 0).val < a + m) ∧ (b ≤ (y 1).val ∧ (y 1).val < b + n) := by
  rw [Rect.mem_set_unit (inb := w)]
  constructor
  · intro h; exact ⟨h 0, h 1⟩
  · intro h q
    match q with
    | ⟨0, _⟩ => exact h.1
    | ⟨1, _⟩ => exact h.2

/-- A store that does not reach an entry is passed over. -/
theorem canon_skip {s : Shape} {r : Rect s} (w : r.shape.Idx → Elt Ideal .f32) (L : List (View.Piece (Elt Ideal) s .f32)) {y : s.Idx} (h : y ∉ r.set) : View.canon (⟨r, w⟩ :: L) y = View.canon L y :=
  View.canon_cons_of_not_mem _ L h

/-- A column block of the weights, read at an entry. -/
theorem upG_congr {xs : Vec Ideal S528x2048 .bf16} {w : Vec Ideal S1x1x1x2048x512 .bf16} {X : Fin 2048 → EReal} {W : Fin 2048 → EReal} {r r' : Fin 528} {j j' : Fin 512}
    (hX : ∀ l, X l = xs (ix2 r l)) (hW : ∀ l, W l = w (ix5 0 0 0 l j)) (hr : r.val = r'.val) (hj : j.val = j'.val) : ∑ l, X l * W l = upG xs w r' j' := by
  obtain rfl := Fin.ext hr
  obtain rfl := Fin.ext hj
  exact Finset.sum_congr rfl fun l _ => by rw [hX, hW]

/-- A gate column's entry. -/
theorem upOf_lo {xs : Vec Ideal S528x2048 .bf16} {x3 x4 : Vec Ideal S1x1x1x2048x512 .bf16} {X : Fin 2048 → EReal} {W : Fin 2048 → EReal} {r : Fin 528} {j : Fin 512} {y : S528x1024.Idx}
    (hX : ∀ l, X l = xs (ix2 r l)) (hW : ∀ l, W l = x3 (ix5 0 0 0 l j)) (hr : r.val = (y 0).val) (hj : j.val = (y 1).val) : ∑ l, X l * W l = upOf xs x3 x4 y := by
  have h : (y 1).val < 512 := hj ▸ j.isLt
  refine (upG_congr hX hW hr (j' := ⟨(y 1).val, h⟩) hj).trans ?_
  unfold upOf
  rw [dif_pos h]

/-- A value column's entry. -/
theorem upOf_hi {xs : Vec Ideal S528x2048 .bf16} {x3 x4 : Vec Ideal S1x1x1x2048x512 .bf16} {X : Fin 2048 → EReal} {W : Fin 2048 → EReal} {r : Fin 528} {j : Fin 512} {y : S528x1024.Idx}
    (hX : ∀ l, X l = xs (ix2 r l)) (hW : ∀ l, W l = x4 (ix5 0 0 0 l j)) (hr : r.val = (y 0).val) (hj : 512 + j.val = (y 1).val) : ∑ l, X l * W l = upOf xs x3 x4 y := by
  have h : ¬(y 1).val < 512 := by omega
  refine (upG_congr hX hW hr (j' := ⟨(y 1).val - 512, by omega⟩) (by show j.val = (y 1).val - 512; omega)).trans ?_
  unfold upOf
  rw [dif_neg h]

theorem aOf_halo {kp : EReal} {xs : Vec Ideal S528x2048 .bf16} {x3 x4 : Vec Ideal S1x1x1x2048x512 .bf16} {y : S528x1024.Idx} (h : (y 0).val < 16) : aOf kp xs x3 x4 y = upOf xs x3 x4 y * kp := if_pos h
theorem aOf_body {kp : EReal} {xs : Vec Ideal S528x2048 .bf16} {x3 x4 : Vec Ideal S1x1x1x2048x512 .bf16} {y : S528x1024.Idx} (h : ¬(y 0).val < 16) : aOf kp xs x3 x4 y = upOf xs x3 x4 y := if_neg h

/-- The stores into the scratch before the halo's rows are masked. -/
abbrev pcs4 (X : Vec Ideal S272x2048 .bf16) (a3 b3 a4 b4 : Vec Ideal S1x1x1x2048x256 .bf16) : List (View.Piece (Elt Ideal) S528x1024 .f32) :=
  [⟨Rect.unit (s := S528x1024) ![0, 768] S272x256.size inb_S528x1024_S272x256_0_768, k0_pay22 X b4⟩,
   ⟨Rect.unit (s := S528x1024) ![0, 256] S272x256.size inb_S528x1024_S272x256_0_256, k0_pay21 X b3⟩,
   ⟨Rect.unit (s := S528x1024) ![0, 512] S272x256.size inb_S528x1024_S272x256_0_512, k0_pay20 (k0_pay19 X a4)⟩,
   ⟨Rect.unit (s := S528x1024) ![0, 0] S272x256.size inb_S528x1024_S272x256_0_0, k0_pay18 X a3⟩]

/-- The stores after. -/
abbrev pcs5 (kp : EReal) (A : Vec Ideal S16x1024 .f32) (Y : Vec Ideal S256x2048 .bf16) (a3 b3 a4 b4 : Vec Ideal S1x1x1x2048x256 .bf16) : List (View.Piece (Elt Ideal) S528x1024 .f32) :=
  [⟨Rect.unit (s := S528x1024) ![272, 768] S256x256.size inb_S528x1024_S256x256_272_768, k0_pay28 (k0_pay27 Y b4)⟩,
   ⟨Rect.unit (s := S528x1024) ![272, 256] S256x256.size inb_S528x1024_S256x256_272_256, k0_pay26 Y b3⟩,
   ⟨Rect.unit (s := S528x1024) ![272, 512] S256x256.size inb_S528x1024_S256x256_272_512, k0_pay25 Y a4⟩,
   ⟨Rect.unit (s := S528x1024) ![272, 0] S256x256.size inb_S528x1024_S256x256_272_0, k0_pay24 Y a3⟩,
   ⟨Rect.unit (s := S528x1024) ![0, 0] S16x1024.size inb_S528x1024_S16x1024_0_0, k0_pay23 (F := Ideal) kp A⟩]

section
variable (xs : Vec Ideal S528x2048 .bf16) (x3 x4 : Vec Ideal S1x1x1x2048x512 .bf16)
  (X : Vec Ideal S272x2048 .bf16) (Y : Vec Ideal S256x2048 .bf16) (a3 b3 a4 b4 : Vec Ideal S1x1x1x2048x256 .bf16)
  (hX : ∀ (r : Fin 272) l, X (ix2 r l) = xs (ix2 (topRow r) l)) (hY : ∀ (r : Fin 256) l, Y (ix2 r l) = xs (ix2 (botRow r) l))
  (ha3 : ∀ l (j : Fin 256), a3 (ix5 0 0 0 l j) = x3 (ix5 0 0 0 l (half0 j))) (hb3 : ∀ l (j : Fin 256), b3 (ix5 0 0 0 l j) = x3 (ix5 0 0 0 l (half1 j)))
  (ha4 : ∀ l (j : Fin 256), a4 (ix5 0 0 0 l j) = x4 (ix5 0 0 0 l (half0 j))) (hb4 : ∀ l (j : Fin 256), b4 (ix5 0 0 0 l j) = x4 (ix5 0 0 0 l (half1 j)))
include hX ha3 hb3 ha4 hb4

/-- The rows the first four stores cover. -/
theorem canon4 (y : S528x1024.Idx) (hy : (y 0).val < 272) : View.canon (pcs4 X a3 b3 a4 b4) y = upOf xs x3 x4 y := by
  have hy1 : (y 1).val < 1024 := (y 1).isLt
  refine View.canon_apply_of_pieces (upOf xs x3 x4) _ ?_ y ?_
  · intro p hp
    simp only [List.mem_cons, List.not_mem_nil, or_false] at hp
    rcases hp with rfl | rfl | rfl | rfl <;> intro x <;> rw [eq_ix2 (n0 := 272) (n1 := 256) x]
    · exact (pay22_apply _ _ _ _).trans (upOf_hi (hX _) (fun l => hb4 l _) (by show (x 0).val = 0 + 1 * (x 0).val; omega) (by show 512 + (256 + (x 1).val) = 768 + 1 * (x 1).val; omega))
    · exact (pay21_apply _ _ _ _).trans (upOf_lo (hX _) (fun l => hb3 l _) (by show (x 0).val = 0 + 1 * (x 0).val; omega) (by show 256 + (x 1).val = 256 + 1 * (x 1).val; omega))
    · exact (pay20_apply _ _ _ _).trans (upOf_hi (hX _) (fun l => ha4 l _) (by show (x 0).val = 0 + 1 * (x 0).val; omega) (by show 512 + (x 1).val = 512 + 1 * (x 1).val; omega))
    · exact (pay18_apply _ _ _ _).trans (upOf_lo (hX _) (fun l => ha3 l _) (by show (x 0).val = 0 + 1 * (x 0).val; omega) (by show (x 1).val = 0 + 1 * (x 1).val; omega))
  · rcases (by omega : 768 ≤ (y 1).val ∨ (512 ≤ (y 1).val ∧ (y 1).val < 768) ∨ (256 ≤ (y 1).val ∧ (y 1).val < 512) ∨ (y 1).val < 256) with h | h | h | h
    · exact ⟨_, .head _, (mem_rect inb_S528x1024_S272x256_0_768 y).mpr (by omega)⟩
    · exact ⟨_, .tail _ (.tail _ (.head _)), (mem_rect inb_S528x1024_S272x256_0_512 y).mpr (by omega)⟩
    · exact ⟨_, .tail _ (.head _), (mem_rect inb_S528x1024_S272x256_0_256 y).mpr (by omega)⟩
    · exact ⟨_, .tail _ (.tail _ (.tail _ (.head _))), (mem_rect inb_S528x1024_S272x256_0_0 y).mpr (by omega)⟩

include hY in
/-- The whole scratch. -/
theorem canon9 (kp : EReal) (A : Vec Ideal S16x1024 .f32) (hA : ∀ r j, A (ix2 r j) = upOf xs x3 x4 (ix2 ⟨r.val, by omega⟩ j)) (y : S528x1024.Idx) :
    View.canon (pcs5 kp A Y a3 b3 a4 b4 ++ pcs4 X a3 b3 a4 b4) y = aOf kp xs x3 x4 y := by
  have hy0 : (y 0).val < 528 := (y 0).isLt
  have hy1 : (y 1).val < 1024 := (y 1).isLt
  by_cases hm : (y 0).val < 16 ∨ 272 ≤ (y 0).val
  · refine View.canon_append_of_pieces (aOf kp xs x3 x4) _ _ ?_ y ?_
    · intro p hp
      simp only [List.mem_cons, List.not_mem_nil, or_false] at hp
      rcases hp with rfl | rfl | rfl | rfl | rfl <;> intro x
      · rw [eq_ix2 (n0 := 256) (n1 := 256) x]
        exact (pay28_apply _ _ _ _).trans ((upOf_hi (hY _) (fun l => hb4 l _) (by show 272 + (x 0).val = 272 + 1 * (x 0).val; omega) (by show 512 + (256 + (x 1).val) = 768 + 1 * (x 1).val; omega)).trans (aOf_body (by show ¬(272 + 1 * (x 0).val < 16); omega)).symm)
      · rw [eq_ix2 (n0 := 256) (n1 := 256) x]
        exact (pay26_apply _ _ _ _).trans ((upOf_lo (hY _) (fun l => hb3 l _) (by show 272 + (x 0).val = 272 + 1 * (x 0).val; omega) (by show 256 + (x 1).val = 256 + 1 * (x 1).val; omega)).trans (aOf_body (by show ¬(272 + 1 * (x 0).val < 16); omega)).symm)
      · rw [eq_ix2 (n0 := 256) (n1 := 256) x]
        exact (pay25_apply _ _ _ _).trans ((upOf_hi (hY _) (fun l => ha4 l _) (by show 272 + (x 0).val = 272 + 1 * (x 0).val; omega) (by show 512 + (x 1).val = 512 + 1 * (x 1).val; omega)).trans (aOf_body (by show ¬(272 + 1 * (x 0).val < 16); omega)).symm)
      · rw [eq_ix2 (n0 := 256) (n1 := 256) x]
        exact (pay24_apply _ _ _ _).trans ((upOf_lo (hY _) (fun l => ha3 l _) (by show 272 + (x 0).val = 272 + 1 * (x 0).val; omega) (by show (x 1).val = 0 + 1 * (x 1).val; omega)).trans (aOf_body (by show ¬(272 + 1 * (x 0).val < 16); omega)).symm)
      · rw [eq_ix2 (n0 := 16) (n1 := 1024) x]
        have hx : (x 0).val < 16 := (x 0).isLt
        refine (pay23_apply _ _ _ _).trans ((congrArg (· * kp) ((hA _ _).trans (congrArg (upOf xs x3 x4) (funext fun a => Fin.ext ?_)))).trans (aOf_halo (by show 0 + 1 * (x 0).val < 16; omega)).symm)
        match a with
        | ⟨0, _⟩ => show (x 0).val = 0 + 1 * (x 0).val; omega
        | ⟨1, _⟩ => show (x 1).val = 0 + 1 * (x 1).val; omega
    · rcases (by omega : (y 0).val < 16 ∨ 272 ≤ (y 0).val ∧ (768 ≤ (y 1).val ∨ (512 ≤ (y 1).val ∧ (y 1).val < 768) ∨ (256 ≤ (y 1).val ∧ (y 1).val < 512) ∨ (y 1).val < 256)) with h | ⟨h0, h | h | h | h⟩
      · exact ⟨_, .tail _ (.tail _ (.tail _ (.tail _ (.head _)))), (mem_rect inb_S528x1024_S16x1024_0_0 y).mpr (by omega)⟩
      · exact ⟨_, .head _, (mem_rect inb_S528x1024_S256x256_272_768 y).mpr (by omega)⟩
      · exact ⟨_, .tail _ (.tail _ (.head _)), (mem_rect inb_S528x1024_S256x256_272_512 y).mpr (by omega)⟩
      · exact ⟨_, .tail _ (.head _), (mem_rect inb_S528x1024_S256x256_272_256 y).mpr (by omega)⟩
      · exact ⟨_, .tail _ (.tail _ (.tail _ (.head _))), (mem_rect inb_S528x1024_S256x256_272_0 y).mpr (by omega)⟩
  · have h0 : y ∉ (Rect.unit (s := S528x1024) ![272, 768] S256x256.size inb_S528x1024_S256x256_272_768).set := fun hc => by have := ((mem_rect (M := 528) (N := 1024) (m := 256) (n := 256) (a := 272) (b := 768) inb_S528x1024_S256x256_272_768 y).mp hc).1; omega
    have h1 : y ∉ (Rect.unit (s := S528x1024) ![272, 256] S256x256.size inb_S528x1024_S256x256_272_256).set := fun hc => by have := ((mem_rect (M := 528) (N := 1024) (m := 256) (n := 256) (a := 272) (b := 256) inb_S528x1024_S256x256_272_256 y).mp hc).1; omega
    have h2 : y ∉ (Rect.unit (s := S528x1024) ![272, 512] S256x256.size inb_S528x1024_S256x256_272_512).set := fun hc => by have := ((mem_rect (M := 528) (N := 1024) (m := 256) (n := 256) (a := 272) (b := 512) inb_S528x1024_S256x256_272_512 y).mp hc).1; omega
    have h3 : y ∉ (Rect.unit (s := S528x1024) ![272, 0] S256x256.size inb_S528x1024_S256x256_272_0).set := fun hc => by have := ((mem_rect (M := 528) (N := 1024) (m := 256) (n := 256) (a := 272) (b := 0) inb_S528x1024_S256x256_272_0 y).mp hc).1; omega
    have h4 : y ∉ (Rect.unit (s := S528x1024) ![0, 0] S16x1024.size inb_S528x1024_S16x1024_0_0).set := fun hc => by have := ((mem_rect (M := 528) (N := 1024) (m := 16) (n := 1024) (a := 0) (b := 0) inb_S528x1024_S16x1024_0_0 y).mp hc).1; omega
    refine (canon_skip _ _ h0).trans ((canon_skip _ _ h1).trans ((canon_skip _ _ h2).trans ((canon_skip _ _ h3).trans ((canon_skip _ _ h4).trans ?_))))
    exact (canon4 xs x3 x4 X a3 b3 a4 b4 hX ha3 hb3 ha4 hb4 y (by omega)).trans (aOf_body (by omega)).symm
end

/-- What a point leaves in the block of results: what was there plus the block's share of the down projection. -/
def outNext (kp : EReal) (xs : Vec Ideal S528x2048 .bf16) (x3 x4 : Vec Ideal S1x1x1x2048x512 .bf16) (x5 x6 : Vec Ideal S1x3x512 .f32) (x7 x8 : Vec Ideal S1x1x512 .f32)
    (x9 : Vec Ideal S1x512x2048 .bf16) (xo : Vec Ideal S512x2048 .f32) (r : Fin 512) (d : Fin 2048) : EReal :=
  xo (ix2 r d) + ∑ j : Fin 512, act
    (tap (x5 (ix3 0 0 j)) (x5 (ix3 0 1 j)) (x5 (ix3 0 2 j)) (x7 (ix3 0 0 j)) (aOf kp xs x3 x4 (ix2 ⟨16 + r.val, by omega⟩ (lo j))) (aOf kp xs x3 x4 (ix2 ⟨15 + r.val, by omega⟩ (lo j))) (aOf kp xs x3 x4 (ix2 ⟨14 + r.val, by omega⟩ (lo j))))
    (tap (x6 (ix3 0 0 j)) (x6 (ix3 0 1 j)) (x6 (ix3 0 2 j)) (x8 (ix3 0 0 j)) (aOf kp xs x3 x4 (ix2 ⟨16 + r.val, by omega⟩ (hi j))) (aOf kp xs x3 x4 (ix2 ⟨15 + r.val, by omega⟩ (hi j))) (aOf kp xs x3 x4 (ix2 ⟨14 + r.val, by omega⟩ (hi j))))
    * x9 (ix3 0 j d)

/-- An entry of a shifted window of the scratch. -/
theorem cov_at (v : View sig .tc .vmem S528x1024 .f32) (L : List (View.Piece (Elt Ideal) S528x1024 .f32)) (G : S528x1024.Idx → EReal) (hL : ∀ y, View.canon L y = G y) {m : ℕ}
    (a : ℕ) (w : ∀ q, (![a, 0] : Fin 2 → ℕ) q + (⟨2, ![m, 1024]⟩ : Shape).size q ≤ S528x1024.size q) (r : Fin m) (j : Fin 1024) (h : a + r.val < 528) :
    v.readCov L (Rect.unit (s := S528x1024) ![a, 0] (⟨2, ![m, 1024]⟩ : Shape).size w).toLoadRect (ix2 r j) = G (ix2 ⟨a + r.val, h⟩ j) := by
  rw [View.readCov_eq_canon']
  refine (hL _).trans (congrArg G (funext fun q => Fin.ext ?_))
  match q with
  | ⟨0, _⟩ => show a + 1 * r.val = a + r.val; omega
  | ⟨1, _⟩ => show 0 + 1 * j.val = j.val; omega

/-- Equal arguments, equal values. -/
theorem tap_congr {a a' b b' c c' d d' e e' f f' g g' : EReal} (ha : a = a') (hb : b = b') (hc : c = c') (hd : d = d') (he : e = e') (hf : f = f') (hg : g = g') : tap a b c d e f g = tap a' b' c' d' e' f' g' := by
  rw [ha, hb, hc, hd, he, hf, hg]

section
variable (xs : Vec Ideal S528x2048 .bf16) (x3 x4 : Vec Ideal S1x1x1x2048x512 .bf16)
  (X : Vec Ideal S272x2048 .bf16) (Y : Vec Ideal S256x2048 .bf16) (a3 b3 a4 b4 : Vec Ideal S1x1x1x2048x256 .bf16)
  (hX : ∀ (r : Fin 272) l, X (ix2 r l) = xs (ix2 (topRow r) l)) (hY : ∀ (r : Fin 256) l, Y (ix2 r l) = xs (ix2 (botRow r) l))
  (ha3 : ∀ l (j : Fin 256), a3 (ix5 0 0 0 l j) = x3 (ix5 0 0 0 l (half0 j))) (hb3 : ∀ l (j : Fin 256), b3 (ix5 0 0 0 l j) = x3 (ix5 0 0 0 l (half1 j)))
  (ha4 : ∀ l (j : Fin 256), a4 (ix5 0 0 0 l j) = x4 (ix5 0 0 0 l (half0 j))) (hb4 : ∀ l (j : Fin 256), b4 (ix5 0 0 0 l j) = x4 (ix5 0 0 0 l (half1 j)))
  (x5 x6 : Vec Ideal S1x3x512 .f32) (x7 x8 : Vec Ideal S1x1x512 .f32) (x9 : Vec Ideal S1x512x2048 .bf16)
  (g0 g1 g2 v0 v1 v2 : Vec Ideal S1x1x512 .f32)
  (hg0 : ∀ j, g0 (ix3 0 0 j) = x5 (ix3 0 0 j)) (hg1 : ∀ j, g1 (ix3 0 0 j) = x5 (ix3 0 1 j)) (hg2 : ∀ j, g2 (ix3 0 0 j) = x5 (ix3 0 2 j))
  (hv0 : ∀ j, v0 (ix3 0 0 j) = x6 (ix3 0 0 j)) (hv1 : ∀ j, v1 (ix3 0 0 j) = x6 (ix3 0 1 j)) (hv2 : ∀ j, v2 (ix3 0 0 j) = x6 (ix3 0 2 j))
  (xo : Vec Ideal S512x2048 .f32) (xa xb : Vec Ideal S256x2048 .f32)
  (hxa : ∀ (r : Fin 256) d, xa (ix2 r d) = xo (ix2 (half0 r) d)) (hxb : ∀ (r : Fin 256) d, xb (ix2 r d) = xo (ix2 (half1 r) d))
include hX ha3 hb3 ha4 hb4 hY hg0 hg1 hg2 hv0 hv1 hv2 hxa hxb

/-- The block of results after a point's two stores. -/
theorem step_canon (kp : EReal) (v : View sig .tc .vmem S528x1024 .f32) (T : List (View.Piece (Elt Ideal) S512x2048 .f32)) (r : Fin 512) (d : Fin 2048) :
    View.canon (Val := Elt Ideal) (s := S512x2048) (e := .f32)
      (⟨Rect.unit (s := S512x2048) ![256, 0] S256x2048.size inb_S512x2048_S256x2048_256_0,
         k0_pay1 (k0_pay35 (k0_pay29 g0 v0) (k0_pay30 g1 v1) (k0_pay31 g2 v2) (k0_pay32 x7 x8)
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![272, 0] S256x1024.size inb_S528x1024_S256x1024_272_0).toLoadRect)
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![271, 0] S256x1024.size inb_S528x1024_S256x1024_271_0).toLoadRect)
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![270, 0] S256x1024.size inb_S528x1024_S256x1024_270_0).toLoadRect)) xb x9⟩ ::
       ⟨Rect.unit (s := S512x2048) ![0, 0] S256x2048.size inb_S512x2048_S256x2048_0_0,
         k0_pay34 (k0_pay29 g0 v0) (k0_pay32 x7 x8) (k0_pay33 g1 v1 g2 v2
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![16, 0] S256x1024.size inb_S528x1024_S256x1024_16_0).toLoadRect)
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![15, 0] S256x1024.size inb_S528x1024_S256x1024_15_0).toLoadRect))
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![14, 0] S256x1024.size inb_S528x1024_S256x1024_14_0).toLoadRect) xa x9⟩ :: T) (ix2 r d)
      = outNext kp xs x3 x4 x5 x6 x7 x8 x9 xo r d := by
  have hA : ∀ (r : Fin 16) (j : Fin 1024), v.readCov (pcs4 X a3 b3 a4 b4) (Rect.unit (s := S528x1024) ![0, 0] S16x1024.size inb_S528x1024_S16x1024_0_0).toLoadRect (ix2 r j) = upOf xs x3 x4 (ix2 ⟨r.val, by omega⟩ j) := by
    intro r j
    rw [View.readCov_eq_canon']
    refine (canon4 xs x3 x4 X a3 b3 a4 b4 hX ha3 hb3 ha4 hb4 _ (by show 0 + 1 * r.val < 272; omega)).trans (congrArg (upOf xs x3 x4) (funext fun q => Fin.ext ?_))
    match q with
    | ⟨0, _⟩ => show 0 + 1 * r.val = r.val; omega
    | ⟨1, _⟩ => show 0 + 1 * j.val = j.val; omega
  have hL := canon9 xs x3 x4 X Y a3 b3 a4 b4 hX hY ha3 hb3 ha4 hb4 kp _ hA
  generalize hLL : (pcs5 kp (v.readCov (pcs4 X a3 b3 a4 b4) (Rect.unit (s := S528x1024) ![0, 0] S16x1024.size inb_S528x1024_S16x1024_0_0).toLoadRect) Y a3 b3 a4 b4 ++ pcs4 X a3 b3 a4 b4) = L at hL ⊢
  show View.canon ([_, _] ++ T) _ = _
  refine View.canon_append_of_pieces (Val := Elt Ideal) (S := S512x2048) (e := .f32) (fun y => outNext kp xs x3 x4 x5 x6 x7 x8 x9 xo (y 0) (y 1)) _ _ ?_ (ix2 r d) ?_
  · intro p hp
    simp only [List.mem_cons, List.not_mem_nil, or_false] at hp
    rcases hp with rfl | rfl <;> intro x <;> rw [eq_ix2 (n0 := 256) (n1 := 2048) x]
    · have h0 : (x 0).val < 256 := (x 0).isLt
      have e0 : (Rect.unit (s := S512x2048) ![256, 0] S256x2048.size inb_S512x2048_S256x2048_256_0).emb (ix2 (x 0) (x 1)) 0 = (⟨256 + (x 0).val, by omega⟩ : Fin 512) := Fin.ext (by show 256 + 1 * (x 0).val = 256 + (x 0).val; omega)
      have e1 : (Rect.unit (s := S512x2048) ![256, 0] S256x2048.size inb_S512x2048_S256x2048_256_0).emb (ix2 (x 0) (x 1)) 1 = (x 1 : Fin 2048) := Fin.ext (by show 0 + 1 * (x 1).val = (x 1).val; omega)
      refine (pay1_apply _ _ _ _ _ _ _ _ _ _ _ _ _ _ _).trans (Eq.trans ?_ (congrArg₂ (outNext kp xs x3 x4 x5 x6 x7 x8 x9 xo) e0 e1).symm)
      unfold outNext
      refine congrArg₂ (· + ·) (hxb _ _) (Finset.sum_congr rfl fun j _ => ?_)
      have k0 : ∀ j, _ = _ := fun j => cov_at v L _ hL 272 inb_S528x1024_S256x1024_272_0 (x 0) j (by omega)
      have k1 : ∀ j, _ = _ := fun j => cov_at v L _ hL 271 inb_S528x1024_S256x1024_271_0 (x 0) j (by omega)
      have k2 : ∀ j, _ = _ := fun j => cov_at v L _ hL 270 inb_S528x1024_S256x1024_270_0 (x 0) j (by omega)
      have f0 : (⟨272 + (x 0).val, by omega⟩ : Fin 528) = ⟨16 + (256 + (x 0).val), by omega⟩ := Fin.ext (by show 272 + (x 0).val = 16 + (256 + (x 0).val); omega)
      have f1 : (⟨271 + (x 0).val, by omega⟩ : Fin 528) = ⟨15 + (256 + (x 0).val), by omega⟩ := Fin.ext (by show 271 + (x 0).val = 15 + (256 + (x 0).val); omega)
      have f2 : (⟨270 + (x 0).val, by omega⟩ : Fin 528) = ⟨14 + (256 + (x 0).val), by omega⟩ := Fin.ext (by show 270 + (x 0).val = 14 + (256 + (x 0).val); omega)
      rw [f0] at k0
      rw [f1] at k1
      rw [f2] at k2
      exact congrArg₂ (· * ·) (congrArg₂ act (tap_congr (hg0 j) (hg1 j) (hg2 j) rfl (k0 _) (k1 _) (k2 _)) (tap_congr (hv0 j) (hv1 j) (hv2 j) rfl (k0 _) (k1 _) (k2 _))) rfl
    · have h0 : (x 0).val < 256 := (x 0).isLt
      have e0 : (Rect.unit (s := S512x2048) ![0, 0] S256x2048.size inb_S512x2048_S256x2048_0_0).emb (ix2 (x 0) (x 1)) 0 = (⟨(x 0).val, by omega⟩ : Fin 512) := Fin.ext (by show 0 + 1 * (x 0).val = (x 0).val; omega)
      have e1 : (Rect.unit (s := S512x2048) ![0, 0] S256x2048.size inb_S512x2048_S256x2048_0_0).emb (ix2 (x 0) (x 1)) 1 = (x 1 : Fin 2048) := Fin.ext (by show 0 + 1 * (x 1).val = (x 1).val; omega)
      refine (pay34_apply _ _ _ _ _ _ _ _ _ _ _ _ _ _ _).trans (Eq.trans ?_ (congrArg₂ (outNext kp xs x3 x4 x5 x6 x7 x8 x9 xo) e0 e1).symm)
      unfold outNext
      refine congrArg₂ (· + ·) (hxa _ _) (Finset.sum_congr rfl fun j _ => ?_)
      have k0 : ∀ j, _ = _ := fun j => cov_at v L _ hL 16 inb_S528x1024_S256x1024_16_0 (x 0) j (by omega)
      have k1 : ∀ j, _ = _ := fun j => cov_at v L _ hL 15 inb_S528x1024_S256x1024_15_0 (x 0) j (by omega)
      have k2 : ∀ j, _ = _ := fun j => cov_at v L _ hL 14 inb_S528x1024_S256x1024_14_0 (x 0) j (by omega)
      exact congrArg₂ (· * ·) (congrArg₂ act (tap_congr (hg0 j) (hg1 j) (hg2 j) rfl (k0 _) (k1 _) (k2 _)) (tap_congr (hv0 j) (hv1 j) (hv2 j) rfl (k0 _) (k1 _) (k2 _))) rfl
  · by_cases h : r.val < 256
    · exact ⟨_, .tail _ (.head _), (mem_rect (M := 512) (N := 2048) (m := 256) (n := 2048) inb_S512x2048_S256x2048_0_0 _).mpr ⟨⟨Nat.zero_le _, by show r.val < 0 + 256; omega⟩, Nat.zero_le _, by show d.val < 0 + 2048; omega⟩⟩
    · exact ⟨_, .head _, (mem_rect (M := 512) (N := 2048) (m := 256) (n := 2048) inb_S512x2048_S256x2048_256_0 _).mpr ⟨⟨by show 256 ≤ r.val; omega, by show r.val < 256 + 256; omega⟩, Nat.zero_le _, by show d.val < 0 + 2048; omega⟩⟩
end

end Cert.FfnV

end
-- ==== Proof.FfnCase.lean ====
module

public import proofs.«01_k».proof.Proof.FfnUp
public import proofs.«01_k».proof.Proof.Gen.FfnIdeal.Value

@[expose] public section

set_option maxRecDepth 16384
set_option maxHeartbeats 1000000

noncomputable section

namespace Cert.FfnV
open Idealize.ShloMosaic Idealize.ShloMosaic.TcCoe Idealize.ShloMosaic.Tactic Idealize.SL.Sem
open Cert.FfnIdeal Cert.FfnIdeal.Gen

/-! ## What each kind of grid point leaves -/

/-- A load of a whole block of biases. -/
theorem load_row (Y : Vec Ideal S1x1x512 .f32) (w) : View.ld (S := S1x1x512) Y (Rect.unit (s := S1x1x512) ![0, 0, 0] ![1, 1, 512] w) = Y :=
  funext fun y => congrArg Y (funext fun a => Fin.ext (by
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)))

/-- A load of a whole block of the down projection. -/
theorem load_down (Y : Vec Ideal S1x512x2048 .bf16) (w) : View.ld (S := S1x512x2048) Y (Rect.unit (s := S1x512x2048) ![0, 0, 0] ![1, 512, 2048] w) = Y :=
  funext fun y => congrArg Y (funext fun a => Fin.ext (by
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)))

/-- An entry of a load of some rows of a block. -/
theorem rows_at {e : EltTy} {M N m a : ℕ} (Y : Vec Ideal ⟨2, ![M, N]⟩ e) (w : ∀ q, (![a, 0] : Fin 2 → ℕ) q + (⟨2, ![m, N]⟩ : Shape).size q ≤ (⟨2, ![M, N]⟩ : Shape).size q) (r : Fin m) (l : Fin N) (r' : Fin M) (h : a + r.val = r'.val) :
    View.ld (S := ⟨2, ![M, N]⟩) Y (Rect.unit (s := ⟨2, ![M, N]⟩) ![a, 0] (⟨2, ![m, N]⟩ : Shape).size w) (ix2 r l) = Y (ix2 r' l) :=
  congrArg Y (funext fun q => Fin.ext (by
    match q with
    | ⟨0, _⟩ => exact (congrArg (a + ·) (Nat.one_mul _)).trans h
    | ⟨1, _⟩ => exact (Nat.zero_add _).trans (Nat.one_mul _)))

/-- An entry of a load of half the columns of a block of weights. -/
theorem cols_at {a : ℕ} (Y : Vec Ideal S1x1x1x2048x512 .bf16) (w) (l : Fin 2048) (j : Fin 256) (j' : Fin 512) (h : a + j.val = j'.val) :
    View.ld (S := S1x1x1x2048x512) Y (Rect.unit (s := S1x1x1x2048x512) ![0, 0, 0, 0, a] S1x1x1x2048x256.size w) (ix5 0 0 0 l j) = Y (ix5 0 0 0 l j') :=
  congrArg Y (funext fun q => Fin.ext (by
    match q with
    | ⟨0, _⟩ => rfl
    | ⟨1, _⟩ => rfl
    | ⟨2, _⟩ => rfl
    | ⟨3, _⟩ => exact (Nat.zero_add _).trans (Nat.one_mul _)
    | ⟨4, _⟩ => exact (congrArg (a + ·) (Nat.one_mul _)).trans h))

/-- An entry of a load of one tap's weights. -/
theorem taps_at {a : ℕ} (Y : Vec Ideal S1x3x512 .f32) (w) (j : Fin 512) (a' : Fin 3) (h : a = a'.val) :
    View.ld (S := S1x3x512) Y (Rect.unit (s := S1x3x512) ![0, a, 0] S1x1x512.size w) (ix3 0 0 j) = Y (ix3 0 a' j) :=
  congrArg Y (funext fun q => Fin.ext (by
    match q with
    | ⟨0, _⟩ => rfl
    | ⟨1, _⟩ => exact h
    | ⟨2, _⟩ => exact (Nat.zero_add _).trans (Nat.one_mul _)))

/-- A load of a whole block. -/
theorem load_rows (Y : Vec Ideal S512x2048 .f32) (w) : View.ld (S := S512x2048) Y (Rect.unit (s := S512x2048) ![0, 0] ![512, 2048] w) = Y :=
  funext fun y => congrArg Y (funext fun a => Fin.ext (by
    match a with
    | ⟨0, _⟩ => exact (Nat.zero_add _).trans (Nat.one_mul _)
    | ⟨1, _⟩ => exact (Nat.zero_add _).trans (Nat.one_mul _)))

/-- A load of a whole block. -/
theorem load_halo (Y : Vec Ideal S16x2048 .f32) (w) : View.ld (S := S16x2048) Y (Rect.unit (s := S16x2048) ![0, 0] ![16, 2048] w) = Y :=
  funext fun y => congrArg Y (funext fun a => Fin.ext (by
    match a with
    | ⟨0, _⟩ => exact (Nat.zero_add _).trans (Nat.one_mul _)
    | ⟨1, _⟩ => exact (Nat.zero_add _).trans (Nat.one_mul _)))

/-- A load of a whole block. -/
theorem load_gain (Y : Vec Ideal S1x2048 .f32) (w) : View.ld (S := S1x2048) Y (Rect.unit (s := S1x2048) ![0, 0] ![1, 2048] w) = Y :=
  funext fun y => congrArg Y (funext fun a => Fin.ext (by
    match a with
    | ⟨0, _⟩ => exact (Nat.zero_add _).trans (Nat.one_mul _)
    | ⟨1, _⟩ => exact (Nat.zero_add _).trans (Nat.one_mul _)))

/-! ## The block of normalized rows -/

/-- The normalized rows of a block, the halo's before. -/
def xnOf (x0 : Vec Ideal S512x2048 .f32) (x1 : Vec Ideal S16x2048 .f32) (x2 : Vec Ideal S1x2048 .f32) : Vec Ideal S528x2048 .bf16 := fun y =>
  if h : (y 0).val < 16 then nrm (fun e => x1 (ix2 ⟨(y 0).val, h⟩ e)) (fun e => x2 (ix2 0 e)) (y 1)
  else nrm (fun e => x0 (ix2 ⟨(y 0).val - 16, by have h1 : (y 0).val < 528 := (y 0).isLt; omega⟩ e)) (fun e => x2 (ix2 0 e)) (y 1)

theorem xnOf_halo {x0 : Vec Ideal S512x2048 .f32} {x1 : Vec Ideal S16x2048 .f32} {x2 : Vec Ideal S1x2048 .f32} {y : S528x2048.Idx} {r : Fin 16} {d : Fin 2048} {X : Fin 2048 → EReal}
    (hX : ∀ e, X e = x1 (ix2 r e)) (hr : (y 0).val = r.val) (hd : (y 1).val = d.val) : nrm X (fun e => x2 (ix2 0 e)) d = xnOf x0 x1 x2 y := by
  have h : (y 0).val < 16 := by omega
  have hd' : y 1 = d := Fin.ext hd
  have hr' : (⟨(y 0).val, h⟩ : Fin 16) = r := Fin.ext hr
  unfold xnOf
  rw [dif_pos h, hd', hr']
  exact congrArg (fun X => nrm X _ d) (funext hX)

theorem xnOf_body {x0 : Vec Ideal S512x2048 .f32} {x1 : Vec Ideal S16x2048 .f32} {x2 : Vec Ideal S1x2048 .f32} {y : S528x2048.Idx} {r : Fin 512} {d : Fin 2048} {X : Fin 2048 → EReal}
    (hX : ∀ e, X e = x0 (ix2 r e)) (hr : (y 0).val = 16 + r.val) (hd : (y 1).val = d.val) : nrm X (fun e => x2 (ix2 0 e)) d = xnOf x0 x1 x2 y := by
  have h : ¬(y 0).val < 16 := by omega
  have hd' : y 1 = d := Fin.ext hd
  have hr' : ∀ w, (⟨(y 0).val - 16, w⟩ : Fin 512) = r := fun w => Fin.ext (by show (y 0).val - 16 = r.val; omega)
  unfold xnOf
  rw [dif_neg h, hd', hr']
  exact congrArg (fun X => nrm X _ d) (funext hX)

/-- The scratch of normalized rows after its stores. -/
theorem xn_canon (x0 : Vec Ideal S512x2048 .f32) (x1 : Vec Ideal S16x2048 .f32) (x2 : Vec Ideal S1x2048 .f32) (y : S528x2048.Idx) :
    View.canon (Val := Elt Ideal) (s := S528x2048) (e := .bf16)
      [⟨Rect.unit (s := S528x2048) ![400, 0] ![128, 2048] inb_S528x2048_S128x2048_400_0, k0_pay16 (k0_pay5 x2) (View.ld (S := S512x2048) x0 (Rect.unit (s := S512x2048) ![384, 0] ![128, 2048] inb_S512x2048_S128x2048_384_0))
         (k0_pay9 (View.ld (S := S512x2048) x0 (Rect.unit (s := S512x2048) ![384, 0] ![128, 2048] inb_S512x2048_S128x2048_384_0))) (k0_pay10 (F := Ideal))⟩,
       ⟨Rect.unit (s := S528x2048) ![272, 0] ![128, 2048] inb_S528x2048_S128x2048_272_0, k0_pay8 (k0_pay5 x2) (View.ld (S := S512x2048) x0 (Rect.unit (s := S512x2048) ![256, 0] ![128, 2048] inb_S512x2048_S128x2048_256_0))⟩,
       ⟨Rect.unit (s := S528x2048) ![144, 0] ![128, 2048] inb_S528x2048_S128x2048_144_0, k0_pay7 (k0_pay5 x2) (View.ld (S := S512x2048) x0 (Rect.unit (s := S512x2048) ![128, 0] ![128, 2048] inb_S512x2048_S128x2048_128_0))⟩,
       ⟨Rect.unit (s := S528x2048) ![16, 0] ![128, 2048] inb_S528x2048_S128x2048_16_0, k0_pay6 x2 (View.ld (S := S512x2048) x0 (Rect.unit (s := S512x2048) ![0, 0] ![128, 2048] inb_S512x2048_S128x2048_0_0))⟩,
       ⟨Rect.unit (s := S528x2048) ![0, 0] ![16, 2048] inb_S528x2048_S16x2048_0_0, k0_pay4 x2 x1⟩] y = xnOf x0 x1 x2 y := by
  have hy0 : (y 0).val < 528 := (y 0).isLt
  have hy1 : (y 1).val < 2048 := (y 1).isLt
  refine View.canon_apply_of_pieces (Val := Elt Ideal) (S := S528x2048) (e := .bf16) (xnOf x0 x1 x2) _ ?_ y ?_
  · intro p hp
    simp only [List.mem_cons, List.not_mem_nil, or_false] at hp
    rcases hp with rfl | rfl | rfl | rfl | rfl <;> intro x
    · rw [eq_ix2 (n0 := 128) (n1 := 2048) x]
      have h0 : (x 0).val < 128 := (x 0).isLt
      exact (pay16_apply _ _ _ _).trans (xnOf_body (r := ⟨384 + (x 0).val, by omega⟩) (fun e => rows_at x0 inb_S512x2048_S128x2048_384_0 (x 0) e _ rfl) (by show 400 + 1 * (x 0).val = 16 + (384 + (x 0).val); omega) (by show 0 + 1 * (x 1).val = (x 1).val; omega))
    · rw [eq_ix2 (n0 := 128) (n1 := 2048) x]
      have h0 : (x 0).val < 128 := (x 0).isLt
      exact (pay8_apply _ _ _ _).trans (xnOf_body (r := ⟨256 + (x 0).val, by omega⟩) (fun e => rows_at x0 inb_S512x2048_S128x2048_256_0 (x 0) e _ rfl) (by show 272 + 1 * (x 0).val = 16 + (256 + (x 0).val); omega) (by show 0 + 1 * (x 1).val = (x 1).val; omega))
    · rw [eq_ix2 (n0 := 128) (n1 := 2048) x]
      have h0 : (x 0).val < 128 := (x 0).isLt
      exact (pay7_apply _ _ _ _).trans (xnOf_body (r := ⟨128 + (x 0).val, by omega⟩) (fun e => rows_at x0 inb_S512x2048_S128x2048_128_0 (x 0) e _ rfl) (by show 144 + 1 * (x 0).val = 16 + (128 + (x 0).val); omega) (by show 0 + 1 * (x 1).val = (x 1).val; omega))
    · rw [eq_ix2 (n0 := 128) (n1 := 2048) x]
      have h0 : (x 0).val < 128 := (x 0).isLt
      exact (pay6_apply _ _ _ _).trans (xnOf_body (r := ⟨(x 0).val, by omega⟩) (fun e => rows_at x0 inb_S512x2048_S128x2048_0_0 (x 0) e _ (Nat.zero_add _)) (by show 16 + 1 * (x 0).val = 16 + (x 0).val; omega) (by show 0 + 1 * (x 1).val = (x 1).val; omega))
    · rw [eq_ix2 (n0 := 16) (n1 := 2048) x]
      exact (pay4_apply _ _ _ _).trans (xnOf_halo (r := x 0) (fun _ => rfl) (by show 0 + 1 * (x 0).val = (x 0).val; omega) (by show 0 + 1 * (x 1).val = (x 1).val; omega))
  · rcases (by omega : 400 ≤ (y 0).val ∨ (272 ≤ (y 0).val ∧ (y 0).val < 400) ∨ (144 ≤ (y 0).val ∧ (y 0).val < 272) ∨ (16 ≤ (y 0).val ∧ (y 0).val < 144) ∨ (y 0).val < 16) with h | h | h | h | h
    · exact ⟨_, .head _, (mem_rect inb_S528x2048_S128x2048_400_0 y).mpr (by omega)⟩
    · exact ⟨_, .tail _ (.head _), (mem_rect inb_S528x2048_S128x2048_272_0 y).mpr (by omega)⟩
    · exact ⟨_, .tail _ (.tail _ (.head _)), (mem_rect inb_S528x2048_S128x2048_144_0 y).mpr (by omega)⟩
    · exact ⟨_, .tail _ (.tail _ (.tail _ (.head _))), (mem_rect inb_S528x2048_S128x2048_16_0 y).mpr (by omega)⟩
    · exact ⟨_, .tail _ (.tail _ (.tail _ (.tail _ (.head _)))), (mem_rect inb_S528x2048_S16x2048_0_0 y).mpr (by omega)⟩

/-- The block of normalized results after its stores. -/
theorem nrm_canon (G : Fin 512 → Fin 2048 → EReal) (v : View sig .tc .vmem S512x2048 .f32) (L : List (View.Piece (Elt Ideal) S512x2048 .f32)) (hL : ∀ r d, View.canon L (ix2 r d) = G r d) (g : Vec Ideal S1x2048 .f32) (r : Fin 512) (d : Fin 2048) :
    View.canon (Val := Elt Ideal) (s := S512x2048) (e := .bf16)
      [⟨Rect.unit (s := S512x2048) ![384, 0] ![128, 2048] inb_S512x2048_S128x2048_384_0, k0_pay3 (k0_pay11 g) (v.readCov L (Rect.unit (s := S512x2048) ![384, 0] ![128, 2048] inb_S512x2048_S128x2048_384_0).toLoadRect)⟩,
       ⟨Rect.unit (s := S512x2048) ![256, 0] ![128, 2048] inb_S512x2048_S128x2048_256_0, k0_pay2 (k0_pay11 g) (k0_pay14 (v.readCov L (Rect.unit (s := S512x2048) ![256, 0] ![128, 2048] inb_S512x2048_S128x2048_256_0).toLoadRect)) (k0_pay15 (v.readCov L (Rect.unit (s := S512x2048) ![256, 0] ![128, 2048] inb_S512x2048_S128x2048_256_0).toLoadRect))⟩,
       ⟨Rect.unit (s := S512x2048) ![128, 0] ![128, 2048] inb_S512x2048_S128x2048_128_0, k0_pay13 g (v.readCov L (Rect.unit (s := S512x2048) ![128, 0] ![128, 2048] inb_S512x2048_S128x2048_128_0).toLoadRect)⟩,
       ⟨Rect.unit (s := S512x2048) ![0, 0] ![128, 2048] inb_S512x2048_S128x2048_0_0, k0_pay12 g (v.readCov L (Rect.unit (s := S512x2048) ![0, 0] ![128, 2048] inb_S512x2048_S128x2048_0_0).toLoadRect)⟩] (ix2 r d) = nrm (G r) (fun e => g (ix2 0 e)) d := by
  have hr : ∀ (a : ℕ) (w : ∀ q, (![a, 0] : Fin 2 → ℕ) q + (![128, 2048] : Fin 2 → ℕ) q ≤ S512x2048.size q) (r : Fin 128) (e : Fin 2048) (h : a + r.val < 512),
      v.readCov L (Rect.unit (s := S512x2048) ![a, 0] ![128, 2048] w).toLoadRect (ix2 r e) = G ⟨a + r.val, h⟩ e := by
    intro a w r e h
    rw [View.readCov_eq_canon']
    refine Eq.trans (congrArg (View.canon L) (funext fun q => Fin.ext ?_)) (hL ⟨a + r.val, h⟩ e)
    match q with
    | ⟨0, _⟩ => show a + 1 * r.val = a + r.val; omega
    | ⟨1, _⟩ => show 0 + 1 * e.val = e.val; omega
  have hc : ∀ {a : ℕ} (w : ∀ q, (![a, 0] : Fin 2 → ℕ) q + (![128, 2048] : Fin 2 → ℕ) q ≤ S512x2048.size q) (x : (⟨2, ![128, 2048]⟩ : Shape).Idx) (h : a + (x 0).val < 512) {X : Fin 2048 → EReal} (hX : ∀ e, X e = G ⟨a + (x 0).val, h⟩ e),
      nrm X (fun e => g (ix2 0 e)) (x 1) = nrm (G ((Rect.unit (s := S512x2048) ![a, 0] ![128, 2048] w).emb x 0)) (fun e => g (ix2 0 e)) ((Rect.unit (s := S512x2048) ![a, 0] ![128, 2048] w).emb x 1) := by
    intro a w x h X hX
    have e0 : (Rect.unit (s := S512x2048) ![a, 0] ![128, 2048] w).emb x 0 = (⟨a + (x 0).val, h⟩ : Fin 512) := Fin.ext (by show a + 1 * (x 0).val = a + (x 0).val; omega)
    have e1 : (Rect.unit (s := S512x2048) ![a, 0] ![128, 2048] w).emb x 1 = (x 1 : Fin 2048) := Fin.ext (by show 0 + 1 * (x 1).val = (x 1).val; omega)
    exact congrArg₂ (fun X d => nrm X (fun e => g (ix2 0 e)) d) ((funext hX).trans (congrArg G e0.symm)) e1.symm
  refine View.canon_apply_of_pieces (Val := Elt Ideal) (S := S512x2048) (e := .bf16) (fun y => nrm (G (y 0)) (fun e => g (ix2 0 e)) (y 1)) _ ?_ (ix2 r d) ?_
  · intro p hp
    simp only [List.mem_cons, List.not_mem_nil, or_false] at hp
    rcases hp with rfl | rfl | rfl | rfl <;> intro x <;> have h0 : (x 0).val < 128 := (x 0).isLt
    · exact ((congrArg _ (eq_ix2 (n0 := 128) (n1 := 2048) x)).trans (pay3_apply _ _ _ _)).trans (hc inb_S512x2048_S128x2048_384_0 x (by omega) fun e => hr 384 inb_S512x2048_S128x2048_384_0 (x 0) e _)
    · exact ((congrArg _ (eq_ix2 (n0 := 128) (n1 := 2048) x)).trans (pay2_apply _ _ _ _)).trans (hc inb_S512x2048_S128x2048_256_0 x (by omega) fun e => hr 256 inb_S512x2048_S128x2048_256_0 (x 0) e _)
    · exact ((congrArg _ (eq_ix2 (n0 := 128) (n1 := 2048) x)).trans (pay13_apply _ _ _ _)).trans (hc inb_S512x2048_S128x2048_128_0 x (by omega) fun e => hr 128 inb_S512x2048_S128x2048_128_0 (x 0) e _)
    · exact ((congrArg _ (eq_ix2 (n0 := 128) (n1 := 2048) x)).trans (pay12_apply _ _ _ _)).trans (hc inb_S512x2048_S128x2048_0_0 x (by omega) fun e => hr 0 inb_S512x2048_S128x2048_0_0 (x 0) e _)
  · have hd := d.isLt
    rcases (by omega : 384 ≤ r.val ∨ (256 ≤ r.val ∧ r.val < 384) ∨ (128 ≤ r.val ∧ r.val < 256) ∨ r.val < 128) with h | h | h | h
    · exact ⟨_, .head _, (mem_rect (M := 512) (N := 2048) inb_S512x2048_S128x2048_384_0 _).mpr (by show (384 ≤ r.val ∧ r.val < 384 + 128) ∧ 0 ≤ d.val ∧ d.val < 0 + 2048; omega)⟩
    · exact ⟨_, .tail _ (.head _), (mem_rect (M := 512) (N := 2048) inb_S512x2048_S128x2048_256_0 _).mpr (by show (256 ≤ r.val ∧ r.val < 256 + 128) ∧ 0 ≤ d.val ∧ d.val < 0 + 2048; omega)⟩
    · exact ⟨_, .tail _ (.tail _ (.head _)), (mem_rect (M := 512) (N := 2048) inb_S512x2048_S128x2048_128_0 _).mpr (by show (128 ≤ r.val ∧ r.val < 128 + 128) ∧ 0 ≤ d.val ∧ d.val < 0 + 2048; omega)⟩
    · exact ⟨_, .tail _ (.tail _ (.tail _ (.head _))), (mem_rect (M := 512) (N := 2048) inb_S512x2048_S128x2048_0_0 _).mpr (by show (0 ≤ r.val ∧ r.val < 0 + 128) ∧ 0 ≤ d.val ∧ d.val < 0 + 2048; omega)⟩

/-- An entry of a load from the normalized rows. -/
theorem xn_at (v : View sig .tc .vmem S528x2048 .bf16) (L : List (View.Piece (Elt Ideal) S528x2048 .bf16)) (G : S528x2048.Idx → EReal) (hL : ∀ y, View.canon L y = G y) {m : ℕ}
    (a : ℕ) (w : ∀ q, (![a, 0] : Fin 2 → ℕ) q + (⟨2, ![m, 2048]⟩ : Shape).size q ≤ S528x2048.size q) (r : Fin m) (j : Fin 2048) (r' : Fin 528) (h : a + r.val = r'.val) :
    v.readCov L (Rect.unit (s := S528x2048) ![a, 0] (⟨2, ![m, 2048]⟩ : Shape).size w).toLoadRect (ix2 r j) = G (ix2 r' j) := by
  rw [View.readCov_eq_canon']
  refine (hL _).trans (congrArg G (funext fun q => Fin.ext ?_))
  match q with
  | ⟨0, _⟩ => exact (congrArg (a + ·) (Nat.one_mul _)).trans h
  | ⟨1, _⟩ => exact (Nat.zero_add _).trans (Nat.one_mul _)

/-- An entry of the block of results where only the store of the rows reaches. -/
theorem whole_canon (x0 : Vec Ideal S512x2048 .f32) (y : S512x2048.Idx) : View.canon (Val := Elt Ideal) (s := S512x2048) (e := .f32) [⟨Rect.unit (s := S512x2048) ![0, 0] ![512, 2048] inb_S512x2048_S512x2048_0_0, x0⟩] y = x0 y := by
  refine View.canon_apply_of_pieces (Val := Elt Ideal) (S := S512x2048) (e := .f32) x0 _ ?_ y ?_
  · intro p hp
    simp only [List.mem_cons, List.not_mem_nil, or_false] at hp
    rcases hp with rfl
    intro x
    refine congrArg x0 (funext fun q => Fin.ext ?_)
    match q with
    | ⟨0, _⟩ => exact ((Nat.zero_add _).trans (Nat.one_mul _)).symm
    | ⟨1, _⟩ => exact ((Nat.zero_add _).trans (Nat.one_mul _)).symm
  · have h0 : (y 0).val < 512 := (y 0).isLt
    have h1 : (y 1).val < 2048 := (y 1).isLt
    exact ⟨_, .head _, (mem_rect (M := 512) (N := 2048) inb_S512x2048_S512x2048_0_0 _).mpr (by omega)⟩

/-- The first half of the rows, before any result is stored. -/
theorem first_at (v : View sig .tc .vmem S512x2048 .f32) (x0 : Vec Ideal S512x2048 .f32) (r : Fin 256) (d : Fin 2048) :
    v.readCov (Val := Elt Ideal) [⟨Rect.unit (s := S512x2048) ![0, 0] ![512, 2048] inb_S512x2048_S512x2048_0_0, x0⟩] (Rect.unit (s := S512x2048) ![0, 0] ![256, 2048] inb_S512x2048_S256x2048_0_0).toLoadRect (ix2 r d) = x0 (ix2 (half0 r) d) := by
  rw [View.readCov_eq_canon']
  refine (whole_canon x0 _).trans (congrArg x0 (funext fun q => Fin.ext ?_))
  match q with
  | ⟨0, _⟩ => exact (Nat.zero_add _).trans (Nat.one_mul _)
  | ⟨1, _⟩ => exact (Nat.zero_add _).trans (Nat.one_mul _)

/-- The second half, after the first half's result is stored. -/
theorem second_at (v : View sig .tc .vmem S512x2048 .f32) (x0 : Vec Ideal S512x2048 .f32) (z : Vec Ideal S256x2048 .f32) (r : Fin 256) (d : Fin 2048) :
    v.readCov (Val := Elt Ideal) [⟨Rect.unit (s := S512x2048) ![0, 0] ![256, 2048] inb_S512x2048_S256x2048_0_0, z⟩, ⟨Rect.unit (s := S512x2048) ![0, 0] ![512, 2048] inb_S512x2048_S512x2048_0_0, x0⟩]
      (Rect.unit (s := S512x2048) ![256, 0] ![256, 2048] inb_S512x2048_S256x2048_256_0).toLoadRect (ix2 r d) = x0 (ix2 (half1 r) d) := by
  rw [View.readCov_eq_canon']
  refine (canon_skip _ _ ?_).trans ((whole_canon x0 _).trans (congrArg x0 (funext fun q => Fin.ext ?_)))
  · intro h
    have h2 : 256 + 1 * r.val < 0 + 256 := ((mem_rect (M := 512) (N := 2048) inb_S512x2048_S256x2048_0_0 _).mp h).1.2
    omega
  · match q with
    | ⟨0, _⟩ => exact congrArg (256 + ·) (Nat.one_mul _)
    | ⟨1, _⟩ => exact (Nat.zero_add _).trans (Nat.one_mul _)

section
variable (c : Dev nD) (i : grid0.Coords) (arg2 : Memref sig .tc .vmem S512x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x1x1x2048x512 .bf16) (harg5 : arg5.IsWhole) (arg6 : Memref sig .tc .vmem S1x1x1x2048x512 .bf16) (harg6 : arg6.IsWhole) (arg7 : Memref sig .tc .vmem S1x3x512 .f32) (harg7 : arg7.IsWhole) (arg8 : Memref sig .tc .vmem S1x3x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x2048 .bf16) (harg11 : arg11.IsWhole) (arg12 : Memref sig .tc .vmem S1x2048 .f32) (harg12 : arg12.IsWhole) (arg13 : Memref sig .tc .vmem S512x2048 .f32) (harg13 : arg13.IsWhole) (arg14 : Memref sig .tc .vmem S512x2048 .bf16) (harg14 : arg14.IsWhole) (arg15 : Memref sig .tc .vmem S528x2048 .bf16) (harg15 : arg15.IsWhole) (arg16 : Memref sig .tc .vmem S528x1024 .f32) (harg16 : arg16.IsWhole)
  (x0 : Vec Ideal S512x2048 .f32) (x1 : Vec Ideal S16x2048 .f32) (x2 : Vec Ideal S1x2048 .f32) (x3 : Vec Ideal S1x1x1x2048x512 .bf16) (x4 : Vec Ideal S1x1x1x2048x512 .bf16) (x5 : Vec Ideal S1x3x512 .f32) (x6 : Vec Ideal S1x3x512 .f32) (x7 : Vec Ideal S1x1x512 .f32) (x8 : Vec Ideal S1x1x512 .f32) (x9 : Vec Ideal S1x512x2048 .bf16) (x10 : Vec Ideal S1x2048 .f32) (xo11 : Vec Ideal S512x2048 .f32) (xs0 : Vec Ideal S528x2048 .bf16)

/-- The normalized rows at the first point of a block's sweep. -/
theorem sout_first (hc0 : cond0_0 i) (hc1 : ¬cond0_1 i) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 = xnOf x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, load_row, load_down, load_rows, load_halo, load_gain]
  exact funext fun y => xn_canon x0 x1 x2 y

/-- The first point of a block's sweep. -/
theorem out_first (hc0 : cond0_0 i) (hc1 : ¬cond0_1 i) (r : Fin 512) (d : Fin 2048) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 (ix2 r d)
    = outNext (k0_pay17 (F := Ideal) i) (xnOf x0 x1 x2) x3 x4 x5 x6 x7 x8 x9 x0 r d := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, load_row, load_down, load_rows, load_halo, load_gain]
  refine step_canon (xnOf x0 x1 x2) x3 x4 _ _ _ _ _ _ ?_ ?_ ?_ ?_ ?_ ?_ x5 x6 _ _ _ _ _ _ _ _ _ ?_ ?_ ?_ ?_ ?_ ?_ x0 _ _ ?_ ?_ _ _ [⟨Rect.unit (s := S512x2048) ![0, 0] ![512, 2048] inb_S512x2048_S512x2048_0_0, x0⟩] r d
  · exact fun r l => xn_at arg15.view _ _ (xn_canon x0 x1 x2) _ _ r l _ (Nat.zero_add _)
  · exact fun r l => xn_at arg15.view _ _ (xn_canon x0 x1 x2) _ _ r l _ rfl
  · exact fun l j => cols_at x3 _ l j _ (Nat.zero_add _)
  · exact fun l j => cols_at x3 _ l j _ rfl
  · exact fun l j => cols_at x4 _ l j _ (Nat.zero_add _)
  · exact fun l j => cols_at x4 _ l j _ rfl
  · exact fun j => taps_at x5 _ j 0 rfl
  · exact fun j => taps_at x5 _ j 1 rfl
  · exact fun j => taps_at x5 _ j 2 rfl
  · exact fun j => taps_at x6 _ j 0 rfl
  · exact fun j => taps_at x6 _ j 1 rfl
  · exact fun j => taps_at x6 _ j 2 rfl
  · exact fun r d => first_at arg13.view x0 r d
  · exact fun r d => second_at arg13.view x0 _ r d

/-- A point in the middle of a block's sweep. -/
theorem out_mid (hc0 : ¬cond0_0 i) (hc1 : ¬cond0_1 i) (r : Fin 512) (d : Fin 2048) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xo11 xs0 (ix2 r d)
    = outNext (k0_pay17 (F := Ideal) i) xs0 x3 x4 x5 x6 x7 x8 x9 xo11 r d := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xo11 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, load_row, load_down, load_rows, load_halo, load_gain]
  refine step_canon xs0 x3 x4 _ _ _ _ _ _ ?_ ?_ ?_ ?_ ?_ ?_ x5 x6 _ _ _ _ _ _ _ _ _ ?_ ?_ ?_ ?_ ?_ ?_ xo11 _ _ ?_ ?_ _ _ [] r d
  · exact fun r l => rows_at xs0 _ r l _ (Nat.zero_add _)
  · exact fun r l => rows_at xs0 _ r l _ rfl
  · exact fun l j => cols_at x3 _ l j _ (Nat.zero_add _)
  · exact fun l j => cols_at x3 _ l j _ rfl
  · exact fun l j => cols_at x4 _ l j _ (Nat.zero_add _)
  · exact fun l j => cols_at x4 _ l j _ rfl
  · exact fun j => taps_at x5 _ j 0 rfl
  · exact fun j => taps_at x5 _ j 1 rfl
  · exact fun j => taps_at x5 _ j 2 rfl
  · exact fun j => taps_at x6 _ j 0 rfl
  · exact fun j => taps_at x6 _ j 1 rfl
  · exact fun j => taps_at x6 _ j 2 rfl
  · exact fun r d => rows_at xo11 _ r d _ (Nat.zero_add _)
  · exact fun r d => rows_at xo11 _ r d _ rfl

/-- The last point of a block's sweep. -/
theorem out_last (hc0 : ¬cond0_0 i) (hc1 : cond0_1 i) (r : Fin 512) (d : Fin 2048) : out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xo11 xs0 (ix2 r d)
    = outNext (k0_pay17 (F := Ideal) i) xs0 x3 x4 x5 x6 x7 x8 x9 xo11 r d := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xo11 xs0)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, load_row, load_down, load_rows, load_halo, load_gain]
  refine step_canon xs0 x3 x4 _ _ _ _ _ _ ?_ ?_ ?_ ?_ ?_ ?_ x5 x6 _ _ _ _ _ _ _ _ _ ?_ ?_ ?_ ?_ ?_ ?_ xo11 _ _ ?_ ?_ _ _ [] r d
  · exact fun r l => rows_at xs0 _ r l _ (Nat.zero_add _)
  · exact fun r l => rows_at xs0 _ r l _ rfl
  · exact fun l j => cols_at x3 _ l j _ (Nat.zero_add _)
  · exact fun l j => cols_at x3 _ l j _ rfl
  · exact fun l j => cols_at x4 _ l j _ (Nat.zero_add _)
  · exact fun l j => cols_at x4 _ l j _ rfl
  · exact fun j => taps_at x5 _ j 0 rfl
  · exact fun j => taps_at x5 _ j 1 rfl
  · exact fun j => taps_at x5 _ j 2 rfl
  · exact fun j => taps_at x6 _ j 0 rfl
  · exact fun j => taps_at x6 _ j 1 rfl
  · exact fun j => taps_at x6 _ j 2 rfl
  · exact fun r d => rows_at xo11 _ r d _ (Nat.zero_add _)
  · exact fun r d => rows_at xo11 _ r d _ rfl

/-- The normalized results at the last point. -/
theorem nrm_last (hc0 : ¬cond0_0 i) (hc1 : cond0_1 i) (r : Fin 512) (d : Fin 2048) : out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xo11 xs0 (ix2 r d)
    = nrm (outNext (k0_pay17 (F := Ideal) i) xs0 x3 x4 x5 x6 x7 x8 x9 xo11 r) (fun e => x10 (ix2 0 e)) d := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 xo11 xs0)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg15.read_unread, load_row, load_down, load_rows, load_halo, load_gain]
  refine nrm_canon (outNext (k0_pay17 (F := Ideal) i) xs0 x3 x4 x5 x6 x7 x8 x9 xo11) arg13.view _ (fun r d => ?_) x10 r d
  refine step_canon xs0 x3 x4 _ _ _ _ _ _ ?_ ?_ ?_ ?_ ?_ ?_ x5 x6 _ _ _ _ _ _ _ _ _ ?_ ?_ ?_ ?_ ?_ ?_ xo11 _ _ ?_ ?_ _ _ [] r d
  · exact fun r l => rows_at xs0 _ r l _ (Nat.zero_add _)
  · exact fun r l => rows_at xs0 _ r l _ rfl
  · exact fun l j => cols_at x3 _ l j _ (Nat.zero_add _)
  · exact fun l j => cols_at x3 _ l j _ rfl
  · exact fun l j => cols_at x4 _ l j _ (Nat.zero_add _)
  · exact fun l j => cols_at x4 _ l j _ rfl
  · exact fun j => taps_at x5 _ j 0 rfl
  · exact fun j => taps_at x5 _ j 1 rfl
  · exact fun j => taps_at x5 _ j 2 rfl
  · exact fun j => taps_at x6 _ j 0 rfl
  · exact fun j => taps_at x6 _ j 1 rfl
  · exact fun j => taps_at x6 _ j 2 rfl
  · exact fun r d => rows_at xo11 _ r d _ (Nat.zero_add _)
  · exact fun r d => rows_at xo11 _ r d _ rfl
end

end Cert.FfnV

end
-- ==== Proof.FfnHost.lean ====
module

public import proofs.«01_k».proof.Proof.FfnCase
public import Idealize.ShloMosaic.Lib.Tactic.CleanTypes
public import Idealize.ShloMosaic.Lib.StableHlo.RunRead
public import Idealize.ShloMosaic.Lib.StableHlo.ReadAt

@[expose] public section

set_option maxRecDepth 16384
set_option maxHeartbeats 1000000

noncomputable section

namespace Cert.FfnV
open Idealize.ShloMosaic Idealize.ShloMosaic.TcCoe Idealize.ShloMosaic.Tactic Idealize.SL.Sem
open Cert.FfnIdeal Cert.FfnIdeal.Gen

/-! ## What the host pads -/

/-- A column of one half, zero past its end. -/
def halfOf (p : Fin 2) (x : Fin 11008 → EReal) (f : Fin 5632) : EReal := if h : f.val < 5504 then x ⟨5504 * p.val + f.val, by omega⟩ else 0

/-- Before the end. -/
theorem halfOf_pos (p : Fin 2) (x : Fin 11008 → EReal) (f : Fin 5632) (h : f.val < 5504) : halfOf p x f = x ⟨5504 * p.val + f.val, by omega⟩ := dif_pos h

/-- Past the end. -/
theorem halfOf_neg (p : Fin 2) (x : Fin 11008 → EReal) (f : Fin 5632) (h : ¬f.val < 5504) : halfOf p x f = 0 := dif_neg h

/-- The value that pads. -/
theorem zero_int : (FloatOps.sitofp (F := Ideal) FTy.f32 0#32 : EReal) = 0 := by
  show ((((0#32 : BitVec 32).toInt : ℝ)) : EReal) = 0
  simp

theorem pad_cw (x : Vec Ideal S4x3x11008 .f32) (i : Fin 3) (q : Fin 11264) (p : Fin 2) (f : Fin 5632) (h : q.val = 5632 * p.val + f.val) :
    shapeCast S4x3x11264 (pad S4x3x2x5632 ![0, 0, 0, 0] ![0, 0, 0, 128] ![0, 0, 0, 0] (fun i => shapeCast S4x3x2x5504 x shapeCasts_S4x3x11008_S4x3x2x5504 i)
        (sitofp (F := Ideal) FTy.f32 (constantI S_ 32 0#32)) pads_S4x3x2x5504_S4x3x2x5632_000_000_000_01280 h_S_) shapeCasts_S4x3x2x5632_S4x3x11264 (ix3 0 i q) = halfOf p (fun f => x (ix3 0 i f)) f := by
  pointwise
  by_cases hf : f.val < 5504
  · have e : ∀ w, (⟨q.val / 5632 * 5504 + q.val % 5632, w⟩ : Fin 11008) = ⟨5504 * p.val + f.val, by omega⟩ := fun w => by rw [Fin.mk.injEq]; omega
    refine Eq.trans (dif_pos ⟨by omega, by omega⟩) (Eq.trans ?_ (halfOf_pos p _ f hf).symm)
    rw [e]
  · refine Eq.trans ?_ (halfOf_neg p _ f hf).symm
    refine Eq.trans (dif_neg ?_) zero_int
    intro h'
    omega

theorem pad_cb (x : Vec Ideal S4x11008 .f32) (q : Fin 11264) (p : Fin 2) (f : Fin 5632) (h : q.val = 5632 * p.val + f.val) :
    broadcastInDim S4x1x11264 ![0, 2] bcast_S4x11264_S4x1x11264_0_2 (shapeCast S4x11264 (pad S4x2x5632 ![0, 0, 0] ![0, 0, 128] ![0, 0, 0] (fun i => shapeCast S4x2x5504 x shapeCasts_S4x11008_S4x2x5504 i)
        (sitofp (F := Ideal) FTy.f32 (constantI S_ 32 0#32)) pads_S4x2x5504_S4x2x5632_000_000_01280 h_S_) shapeCasts_S4x2x5632_S4x11264) (ix3 0 0 q) = halfOf p (fun f => x (ix2 0 f)) f := by
  pointwise
  by_cases hf : f.val < 5504
  · have e : ∀ w, (⟨q.val / 5632 * 5504 + q.val % 5632, w⟩ : Fin 11008) = ⟨5504 * p.val + f.val, by omega⟩ := fun w => by rw [Fin.mk.injEq]; omega
    refine Eq.trans (dif_pos ⟨by omega, by omega⟩) (Eq.trans ?_ (halfOf_pos p _ f hf).symm)
    rw [e]
  · refine Eq.trans ?_ (halfOf_neg p _ f hf).symm
    refine Eq.trans (dif_neg ?_) zero_int
    intro h'
    omega

theorem pad_wdn (x : Vec Ideal S4x5504x2048 .f32) (f : Fin 5632) (d : Fin 2048) :
    truncf (F := Ideal) .bf16 (pad S4x5632x2048 ![0, 0, 0] ![0, 128, 0] ![0, 0, 0] x (sitofp (F := Ideal) FTy.f32 (constantI S_ 32 0#32)) pads_S4x5504x2048_S4x5632x2048_000_01280_000 h_S_) bitsLt_bf16_f32 (ix3 0 f d)
      = if h : f.val < 5504 then x (ix3 0 ⟨f.val, h⟩ d) else (0 : EReal) := by
  pointwise
  by_cases hf : f.val < 5504
  · rw [dif_pos hf, dif_pos hf]
  · rw [dif_neg hf, dif_neg hf]
    exact zero_int

/-! ## The blocks of a grid point, from the arrays the program is given -/

section
variable (m : (ℓ : Loc nD τ sig) → Buf (Elt Ideal) ℓ) (c : Dev nD)

theorem idx_0 : ∀ t : Fin cfg0.N, win0_0.index t (0 : Fin 2) = t.val / 11 ∧ win0_0.index t (1 : Fin 2) = 0 := by decide +kernel
theorem idx_1 : ∀ t : Fin cfg0.N, win0_1.index t (0 : Fin 2) = 32 * (t.val / 11) - 1 ∧ win0_1.index t (1 : Fin 2) = 0 := by decide +kernel
theorem idx_2 : ∀ t : Fin cfg0.N, win0_2.index t (0 : Fin 2) = 0 ∧ win0_2.index t (1 : Fin 2) = 0 := by decide +kernel
theorem idx_3 : ∀ t : Fin cfg0.N, win0_3.index t (0 : Fin 5) = 0 ∧ win0_3.index t (1 : Fin 5) = t.val % 11 ∧ win0_3.index t (2 : Fin 5) = 0 ∧ win0_3.index t (3 : Fin 5) = 0 ∧ win0_3.index t (4 : Fin 5) = 0 := by decide +kernel
theorem idx_4 : ∀ t : Fin cfg0.N, win0_4.index t (0 : Fin 5) = 0 ∧ win0_4.index t (1 : Fin 5) = t.val % 11 ∧ win0_4.index t (2 : Fin 5) = 1 ∧ win0_4.index t (3 : Fin 5) = 0 ∧ win0_4.index t (4 : Fin 5) = 0 := by decide +kernel
theorem idx_5 : ∀ t : Fin cfg0.N, win0_5.index t (0 : Fin 3) = 0 ∧ win0_5.index t (1 : Fin 3) = 0 ∧ win0_5.index t (2 : Fin 3) = t.val % 11 := by decide +kernel
theorem idx_6 : ∀ t : Fin cfg0.N, win0_6.index t (0 : Fin 3) = 0 ∧ win0_6.index t (1 : Fin 3) = 0 ∧ win0_6.index t (2 : Fin 3) = 11 + t.val % 11 := by decide +kernel
theorem idx_7 : ∀ t : Fin cfg0.N, win0_7.index t (0 : Fin 3) = 0 ∧ win0_7.index t (1 : Fin 3) = 0 ∧ win0_7.index t (2 : Fin 3) = t.val % 11 := by decide +kernel
theorem idx_8 : ∀ t : Fin cfg0.N, win0_8.index t (0 : Fin 3) = 0 ∧ win0_8.index t (1 : Fin 3) = 0 ∧ win0_8.index t (2 : Fin 3) = 11 + t.val % 11 := by decide +kernel
theorem idx_9 : ∀ t : Fin cfg0.N, win0_9.index t (0 : Fin 3) = 0 ∧ win0_9.index t (1 : Fin 3) = t.val % 11 ∧ win0_9.index t (2 : Fin 3) = 0 := by decide +kernel
theorem idx_10 : ∀ t : Fin cfg0.N, win0_10.index t (0 : Fin 2) = 0 ∧ win0_10.index t (1 : Fin 2) = 0 := by decide +kernel

theorem point_lt (t : Fin cfg0.N) : t.val < 704 := lt_of_lt_of_eq t.isLt N_0

/-- A row of a grid point's block in the whole array. -/
def gridRow (t : Fin cfg0.N) (r : Fin 512) : Fin 32768 := ⟨512 * (t.val / 11) + r.val, by have := point_lt t; omega⟩

/-- A row of a grid point's halo in the whole array. -/
def haloRow (t : Fin cfg0.N) (r : Fin 16) : Fin 32768 := ⟨16 * (32 * (t.val / 11) - 1) + r.val, by have := point_lt t; omega⟩

/-- The block of the columns a grid point works on. -/
def colBlock (t : Fin cfg0.N) : Fin 11 := ⟨t.val % 11, Nat.mod_lt _ (by decide)⟩

/-- A gate column of a grid point, among the padded columns of both halves. -/
def gateCol (t : Fin cfg0.N) (j : Fin 512) : Fin 11264 := ⟨512 * (t.val % 11) + j.val, by omega⟩
/-- A value column. -/
def valCol (t : Fin cfg0.N) (j : Fin 512) : Fin 11264 := ⟨5632 + (512 * (t.val % 11) + j.val), by omega⟩
/-- A column among the padded columns of one half. -/
def ffCol (t : Fin cfg0.N) (j : Fin 512) : Fin 5632 := ⟨512 * (t.val % 11) + j.val, by omega⟩

/-- The rows of a grid point. -/
theorem blk_x (t : Fin cfg0.N) (r : Fin 512) (d : Fin 2048) : (iblk m c 0 t : Vec Ideal S512x2048 .f32) (ix2 r d) = m ((c : Thread nD τ).loc main_arg0) (ix2 (gridRow t r) d) := by
  have h := idx_0 t
  unfold iblk
  blk_ext [V, gridRow, h.1, h.2]

/-- The rows before them. -/
theorem blk_halo (t : Fin cfg0.N) (r : Fin 16) (d : Fin 2048) : (iblk m c 1 t : Vec Ideal S16x2048 .f32) (ix2 r d) = m ((c : Thread nD τ).loc main_arg0) (ix2 (haloRow t r) d) := by
  have h := idx_1 t
  unfold iblk
  blk_ext [V, haloRow, h.1, h.2]

/-- The gate's columns of the up projection. -/
theorem blk_wg (t : Fin cfg0.N) (l : Fin 2048) (j : Fin 512) : (iblk m c 3 t : Vec Ideal S1x1x1x2048x512 .bf16) (ix5 0 0 0 l j) = m ((c : Thread nD τ).loc main_arg2) (ix5 (0 : Fin 4) (colBlock t) (0 : Fin 2) l j) := by
  obtain ⟨h0, h1, h2, h3, h4⟩ := idx_3 t
  unfold iblk
  blk_ext [V, colBlock, h0, h1, h2, h3, h4]

/-- The value's columns. -/
theorem blk_wv (t : Fin cfg0.N) (l : Fin 2048) (j : Fin 512) : (iblk m c 4 t : Vec Ideal S1x1x1x2048x512 .bf16) (ix5 0 0 0 l j) = m ((c : Thread nD τ).loc main_arg2) (ix5 (0 : Fin 4) (colBlock t) (1 : Fin 2) l j) := by
  obtain ⟨h0, h1, h2, h3, h4⟩ := idx_4 t
  unfold iblk
  blk_ext [V, colBlock, h0, h1, h2, h3, h4]

/-- The norm's gains. -/
theorem blk_gain (t : Fin cfg0.N) (d : Fin 2048) : (iblk m c 2 t : Vec Ideal S1x2048 .f32) (ix2 0 d) = m ((c : Thread nD τ).loc main_arg1) (ix1 d) := by
  have h := idx_2 t
  unfold iblk
  entry_read
  have e : ((cfg0.win 2).blk t).view.emb (ix2 0 d) = (ix2 0 d : S1x2048.Idx) := by blk_ext [h.1, h.2]
  refine (congrArg (shapeCast S1x2048 (m ((c : Thread nD τ).loc main_arg1) : Vec Ideal S2048 .f32) shapeCasts_S2048_S1x2048) e).trans ?_
  pointwise

/-- The second norm's gains. -/
theorem blk_post (t : Fin cfg0.N) (d : Fin 2048) : (iblk m c 10 t : Vec Ideal S1x2048 .f32) (ix2 0 d) = m ((c : Thread nD τ).loc main_arg6) (ix1 d) := by
  have h := idx_10 t
  unfold iblk
  entry_read
  have e : ((cfg0.win 10).blk t).view.emb (ix2 0 d) = (ix2 0 d : S1x2048.Idx) := by blk_ext [h.1, h.2]
  refine (congrArg (shapeCast S1x2048 (m ((c : Thread nD τ).loc main_arg6) : Vec Ideal S2048 .f32) shapeCasts_S2048_S1x2048) e).trans ?_
  pointwise

/-- The gate's taps. -/
theorem blk_cg (t : Fin cfg0.N) (i : Fin 3) (j : Fin 512) : (iblk m c 5 t : Vec Ideal S1x3x512 .f32) (ix3 0 i j) = halfOf 0 (fun f => (m ((c : Thread nD τ).loc main_arg3) : Vec Ideal S4x3x11008 .f32) (ix3 0 i f)) (ffCol t j) := by
  obtain ⟨h0, h1, h2⟩ := idx_5 t
  have e : ((cfg0.win 5).blk t).view.emb (ix3 0 i j) = (ix3 (0 : Fin 4) i (gateCol t j) : S4x3x11264.Idx) := by blk_ext [gateCol, valCol, h0, h1, h2]
  have key : ∀ A : Vec Ideal S4x3x11264 .f32, ((cfg0.win 5).blk t).view.read (Elt Ideal) A (ix3 0 i j) = A (ix3 (0 : Fin 4) i (gateCol t j)) := fun A => congrArg A e
  refine (key _).trans ?_
  simp only [V, hostOps0, hostOps0_1, hostOps0_2, hostOps0_3, hostOps0_4, hostOps0_5, hostOps0_6, List.flatten_cons, List.flatten_nil, List.cons_append, List.nil_append, List.append_nil]
  after_reads_simp
  simp -implicitDefEqProofs only [StableHlo.TRef.toBuf, StableHlo.TRef.ofBuf, cast_cast, cast_eq]
  exact pad_cw _ i _ 0 (ffCol t j) (by unfold gateCol; dsimp only [ffCol]; try omega)

/-- The value's taps. -/
theorem blk_cv (t : Fin cfg0.N) (i : Fin 3) (j : Fin 512) : (iblk m c 6 t : Vec Ideal S1x3x512 .f32) (ix3 0 i j) = halfOf 1 (fun f => (m ((c : Thread nD τ).loc main_arg3) : Vec Ideal S4x3x11008 .f32) (ix3 0 i f)) (ffCol t j) := by
  obtain ⟨h0, h1, h2⟩ := idx_6 t
  have e : ((cfg0.win 6).blk t).view.emb (ix3 0 i j) = (ix3 (0 : Fin 4) i (valCol t j) : S4x3x11264.Idx) := by blk_ext [gateCol, valCol, h0, h1, h2]
  have key : ∀ A : Vec Ideal S4x3x11264 .f32, ((cfg0.win 6).blk t).view.read (Elt Ideal) A (ix3 0 i j) = A (ix3 (0 : Fin 4) i (valCol t j)) := fun A => congrArg A e
  refine (key _).trans ?_
  simp only [V, hostOps0, hostOps0_1, hostOps0_2, hostOps0_3, hostOps0_4, hostOps0_5, hostOps0_6, List.flatten_cons, List.flatten_nil, List.cons_append, List.nil_append, List.append_nil]
  after_reads_simp
  simp -implicitDefEqProofs only [StableHlo.TRef.toBuf, StableHlo.TRef.ofBuf, cast_cast, cast_eq]
  exact pad_cw _ i _ 1 (ffCol t j) (by unfold valCol; dsimp only [ffCol]; try omega)

/-- The gate's bias. -/
theorem blk_bg (t : Fin cfg0.N) (j : Fin 512) : (iblk m c 7 t : Vec Ideal S1x1x512 .f32) (ix3 0 0 j) = halfOf 0 (fun f => (m ((c : Thread nD τ).loc main_arg4) : Vec Ideal S4x11008 .f32) (ix2 0 f)) (ffCol t j) := by
  obtain ⟨h0, h1, h2⟩ := idx_7 t
  have e : ((cfg0.win 7).blk t).view.emb (ix3 0 0 j) = (ix3 (0 : Fin 4) 0 (gateCol t j) : S4x1x11264.Idx) := by blk_ext [gateCol, h0, h1, h2]
  have key : ∀ A : Vec Ideal S4x1x11264 .f32, ((cfg0.win 7).blk t).view.read (Elt Ideal) A (ix3 0 0 j) = A (ix3 (0 : Fin 4) 0 (gateCol t j)) := fun A => congrArg A e
  refine (key _).trans ?_
  simp only [V, hostOps0, hostOps0_1, hostOps0_2, hostOps0_3, hostOps0_4, hostOps0_5, hostOps0_6, List.flatten_cons, List.flatten_nil, List.cons_append, List.nil_append, List.append_nil]
  after_reads_simp
  simp -implicitDefEqProofs only [StableHlo.TRef.toBuf, StableHlo.TRef.ofBuf, cast_cast, cast_eq]
  exact pad_cb _ _ 0 (ffCol t j) (by unfold gateCol; dsimp only [ffCol]; try omega)

/-- The value's bias. -/
theorem blk_bv (t : Fin cfg0.N) (j : Fin 512) : (iblk m c 8 t : Vec Ideal S1x1x512 .f32) (ix3 0 0 j) = halfOf 1 (fun f => (m ((c : Thread nD τ).loc main_arg4) : Vec Ideal S4x11008 .f32) (ix2 0 f)) (ffCol t j) := by
  obtain ⟨h0, h1, h2⟩ := idx_8 t
  have e : ((cfg0.win 8).blk t).view.emb (ix3 0 0 j) = (ix3 (0 : Fin 4) 0 (valCol t j) : S4x1x11264.Idx) := by blk_ext [valCol, h0, h1, h2]
  have key : ∀ A : Vec Ideal S4x1x11264 .f32, ((cfg0.win 8).blk t).view.read (Elt Ideal) A (ix3 0 0 j) = A (ix3 (0 : Fin 4) 0 (valCol t j)) := fun A => congrArg A e
  refine (key _).trans ?_
  simp only [V, hostOps0, hostOps0_1, hostOps0_2, hostOps0_3, hostOps0_4, hostOps0_5, hostOps0_6, List.flatten_cons, List.flatten_nil, List.cons_append, List.nil_append, List.append_nil]
  after_reads_simp
  simp -implicitDefEqProofs only [StableHlo.TRef.toBuf, StableHlo.TRef.ofBuf, cast_cast, cast_eq]
  exact pad_cb _ _ 1 (ffCol t j) (by unfold valCol; dsimp only [ffCol]; try omega)

/-- The down projection's rows. -/
theorem blk_wdn (t : Fin cfg0.N) (j : Fin 512) (d : Fin 2048) : (iblk m c 9 t : Vec Ideal S1x512x2048 .bf16) (ix3 0 j d)
    = if h : (ffCol t j).val < 5504 then (m ((c : Thread nD τ).loc main_arg5) : Vec Ideal S4x5504x2048 .f32) (ix3 0 ⟨(ffCol t j).val, h⟩ d) else (0 : EReal) := by
  obtain ⟨h0, h1, h2⟩ := idx_9 t
  have e : ((cfg0.win 9).blk t).view.emb (ix3 0 j d) = (ix3 (0 : Fin 4) (ffCol t j) d : S4x5632x2048.Idx) := by blk_ext [ffCol, h0, h1, h2]
  have key : ∀ A : Vec Ideal S4x5632x2048 .bf16, ((cfg0.win 9).blk t).view.read (Elt Ideal) A (ix3 0 j d) = A (ix3 (0 : Fin 4) (ffCol t j) d) := fun A => congrArg A e
  refine (key _).trans ?_
  simp only [V, hostOps0, hostOps0_1, hostOps0_2, hostOps0_3, hostOps0_4, hostOps0_5, hostOps0_6, List.flatten_cons, List.flatten_nil, List.cons_append, List.nil_append, List.append_nil]
  after_reads_simp
  simp -implicitDefEqProofs only [StableHlo.TRef.toBuf, StableHlo.TRef.ofBuf, cast_cast, cast_eq]
  exact pad_wdn _ (ffCol t j) d
end

end Cert.FfnV

end
-- ==== Proof.FfnSpec.lean ====
module

public import proofs.«01_k».proof.Proof.FfnHost

@[expose] public section

set_option maxRecDepth 16384
set_option maxHeartbeats 1000000

noncomputable section

namespace Cert.FfnV
open Idealize.ShloMosaic Idealize.ShloMosaic.TcCoe Idealize.ShloMosaic.Tactic Idealize.SL.Sem
open Cert.FfnIdeal Cert.FfnIdeal.Gen
/-! ## The layer over plain functions -/

section
variable (X : Fin 32768 → Fin 2048 → EReal) (G : Fin 2048 → EReal) (W : Fin 11 → Fin 2 → Fin 2048 → Fin 512 → EReal)
  (CW : Fin 3 → Fin 11008 → EReal) (CB : Fin 11008 → EReal) (WD : Fin 5504 → Fin 2048 → EReal)

/-- The up-projection of one row at a column of one half. -/
def sUp (r : Fin 32768) (p : Fin 2) (f : Fin 5632) : EReal :=
  ∑ l : Fin 2048, nrm (X r) G l * W ⟨f.val / 512, by omega⟩ p l ⟨f.val % 512, Nat.mod_lt _ (by decide)⟩

/-- The up-projection some rows earlier, zero before the sequence's start. -/
def sTap (δ : ℕ) (r : Fin 32768) (p : Fin 2) (f : Fin 5632) : EReal :=
  if r.val % 4096 < δ then 0 else sUp X G W ⟨r.val - δ, by omega⟩ p f

/-- The causal convolution of one half. -/
def sConv (r : Fin 32768) (p : Fin 2) (f : Fin 5632) : EReal :=
  tap (halfOf p (CW 0) f) (halfOf p (CW 1) f) (halfOf p (CW 2) f) (halfOf p CB f) (sTap X G W 0 r p f) (sTap X G W 1 r p f) (sTap X G W 2 r p f)

/-- The down-projection with zero rows past its end. -/
def sDown (f : Fin 5632) (d : Fin 2048) : EReal := if h : f.val < 5504 then WD ⟨f.val, h⟩ d else 0

/-- What one column of the hidden layer gives to the result. -/
def sTerm (r : Fin 32768) (f : Fin 5632) (d : Fin 2048) : EReal :=
  act (sConv X G W CW CB r 0 f) (sConv X G W CW CB r 1 f) * sDown WD f d

/-- A column of a block of columns. -/
def sCol (k : ℕ) (j : Fin 512) : Fin 5632 := ⟨(512 * k + j.val) % 5632, Nat.mod_lt _ (by decide)⟩

/-- The result after some blocks of columns. -/
def sAcc (r : Fin 32768) (d : Fin 2048) : ℕ → EReal
  | 0 => X r d
  | k + 1 => sAcc r d k + ∑ j : Fin 512, sTerm X G W CW CB WD r (sCol k j) d

/-- The blocks one after another are all columns. -/
theorem sum_blocks (T : Fin 5632 → EReal) : ∑ k ∈ Finset.range 11, ∑ j : Fin 512, T (sCol k j) = ∑ f : Fin 5632, T f := by
  have h1 : ∑ f : Fin 5632, T f = ∑ p : Fin 11 × Fin 512, T (finProdFinEquiv (m := 11) (n := 512) p) :=
    (Equiv.sum_comp (finProdFinEquiv (m := 11) (n := 512)) T).symm
  rw [h1, Fintype.sum_prod_type, Finset.sum_range]
  refine Finset.sum_congr rfl fun k _ => Finset.sum_congr rfl fun j _ => congrArg T (Fin.ext ?_)
  show (512 * k.val + j.val) % 5632 = j.val + 512 * k.val
  omega

/-- All blocks together. -/
theorem sAcc_all (r : Fin 32768) (d : Fin 2048) : sAcc X G W CW CB WD r d 11 = X r d + ∑ f : Fin 5632, sTerm X G W CW CB WD r f d := by
  have h : ∀ k, sAcc X G W CW CB WD r d k = X r d + ∑ i ∈ Finset.range k, ∑ j : Fin 512, sTerm X G W CW CB WD r (sCol i j) d := by
    intro k
    induction k with
    | zero => exact (add_zero _).symm
    | succ k ih => rw [sAcc, ih, Finset.sum_range_succ, add_assoc]
  rw [h, sum_blocks fun f => sTerm X G W CW CB WD r f d]

/-- Columns past the end give nothing. -/
theorem sum_padded (r : Fin 32768) (d : Fin 2048) : ∑ f : Fin 5632, sTerm X G W CW CB WD r f d
    = ∑ f : Fin 5504, act (sConv X G W CW CB r 0 ⟨f.val, by omega⟩) (sConv X G W CW CB r 1 ⟨f.val, by omega⟩) * WD f d := by
  refine (Fin.sum_univ_add (a := 5504) (b := 128) fun f => sTerm X G W CW CB WD r f d).trans ?_
  have h0 : ∑ i : Fin 128, sTerm X G W CW CB WD r (Fin.natAdd 5504 i) d = 0 := Finset.sum_eq_zero fun i _ => by
    have h : ¬(Fin.natAdd 5504 i).val < 5504 := by rw [Fin.val_natAdd]; omega
    show _ * sDown WD (Fin.natAdd 5504 i) d = 0
    rw [show sDown WD (Fin.natAdd 5504 i) d = 0 from dif_neg h, mul_zero]
  rw [h0, add_zero]
  refine Finset.sum_congr rfl fun f _ => ?_
  show _ * sDown WD (Fin.castAdd 128 f) d = _
  rw [show sDown WD (Fin.castAdd 128 f) d = WD f d from dif_pos f.isLt]
  rfl
end

end Cert.FfnV

end
-- ==== Proof.FfnGrid.lean ====
module

public import proofs.«01_k».proof.Proof.FfnSpec

@[expose] public section

set_option maxRecDepth 16384
set_option maxHeartbeats 1000000

noncomputable section

namespace Cert.FfnV
open Idealize.ShloMosaic Idealize.ShloMosaic.TcCoe Idealize.ShloMosaic.Tactic Idealize.SL.Sem
open Cert.FfnIdeal Cert.FfnIdeal.Gen
/-! ## The kernel's blocks are the layer's inputs -/

section
variable (m : (ℓ : Loc nD τ sig) → Buf (Elt Ideal) ℓ) (c : Dev nD)

/-- The rows. -/
def aX (r : Fin 32768) (d : Fin 2048) : EReal := (m ((c : Thread nD τ).loc main_arg0) : Vec Ideal S32768x2048 .f32) (ix2 r d)
/-- The gain before. -/
def aG (d : Fin 2048) : EReal := (m ((c : Thread nD τ).loc main_arg1) : Vec Ideal S2048 .f32) (ix1 d)
/-- The up-projection's weights. -/
def aW (k : Fin 11) (p : Fin 2) (l : Fin 2048) (j : Fin 512) : EReal := (m ((c : Thread nD τ).loc main_arg2) : Vec Ideal S4x11x2x2048x512 .bf16) (ix5 0 k p l j)
/-- The convolution's weights. -/
def aCW (i : Fin 3) (f : Fin 11008) : EReal := (m ((c : Thread nD τ).loc main_arg3) : Vec Ideal S4x3x11008 .f32) (ix3 0 i f)
/-- The convolution's bias. -/
def aCB (f : Fin 11008) : EReal := (m ((c : Thread nD τ).loc main_arg4) : Vec Ideal S4x11008 .f32) (ix2 0 f)
/-- The down-projection's weights. -/
def aWD (f : Fin 5504) (d : Fin 2048) : EReal := (m ((c : Thread nD τ).loc main_arg5) : Vec Ideal S4x5504x2048 .f32) (ix3 0 f d)
/-- The gain after. -/
def aGP (d : Fin 2048) : EReal := (m ((c : Thread nD τ).loc main_arg6) : Vec Ideal S2048 .f32) (ix1 d)

/-- The row a line of the scratch belongs to. -/
def xsRow (b : ℕ) (y : Fin 528) : Fin 32768 := ⟨(if y.val < 16 then 16 * (32 * b - 1) + y.val else 512 * b + (y.val - 16)) % 32768, Nat.mod_lt _ (by decide)⟩

/-- The scratch of a block of rows. -/
def sXn (b : ℕ) : Vec Ideal S528x2048 .bf16 := fun y => nrm (aX m c (xsRow b (y 0))) (aG m c) (y 1)

/-- The result after some blocks of columns, of the kernel's arrays. -/
def kAcc (r : Fin 32768) (d : Fin 2048) (k : ℕ) : EReal := sAcc (aX m c) (aG m c) (aW m c) (aCW m c) (aCB m c) (aWD m c) r d k

/-- The scratch that the first point of a block of rows leaves. -/
theorem xn_eq (t : Fin cfg0.N) : xnOf (iblk m c 0 t) (iblk m c 1 t) (iblk m c 2 t) = sXn m c (t.val / 11) := by
  have ht := point_lt t
  funext y
  have hy : (y 0).val < 528 := (y 0).isLt
  have hg : (fun e => (iblk m c 2 t : Vec Ideal S1x2048 .f32) (ix2 0 e)) = aG m c := funext fun e => blk_gain m c t e
  by_cases h : (y 0).val < 16
  · refine (xnOf_halo (r := ⟨(y 0).val, h⟩) (d := y 1) (fun _ => rfl) rfl rfl).symm.trans ?_
    rw [hg]
    refine congrFun (congrArg (nrm · (aG m c)) (funext fun e => (blk_halo m c t _ e).trans ?_)) (y 1)
    refine congrArg (aX m c · e) (Fin.ext ?_)
    show 16 * (32 * (t.val / 11) - 1) + (y 0).val = (if (y 0).val < 16 then 16 * (32 * (t.val / 11) - 1) + (y 0).val else 512 * (t.val / 11) + ((y 0).val - 16)) % 32768
    rw [if_pos h]
    omega
  · refine (xnOf_body (r := ⟨(y 0).val - 16, by omega⟩) (d := y 1) (fun _ => rfl) (by show (y 0).val = 16 + ((y 0).val - 16); omega) rfl).symm.trans ?_
    rw [hg]
    refine congrFun (congrArg (nrm · (aG m c)) (funext fun e => (blk_x m c t _ e).trans ?_)) (y 1)
    refine congrArg (aX m c · e) (Fin.ext ?_)
    show 512 * (t.val / 11) + ((y 0).val - 16) = (if (y 0).val < 16 then 16 * (32 * (t.val / 11) - 1) + (y 0).val else 512 * (t.val / 11) + ((y 0).val - 16)) % 32768
    rw [if_neg h]
    omega

/-- The up-projection at a grid point, one half. -/
theorem up_at (t : Fin cfg0.N) (b : ℕ) (x : Vec Ideal S1x1x1x2048x512 .bf16) (p : Fin 2) (hx : ∀ l j, x (ix5 0 0 0 l j) = aW m c (colBlock t) p l j) (y : Fin 528) (j : Fin 512) :
    upG (sXn m c b) x y j = sUp (aX m c) (aG m c) (aW m c) (xsRow b y) p (ffCol t j) := by
  refine Finset.sum_congr rfl fun l _ => ?_
  show nrm (aX m c (xsRow b y)) (aG m c) l * x (ix5 0 0 0 l j) = _
  rw [hx]
  refine congrArg (nrm (aX m c (xsRow b y)) (aG m c) l * ·) (congr (congrFun (congrFun (congrArg (aW m c) (Fin.ext ?_)) p) l) (Fin.ext ?_))
  · show t.val % 11 = (512 * (t.val % 11) + j.val) / 512
    omega
  · show j.val = (512 * (t.val % 11) + j.val) % 512
    omega

/-- The gate half. -/
theorem up_lo (t : Fin cfg0.N) (b : ℕ) (y : Fin 528) (j : Fin 512) :
    upOf (sXn m c b) (iblk m c 3 t) (iblk m c 4 t) (ix2 y (lo j)) = sUp (aX m c) (aG m c) (aW m c) (xsRow b y) 0 (ffCol t j) :=
  (dif_pos (show (lo j).val < 512 from j.isLt)).trans (up_at m c t b _ 0 (fun l j => blk_wg m c t l j) y j)

/-- The value half. -/
theorem up_hi (t : Fin cfg0.N) (b : ℕ) (y : Fin 528) (j : Fin 512) :
    upOf (sXn m c b) (iblk m c 3 t) (iblk m c 4 t) (ix2 y (hi j)) = sUp (aX m c) (aG m c) (aW m c) (xsRow b y) 1 (ffCol t j) := by
  refine Eq.trans (dif_neg (show ¬(hi j).val < 512 by show ¬512 + j.val < 512; omega)) ((congrArg (upG _ _ _) (Fin.ext ?_)).trans (up_at m c t b _ 1 (fun l j => blk_wv m c t l j) y j))
  show 512 + j.val - 512 = j.val
  omega

/-- The first axis of a grid point. -/
theorem coord_0 : ∀ t : Fin cfg0.N, (grid0.coords t (0 : Fin 2)).val = t.val / 11 := by decide +kernel

/-- What the convolution sees of the up-projection, a row or two before as well. -/
theorem a_at (t : Fin cfg0.N) (q : Fin 1024) (p : Fin 2) (f : Fin 5632) (δ : ℕ) (hδ : δ ≤ 2) (r : Fin 512) (y : Fin 528) (hy : y.val + δ = 16 + r.val)
    (hu : ∀ y, upOf (sXn m c (t.val / 11)) (iblk m c 3 t) (iblk m c 4 t) (ix2 y q) = sUp (aX m c) (aG m c) (aW m c) (xsRow (t.val / 11) y) p f) :
    aOf (k0_pay17 (F := Ideal) (grid0.coords t)) (sXn m c (t.val / 11)) (iblk m c 3 t) (iblk m c 4 t) (ix2 y q) = sTap (aX m c) (aG m c) (aW m c) δ (gridRow t r) p f := by
  have ht := point_lt t
  have e1 : (gridRow t r).val = 512 * (t.val / 11) + r.val := rfl
  have e3 : ¬((gridRow t r).val % 4096 < δ) → xsRow (t.val / 11) y = ⟨(gridRow t r).val - δ, by omega⟩ := fun h => Fin.ext (by
    show (if y.val < 16 then 16 * (32 * (t.val / 11) - 1) + y.val else 512 * (t.val / 11) + (y.val - 16)) % 32768 = (gridRow t r).val - δ
    by_cases h2 : y.val < 16
    · rw [if_pos h2]; omega
    · rw [if_neg h2]; omega)
  by_cases h : y.val < 16
  · refine (aOf_halo (y := ix2 y q) h).trans ?_
    rw [hu, pay17_eq, coord_0]
    by_cases h0 : t.val / 11 % 8 = 0
    · rw [if_pos h0, mul_zero]
      exact (if_pos (by omega)).symm
    · rw [if_neg h0, mul_one, e3 (by omega)]
      exact (if_neg (by omega)).symm
  · refine (aOf_body (y := ix2 y q) h).trans ?_
    rw [hu, e3 (by omega)]
    exact (if_neg (by omega)).symm

/-- One grid point's step of the result. -/
theorem step_at (t : Fin cfg0.N) (xo : Vec Ideal S512x2048 .f32) (r : Fin 512) (d : Fin 2048) (hxo : xo (ix2 r d) = kAcc m c (gridRow t r) d (t.val % 11)) :
    outNext (k0_pay17 (F := Ideal) (grid0.coords t)) (sXn m c (t.val / 11)) (iblk m c 3 t) (iblk m c 4 t) (iblk m c 5 t) (iblk m c 6 t) (iblk m c 7 t) (iblk m c 8 t) (iblk m c 9 t) xo r d
      = kAcc m c (gridRow t r) d (t.val % 11 + 1) := by
  have ht := point_lt t
  unfold outNext
  rw [hxo]
  refine congrArg (kAcc m c (gridRow t r) d (t.val % 11) + ·) (Finset.sum_congr rfl fun j _ => ?_)
  have ec : sCol (t.val % 11) j = ffCol t j := Fin.ext (by show (512 * (t.val % 11) + j.val) % 5632 = 512 * (t.val % 11) + j.val; omega)
  rw [ec]
  refine congrArg₂ (· * ·) (congrArg₂ act ?_ ?_) (blk_wdn m c t j d)
  · rw [a_at m c t (lo j) 0 (ffCol t j) 0 (by decide) r _ (by show 16 + r.val + 0 = 16 + r.val; omega) (fun y => up_lo m c t _ y j),
      a_at m c t (lo j) 0 (ffCol t j) 1 (by decide) r _ (by show 15 + r.val + 1 = 16 + r.val; omega) (fun y => up_lo m c t _ y j),
      a_at m c t (lo j) 0 (ffCol t j) 2 (by decide) r _ (by show 14 + r.val + 2 = 16 + r.val; omega) (fun y => up_lo m c t _ y j)]
    exact tap_congr (blk_cg m c t 0 j) (blk_cg m c t 1 j) (blk_cg m c t 2 j) (blk_bg m c t j) rfl rfl rfl
  · rw [a_at m c t (hi j) 1 (ffCol t j) 0 (by decide) r _ (by show 16 + r.val + 0 = 16 + r.val; omega) (fun y => up_hi m c t _ y j),
      a_at m c t (hi j) 1 (ffCol t j) 1 (by decide) r _ (by show 15 + r.val + 1 = 16 + r.val; omega) (fun y => up_hi m c t _ y j),
      a_at m c t (hi j) 1 (ffCol t j) 2 (by decide) r _ (by show 14 + r.val + 2 = 16 + r.val; omega) (fun y => up_hi m c t _ y j)]
    exact tap_congr (blk_cv m c t 0 j) (blk_cv m c t 1 j) (blk_cv m c t 2 j) (blk_bv m c t j) rfl rfl rfl

/-- What the grid points leave: the rows' result so far, their normalized rows, and at the end the normalized result. -/
theorem points (n : ℕ) (hn : n < cfg0.N) :
    (∀ (r : Fin 512) (d : Fin 2048), (outsAt0 m c n hn).1 (ix2 r d) = kAcc m c (gridRow ⟨n, hn⟩ r) d (n % 11 + 1)) ∧
      (outsAt0 m c n hn).2.2 = sXn m c (n / 11) ∧
      (n % 11 = 10 → ∀ (r : Fin 512) (d : Fin 2048), (outsAt0 m c n hn).2.1 (ix2 r d) = nrm (fun e => kAcc m c (gridRow ⟨n, hn⟩ r) e 11) (aGP m c) d) := by
  have first : ∀ t : Fin cfg0.N, t.val % 11 = 0 → (∀ (r : Fin 512) (d : Fin 2048), (outsAt0 m c t.val t.isLt).1 (ix2 r d) = kAcc m c (gridRow t r) d (t.val % 11 + 1)) ∧
      (outsAt0 m c t.val t.isLt).2.2 = sXn m c (t.val / 11) ∧
      (t.val % 11 = 10 → ∀ (r : Fin 512) (d : Fin 2048), (outsAt0 m c t.val t.isLt).2.1 (ix2 r d) = nrm (fun e => kAcc m c (gridRow t r) e 11) (aGP m c) d) := by
    intro t h0
    have h1 : ¬t.val % 11 = 10 := by omega
    rw [outsAt0_A m c t h0 h1]
    dsimp only
    refine ⟨fun r d => ?_, ?_, fun h => absurd h h1⟩
    · refine (out_first (hc0 := _) (hc1 := _) ..).trans ?_
      rw [xn_eq]
      refine step_at m c t _ r d ?_
      rw [h0]
      exact blk_x m c t r d
    · exact (sout_first (hc0 := _) (hc1 := _) ..).trans (xn_eq m c t)
  induction n with
  | zero => exact first ⟨0, hn⟩ rfl
  | succ n ih =>
    by_cases h0 : (n + 1) % 11 = 0
    · exact first ⟨n + 1, hn⟩ h0
    · obtain ⟨ih1, ih2, -⟩ := ih (by omega)
      have es : ∀ w, (outsAt0 m c (n + 1 - 1) w).2.2 = sXn m c ((n + 1) / 11) := fun _ => ih2.trans (by rw [show (n + 1) / 11 = n / 11 by omega])
      have hxo : ∀ (r : Fin 512) (d : Fin 2048), (outsAt0 m c n (by omega)).1 (ix2 r d) = kAcc m c (gridRow ⟨n + 1, hn⟩ r) d ((n + 1) % 11) := fun r d => by
        rw [ih1, show (n + 1) % 11 = n % 11 + 1 by omega]
        refine congrArg (kAcc m c · d (n % 11 + 1)) (Fin.ext ?_)
        show 512 * (n / 11) + r.val = 512 * ((n + 1) / 11) + r.val
        omega
      by_cases h1 : (n + 1) % 11 = 10
      · have hC := outsAt0_C m c ⟨n + 1, hn⟩ h0 h1
        dsimp only at hC
        rw [hC, es]
        dsimp only
        refine ⟨fun r d => ?_, ?_, fun _ r d => ?_⟩
        · exact (out_last (hc0 := _) (hc1 := _) ..).trans (step_at m c ⟨n + 1, hn⟩ _ r d (hxo r d))
        · rfl
        · refine (nrm_last (hc0 := _) (hc1 := _) ..).trans ?_
          refine congrFun (congr (congrArg nrm (funext fun e => (step_at m c ⟨n + 1, hn⟩ _ r e (hxo r e)).trans ?_)) (funext fun e => blk_post m c ⟨n + 1, hn⟩ e)) d
          dsimp only
          rw [h1]
      · have hB := outsAt0_B m c ⟨n + 1, hn⟩ h0 h1
        dsimp only at hB
        rw [hB, es]
        dsimp only
        refine ⟨fun r d => ?_, ?_, fun h => absurd h h1⟩
        · exact (out_mid (hc0 := _) (hc1 := _) ..).trans (step_at m c ⟨n + 1, hn⟩ _ r d (hxo r d))
        · rfl

/-- The kernel's first result. -/
theorem result_0 (r : Fin 32768) (d : Fin 2048) : Cert.FfnIdeal.Value.G11 m c (ix2 r d) = kAcc m c r d 11 := by
  have hp : Cert.FfnIdeal.Value.pt11Of (ix2 r d) = 11 * (r.val / 512) + 10 := by
    show 11 * (1 * (r.val / 512 - 0) + 1 * (d.val / 2048 - 0)) + 10 = 11 * (r.val / 512) + 10
    omega
  have hlt : Cert.FfnIdeal.Value.pt11Of (ix2 r d) < cfg0.N := by rw [hp, show cfg0.N = 704 from N_0]; omega
  have e : Cert.FfnIdeal.Value.G11 m c (ix2 r d) = (outsAt0 m c _ hlt).1 (Cert.FfnIdeal.Value.loc11Of (ix2 r d)) := by
    rw [Cert.FfnIdeal.Value.outsAt0_sweep]
    exact dif_pos hlt
  rw [e]
  refine (congrArg _ (eq_ix2 (n0 := 512) (n1 := 2048) (Cert.FfnIdeal.Value.loc11Of (ix2 r d)))).trans (((points m c _ hlt).1 _ _).trans ?_)
  have e1 : (Cert.FfnIdeal.Value.pt11Of (ix2 r d)) % 11 + 1 = 11 := by rw [hp]; omega
  rw [e1]
  refine congrFun (congrArg₂ (kAcc m c) (Fin.ext ?_) (Fin.ext ?_)) 11
  · show 512 * (Cert.FfnIdeal.Value.pt11Of (ix2 r d) / 11) + r.val % 512 = r.val
    rw [hp]; omega
  · show d.val % 2048 = d.val
    omega

/-- The kernel's second result. -/
theorem result_1 (r : Fin 32768) (d : Fin 2048) : Cert.FfnIdeal.Value.G12 m c (ix2 r d) = nrm (fun e => kAcc m c r e 11) (aGP m c) d := by
  have hp : Cert.FfnIdeal.Value.pt12Of (ix2 r d) = 11 * (r.val / 512) + 10 := by
    show 11 * (1 * (r.val / 512 - 0) + 1 * (d.val / 2048 - 0)) + 10 = 11 * (r.val / 512) + 10
    omega
  have hlt : Cert.FfnIdeal.Value.pt12Of (ix2 r d) < cfg0.N := by rw [hp, show cfg0.N = 704 from N_0]; omega
  have e : Cert.FfnIdeal.Value.G12 m c (ix2 r d) = (outsAt0 m c _ hlt).2.1 (Cert.FfnIdeal.Value.loc12Of (ix2 r d)) := by
    rw [Cert.FfnIdeal.Value.outsAt0_sweep]
    exact dif_pos hlt
  rw [e]
  have e1 : (Cert.FfnIdeal.Value.pt12Of (ix2 r d)) % 11 = 10 := by rw [hp]; omega
  refine (congrArg _ (eq_ix2 (n0 := 512) (n1 := 2048) (Cert.FfnIdeal.Value.loc12Of (ix2 r d)))).trans (((points m c _ hlt).2.2 e1 _ _).trans ?_)
  refine congrArg₂ (fun (a : Fin 32768) (b : Fin 2048) => nrm (fun e => kAcc m c a e 11) (aGP m c) b) (Fin.ext ?_) (Fin.ext ?_)
  · show 512 * (Cert.FfnIdeal.Value.pt12Of (ix2 r d) / 11) + r.val % 512 = r.val
    rw [hp]; omega
  · show d.val % 2048 = d.val
    omega
end

end Cert.FfnV

end
-- ==== Proof.FfnRef.lean ====
module

public import proofs.«01_k».proof.Proof.Gen.FfnRefIdeal.Run
public import proofs.«01_k».proof.Proof.FfnSpec
public import Idealize.ShloMosaic.Lib.Pointwise

@[expose] public section

set_option maxRecDepth 16384
set_option maxHeartbeats 1000000

noncomputable section

namespace Cert.FfnV
open Idealize.ShloMosaic Idealize.ShloMosaic.TcCoe Idealize.ShloMosaic.Tactic Idealize.SL.Sem
open Cert.FfnRefIdeal Cert.FfnRefIdeal.Gen Cert.FfnRefIdeal.Value Idealize.ShloMosaic.StableHlo
/-! ## The reference's arrays, one after another -/

/-- The rows normalized. -/
def rNrm (x : Vec Ideal S8x4096x2048 .f32) (g : Vec Ideal S2048 .f32) : Vec Ideal S8x4096x2048 .f32 :=
  mulf (F := Ideal) (φ := .f32) (mulf (F := Ideal) (φ := .f32) x (broadcastInDim S8x4096x2048 ![0, 1, 2] bcast_S8x4096x1_S8x4096x2048_0_1_2 (Host.rsqrt (F := Ideal) (φ := .f32) (addf (F := Ideal) (φ := .f32)
    (Host.divf (F := Ideal) (φ := .f32) (broadcastInDim S8x4096x1 ![0, 1] bcast_S8x4096_S8x4096x1_0_1 (Host.reduceAdd (F := Ideal) (φ := .f32) (mulf (F := Ideal) (φ := .f32) x x) (constant S_ .f32 0x00000000#32) reducesTo_S8x4096x2048_S8x4096_d2 h_S_))
      (broadcastInDim S8x4096x1 ![] bcast_S_S8x4096x1 (constant S_ .f32 0x45000000#32))) (broadcastInDim S8x4096x1 ![] bcast_S_S8x4096x1 (constant S_ .f32 0x358637BD#32))))))
    (broadcastInDim S8x4096x2048 ![0, 1, 2] bcast_S1x1x2048_S8x4096x2048_0_1_2 (broadcastInDim S1x1x2048 ![2] bcast_S2048_S1x1x2048_2 g))

/-- The normalized rows at an index. -/
theorem rNrm_apply (x : Vec Ideal S8x4096x2048 .f32) (g : Vec Ideal S2048 .f32) (b : Fin 8) (s : Fin 4096) (d : Fin 2048) :
    rNrm x g (ix3 b s d) = nrm (fun e => x (ix3 b s e)) (fun e => g (ix1 e)) d := by
  unfold rNrm nrm
  pointwise

/-- One half's columns of the up-projection's weights, in order. -/
def rSide (w : Vec Ideal S4x11x2x2048x512 .bf16) : Vec Ideal S2x2048x5632 .f32 :=
  shapeCast S2x2048x5632 (transpose S2x2048x11x512 [1, 2, 0, 3] (extf (F := Ideal) .f32 (shapeCast S11x2x2048x512 (extractStridedSlice S1x11x2x2048x512 ![0, 0, 0, 0, 0] w slices_S4x11x2x2048x512_S1x11x2x2048x512_0_0_0_0_0) shapeCasts_S1x11x2x2048x512_S11x2x2048x512) bitsLt_bf16_f32) transposes_S11x2x2048x512_S2x2048x11x512_1_2_0_3) shapeCasts_S2x2048x11x512_S2x2048x5632

/-- A column of one half at an index. -/
theorem rSide_apply (w : Vec Ideal S4x11x2x2048x512 .bf16) (p : Fin 2) (l : Fin 2048) (f : Fin 5632) :
    rSide w (ix3 p l f) = w (ix5 (0 : Fin 4) (⟨f.val / 512, by omega⟩ : Fin 11) p l (⟨f.val % 512, Nat.mod_lt _ (by decide)⟩ : Fin 512)) := by
  unfold rSide
  pointwise

/-- The up-projection's weights. -/
def rWu (s : Vec Ideal S2x2048x5632 .f32) : Vec Ideal S2048x11008 .f32 :=
  concatenate S2048x11008 1 [⟨S2048x5504, (shapeCast S2048x5504 (extractStridedSlice S1x2048x5504 ![0, 0, 0] s slices_S2x2048x5632_S1x2048x5504_0_0_0) shapeCasts_S1x2048x5504_S2048x5504)⟩,
    ⟨S2048x5504, (shapeCast S2048x5504 (extractStridedSlice S1x2048x5504 ![1, 0, 0] s slices_S2x2048x5632_S1x2048x5504_1_0_0) shapeCasts_S1x2048x5504_S2048x5504)⟩] concatenates_S2048x5504_S2048x5504_S2048x11008_d1

/-- The column of a half among both halves' columns. -/
def both (p : Fin 2) (f : Fin 5504) : Fin 11008 := ⟨5504 * p.val + f.val, by omega⟩

/-- The gate's columns of the up-projection's weights. -/
theorem rWu_gate (s : Vec Ideal S2x2048x5632 .f32) (l : Fin 2048) (f : Fin 5504) : rWu s (ix2 l (both 0 f)) = s (ix3 (0 : Fin 2) l (⟨f.val, by omega⟩ : Fin 5632)) := by
  have e : both 0 f = ⟨f.val, by omega⟩ := Fin.ext (by show 5504 * 0 + f.val = f.val; omega)
  unfold rWu
  rw [e]
  pointwise
  first | done | exact dif_pos f.isLt | (refine (dif_pos f.isLt).trans ?_; rfl)

/-- The values' columns of the up-projection's weights. -/
theorem rWu_val (s : Vec Ideal S2x2048x5632 .f32) (l : Fin 2048) (f : Fin 5504) : rWu s (ix2 l (both 1 f)) = s (ix3 (1 : Fin 2) l (⟨f.val, by omega⟩ : Fin 5632)) := by
  have e : both 1 f = ⟨5504 + f.val, by omega⟩ := Fin.ext (by show 5504 * 1 + f.val = 5504 + f.val; omega)
  unfold rWu
  rw [e]
  pointwise

/-- The up-projection. -/
def rUp (n : Vec Ideal S8x4096x2048 .f32) (wu : Vec Ideal S2048x11008 .f32) : Vec Ideal S8x4096x11008 .f32 :=
  Host.dotGeneral (F := Ideal) (φ₁ := .f32) (φ₂ := .f32) dot_S8x4096x2048_S2048x11008_S8x4096x11008_2_0_01_1_n_n none n wu

/-- The up-projection at an index. -/
theorem rUp_apply (n : Vec Ideal S8x4096x2048 .f32) (wu : Vec Ideal S2048x11008 .f32) (b : Fin 8) (s : Fin 4096) (q : Fin 11008) :
    rUp n wu (ix3 b s q) = ∑ l : Fin 2048, n (ix3 b s l) * wu (ix2 l q) := by
  unfold rUp
  pointwise

/-- The up-projection with two zero rows before. -/
def rPad (a : Vec Ideal S8x4096x11008 .f32) : Vec Ideal S8x4098x11008 .f32 :=
  pad S8x4098x11008 ![0, 2, 0] ![0, 0, 0] ![0, 0, 0] a (sitofp (F := Ideal) .f32 (constantI S_ 32 0#32)) pads_S8x4096x11008_S8x4098x11008_000_200_000 h_S_

/-- A padded row past the two zero rows. -/
theorem rPad_row (a : Vec Ideal S8x4096x11008 .f32) (b : Fin 8) (s : Fin 4098) (q : Fin 11008) (h : 2 ≤ s.val) :
    rPad a (ix3 b s q) = a (ix3 b (⟨s.val - 2, by omega⟩ : Fin 4096) q) := by
  unfold rPad
  pointwise
  exact dif_pos (by omega)

/-- A padded row among the two zero rows. -/
theorem rPad_zero (a : Vec Ideal S8x4096x11008 .f32) (b : Fin 8) (s : Fin 4098) (q : Fin 11008) (h : ¬2 ≤ s.val) : rPad a (ix3 b s q) = 0 := by
  unfold rPad
  pointwise
  exact (dif_neg (by omega)).trans zero_int

/-- The up-projection some rows earlier, zero before the start. -/
def rT (a : Vec Ideal S8x4096x11008 .f32) (δ : ℕ) (b : Fin 8) (s : Fin 4096) (q : Fin 11008) : EReal :=
  if s.val < δ then 0 else a (ix3 b (⟨s.val - δ, by omega⟩ : Fin 4096) q)

/-- The padded rows are the rows some places earlier. -/
theorem rPad_at (a : Vec Ideal S8x4096x11008 .f32) (δ : ℕ) (b : Fin 8) (s : Fin 4096) (q : Fin 11008) (s' : Fin 4098) (h : s'.val + δ = s.val + 2) : rPad a (ix3 b s' q) = rT a δ b s q := by
  unfold rT
  by_cases h2 : 2 ≤ s'.val
  · have e : (⟨s'.val - 2, by omega⟩ : Fin 4096) = ⟨s.val - δ, by omega⟩ := Fin.ext (by show s'.val - 2 = s.val - δ; omega)
    rw [rPad_row a b s' q h2, if_neg (by omega), e]
  · rw [rPad_zero a b s' q h2, if_pos (by omega)]

/-- Row 0 of the convolution's weights, at every row. -/
def rRow0 (w : Vec Ideal S4x3x11008 .f32) : Vec Ideal S8x4096x11008 .f32 :=
  broadcastInDim S8x4096x11008 ![0, 1, 2] bcast_S1x1x11008_S8x4096x11008_0_1_2 (broadcastInDim S1x1x11008 ![2] bcast_S11008_S1x1x11008_2
    (shapeCast S11008 (extractStridedSlice S1x11008 ![0, 0] (shapeCast S3x11008 (extractStridedSlice S1x3x11008 ![0, 0, 0] w slices_S4x3x11008_S1x3x11008_0_0_0) shapeCasts_S1x3x11008_S3x11008) slices_S3x11008_S1x11008_0_0) shapeCasts_S1x11008_S11008))

/-- Row 0 at an index. -/
theorem rRow0_apply (w : Vec Ideal S4x3x11008 .f32) (b : Fin 8) (s : Fin 4096) (q : Fin 11008) : rRow0 w (ix3 b s q) = w (ix3 (0 : Fin 4) (0 : Fin 3) q) := by
  unfold rRow0
  pointwise

/-- The rows 2 places earlier at an index. -/
theorem rTap0_apply (a : Vec Ideal S8x4096x11008 .f32) (b : Fin 8) (s : Fin 4096) (q : Fin 11008) :
    extractStridedSlice S8x4096x11008 ![0, 0, 0] (rPad a) slices_S8x4098x11008_S8x4096x11008_0_0_0 (ix3 b s q) = rT a 2 b s q := by
  have h : ∀ A : Vec Ideal S8x4098x11008 .f32, extractStridedSlice S8x4096x11008 ![0, 0, 0] A slices_S8x4098x11008_S8x4096x11008_0_0_0 (ix3 b s q) = A (ix3 b (⟨0 + s.val, by omega⟩ : Fin 4098) q) := by
    intro A
    pointwise
  exact (h _).trans (rPad_at a 2 b s q _ (by show 0 + s.val + 2 = s.val + 2; omega))

/-- Row 1 of the convolution's weights, at every row. -/
def rRow1 (w : Vec Ideal S4x3x11008 .f32) : Vec Ideal S8x4096x11008 .f32 :=
  broadcastInDim S8x4096x11008 ![0, 1, 2] bcast_S1x1x11008_S8x4096x11008_0_1_2 (broadcastInDim S1x1x11008 ![2] bcast_S11008_S1x1x11008_2
    (shapeCast S11008 (extractStridedSlice S1x11008 ![1, 0] (shapeCast S3x11008 (extractStridedSlice S1x3x11008 ![0, 0, 0] w slices_S4x3x11008_S1x3x11008_0_0_0) shapeCasts_S1x3x11008_S3x11008) slices_S3x11008_S1x11008_1_0) shapeCasts_S1x11008_S11008))

/-- Row 1 at an index. -/
theorem rRow1_apply (w : Vec Ideal S4x3x11008 .f32) (b : Fin 8) (s : Fin 4096) (q : Fin 11008) : rRow1 w (ix3 b s q) = w (ix3 (0 : Fin 4) (1 : Fin 3) q) := by
  unfold rRow1
  pointwise

/-- The rows 1 places earlier at an index. -/
theorem rTap1_apply (a : Vec Ideal S8x4096x11008 .f32) (b : Fin 8) (s : Fin 4096) (q : Fin 11008) :
    extractStridedSlice S8x4096x11008 ![0, 1, 0] (rPad a) slices_S8x4098x11008_S8x4096x11008_0_1_0 (ix3 b s q) = rT a 1 b s q := by
  have h : ∀ A : Vec Ideal S8x4098x11008 .f32, extractStridedSlice S8x4096x11008 ![0, 1, 0] A slices_S8x4098x11008_S8x4096x11008_0_1_0 (ix3 b s q) = A (ix3 b (⟨1 + s.val, by omega⟩ : Fin 4098) q) := by
    intro A
    pointwise
  exact (h _).trans (rPad_at a 1 b s q _ (by show 1 + s.val + 1 = s.val + 2; omega))

/-- Row 2 of the convolution's weights, at every row. -/
def rRow2 (w : Vec Ideal S4x3x11008 .f32) : Vec Ideal S8x4096x11008 .f32 :=
  broadcastInDim S8x4096x11008 ![0, 1, 2] bcast_S1x1x11008_S8x4096x11008_0_1_2 (broadcastInDim S1x1x11008 ![2] bcast_S11008_S1x1x11008_2
    (shapeCast S11008 (extractStridedSlice S1x11008 ![2, 0] (shapeCast S3x11008 (extractStridedSlice S1x3x11008 ![0, 0, 0] w slices_S4x3x11008_S1x3x11008_0_0_0) shapeCasts_S1x3x11008_S3x11008) slices_S3x11008_S1x11008_2_0) shapeCasts_S1x11008_S11008))

/-- Row 2 at an index. -/
theorem rRow2_apply (w : Vec Ideal S4x3x11008 .f32) (b : Fin 8) (s : Fin 4096) (q : Fin 11008) : rRow2 w (ix3 b s q) = w (ix3 (0 : Fin 4) (2 : Fin 3) q) := by
  unfold rRow2
  pointwise

/-- The rows 0 places earlier at an index. -/
theorem rTap2_apply (a : Vec Ideal S8x4096x11008 .f32) (b : Fin 8) (s : Fin 4096) (q : Fin 11008) :
    extractStridedSlice S8x4096x11008 ![0, 2, 0] (rPad a) slices_S8x4098x11008_S8x4096x11008_0_2_0 (ix3 b s q) = rT a 0 b s q := by
  have h : ∀ A : Vec Ideal S8x4098x11008 .f32, extractStridedSlice S8x4096x11008 ![0, 2, 0] A slices_S8x4098x11008_S8x4096x11008_0_2_0 (ix3 b s q) = A (ix3 b (⟨2 + s.val, by omega⟩ : Fin 4098) q) := by
    intro A
    pointwise
  exact (h _).trans (rPad_at a 0 b s q _ (by show 2 + s.val + 0 = s.val + 2; omega))

/-- The bias at every row. -/
def rBias (w : Vec Ideal S4x11008 .f32) : Vec Ideal S8x4096x11008 .f32 :=
  broadcastInDim S8x4096x11008 ![0, 1, 2] bcast_S1x1x11008_S8x4096x11008_0_1_2 (broadcastInDim S1x1x11008 ![2] bcast_S11008_S1x1x11008_2
    (shapeCast S11008 (extractStridedSlice S1x11008 ![0, 0] w slices_S4x11008_S1x11008_0_0) shapeCasts_S1x11008_S11008))

/-- The bias at an index. -/
theorem rBias_apply (w : Vec Ideal S4x11008 .f32) (b : Fin 8) (s : Fin 4096) (q : Fin 11008) : rBias w (ix3 b s q) = w (ix2 (0 : Fin 4) q) := by
  unfold rBias
  pointwise

/-- The causal convolution. -/
def rConv (a : Vec Ideal S8x4096x11008 .f32) (w : Vec Ideal S4x3x11008 .f32) (cb : Vec Ideal S4x11008 .f32) : Vec Ideal S8x4096x11008 .f32 :=
  addf (F := Ideal) (φ := .f32) (addf (F := Ideal) (φ := .f32) (addf (F := Ideal) (φ := .f32) (addf (F := Ideal) (φ := .f32) (broadcastInDim S8x4096x11008 ![] bcast_S_S8x4096x11008 (constant S_ .f32 0x00000000#32)) (mulf (F := Ideal) (φ := .f32) (extractStridedSlice S8x4096x11008 ![0, 0, 0] (rPad a) slices_S8x4098x11008_S8x4096x11008_0_0_0) (rRow0 w))) (mulf (F := Ideal) (φ := .f32) (extractStridedSlice S8x4096x11008 ![0, 1, 0] (rPad a) slices_S8x4098x11008_S8x4096x11008_0_1_0) (rRow1 w))) (mulf (F := Ideal) (φ := .f32) (extractStridedSlice S8x4096x11008 ![0, 2, 0] (rPad a) slices_S8x4098x11008_S8x4096x11008_0_2_0) (rRow2 w))) (rBias cb)

/-- Three summands the other way round. -/
theorem sum3 (x y z : EReal) : x + y + z = z + y + x := by rw [add_comm (x + y) z, add_comm x y, ← add_assoc]

/-- The convolution at an index. -/
theorem rConv_apply (a : Vec Ideal S8x4096x11008 .f32) (w : Vec Ideal S4x3x11008 .f32) (cb : Vec Ideal S4x11008 .f32) (b : Fin 8) (s : Fin 4096) (q : Fin 11008) :
    rConv a w cb (ix3 b s q) = tap (w (ix3 (0 : Fin 4) (0 : Fin 3) q)) (w (ix3 (0 : Fin 4) (1 : Fin 3) q)) (w (ix3 (0 : Fin 4) (2 : Fin 3) q)) (cb (ix2 (0 : Fin 4) q)) (rT a 0 b s q) (rT a 1 b s q) (rT a 2 b s q) := by
  have h : ∀ A0 A1 A2 B0 B1 B2 C : Vec Ideal S8x4096x11008 .f32, addf (F := Ideal) (φ := .f32) (addf (F := Ideal) (φ := .f32) (addf (F := Ideal) (φ := .f32) (addf (F := Ideal) (φ := .f32) (broadcastInDim S8x4096x11008 ![] bcast_S_S8x4096x11008 (constant S_ .f32 0x00000000#32)) (mulf (F := Ideal) (φ := .f32) A0 B0)) (mulf (F := Ideal) (φ := .f32) A1 B1)) (mulf (F := Ideal) (φ := .f32) A2 B2)) C (ix3 b s q)
      = 0 + A0 (ix3 b s q) * B0 (ix3 b s q) + A1 (ix3 b s q) * B1 (ix3 b s q) + A2 (ix3 b s q) * B2 (ix3 b s q) + C (ix3 b s q) := by
    intro A0 A1 A2 B0 B1 B2 C
    pointwise
  refine (h _ _ _ _ _ _ _).trans ?_
  rw [rTap0_apply, rTap1_apply, rTap2_apply, rRow0_apply, rRow1_apply, rRow2_apply, rBias_apply]
  unfold tap
  rw [zero_add, mul_comm (rT a 2 b s q), mul_comm (rT a 1 b s q), mul_comm (rT a 0 b s q)]
  exact congrArg (· + cb (ix2 (0 : Fin 4) q)) (sum3 _ _ _)

/-- The gate's half with its sigmoid, times the values' half. -/
def rAct (cv : Vec Ideal S8x4096x11008 .f32) : Vec Ideal S8x4096x5504 .f32 :=
  mulf (F := Ideal) (φ := .f32) (mulf (F := Ideal) (φ := .f32) (extractStridedSlice S8x4096x5504 ![0, 0, 0] cv slices_S8x4096x11008_S8x4096x5504_0_0_0)
    (Host.divf (F := Ideal) (φ := .f32) (broadcastInDim S8x4096x5504 ![] bcast_S_S8x4096x5504 (constant S_ .f32 0x3F800000#32)) (addf (F := Ideal) (φ := .f32) (broadcastInDim S8x4096x5504 ![] bcast_S_S8x4096x5504 (constant S_ .f32 0x3F800000#32))
      (Host.exp (F := Ideal) (φ := .f32) (Host.negf (F := Ideal) (φ := .f32) (extractStridedSlice S8x4096x5504 ![0, 0, 0] cv slices_S8x4096x11008_S8x4096x5504_0_0_0))))))
    (extractStridedSlice S8x4096x5504 ![0, 0, 5504] cv slices_S8x4096x11008_S8x4096x5504_0_0_5504)

/-- The hidden layer at an index. -/
theorem rAct_apply (cv : Vec Ideal S8x4096x11008 .f32) (b : Fin 8) (s : Fin 4096) (f : Fin 5504) :
    rAct cv (ix3 b s f) = cv (ix3 b s (both 0 f)) * Ideal.div 1 (1 + Ideal.exp (-cv (ix3 b s (both 0 f)))) * cv (ix3 b s (both 1 f)) := by
  have e0 : both 0 f = ⟨f.val, by omega⟩ := Fin.ext (by show 5504 * 0 + f.val = f.val; omega)
  have e1 : both 1 f = ⟨5504 + f.val, by omega⟩ := Fin.ext (by show 5504 * 1 + f.val = 5504 + f.val; omega)
  unfold rAct
  rw [e0, e1]
  pointwise

/-- The result: the rows and the down-projection of the hidden layer. -/
def rY (x : Vec Ideal S8x4096x2048 .f32) (h : Vec Ideal S8x4096x5504 .f32) (wd : Vec Ideal S4x5504x2048 .f32) : Vec Ideal S8x4096x2048 .f32 :=
  addf (F := Ideal) (φ := .f32) x (Host.dotGeneral (F := Ideal) (φ₁ := .f32) (φ₂ := .f32) dot_S8x4096x5504_S5504x2048_S8x4096x2048_2_0_01_1_n_n none h
    (shapeCast S5504x2048 (extractStridedSlice S1x5504x2048 ![0, 0, 0] wd slices_S4x5504x2048_S1x5504x2048_0_0_0) shapeCasts_S1x5504x2048_S5504x2048))

/-- The result at an index. -/
theorem rY_apply (x : Vec Ideal S8x4096x2048 .f32) (h : Vec Ideal S8x4096x5504 .f32) (wd : Vec Ideal S4x5504x2048 .f32) (b : Fin 8) (s : Fin 4096) (d : Fin 2048) :
    rY x h wd (ix3 b s d) = x (ix3 b s d) + ∑ f : Fin 5504, h (ix3 b s f) * wd (ix3 (0 : Fin 4) f d) := by
  unfold rY
  pointwise

/-- The rows by sequence. -/
def rX (x : Vec Ideal S32768x2048 .f32) : Vec Ideal S8x4096x2048 .f32 := shapeCast S8x4096x2048 x shapeCasts_S32768x2048_S8x4096x2048

/-- A row's number. -/
def rowOf (b : Fin 8) (s : Fin 4096) : Fin 32768 := ⟨4096 * b.val + s.val, by omega⟩

/-- The rows by sequence at an index. -/
theorem rX_apply (x : Vec Ideal S32768x2048 .f32) (b : Fin 8) (s : Fin 4096) (d : Fin 2048) : rX x (ix3 b s d) = x (ix2 (rowOf b s) d) := by
  have h : rX x (ix3 b s d) = x (ix2 (⟨b.val * 4096 + s.val, by omega⟩ : Fin 32768) d) := by
    unfold rX
    pointwise
  exact h.trans (congrArg (fun r : Fin 32768 => x (ix2 r d)) (Fin.ext (by show b.val * 4096 + s.val = 4096 * b.val + s.val; omega)))

/-- The sequences' rows in one list. -/
theorem flat_apply (y : Vec Ideal S8x4096x2048 .f32) (b : Fin 8) (s : Fin 4096) (d : Fin 2048) : shapeCast S32768x2048 y shapeCasts_S8x4096x2048_S32768x2048 (ix2 (rowOf b s) d) = y (ix3 b s d) := by
  have h : ∀ r : Fin 32768, shapeCast S32768x2048 y shapeCasts_S8x4096x2048_S32768x2048 (ix2 r d) = y (ix3 (⟨r.val / 4096, by omega⟩ : Fin 8) (⟨r.val % 4096, Nat.mod_lt _ (by decide)⟩ : Fin 4096) d) := by
    intro r
    pointwise
  refine (h _).trans ?_
  refine congrArg₂ (fun (b : Fin 8) (s : Fin 4096) => y (ix3 b s d)) (Fin.ext ?_) (Fin.ext ?_)
  · show (4096 * b.val + s.val) / 4096 = b.val
    omega
  · show (4096 * b.val + s.val) % 4096 = s.val
    omega

section
variable (m : (ℓ : Loc nD τ sig) → Buf (Elt Ideal) ℓ) (c : Dev nD)

/-- The first result, by its parts. -/
def yOf : Vec Ideal S8x4096x2048 .f32 :=
  rY (rX (m ((c : Thread nD τ).loc main_arg0))) (rAct (rConv (rUp (rNrm (rX (m ((c : Thread nD τ).loc main_arg0))) (m ((c : Thread nD τ).loc main_arg1))) (rWu (rSide (m ((c : Thread nD τ).loc main_arg2))))) (m ((c : Thread nD τ).loc main_arg3)) (m ((c : Thread nD τ).loc main_arg4)))) (m ((c : Thread nD τ).loc main_arg5))

/-- The first result is the composition of the parts. -/
theorem res_y : res_main_v77 (F := Ideal) m c = shapeCast S32768x2048 (yOf m c) shapeCasts_S8x4096x2048_S32768x2048 := rfl

/-- The second result is the first one normalized. -/
theorem res_u : res_main_v78 (F := Ideal) m c = shapeCast S32768x2048 (truncf (F := Ideal) .bf16 (rNrm (yOf m c) (m ((c : Thread nD τ).loc main_arg6))) bitsLt_bf16_f32) shapeCasts_S8x4096x2048_S32768x2048 := rfl

/-- The first result at an index. -/
theorem res_y_apply (b : Fin 8) (s : Fin 4096) (d : Fin 2048) : (res_main_v77 (F := Ideal) m c : Vec Ideal S32768x2048 .f32) (ix2 (rowOf b s) d) = yOf m c (ix3 b s d) := by
  rw [res_y]
  exact flat_apply _ b s d

/-- The second result at an index. -/
theorem res_u_apply (b : Fin 8) (s : Fin 4096) (d : Fin 2048) : (res_main_v78 (F := Ideal) m c : Vec Ideal S32768x2048 .bf16) (ix2 (rowOf b s) d)
    = nrm (fun e => yOf m c (ix3 b s e)) (fun e => (m ((c : Thread nD τ).loc main_arg6) : Vec Ideal S2048 .f32) (ix1 e)) d := by
  rw [res_u]
  exact (flat_apply (rNrm (yOf m c) (m ((c : Thread nD τ).loc main_arg6))) b s d).trans (rNrm_apply _ _ b s d)
end

end Cert.FfnV

end
-- ==== Proof.FfnMath.lean ====
module

public import proofs.«01_k».proof.Proof.FfnSpec
public import proofs.«01_k».proof.Proof.GlaMath

@[expose] public section

set_option maxRecDepth 16384
set_option maxHeartbeats 1000000

noncomputable section

namespace Cert.FfnV
open Idealize.ShloMosaic Idealize.ShloMosaic.TcCoe Idealize.ShloMosaic.Tactic Idealize.SL.Sem
open Cert.FfnIdeal Cert.FfnIdeal.Gen
/-! ## Finite values -/

/-- A value that is a real number. -/
def IsR (x : EReal) : Prop := ∃ r : ℝ, x = (r : EReal)

/-- Zero is real. -/
theorem IsR.zero : IsR 0 := ⟨0, rfl⟩

/-- A sum of two is real. -/
theorem IsR.add {x y : EReal} (hx : IsR x) (hy : IsR y) : IsR (x + y) := by
  obtain ⟨a, rfl⟩ := hx
  obtain ⟨b, rfl⟩ := hy
  exact ⟨a + b, (EReal.coe_add a b).symm⟩

/-- A product is real. -/
theorem IsR.mul {x y : EReal} (hx : IsR x) (hy : IsR y) : IsR (x * y) := by
  obtain ⟨a, rfl⟩ := hx
  obtain ⟨b, rfl⟩ := hy
  exact ⟨a * b, (EReal.coe_mul a b).symm⟩

/-- A sum of many is real. -/
theorem IsR.sum {n : ℕ} {f : Fin n → EReal} (h : ∀ i, IsR (f i)) : IsR (∑ i, f i) :=
  Finset.sum_induction f IsR (fun _ _ => IsR.add) IsR.zero fun i _ => h i

/-- A sum of squares is a nonnegative real. -/
theorem sum_sq {n : ℕ} {f : Fin n → EReal} (h : ∀ i, IsR (f i)) : ∃ r : ℝ, 0 ≤ r ∧ ∑ i, f i * f i = (r : EReal) := by
  refine Finset.sum_induction (fun i => f i * f i) (fun x => ∃ r : ℝ, 0 ≤ r ∧ x = (r : EReal)) ?_ ⟨0, le_rfl, rfl⟩ ?_
  · rintro _ _ ⟨a, ha, rfl⟩ ⟨b, hb, rfl⟩
    exact ⟨a + b, add_nonneg ha hb, (EReal.coe_add a b).symm⟩
  · intro i _
    obtain ⟨a, ha⟩ := h i
    exact ⟨a * a, mul_self_nonneg a, by rw [ha, EReal.coe_mul]⟩

/-- The constant two thousand and forty-eight. -/
theorem width_eq : Ideal.ofBits .f32 0x45000000#32 = ((2048 : ℝ) : EReal) := by
  simp [Ideal.ofBits, Ideal.ieee, -EReal.coe_mul]; norm_num

/-- The small constant under the root. -/
theorem eps_eq : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- A normalized row of finite entries is finite. -/
theorem nrm_real {row g : Fin 2048 → EReal} (hr : ∀ e, IsR (row e)) (hg : ∀ e, IsR (g e)) (d : Fin 2048) : IsR (nrm row g d) := by
  obtain ⟨q, hq0, hq⟩ := sum_sq hr
  obtain ⟨e, he0, he⟩ := eps_eq
  unfold nrm
  rw [hq, he, width_eq]
  refine IsR.mul (IsR.mul (hr d) ?_) (hg d)
  have hd : Ideal.div (q : EReal) ((2048 : ℝ) : EReal) = ((q * 2048⁻¹ : ℝ) : EReal) := by
    unfold Ideal.div
    rw [if_neg (by rw [← EReal.coe_zero, EReal.coe_eq_coe_iff]; norm_num), ← EReal.coe_inv, ← EReal.coe_mul]
  have hp : 0 < q * 2048⁻¹ + e := add_pos_of_nonneg_of_pos (mul_nonneg hq0 (by norm_num)) he0
  rw [hd, ← EReal.coe_add, Ideal.rsqrt_coe, if_neg (not_lt.mpr hp.le), if_neg hp.ne']
  exact ⟨_, rfl⟩

/-- The gate with the hyperbolic tangent is the gate with the logistic function, where it is finite. -/
theorem act_eq {c v : EReal} (hc : IsR c) : act c v = c * Ideal.div 1 (1 + Ideal.exp (-c)) * v := by
  obtain ⟨r, rfl⟩ := hc
  unfold act
  refine congrArg (· * v) ?_
  rw [← Cert.GlaV.sigmoid_eq, Cert.GlaV.half_eq, ← EReal.coe_mul, Ideal.tanh_coe]
  norm_cast
  ring

/-- The convolution of finite values is finite. -/
theorem tap_real {w0 w1 w2 b a0 a1 a2 : EReal} (h0 : IsR w0) (h1 : IsR w1) (h2 : IsR w2) (hb : IsR b) (g0 : IsR a0) (g1 : IsR a1) (g2 : IsR a2) : IsR (tap w0 w1 w2 b a0 a1 a2) :=
  (((h2.mul g0).add (h1.mul g1)).add (h0.mul g2)).add hb

/-- A column of one half is finite. -/
theorem halfOf_real {p : Fin 2} {x : Fin 11008 → EReal} (h : ∀ f, IsR (x f)) (f : Fin 5632) : IsR (halfOf p x f) := by
  by_cases hf : f.val < 5504
  · rw [halfOf_pos p x f hf]
    exact h _
  · rw [halfOf_neg p x f hf]
    exact IsR.zero

section
variable {X : Fin 32768 → Fin 2048 → EReal} {G : Fin 2048 → EReal} {W : Fin 11 → Fin 2 → Fin 2048 → Fin 512 → EReal}
  {CW : Fin 3 → Fin 11008 → EReal} {CB : Fin 11008 → EReal}

/-- The convolution of the layer is finite on finite inputs. -/
theorem sConv_real (hX : ∀ r d, IsR (X r d)) (hG : ∀ d, IsR (G d)) (hW : ∀ k p l j, IsR (W k p l j)) (hCW : ∀ i f, IsR (CW i f)) (hCB : ∀ f, IsR (CB f))
    (r : Fin 32768) (p : Fin 2) (f : Fin 5632) : IsR (sConv X G W CW CB r p f) := by
  have hT : ∀ δ, IsR (sTap X G W δ r p f) := fun δ => by
    unfold sTap
    split
    · exact IsR.zero
    · exact IsR.sum fun l => (nrm_real (hX _) hG l).mul (hW _ _ _ _)
  exact tap_real (halfOf_real (hCW 0) f) (halfOf_real (hCW 1) f) (halfOf_real (hCW 2) f) (halfOf_real hCB f) (hT 0) (hT 1) (hT 2)
end

end Cert.FfnV

end
-- ==== Proof.FfnSame.lean ====
module

public import proofs.«01_k».proof.Proof.FfnRef
public import proofs.«01_k».proof.Proof.FfnMath

@[expose] public section

set_option maxRecDepth 16384
set_option maxHeartbeats 1000000

noncomputable section

namespace Cert.FfnV
open Idealize.ShloMosaic Idealize.ShloMosaic.TcCoe Idealize.ShloMosaic.Tactic Idealize.SL.Sem
open Cert.FfnRefIdeal Cert.FfnRefIdeal.Gen Cert.FfnRefIdeal.Value Idealize.ShloMosaic.StableHlo
/-! ## The reference's result is the layer over plain functions -/

section
variable (x : Vec Ideal S32768x2048 .f32) (g : Vec Ideal S2048 .f32) (w : Vec Ideal S4x11x2x2048x512 .bf16) (cw : Vec Ideal S4x3x11008 .f32) (cb : Vec Ideal S4x11008 .f32) (wd : Vec Ideal S4x5504x2048 .f32)

/-- The rows as a function. -/
def fX (r : Fin 32768) (d : Fin 2048) : EReal := x (ix2 r d)
/-- The gain as a function. -/
def fG (d : Fin 2048) : EReal := g (ix1 d)
/-- The up-projection's weights as a function. -/
def fW (k : Fin 11) (p : Fin 2) (l : Fin 2048) (j : Fin 512) : EReal := w (ix5 (0 : Fin 4) k p l j)
/-- The convolution's weights as a function. -/
def fCW (i : Fin 3) (f : Fin 11008) : EReal := cw (ix3 (0 : Fin 4) i f)
/-- The convolution's bias as a function. -/
def fCB (f : Fin 11008) : EReal := cb (ix2 (0 : Fin 4) f)
/-- The down-projection's weights as a function. -/
def fWD (f : Fin 5504) (d : Fin 2048) : EReal := wd (ix3 (0 : Fin 4) f d)

/-- The reference's up-projection of its arrays. -/
def rA : Vec Ideal S8x4096x11008 .f32 := rUp (rNrm (rX x) g) (rWu (rSide w))

/-- The up-projection's weights at a column of a half. -/
theorem wu_eq (l : Fin 2048) (p : Fin 2) (f : Fin 5504) : rWu (rSide w) (ix2 l (both p f)) = fW w ⟨f.val / 512, by omega⟩ p l ⟨f.val % 512, Nat.mod_lt _ (by decide)⟩ := by
  have hp : ∀ p : Fin 2, p = 0 ∨ p = 1 := by decide
  rcases hp p with rfl | rfl
  · exact (rWu_gate _ l f).trans (rSide_apply w 0 l ⟨f.val, by omega⟩)
  · exact (rWu_val _ l f).trans (rSide_apply w 1 l ⟨f.val, by omega⟩)

/-- The reference's up-projection at an index. -/
theorem rA_apply (b : Fin 8) (s : Fin 4096) (p : Fin 2) (f : Fin 5504) : rA x g w (ix3 b s (both p f)) = sUp (fX x) (fG g) (fW w) (rowOf b s) p ⟨f.val, by omega⟩ := by
  refine (rUp_apply _ _ b s _).trans (Finset.sum_congr rfl fun l _ => congrArg₂ (· * ·) ((rNrm_apply _ _ b s l).trans ?_) (wu_eq w l p f))
  exact congrFun (congrArg (nrm · (fG g)) (funext fun e => rX_apply x b s e)) l

/-- The reference's shifted up-projection at an index. -/
theorem rT_apply (δ : ℕ) (b : Fin 8) (s : Fin 4096) (p : Fin 2) (f : Fin 5504) : rT (rA x g w) δ b s (both p f) = sTap (fX x) (fG g) (fW w) δ (rowOf b s) p ⟨f.val, by omega⟩ := by
  have e : (rowOf b s).val = 4096 * b.val + s.val := rfl
  unfold rT sTap
  by_cases h : s.val < δ
  · rw [if_pos h, if_pos (by omega)]
  · rw [if_neg h, if_neg (by omega)]
    refine (rA_apply x g w b _ p f).trans (congrArg (sUp (fX x) (fG g) (fW w) · p _) (Fin.ext ?_))
    show 4096 * b.val + (s.val - δ) = 4096 * b.val + s.val - δ
    omega

/-- The reference's convolution at an index. -/
theorem conv_eq (b : Fin 8) (s : Fin 4096) (p : Fin 2) (f : Fin 5504) : rConv (rA x g w) cw cb (ix3 b s (both p f)) = sConv (fX x) (fG g) (fW w) (fCW cw) (fCB cb) (rowOf b s) p ⟨f.val, by omega⟩ := by
  refine (rConv_apply _ _ _ b s _).trans ?_
  refine tap_congr ?_ ?_ ?_ ?_ (rT_apply x g w 0 b s p f) (rT_apply x g w 1 b s p f) (rT_apply x g w 2 b s p f)
  · exact (halfOf_pos p (fCW cw 0) ⟨f.val, by omega⟩ f.isLt).symm
  · exact (halfOf_pos p (fCW cw 1) ⟨f.val, by omega⟩ f.isLt).symm
  · exact (halfOf_pos p (fCW cw 2) ⟨f.val, by omega⟩ f.isLt).symm
  · exact (halfOf_pos p (fCB cb) ⟨f.val, by omega⟩ f.isLt).symm

/-- The reference's result of finite arrays is the layer's. -/
theorem y_eq (hx : ∀ r d, IsR (fX x r d)) (hg : ∀ d, IsR (fG g d)) (hw : ∀ k p l j, IsR (fW w k p l j)) (hcw : ∀ i f, IsR (fCW cw i f)) (hcb : ∀ f, IsR (fCB cb f))
    (b : Fin 8) (s : Fin 4096) (d : Fin 2048) : rY (rX x) (rAct (rConv (rA x g w) cw cb)) wd (ix3 b s d) = sAcc (fX x) (fG g) (fW w) (fCW cw) (fCB cb) (fWD wd) (rowOf b s) d 11 := by
  rw [rY_apply, sAcc_all, sum_padded]
  refine congrArg₂ (· + ·) (rX_apply x b s d) (Finset.sum_congr rfl fun f _ => congrArg (· * fWD wd f d) ?_)
  rw [act_eq (sConv_real hx hg hw hcw hcb _ _ _), rAct_apply, conv_eq, conv_eq]
end

end Cert.FfnV

end
-- ==== Proof.FfnClaim.lean ====
/- The claims about the convolutional feed-forward layer: the frames of its kernel and of its reference, and that the two compute the same arrays
   of finite arguments. -/
module

public import proofs.«01_k».proof.Defs
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.FfnGrid
public import proofs.«01_k».proof.Proof.FfnSame
public import Idealize.ShloMosaic.Lib.ReduceAll

@[expose] public section

set_option maxHeartbeats 1000000

noncomputable section

namespace Cert.FfnV
open Idealize.ShloMosaic Idealize.ShloMosaic.TcCoe Idealize.SL.Sem

/-- What the precondition's operations need of their shapes. -/
theorem finite_facts : Cert.Pre_finite.Facts where
  bcast_S_S32768x2048 := by decide
  reducesTo_S32768x2048_S_d0_1 := by decide
  h_S_ := by decide
  bcast_S_S2048 := by decide
  reducesTo_S2048_S_d0 := by decide
  bitsLt_bf16_f32 := by decide
  bcast_S_S4x11x2x2048x512 := by decide
  reducesTo_S4x11x2x2048x512_S_d0_1_2_3_4 := by decide
  bcast_S_S4x3x11008 := by decide
  reducesTo_S4x3x11008_S_d0_1_2 := by decide
  bcast_S_S4x11008 := by decide
  reducesTo_S4x11008_S_d0_1 := by decide

/-- The kernel runs and leaves its arguments as they were. -/
theorem frame_kernel : Cert.quiescent_Ffn (hFfn := Cert.Ffn.Gen.facts) := fun m ρ _ => Cert.Ffn.Gen.frame m ρ

/-- The same over the extended reals. -/
theorem frame_ideal : Cert.quiescent_FfnIdeal (hFfnIdeal := Cert.FfnIdeal.Gen.facts) := fun m ρ _ => Cert.FfnIdeal.Gen.frame m ρ

/-- The same of finite arguments. -/
theorem frame_ideal_finite : Cert.quiescent_FfnIdeal_pre_finite (hFfnIdeal := Cert.FfnIdeal.Gen.facts) (hPre_finite := finite_facts) := fun m ρ _ => Cert.FfnIdeal.Gen.frame m ρ

/-- The reference runs and leaves its arguments as they were. -/
theorem frame_ref : Cert.quiescent_FfnRefIdeal (hFfnRefIdeal := Cert.FfnRefIdeal.Gen.facts) := fun m ρ _ =>
  (θ_run Cert.FfnRefIdeal.defs _ _).mono (fun r h => ⟨fun c => (h c).2.2, Idealize.ShloMosaic.sem_eq_zero_of_no_sems (by decide) r.2⟩)
    (Cert.FfnRefIdeal.Value.run (F := Ideal) m ρ)

/-- The same of finite arguments. -/
theorem frame_ref_finite : Cert.quiescent_FfnRefIdeal_pre_finite (hFfnRefIdeal := Cert.FfnRefIdeal.Gen.facts) (hPre_finite := finite_facts) := fun m ρ _ =>
  frame_ref m ρ trivial

/-- The constant infinity. -/
theorem inf_eq : Ideal.ofBits .f32 0x7F800000#32 = ⊤ := by
  simp [Ideal.ofBits, Ideal.ieee]

/-- A value below infinity in magnitude is real. -/
theorem real_of_lt {x : EReal} (h : Ideal.cmp .olt (max x (-x)) (Ideal.ofBits .f32 0x7F800000#32) = 1#1) : IsR x := by
  rw [inf_eq] at h
  have h1 : max x (-x) < ⊤ := by
    by_contra h2
    have h3 : Ideal.cmp .olt (max x (-x)) ⊤ = 0#1 := by
      show BitVec.ofBool (decide (max x (-x) < ⊤)) = 0#1
      rw [decide_eq_false h2]
      rfl
    rw [h3] at h
    exact absurd h (by decide)
  induction x with
  | bot => exact absurd h1 (by simp)
  | top => exact absurd h1 (by simp)
  | coe r => exact ⟨r, rfl⟩

instance : Subsingleton Cert.Pre_finite.S_.Idx := ⟨fun a b => funext fun i => i.elim0⟩

/-- The precondition's first five arrays are real everywhere. -/
theorem real_of_finite (x : Vec Ideal Cert.FfnIdeal.S32768x2048 .f32) (g : Vec Ideal Cert.FfnIdeal.S2048 .f32) (w : Vec Ideal Cert.FfnIdeal.S4x11x2x2048x512 .bf16)
    (cw : Vec Ideal Cert.FfnIdeal.S4x3x11008 .f32) (cb : Vec Ideal Cert.FfnIdeal.S4x11008 .f32) (wd : Vec Ideal Cert.FfnIdeal.S4x5504x2048 .f32) (gp : Vec Ideal Cert.FfnIdeal.S2048 .f32)
    (h : @Cert.Pre_finite.fn finite_facts Ideal _ x g w cw cb wd gp = fun _ => 1#1) :
    (∀ i, IsR (x i)) ∧ (∀ i, IsR (g i)) ∧ (∀ i, IsR (w i)) ∧ (∀ i, IsR (cw i)) ∧ ∀ i, IsR (cb i) := by
  have h0 := congrFun h (fun i => i.elim0)
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨fun i => real_of_lt (Host.reduce_andi_all _ _ _ _ _ e0 i), fun i => real_of_lt (Host.reduce_andi_all _ _ _ _ _ e1 i), fun i => real_of_lt (Host.reduce_andi_all _ _ _ _ _ e2 i),
    fun i => real_of_lt (Host.reduce_andi_all _ _ _ _ _ e3 i), fun i => real_of_lt (Host.reduce_andi_all _ _ _ _ _ e4 i)⟩

/-- The kernel and the reference compute the same two arrays of finite arguments. -/
theorem same_result : Cert.algebraic_FfnIdeal_FfnRefIdeal_pre_finite (hFfnIdeal := Cert.FfnIdeal.Gen.facts) (hFfnRefIdeal := Cert.FfnRefIdeal.Gen.facts) (hPre_finite := finite_facts) := by
  intro m ρ m' ρ' hfin hagree
  have hy : ∀ (c : Dev Cert.FfnIdeal.nD) (b : Fin 8) (s : Fin 4096) (d : Fin 2048), yOf m' c (ix3 b s d) = kAcc m c (rowOf b s) d 11 := by
    intro c b s d
    obtain ⟨h0, h1, h2, h3, h4, h5, h6⟩ := hagree c
    obtain ⟨r0, r1, r2, r3, r4⟩ := real_of_finite _ _ _ _ _ _ _ (hfin c)
    unfold yOf
    rw [h0, h1, h2, h3, h4, h5]
    exact y_eq _ _ _ _ _ _ (fun r d => r0 _) (fun d => r1 _) (fun k p l j => r2 _) (fun i f => r3 _) (fun f => r4 _) b s d
  have hrow : ∀ r : Fin 32768, ∃ (b : Fin 8) (s : Fin 4096), r = rowOf b s := fun r =>
    ⟨⟨r.val / 4096, by omega⟩, ⟨r.val % 4096, Nat.mod_lt _ (by decide)⟩, Fin.ext (by show r.val = 4096 * (r.val / 4096) + r.val % 4096; omega)⟩
  refine ⟨fun c => Cert.FfnIdeal.Value.G11 m c, fun c => Cert.FfnIdeal.Value.G12 m c, Cert.FfnIdeal.Value.run m ρ,
    (θ_run _ _ _).mono (fun _ h c => ⟨(h c).1.trans ?_, (h c).2.1.trans ?_, (h c).2.2⟩) (Cert.FfnRefIdeal.Value.run m' ρ')⟩
  · refine funext fun (j : Cert.FfnIdeal.S32768x2048.Idx) => ?_
    rw [eq_ix2 (n0 := 32768) (n1 := 2048) j]
    obtain ⟨b, s, hr⟩ := hrow (j 0)
    rw [hr]
    exact (res_y_apply m' c b s _).trans ((hy c b s _).trans (result_0 m c _ _).symm)
  · refine funext fun (j : Cert.FfnIdeal.S32768x2048.Idx) => ?_
    rw [eq_ix2 (n0 := 32768) (n1 := 2048) j]
    obtain ⟨b, s, hr⟩ := hrow (j 0)
    rw [hr]
    refine (res_u_apply m' c b s _).trans (Eq.trans ?_ (result_1 m c _ _).symm)
    obtain ⟨h0, h1, h2, h3, h4, h5, h6⟩ := hagree c
    rw [h6]
    exact congrFun (congrArg (nrm · _) (funext fun e => hy c b s e)) _

end Cert.FfnV

end
-- ==== Proof.FfnEndElem.lean ====
module

public import proofs.«01_k».proof.Proof.FfnSpec
public import proofs.«01_k».proof.Proof.Gen.FfnEndIdeal.Value
public import Idealize.ShloMosaic.Lib.Pipeline.ValueKit
public import Idealize.ShloMosaic.Lib.Pointwise

@[expose] public section

set_option maxRecDepth 16384
set_option maxHeartbeats 1000000

noncomputable section

namespace Cert.FfnEndV
open Idealize.ShloMosaic Idealize.ShloMosaic.TcCoe Idealize.ShloMosaic.Tactic Idealize.SL.Sem
open Cert.FfnEndIdeal Cert.FfnEndIdeal.Gen Cert.FfnV

/-! One point's arithmetic, entry by entry. -/

theorem pay4_apply (g : Vec Ideal S1x2048 .f32) (x : Vec Ideal S16x2048 .f32) (r : Fin 16) (d : Fin 2048) :
    k0_pay4 g x (ix2 r d) = nrm (fun e => x (ix2 r e)) (fun e => g (ix2 0 e)) d := by
  pointwise [k0_pay4, nrm]

theorem pay6_apply (g : Vec Ideal S1x2048 .f32) (x : Vec Ideal S128x2048 .f32) (r : Fin 128) (d : Fin 2048) :
    k0_pay6 g x (ix2 r d) = nrm (fun e => x (ix2 r e)) (fun e => g (ix2 0 e)) d := by
  pointwise [k0_pay6, k0_pay5, nrm]

theorem pay7_apply (g : Vec Ideal S1x2048 .f32) (x : Vec Ideal S128x2048 .f32) (r : Fin 128) (d : Fin 2048) :
    k0_pay7 (k0_pay5 g) x (ix2 r d) = nrm (fun e => x (ix2 r e)) (fun e => g (ix2 0 e)) d := by
  pointwise [k0_pay7, k0_pay5, nrm]

theorem pay8_apply (g : Vec Ideal S1x2048 .f32) (x : Vec Ideal S128x2048 .f32) (r : Fin 128) (d : Fin 2048) :
    k0_pay8 (k0_pay5 g) x (ix2 r d) = nrm (fun e => x (ix2 r e)) (fun e => g (ix2 0 e)) d := by
  pointwise [k0_pay8, k0_pay5, nrm]

theorem pay17_apply (g : Vec Ideal S1x2048 .f32) (x : Vec Ideal S128x2048 .f32) (r : Fin 128) (d : Fin 2048) :
    k0_pay17 (k0_pay5 g) x (k0_pay9 x) (k0_pay10 (F := Ideal)) (ix2 r d) = nrm (fun e => x (ix2 r e)) (fun e => g (ix2 0 e)) d := by
  pointwise [k0_pay17, k0_pay5, k0_pay9, k0_pay10, nrm]

theorem pay12_apply (g : Vec Ideal S1x2048 .f32) (x : Vec Ideal S128x2048 .f32) (r : Fin 128) (d : Fin 2048) :
    k0_pay12 g x (ix2 r d) = nrm (fun e => x (ix2 r e)) (fun e => g (ix2 0 e)) d := by
  pointwise [k0_pay12, k0_pay11, nrm]

theorem pay13_apply (g : Vec Ideal S1x2048 .f32) (x : Vec Ideal S128x2048 .f32) (r : Fin 128) (d : Fin 2048) :
    k0_pay13 g x (ix2 r d) = nrm (fun e => x (ix2 r e)) (fun e => g (ix2 0 e)) d := by
  pointwise [k0_pay13, k0_pay11, nrm]

theorem pay2_apply (g : Vec Ideal S1x2048 .f32) (x : Vec Ideal S128x2048 .f32) (r : Fin 128) (d : Fin 2048) :
    k0_pay2 (k0_pay11 g) (k0_pay14 x) (k0_pay15 x) (k0_pay16 (F := Ideal)) (ix2 r d) = nrm (fun e => x (ix2 r e)) (fun e => g (ix2 0 e)) d := by
  pointwise [k0_pay2, k0_pay11, k0_pay14, k0_pay15, k0_pay16, nrm]

theorem pay3_apply (g : Vec Ideal S1x2048 .f32) (x : Vec Ideal S128x2048 .f32) (r : Fin 128) (d : Fin 2048) :
    k0_pay3 (k0_pay11 g) x (ix2 r d) = nrm (fun e => x (ix2 r e)) (fun e => g (ix2 0 e)) d := by
  pointwise [k0_pay3, k0_pay11, nrm]

theorem pay19_apply (x : Vec Ideal S272x2048 .bf16) (w : Vec Ideal S1x1x1x2048x256 .bf16) (r : Fin 272) (j : Fin 256) :
    k0_pay19 x w (ix2 r j) = ∑ l : Fin 2048, x (ix2 r l) * w (ix5 0 0 0 l j) := by
  pointwise [k0_pay19]

theorem pay21_apply (x : Vec Ideal S272x2048 .bf16) (w : Vec Ideal S1x1x1x2048x256 .bf16) (r : Fin 272) (j : Fin 256) :
    k0_pay21 (k0_pay20 x w) (ix2 r j) = ∑ l : Fin 2048, x (ix2 r l) * w (ix5 0 0 0 l j) := by
  pointwise [k0_pay21, k0_pay20]

theorem pay22_apply (x : Vec Ideal S272x2048 .bf16) (w : Vec Ideal S1x1x1x2048x256 .bf16) (r : Fin 272) (j : Fin 256) :
    k0_pay22 x w (ix2 r j) = ∑ l : Fin 2048, x (ix2 r l) * w (ix5 0 0 0 l j) := by
  pointwise [k0_pay22]

theorem pay23_apply (x : Vec Ideal S272x2048 .bf16) (w : Vec Ideal S1x1x1x2048x256 .bf16) (r : Fin 272) (j : Fin 256) :
    k0_pay23 x w (ix2 r j) = ∑ l : Fin 2048, x (ix2 r l) * w (ix5 0 0 0 l j) := by
  pointwise [k0_pay23]

theorem pay25_apply (x : Vec Ideal S256x2048 .bf16) (w : Vec Ideal S1x1x1x2048x256 .bf16) (r : Fin 256) (j : Fin 256) :
    k0_pay25 x w (ix2 r j) = ∑ l : Fin 2048, x (ix2 r l) * w (ix5 0 0 0 l j) := by
  pointwise [k0_pay25]

theorem pay26_apply (x : Vec Ideal S256x2048 .bf16) (w : Vec Ideal S1x1x1x2048x256 .bf16) (r : Fin 256) (j : Fin 256) :
    k0_pay26 x w (ix2 r j) = ∑ l : Fin 2048, x (ix2 r l) * w (ix5 0 0 0 l j) := by
  pointwise [k0_pay26]

theorem pay27_apply (x : Vec Ideal S256x2048 .bf16) (w : Vec Ideal S1x1x1x2048x256 .bf16) (r : Fin 256) (j : Fin 256) :
    k0_pay27 x w (ix2 r j) = ∑ l : Fin 2048, x (ix2 r l) * w (ix5 0 0 0 l j) := by
  pointwise [k0_pay27]

theorem pay29_apply (x : Vec Ideal S256x2048 .bf16) (w : Vec Ideal S1x1x1x2048x256 .bf16) (r : Fin 256) (j : Fin 256) :
    k0_pay29 (k0_pay28 x w) (ix2 r j) = ∑ l : Fin 2048, x (ix2 r l) * w (ix5 0 0 0 l j) := by
  pointwise [k0_pay29, k0_pay28]

theorem pay24_apply (kp : EReal) (x : Vec Ideal S16x1024 .f32) (r : Fin 16) (j : Fin 1024) :
    k0_pay24 (F := Ideal) kp x (ix2 r j) = x (ix2 r j) * kp := by
  pointwise [k0_pay24]

theorem pay35_apply (w0g w0v w1g w1v w2g w2v bg bv : Vec Ideal S1x1x512 .f32) (a0 a1 a2 : Vec Ideal S256x1024 .f32) (xo : Vec Ideal S256x2048 .f32)
    (wd : Vec Ideal S1x512x2048 .bf16) (r : Fin 256) (d : Fin 2048) :
    k0_pay35 (k0_pay30 w0g w0v) (k0_pay33 bg bv) (k0_pay34 w1g w1v w2g w2v a0 a1) a2 xo wd (ix2 r d)
      = xo (ix2 r d) + ∑ j : Fin 512, act
          (tap (w0g (ix3 0 0 j)) (w1g (ix3 0 0 j)) (w2g (ix3 0 0 j)) (bg (ix3 0 0 j)) (a0 (ix2 r (lo j))) (a1 (ix2 r (lo j))) (a2 (ix2 r (lo j))))
          (tap (w0v (ix3 0 0 j)) (w1v (ix3 0 0 j)) (w2v (ix3 0 0 j)) (bv (ix3 0 0 j)) (a0 (ix2 r (hi j))) (a1 (ix2 r (hi j))) (a2 (ix2 r (hi j))))
          * wd (ix3 0 j d) := by
  pointwise [k0_pay35, k0_pay30, k0_pay31, k0_pay32, k0_pay33, k0_pay34, act, tap, lo, hi]

theorem pay1_apply (w0g w0v w1g w1v w2g w2v bg bv : Vec Ideal S1x1x512 .f32) (a0 a1 a2 : Vec Ideal S256x1024 .f32) (xo : Vec Ideal S256x2048 .f32)
    (wd : Vec Ideal S1x512x2048 .bf16) (r : Fin 256) (d : Fin 2048) :
    k0_pay1 (k0_pay36 (k0_pay30 w0g w0v) (k0_pay31 w1g w1v) (k0_pay32 w2g w2v) (k0_pay33 bg bv) a0 a1 a2) xo wd (ix2 r d)
      = xo (ix2 r d) + ∑ j : Fin 512, act
          (tap (w0g (ix3 0 0 j)) (w1g (ix3 0 0 j)) (w2g (ix3 0 0 j)) (bg (ix3 0 0 j)) (a0 (ix2 r (lo j))) (a1 (ix2 r (lo j))) (a2 (ix2 r (lo j))))
          (tap (w0v (ix3 0 0 j)) (w1v (ix3 0 0 j)) (w2v (ix3 0 0 j)) (bv (ix3 0 0 j)) (a0 (ix2 r (hi j))) (a1 (ix2 r (hi j))) (a2 (ix2 r (hi j))))
          * wd (ix3 0 j d) := by
  pointwise [k0_pay1, k0_pay36, k0_pay30, k0_pay31, k0_pay32, k0_pay33, act, tap, lo, hi]

theorem pay18_eq (i : grid0.Coords) : k0_pay18 (F := Ideal) i = if (i 0).val % 8 = 0 then 0 else 1 := by
  have h : ∀ b : Fin 64, (let arg0 : BitVec 32 := BitVec.ofNat 32 b.val
    let v4 : BitVec 32 := Scalar.select (Scalar.cmpi .eq 8#32 0#32) 1#32 8#32
    let v5 : BitVec 32 := Scalar.remsi arg0 v4
    let v10 : BitVec 1 := Scalar.andi (Scalar.xori (Scalar.cmpi .slt v5 0#32) (Scalar.cmpi .slt v4 0#32)) (Scalar.cmpi .ne v5 0#32)
    let v12 : BitVec 32 := Scalar.select v10 (Scalar.addi v5 v4) v5
    (Scalar.extui (Scalar.cmpi .ne v12 0#32) : BitVec 32)) = if b.val % 8 = 0 then 0#32 else 1#32 := by decide +kernel
  show ((((_ : BitVec 32).toInt : ℝ) : EReal)) = _
  rw [h (i 0)]
  by_cases h8 : (i 0).val % 8 = 0
  · rw [if_pos h8, if_pos h8]; norm_num
  · rw [if_neg h8, if_neg h8]; norm_num

end Cert.FfnEndV

end
-- ==== Proof.FfnEndUp.lean ====
module

public import proofs.«01_k».proof.Proof.FfnEndElem
public import Idealize.ShloMosaic.Lib.Pipeline.CanonAppend

@[expose] public section

set_option maxRecDepth 16384
set_option maxHeartbeats 1000000

noncomputable section

namespace Cert.FfnEndV
open Idealize.ShloMosaic Idealize.ShloMosaic.TcCoe Idealize.ShloMosaic.Tactic Idealize.SL.Sem
open Cert.FfnEndIdeal Cert.FfnEndIdeal.Gen Cert.FfnV

/-! ## The scratch of up-projected rows, and the block of results -/

/-- The stores into the scratch before the halo's rows are masked. -/
abbrev pcs4 (X : Vec Ideal S272x2048 .bf16) (a3 b3 a4 b4 : Vec Ideal S1x1x1x2048x256 .bf16) : List (View.Piece (Elt Ideal) S528x1024 .f32) :=
  [⟨Rect.unit (s := S528x1024) ![0, 768] S272x256.size inb_S528x1024_S272x256_0_768, k0_pay23 X b4⟩,
   ⟨Rect.unit (s := S528x1024) ![0, 256] S272x256.size inb_S528x1024_S272x256_0_256, k0_pay22 X b3⟩,
   ⟨Rect.unit (s := S528x1024) ![0, 512] S272x256.size inb_S528x1024_S272x256_0_512, k0_pay21 (k0_pay20 X a4)⟩,
   ⟨Rect.unit (s := S528x1024) ![0, 0] S272x256.size inb_S528x1024_S272x256_0_0, k0_pay19 X a3⟩]

/-- The stores after. -/
abbrev pcs5 (kp : EReal) (A : Vec Ideal S16x1024 .f32) (Y : Vec Ideal S256x2048 .bf16) (a3 b3 a4 b4 : Vec Ideal S1x1x1x2048x256 .bf16) : List (View.Piece (Elt Ideal) S528x1024 .f32) :=
  [⟨Rect.unit (s := S528x1024) ![272, 768] S256x256.size inb_S528x1024_S256x256_272_768, k0_pay29 (k0_pay28 Y b4)⟩,
   ⟨Rect.unit (s := S528x1024) ![272, 256] S256x256.size inb_S528x1024_S256x256_272_256, k0_pay27 Y b3⟩,
   ⟨Rect.unit (s := S528x1024) ![272, 512] S256x256.size inb_S528x1024_S256x256_272_512, k0_pay26 Y a4⟩,
   ⟨Rect.unit (s := S528x1024) ![272, 0] S256x256.size inb_S528x1024_S256x256_272_0, k0_pay25 Y a3⟩,
   ⟨Rect.unit (s := S528x1024) ![0, 0] S16x1024.size inb_S528x1024_S16x1024_0_0, k0_pay24 (F := Ideal) kp A⟩]

section
variable (xs : Vec Ideal S528x2048 .bf16) (x3 x4 : Vec Ideal S1x1x1x2048x512 .bf16)
  (X : Vec Ideal S272x2048 .bf16) (Y : Vec Ideal S256x2048 .bf16) (a3 b3 a4 b4 : Vec Ideal S1x1x1x2048x256 .bf16)
  (hX : ∀ (r : Fin 272) l, X (ix2 r l) = xs (ix2 (topRow r) l)) (hY : ∀ (r : Fin 256) l, Y (ix2 r l) = xs (ix2 (botRow r) l))
  (ha3 : ∀ l (j : Fin 256), a3 (ix5 0 0 0 l j) = x3 (ix5 0 0 0 l (half0 j))) (hb3 : ∀ l (j : Fin 256), b3 (ix5 0 0 0 l j) = x3 (ix5 0 0 0 l (half1 j)))
  (ha4 : ∀ l (j : Fin 256), a4 (ix5 0 0 0 l j) = x4 (ix5 0 0 0 l (half0 j))) (hb4 : ∀ l (j : Fin 256), b4 (ix5 0 0 0 l j) = x4 (ix5 0 0 0 l (half1 j)))
include hX ha3 hb3 ha4 hb4

/-- The rows the first four stores cover. -/
theorem canon4 (y : S528x1024.Idx) (hy : (y 0).val < 272) : View.canon (pcs4 X a3 b3 a4 b4) y = upOf xs x3 x4 y := by
  have hy1 : (y 1).val < 1024 := (y 1).isLt
  refine View.canon_apply_of_pieces (upOf xs x3 x4) _ ?_ y ?_
  · intro p hp
    simp only [List.mem_cons, List.not_mem_nil, or_false] at hp
    rcases hp with rfl | rfl | rfl | rfl <;> intro x <;> rw [eq_ix2 (n0 := 272) (n1 := 256) x]
    · exact (pay23_apply _ _ _ _).trans (upOf_hi (hX _) (fun l => hb4 l _) (by show (x 0).val = 0 + 1 * (x 0).val; omega) (by show 512 + (256 + (x 1).val) = 768 + 1 * (x 1).val; omega))
    · exact (pay22_apply _ _ _ _).trans (upOf_lo (hX _) (fun l => hb3 l _) (by show (x 0).val = 0 + 1 * (x 0).val; omega) (by show 256 + (x 1).val = 256 + 1 * (x 1).val; omega))
    · exact (pay21_apply _ _ _ _).trans (upOf_hi (hX _) (fun l => ha4 l _) (by show (x 0).val = 0 + 1 * (x 0).val; omega) (by show 512 + (x 1).val = 512 + 1 * (x 1).val; omega))
    · exact (pay19_apply _ _ _ _).trans (upOf_lo (hX _) (fun l => ha3 l _) (by show (x 0).val = 0 + 1 * (x 0).val; omega) (by show (x 1).val = 0 + 1 * (x 1).val; omega))
  · rcases (by omega : 768 ≤ (y 1).val ∨ (512 ≤ (y 1).val ∧ (y 1).val < 768) ∨ (256 ≤ (y 1).val ∧ (y 1).val < 512) ∨ (y 1).val < 256) with h | h | h | h
    · exact ⟨_, .head _, (mem_rect inb_S528x1024_S272x256_0_768 y).mpr (by omega)⟩
    · exact ⟨_, .tail _ (.tail _ (.head _)), (mem_rect inb_S528x1024_S272x256_0_512 y).mpr (by omega)⟩
    · exact ⟨_, .tail _ (.head _), (mem_rect inb_S528x1024_S272x256_0_256 y).mpr (by omega)⟩
    · exact ⟨_, .tail _ (.tail _ (.tail _ (.head _))), (mem_rect inb_S528x1024_S272x256_0_0 y).mpr (by omega)⟩

include hY in
/-- The whole scratch. -/
theorem canon9 (kp : EReal) (A : Vec Ideal S16x1024 .f32) (hA : ∀ r j, A (ix2 r j) = upOf xs x3 x4 (ix2 ⟨r.val, by omega⟩ j)) (y : S528x1024.Idx) :
    View.canon (pcs5 kp A Y a3 b3 a4 b4 ++ pcs4 X a3 b3 a4 b4) y = aOf kp xs x3 x4 y := by
  have hy0 : (y 0).val < 528 := (y 0).isLt
  have hy1 : (y 1).val < 1024 := (y 1).isLt
  by_cases hm : (y 0).val < 16 ∨ 272 ≤ (y 0).val
  · refine View.canon_append_of_pieces (aOf kp xs x3 x4) _ _ ?_ y ?_
    · intro p hp
      simp only [List.mem_cons, List.not_mem_nil, or_false] at hp
      rcases hp with rfl | rfl | rfl | rfl | rfl <;> intro x
      · rw [eq_ix2 (n0 := 256) (n1 := 256) x]
        exact (pay29_apply _ _ _ _).trans ((upOf_hi (hY _) (fun l => hb4 l _) (by show 272 + (x 0).val = 272 + 1 * (x 0).val; omega) (by show 512 + (256 + (x 1).val) = 768 + 1 * (x 1).val; omega)).trans (aOf_body (by show ¬(272 + 1 * (x 0).val < 16); omega)).symm)
      · rw [eq_ix2 (n0 := 256) (n1 := 256) x]
        exact (pay27_apply _ _ _ _).trans ((upOf_lo (hY _) (fun l => hb3 l _) (by show 272 + (x 0).val = 272 + 1 * (x 0).val; omega) (by show 256 + (x 1).val = 256 + 1 * (x 1).val; omega)).trans (aOf_body (by show ¬(272 + 1 * (x 0).val < 16); omega)).symm)
      · rw [eq_ix2 (n0 := 256) (n1 := 256) x]
        exact (pay26_apply _ _ _ _).trans ((upOf_hi (hY _) (fun l => ha4 l _) (by show 272 + (x 0).val = 272 + 1 * (x 0).val; omega) (by show 512 + (x 1).val = 512 + 1 * (x 1).val; omega)).trans (aOf_body (by show ¬(272 + 1 * (x 0).val < 16); omega)).symm)
      · rw [eq_ix2 (n0 := 256) (n1 := 256) x]
        exact (pay25_apply _ _ _ _).trans ((upOf_lo (hY _) (fun l => ha3 l _) (by show 272 + (x 0).val = 272 + 1 * (x 0).val; omega) (by show (x 1).val = 0 + 1 * (x 1).val; omega)).trans (aOf_body (by show ¬(272 + 1 * (x 0).val < 16); omega)).symm)
      · rw [eq_ix2 (n0 := 16) (n1 := 1024) x]
        have hx : (x 0).val < 16 := (x 0).isLt
        refine (pay24_apply _ _ _ _).trans ((congrArg (· * kp) ((hA _ _).trans (congrArg (upOf xs x3 x4) (funext fun a => Fin.ext ?_)))).trans (aOf_halo (by show 0 + 1 * (x 0).val < 16; omega)).symm)
        match a with
        | ⟨0, _⟩ => show (x 0).val = 0 + 1 * (x 0).val; omega
        | ⟨1, _⟩ => show (x 1).val = 0 + 1 * (x 1).val; omega
    · rcases (by omega : (y 0).val < 16 ∨ 272 ≤ (y 0).val ∧ (768 ≤ (y 1).val ∨ (512 ≤ (y 1).val ∧ (y 1).val < 768) ∨ (256 ≤ (y 1).val ∧ (y 1).val < 512) ∨ (y 1).val < 256)) with h | ⟨h0, h | h | h | h⟩
      · exact ⟨_, .tail _ (.tail _ (.tail _ (.tail _ (.head _)))), (mem_rect inb_S528x1024_S16x1024_0_0 y).mpr (by omega)⟩
      · exact ⟨_, .head _, (mem_rect inb_S528x1024_S256x256_272_768 y).mpr (by omega)⟩
      · exact ⟨_, .tail _ (.tail _ (.head _)), (mem_rect inb_S528x1024_S256x256_272_512 y).mpr (by omega)⟩
      · exact ⟨_, .tail _ (.head _), (mem_rect inb_S528x1024_S256x256_272_256 y).mpr (by omega)⟩
      · exact ⟨_, .tail _ (.tail _ (.tail _ (.head _))), (mem_rect inb_S528x1024_S256x256_272_0 y).mpr (by omega)⟩
  · have h0 : y ∉ (Rect.unit (s := S528x1024) ![272, 768] S256x256.size inb_S528x1024_S256x256_272_768).set := fun hc => by have := ((mem_rect (M := 528) (N := 1024) (m := 256) (n := 256) (a := 272) (b := 768) inb_S528x1024_S256x256_272_768 y).mp hc).1; omega
    have h1 : y ∉ (Rect.unit (s := S528x1024) ![272, 256] S256x256.size inb_S528x1024_S256x256_272_256).set := fun hc => by have := ((mem_rect (M := 528) (N := 1024) (m := 256) (n := 256) (a := 272) (b := 256) inb_S528x1024_S256x256_272_256 y).mp hc).1; omega
    have h2 : y ∉ (Rect.unit (s := S528x1024) ![272, 512] S256x256.size inb_S528x1024_S256x256_272_512).set := fun hc => by have := ((mem_rect (M := 528) (N := 1024) (m := 256) (n := 256) (a := 272) (b := 512) inb_S528x1024_S256x256_272_512 y).mp hc).1; omega
    have h3 : y ∉ (Rect.unit (s := S528x1024) ![272, 0] S256x256.size inb_S528x1024_S256x256_272_0).set := fun hc => by have := ((mem_rect (M := 528) (N := 1024) (m := 256) (n := 256) (a := 272) (b := 0) inb_S528x1024_S256x256_272_0 y).mp hc).1; omega
    have h4 : y ∉ (Rect.unit (s := S528x1024) ![0, 0] S16x1024.size inb_S528x1024_S16x1024_0_0).set := fun hc => by have := ((mem_rect (M := 528) (N := 1024) (m := 16) (n := 1024) (a := 0) (b := 0) inb_S528x1024_S16x1024_0_0 y).mp hc).1; omega
    refine (canon_skip _ _ h0).trans ((canon_skip _ _ h1).trans ((canon_skip _ _ h2).trans ((canon_skip _ _ h3).trans ((canon_skip _ _ h4).trans ?_))))
    exact (canon4 xs x3 x4 X a3 b3 a4 b4 hX ha3 hb3 ha4 hb4 y (by omega)).trans (aOf_body (by omega)).symm
end

/-- An entry of a shifted window of the scratch. -/
theorem cov_at (v : View sig .tc .vmem S528x1024 .f32) (L : List (View.Piece (Elt Ideal) S528x1024 .f32)) (G : S528x1024.Idx → EReal) (hL : ∀ y, View.canon L y = G y) {m : ℕ}
    (a : ℕ) (w : ∀ q, (![a, 0] : Fin 2 → ℕ) q + (⟨2, ![m, 1024]⟩ : Shape).size q ≤ S528x1024.size q) (r : Fin m) (j : Fin 1024) (h : a + r.val < 528) :
    v.readCov L (Rect.unit (s := S528x1024) ![a, 0] (⟨2, ![m, 1024]⟩ : Shape).size w).toLoadRect (ix2 r j) = G (ix2 ⟨a + r.val, h⟩ j) := by
  rw [View.readCov_eq_canon']
  refine (hL _).trans (congrArg G (funext fun q => Fin.ext ?_))
  match q with
  | ⟨0, _⟩ => show a + 1 * r.val = a + r.val; omega
  | ⟨1, _⟩ => show 0 + 1 * j.val = j.val; omega

section
variable (xs : Vec Ideal S528x2048 .bf16) (x3 x4 : Vec Ideal S1x1x1x2048x512 .bf16)
  (X : Vec Ideal S272x2048 .bf16) (Y : Vec Ideal S256x2048 .bf16) (a3 b3 a4 b4 : Vec Ideal S1x1x1x2048x256 .bf16)
  (hX : ∀ (r : Fin 272) l, X (ix2 r l) = xs (ix2 (topRow r) l)) (hY : ∀ (r : Fin 256) l, Y (ix2 r l) = xs (ix2 (botRow r) l))
  (ha3 : ∀ l (j : Fin 256), a3 (ix5 0 0 0 l j) = x3 (ix5 0 0 0 l (half0 j))) (hb3 : ∀ l (j : Fin 256), b3 (ix5 0 0 0 l j) = x3 (ix5 0 0 0 l (half1 j)))
  (ha4 : ∀ l (j : Fin 256), a4 (ix5 0 0 0 l j) = x4 (ix5 0 0 0 l (half0 j))) (hb4 : ∀ l (j : Fin 256), b4 (ix5 0 0 0 l j) = x4 (ix5 0 0 0 l (half1 j)))
  (x5 x6 : Vec Ideal S1x3x512 .f32) (x7 x8 : Vec Ideal S1x1x512 .f32) (x9 : Vec Ideal S1x512x2048 .bf16)
  (g0 g1 g2 v0 v1 v2 : Vec Ideal S1x1x512 .f32)
  (hg0 : ∀ j, g0 (ix3 0 0 j) = x5 (ix3 0 0 j)) (hg1 : ∀ j, g1 (ix3 0 0 j) = x5 (ix3 0 1 j)) (hg2 : ∀ j, g2 (ix3 0 0 j) = x5 (ix3 0 2 j))
  (hv0 : ∀ j, v0 (ix3 0 0 j) = x6 (ix3 0 0 j)) (hv1 : ∀ j, v1 (ix3 0 0 j) = x6 (ix3 0 1 j)) (hv2 : ∀ j, v2 (ix3 0 0 j) = x6 (ix3 0 2 j))
  (xo : Vec Ideal S512x2048 .f32) (xa xb : Vec Ideal S256x2048 .f32)
  (hxa : ∀ (r : Fin 256) d, xa (ix2 r d) = xo (ix2 (half0 r) d)) (hxb : ∀ (r : Fin 256) d, xb (ix2 r d) = xo (ix2 (half1 r) d))
include hX ha3 hb3 ha4 hb4 hY hg0 hg1 hg2 hv0 hv1 hv2 hxa hxb

/-- The block of results after a point's two stores. -/
theorem step_canon (kp : EReal) (v : View sig .tc .vmem S528x1024 .f32) (T : List (View.Piece (Elt Ideal) S512x2048 .f32)) (r : Fin 512) (d : Fin 2048) :
    View.canon (Val := Elt Ideal) (s := S512x2048) (e := .f32)
      (⟨Rect.unit (s := S512x2048) ![256, 0] S256x2048.size inb_S512x2048_S256x2048_256_0,
         k0_pay1 (k0_pay36 (k0_pay30 g0 v0) (k0_pay31 g1 v1) (k0_pay32 g2 v2) (k0_pay33 x7 x8)
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![272, 0] S256x1024.size inb_S528x1024_S256x1024_272_0).toLoadRect)
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![271, 0] S256x1024.size inb_S528x1024_S256x1024_271_0).toLoadRect)
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![270, 0] S256x1024.size inb_S528x1024_S256x1024_270_0).toLoadRect)) xb x9⟩ ::
       ⟨Rect.unit (s := S512x2048) ![0, 0] S256x2048.size inb_S512x2048_S256x2048_0_0,
         k0_pay35 (k0_pay30 g0 v0) (k0_pay33 x7 x8) (k0_pay34 g1 v1 g2 v2
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![16, 0] S256x1024.size inb_S528x1024_S256x1024_16_0).toLoadRect)
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![15, 0] S256x1024.size inb_S528x1024_S256x1024_15_0).toLoadRect))
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![14, 0] S256x1024.size inb_S528x1024_S256x1024_14_0).toLoadRect) xa x9⟩ :: T) (ix2 r d)
      = outNext kp xs x3 x4 x5 x6 x7 x8 x9 xo r d := by
  have hA : ∀ (r : Fin 16) (j : Fin 1024), v.readCov (pcs4 X a3 b3 a4 b4) (Rect.unit (s := S528x1024) ![0, 0] S16x1024.size inb_S528x1024_S16x1024_0_0).toLoadRect (ix2 r j) = upOf xs x3 x4 (ix2 ⟨r.val, by omega⟩ j) := by
    intro r j
    rw [View.readCov_eq_canon']
    refine (canon4 xs x3 x4 X a3 b3 a4 b4 hX ha3 hb3 ha4 hb4 _ (by show 0 + 1 * r.val < 272; omega)).trans (congrArg (upOf xs x3 x4) (funext fun q => Fin.ext ?_))
    match q with
    | ⟨0, _⟩ => show 0 + 1 * r.val = r.val; omega
    | ⟨1, _⟩ => show 0 + 1 * j.val = j.val; omega
  have hL := canon9 xs x3 x4 X Y a3 b3 a4 b4 hX hY ha3 hb3 ha4 hb4 kp _ hA
  generalize hLL : (pcs5 kp (v.readCov (pcs4 X a3 b3 a4 b4) (Rect.unit (s := S528x1024) ![0, 0] S16x1024.size inb_S528x1024_S16x1024_0_0).toLoadRect) Y a3 b3 a4 b4 ++ pcs4 X a3 b3 a4 b4) = L at hL ⊢
  show View.canon ([_, _] ++ T) _ = _
  refine View.canon_append_of_pieces (Val := Elt Ideal) (S := S512x2048) (e := .f32) (fun y => outNext kp xs x3 x4 x5 x6 x7 x8 x9 xo (y 0) (y 1)) _ _ ?_ (ix2 r d) ?_
  · intro p hp
    simp only [List.mem_cons, List.not_mem_nil, or_false] at hp
    rcases hp with rfl | rfl <;> intro x <;> rw [eq_ix2 (n0 := 256) (n1 := 2048) x]
    · have h0 : (x 0).val < 256 := (x 0).isLt
      have e0 : (Rect.unit (s := S512x2048) ![256, 0] S256x2048.size inb_S512x2048_S256x2048_256_0).emb (ix2 (x 0) (x 1)) 0 = (⟨256 + (x 0).val, by omega⟩ : Fin 512) := Fin.ext (by show 256 + 1 * (x 0).val = 256 + (x 0).val; omega)
      have e1 : (Rect.unit (s := S512x2048) ![256, 0] S256x2048.size inb_S512x2048_S256x2048_256_0).emb (ix2 (x 0) (x 1)) 1 = (x 1 : Fin 2048) := Fin.ext (by show 0 + 1 * (x 1).val = (x 1).val; omega)
      refine (pay1_apply _ _ _ _ _ _ _ _ _ _ _ _ _ _ _).trans (Eq.trans ?_ (congrArg₂ (outNext kp xs x3 x4 x5 x6 x7 x8 x9 xo) e0 e1).symm)
      unfold outNext
      refine congrArg₂ (· + ·) (hxb _ _) (Finset.sum_congr rfl fun j _ => ?_)
      have k0 : ∀ j, _ = _ := fun j => cov_at v L _ hL 272 inb_S528x1024_S256x1024_272_0 (x 0) j (by omega)
      have k1 : ∀ j, _ = _ := fun j => cov_at v L _ hL 271 inb_S528x1024_S256x1024_271_0 (x 0) j (by omega)
      have k2 : ∀ j, _ = _ := fun j => cov_at v L _ hL 270 inb_S528x1024_S256x1024_270_0 (x 0) j (by omega)
      have f0 : (⟨272 + (x 0).val, by omega⟩ : Fin 528) = ⟨16 + (256 + (x 0).val), by omega⟩ := Fin.ext (by show 272 + (x 0).val = 16 + (256 + (x 0).val); omega)
      have f1 : (⟨271 + (x 0).val, by omega⟩ : Fin 528) = ⟨15 + (256 + (x 0).val), by omega⟩ := Fin.ext (by show 271 + (x 0).val = 15 + (256 + (x 0).val); omega)
      have f2 : (⟨270 + (x 0).val, by omega⟩ : Fin 528) = ⟨14 + (256 + (x 0).val), by omega⟩ := Fin.ext (by show 270 + (x 0).val = 14 + (256 + (x 0).val); omega)
      rw [f0] at k0
      rw [f1] at k1
      rw [f2] at k2
      exact congrArg₂ (· * ·) (congrArg₂ act (tap_congr (hg0 j) (hg1 j) (hg2 j) rfl (k0 _) (k1 _) (k2 _)) (tap_congr (hv0 j) (hv1 j) (hv2 j) rfl (k0 _) (k1 _) (k2 _))) rfl
    · have h0 : (x 0).val < 256 := (x 0).isLt
      have e0 : (Rect.unit (s := S512x2048) ![0, 0] S256x2048.size inb_S512x2048_S256x2048_0_0).emb (ix2 (x 0) (x 1)) 0 = (⟨(x 0).val, by omega⟩ : Fin 512) := Fin.ext (by show 0 + 1 * (x 0).val = (x 0).val; omega)
      have e1 : (Rect.unit (s := S512x2048) ![0, 0] S256x2048.size inb_S512x2048_S256x2048_0_0).emb (ix2 (x 0) (x 1)) 1 = (x 1 : Fin 2048) := Fin.ext (by show 0 + 1 * (x 1).val = (x 1).val; omega)
      refine (pay35_apply _ _ _ _ _ _ _ _ _ _ _ _ _ _ _).trans (Eq.trans ?_ (congrArg₂ (outNext kp xs x3 x4 x5 x6 x7 x8 x9 xo) e0 e1).symm)
      unfold outNext
      refine congrArg₂ (· + ·) (hxa _ _) (Finset.sum_congr rfl fun j _ => ?_)
      have k0 : ∀ j, _ = _ := fun j => cov_at v L _ hL 16 inb_S528x1024_S256x1024_16_0 (x 0) j (by omega)
      have k1 : ∀ j, _ = _ := fun j => cov_at v L _ hL 15 inb_S528x1024_S256x1024_15_0 (x 0) j (by omega)
      have k2 : ∀ j, _ = _ := fun j => cov_at v L _ hL 14 inb_S528x1024_S256x1024_14_0 (x 0) j (by omega)
      exact congrArg₂ (· * ·) (congrArg₂ act (tap_congr (hg0 j) (hg1 j) (hg2 j) rfl (k0 _) (k1 _) (k2 _)) (tap_congr (hv0 j) (hv1 j) (hv2 j) rfl (k0 _) (k1 _) (k2 _))) rfl
  · by_cases h : r.val < 256
    · exact ⟨_, .tail _ (.head _), (mem_rect (M := 512) (N := 2048) (m := 256) (n := 2048) inb_S512x2048_S256x2048_0_0 _).mpr ⟨⟨Nat.zero_le _, by show r.val < 0 + 256; omega⟩, Nat.zero_le _, by show d.val < 0 + 2048; omega⟩⟩
    · exact ⟨_, .head _, (mem_rect (M := 512) (N := 2048) (m := 256) (n := 2048) inb_S512x2048_S256x2048_256_0 _).mpr ⟨⟨by show 256 ≤ r.val; omega, by show r.val < 256 + 256; omega⟩, Nat.zero_le _, by show d.val < 0 + 2048; omega⟩⟩
end

end Cert.FfnEndV

end
-- ==== Proof.FfnEndCase.lean ====
module

public import proofs.«01_k».proof.Proof.FfnEndUp
public import proofs.«01_k».proof.Proof.Gen.FfnEndIdeal.Value

@[expose] public section

set_option maxRecDepth 16384
set_option maxHeartbeats 1000000

noncomputable section

namespace Cert.FfnEndV
open Idealize.ShloMosaic Idealize.ShloMosaic.TcCoe Idealize.ShloMosaic.Tactic Idealize.SL.Sem
open Cert.FfnEndIdeal Cert.FfnEndIdeal.Gen Cert.FfnV

/-! ## What each kind of grid point leaves -/

/-! ## The block of normalized rows -/

/-- The scratch of normalized rows after its stores. -/
theorem xn_canon (x0 : Vec Ideal S512x2048 .f32) (x1 : Vec Ideal S16x2048 .f32) (x2 : Vec Ideal S1x2048 .f32) (y : S528x2048.Idx) :
    View.canon (Val := Elt Ideal) (s := S528x2048) (e := .bf16)
      [⟨Rect.unit (s := S528x2048) ![400, 0] ![128, 2048] inb_S528x2048_S128x2048_400_0, k0_pay17 (k0_pay5 x2) (View.ld (S := S512x2048) x0 (Rect.unit (s := S512x2048) ![384, 0] ![128, 2048] inb_S512x2048_S128x2048_384_0))
         (k0_pay9 (View.ld (S := S512x2048) x0 (Rect.unit (s := S512x2048) ![384, 0] ![128, 2048] inb_S512x2048_S128x2048_384_0))) (k0_pay10 (F := Ideal))⟩,
       ⟨Rect.unit (s := S528x2048) ![272, 0] ![128, 2048] inb_S528x2048_S128x2048_272_0, k0_pay8 (k0_pay5 x2) (View.ld (S := S512x2048) x0 (Rect.unit (s := S512x2048) ![256, 0] ![128, 2048] inb_S512x2048_S128x2048_256_0))⟩,
       ⟨Rect.unit (s := S528x2048) ![144, 0] ![128, 2048] inb_S528x2048_S128x2048_144_0, k0_pay7 (k0_pay5 x2) (View.ld (S := S512x2048) x0 (Rect.unit (s := S512x2048) ![128, 0] ![128, 2048] inb_S512x2048_S128x2048_128_0))⟩,
       ⟨Rect.unit (s := S528x2048) ![16, 0] ![128, 2048] inb_S528x2048_S128x2048_16_0, k0_pay6 x2 (View.ld (S := S512x2048) x0 (Rect.unit (s := S512x2048) ![0, 0] ![128, 2048] inb_S512x2048_S128x2048_0_0))⟩,
       ⟨Rect.unit (s := S528x2048) ![0, 0] ![16, 2048] inb_S528x2048_S16x2048_0_0, k0_pay4 x2 x1⟩] y = xnOf x0 x1 x2 y := by
  have hy0 : (y 0).val < 528 := (y 0).isLt
  have hy1 : (y 1).val < 2048 := (y 1).isLt
  refine View.canon_apply_of_pieces (Val := Elt Ideal) (S := S528x2048) (e := .bf16) (xnOf x0 x1 x2) _ ?_ y ?_
  · intro p hp
    simp only [List.mem_cons, List.not_mem_nil, or_false] at hp
    rcases hp with rfl | rfl | rfl | rfl | rfl <;> intro x
    · rw [eq_ix2 (n0 := 128) (n1 := 2048) x]
      have h0 : (x 0).val < 128 := (x 0).isLt
      exact (pay17_apply _ _ _ _).trans (xnOf_body (r := ⟨384 + (x 0).val, by omega⟩) (fun e => rows_at x0 inb_S512x2048_S128x2048_384_0 (x 0) e _ rfl) (by show 400 + 1 * (x 0).val = 16 + (384 + (x 0).val); omega) (by show 0 + 1 * (x 1).val = (x 1).val; omega))
    · rw [eq_ix2 (n0 := 128) (n1 := 2048) x]
      have h0 : (x 0).val < 128 := (x 0).isLt
      exact (pay8_apply _ _ _ _).trans (xnOf_body (r := ⟨256 + (x 0).val, by omega⟩) (fun e => rows_at x0 inb_S512x2048_S128x2048_256_0 (x 0) e _ rfl) (by show 272 + 1 * (x 0).val = 16 + (256 + (x 0).val); omega) (by show 0 + 1 * (x 1).val = (x 1).val; omega))
    · rw [eq_ix2 (n0 := 128) (n1 := 2048) x]
      have h0 : (x 0).val < 128 := (x 0).isLt
      exact (pay7_apply _ _ _ _).trans (xnOf_body (r := ⟨128 + (x 0).val, by omega⟩) (fun e => rows_at x0 inb_S512x2048_S128x2048_128_0 (x 0) e _ rfl) (by show 144 + 1 * (x 0).val = 16 + (128 + (x 0).val); omega) (by show 0 + 1 * (x 1).val = (x 1).val; omega))
    · rw [eq_ix2 (n0 := 128) (n1 := 2048) x]
      have h0 : (x 0).val < 128 := (x 0).isLt
      exact (pay6_apply _ _ _ _).trans (xnOf_body (r := ⟨(x 0).val, by omega⟩) (fun e => rows_at x0 inb_S512x2048_S128x2048_0_0 (x 0) e _ (Nat.zero_add _)) (by show 16 + 1 * (x 0).val = 16 + (x 0).val; omega) (by show 0 + 1 * (x 1).val = (x 1).val; omega))
    · rw [eq_ix2 (n0 := 16) (n1 := 2048) x]
      exact (pay4_apply _ _ _ _).trans (xnOf_halo (r := x 0) (fun _ => rfl) (by show 0 + 1 * (x 0).val = (x 0).val; omega) (by show 0 + 1 * (x 1).val = (x 1).val; omega))
  · rcases (by omega : 400 ≤ (y 0).val ∨ (272 ≤ (y 0).val ∧ (y 0).val < 400) ∨ (144 ≤ (y 0).val ∧ (y 0).val < 272) ∨ (16 ≤ (y 0).val ∧ (y 0).val < 144) ∨ (y 0).val < 16) with h | h | h | h | h
    · exact ⟨_, .head _, (mem_rect inb_S528x2048_S128x2048_400_0 y).mpr (by omega)⟩
    · exact ⟨_, .tail _ (.head _), (mem_rect inb_S528x2048_S128x2048_272_0 y).mpr (by omega)⟩
    · exact ⟨_, .tail _ (.tail _ (.head _)), (mem_rect inb_S528x2048_S128x2048_144_0 y).mpr (by omega)⟩
    · exact ⟨_, .tail _ (.tail _ (.tail _ (.head _))), (mem_rect inb_S528x2048_S128x2048_16_0 y).mpr (by omega)⟩
    · exact ⟨_, .tail _ (.tail _ (.tail _ (.tail _ (.head _)))), (mem_rect inb_S528x2048_S16x2048_0_0 y).mpr (by omega)⟩

/-- The rows normalized in place, 128 at a time: every block of rows is read after the blocks above it are stored, and still holds what it held before. -/
theorem nrm_canon (G : Fin 512 → Fin 2048 → EReal) (v : View sig .tc .vmem S512x2048 .f32) (L L1 L2 L3 : List (View.Piece (Elt Ideal) S512x2048 .f32)) (g : Vec Ideal S1x2048 .f32)
    (h1 : L1 = ⟨(Rect.unit (s := S512x2048) ![0, 0] ![128, 2048] inb_S512x2048_S128x2048_0_0), k0_pay12 g (v.readCov L (Rect.unit (s := S512x2048) ![0, 0] ![128, 2048] inb_S512x2048_S128x2048_0_0).toLoadRect)⟩ :: L)
    (h2 : L2 = ⟨(Rect.unit (s := S512x2048) ![128, 0] ![128, 2048] inb_S512x2048_S128x2048_128_0), k0_pay13 g (v.readCov L1 (Rect.unit (s := S512x2048) ![128, 0] ![128, 2048] inb_S512x2048_S128x2048_128_0).toLoadRect)⟩ :: L1)
    (h3 : L3 = ⟨(Rect.unit (s := S512x2048) ![256, 0] ![128, 2048] inb_S512x2048_S128x2048_256_0), k0_pay2 (k0_pay11 g) (k0_pay14 (v.readCov L2 (Rect.unit (s := S512x2048) ![256, 0] ![128, 2048] inb_S512x2048_S128x2048_256_0).toLoadRect)) (k0_pay15 (v.readCov L2 (Rect.unit (s := S512x2048) ![256, 0] ![128, 2048] inb_S512x2048_S128x2048_256_0).toLoadRect)) (k0_pay16 (F := Ideal))⟩ :: L2)
    (hL : ∀ r d, View.canon L (ix2 r d) = G r d) (r : Fin 512) (d : Fin 2048) :
    View.canon (Val := Elt Ideal) (s := S512x2048) (e := .f32) (⟨(Rect.unit (s := S512x2048) ![384, 0] ![128, 2048] inb_S512x2048_S128x2048_384_0), k0_pay3 (k0_pay11 g) (v.readCov L3 (Rect.unit (s := S512x2048) ![384, 0] ![128, 2048] inb_S512x2048_S128x2048_384_0).toLoadRect)⟩ :: L3) (ix2 r d) = nrm (G r) (fun e => g (ix2 0 e)) d := by
  have hs : ∀ (a : ℕ) (w : ∀ q, (![a, 0] : Fin 2 → ℕ) q + (![128, 2048] : Fin 2 → ℕ) q ≤ S512x2048.size q) (p : (Rect.unit (s := S512x2048) ![a, 0] ![128, 2048] w).shape.Idx → Elt Ideal .f32) (K : List (View.Piece (Elt Ideal) S512x2048 .f32)),
      (∀ (r : Fin 512) (d : Fin 2048), a ≤ r.val → View.canon K (ix2 r d) = G r d) → ∀ (r : Fin 512) (d : Fin 2048), a + 128 ≤ r.val → View.canon (⟨Rect.unit (s := S512x2048) ![a, 0] ![128, 2048] w, p⟩ :: K) (ix2 r d) = G r d := by
    intro a w p K hK r d h
    refine (canon_skip _ _ fun hm => ?_).trans (hK r d (by omega))
    have h2 : r.val < a + 128 := ((mem_rect (M := 512) (N := 2048) w _).mp hm).1.2
    omega
  have hL0 : ∀ (r : Fin 512) (d : Fin 2048), 0 ≤ r.val → View.canon L (ix2 r d) = G r d := fun r d _ => hL r d
  have hL1 : ∀ (r : Fin 512) (d : Fin 2048), 128 ≤ r.val → View.canon L1 (ix2 r d) = G r d := by
    rw [h1]
    exact hs 0 _ _ L hL0
  have hL2 : ∀ (r : Fin 512) (d : Fin 2048), 256 ≤ r.val → View.canon L2 (ix2 r d) = G r d := by
    rw [h2]
    exact hs 128 _ _ L1 hL1
  have hL3 : ∀ (r : Fin 512) (d : Fin 2048), 384 ≤ r.val → View.canon L3 (ix2 r d) = G r d := by
    rw [h3]
    exact hs 256 _ _ L2 hL2
  have hr : ∀ (K : List (View.Piece (Elt Ideal) S512x2048 .f32)) (a : ℕ) (hK : ∀ (r : Fin 512) (d : Fin 2048), a ≤ r.val → View.canon K (ix2 r d) = G r d) (w : ∀ q, (![a, 0] : Fin 2 → ℕ) q + (![128, 2048] : Fin 2 → ℕ) q ≤ S512x2048.size q) (r : Fin 128) (e : Fin 2048) (h : a + r.val < 512),
      v.readCov K (Rect.unit (s := S512x2048) ![a, 0] ![128, 2048] w).toLoadRect (ix2 r e) = G ⟨a + r.val, h⟩ e := by
    intro K a hK w r e h
    rw [View.readCov_eq_canon']
    refine Eq.trans (congrArg (View.canon K) (funext fun q => Fin.ext ?_)) (hK ⟨a + r.val, h⟩ e (Nat.le_add_right _ _))
    match q with
    | ⟨0, _⟩ => show a + 1 * r.val = a + r.val; omega
    | ⟨1, _⟩ => show 0 + 1 * e.val = e.val; omega
  have hc : ∀ {a : ℕ} (w : ∀ q, (![a, 0] : Fin 2 → ℕ) q + (![128, 2048] : Fin 2 → ℕ) q ≤ S512x2048.size q) (x : (⟨2, ![128, 2048]⟩ : Shape).Idx) (h : a + (x 0).val < 512) {X : Fin 2048 → EReal} (hX : ∀ e, X e = G ⟨a + (x 0).val, h⟩ e),
      nrm X (fun e => g (ix2 0 e)) (x 1) = nrm (G ((Rect.unit (s := S512x2048) ![a, 0] ![128, 2048] w).emb x 0)) (fun e => g (ix2 0 e)) ((Rect.unit (s := S512x2048) ![a, 0] ![128, 2048] w).emb x 1) := by
    intro a w x h X hX
    have e0 : (Rect.unit (s := S512x2048) ![a, 0] ![128, 2048] w).emb x 0 = (⟨a + (x 0).val, h⟩ : Fin 512) := Fin.ext (by show a + 1 * (x 0).val = a + (x 0).val; omega)
    have e1 : (Rect.unit (s := S512x2048) ![a, 0] ![128, 2048] w).emb x 1 = (x 1 : Fin 2048) := Fin.ext (by show 0 + 1 * (x 1).val = (x 1).val; omega)
    exact congrArg₂ (fun X d => nrm X (fun e => g (ix2 0 e)) d) ((funext hX).trans (congrArg G e0.symm)) e1.symm
  generalize hP2 : k0_pay2 (F := Ideal) (k0_pay11 g) (k0_pay14 (v.readCov L2 (Rect.unit (s := S512x2048) ![256, 0] ![128, 2048] inb_S512x2048_S128x2048_256_0).toLoadRect)) (k0_pay15 (v.readCov L2 (Rect.unit (s := S512x2048) ![256, 0] ![128, 2048] inb_S512x2048_S128x2048_256_0).toLoadRect)) (k0_pay16 (F := Ideal)) = P2 at h3
  generalize hP1 : k0_pay13 (F := Ideal) g (v.readCov L1 (Rect.unit (s := S512x2048) ![128, 0] ![128, 2048] inb_S512x2048_S128x2048_128_0).toLoadRect) = P1 at h2
  generalize hP0 : k0_pay12 (F := Ideal) g (v.readCov L (Rect.unit (s := S512x2048) ![0, 0] ![128, 2048] inb_S512x2048_S128x2048_0_0).toLoadRect) = P0 at h1
  generalize hP3 : k0_pay3 (F := Ideal) (k0_pay11 g) (v.readCov L3 (Rect.unit (s := S512x2048) ![384, 0] ![128, 2048] inb_S512x2048_S128x2048_384_0).toLoadRect) = P3
  rw [h3, h2, h1]
  show View.canon ([_, _, _, _] ++ L) _ = _
  refine View.canon_append_of_pieces (Val := Elt Ideal) (S := S512x2048) (e := .f32) (fun y => nrm (G (y 0)) (fun e => g (ix2 0 e)) (y 1)) _ _ ?_ (ix2 r d) ?_
  · intro p hp
    simp only [List.mem_cons, List.not_mem_nil, or_false] at hp
    rcases hp with rfl | rfl | rfl | rfl <;> intro x <;> have h0 : (x 0).val < 128 := (x 0).isLt
    · exact ((congrArg _ (eq_ix2 (n0 := 128) (n1 := 2048) x)).trans ((congrFun hP3.symm _).trans (pay3_apply _ _ _ _))).trans (hc inb_S512x2048_S128x2048_384_0 x (by omega) fun e => hr _ 384 hL3 inb_S512x2048_S128x2048_384_0 (x 0) e _)
    · exact ((congrArg _ (eq_ix2 (n0 := 128) (n1 := 2048) x)).trans ((congrFun hP2.symm _).trans (pay2_apply _ _ _ _))).trans (hc inb_S512x2048_S128x2048_256_0 x (by omega) fun e => hr _ 256 hL2 inb_S512x2048_S128x2048_256_0 (x 0) e _)
    · exact ((congrArg _ (eq_ix2 (n0 := 128) (n1 := 2048) x)).trans ((congrFun hP1.symm _).trans (pay13_apply _ _ _ _))).trans (hc inb_S512x2048_S128x2048_128_0 x (by omega) fun e => hr _ 128 hL1 inb_S512x2048_S128x2048_128_0 (x 0) e _)
    · exact ((congrArg _ (eq_ix2 (n0 := 128) (n1 := 2048) x)).trans ((congrFun hP0.symm _).trans (pay12_apply _ _ _ _))).trans (hc inb_S512x2048_S128x2048_0_0 x (by omega) fun e => hr _ 0 hL0 inb_S512x2048_S128x2048_0_0 (x 0) e _)
  · have hd := d.isLt
    rcases (by omega : 384 ≤ r.val ∨ (256 ≤ r.val ∧ r.val < 384) ∨ (128 ≤ r.val ∧ r.val < 256) ∨ r.val < 128) with h | h | h | h
    · exact ⟨_, .head _, (mem_rect (M := 512) (N := 2048) inb_S512x2048_S128x2048_384_0 _).mpr (by show (384 ≤ r.val ∧ r.val < 384 + 128) ∧ 0 ≤ d.val ∧ d.val < 0 + 2048; omega)⟩
    · exact ⟨_, .tail _ (.head _), (mem_rect (M := 512) (N := 2048) inb_S512x2048_S128x2048_256_0 _).mpr (by show (256 ≤ r.val ∧ r.val < 256 + 128) ∧ 0 ≤ d.val ∧ d.val < 0 + 2048; omega)⟩
    · exact ⟨_, .tail _ (.tail _ (.head _)), (mem_rect (M := 512) (N := 2048) inb_S512x2048_S128x2048_128_0 _).mpr (by show (128 ≤ r.val ∧ r.val < 128 + 128) ∧ 0 ≤ d.val ∧ d.val < 0 + 2048; omega)⟩
    · exact ⟨_, .tail _ (.tail _ (.tail _ (.head _))), (mem_rect (M := 512) (N := 2048) inb_S512x2048_S128x2048_0_0 _).mpr (by show (0 ≤ r.val ∧ r.val < 0 + 128) ∧ 0 ≤ d.val ∧ d.val < 0 + 2048; omega)⟩

/-- An entry of a load from the normalized rows. -/
theorem xn_at (v : View sig .tc .vmem S528x2048 .bf16) (L : List (View.Piece (Elt Ideal) S528x2048 .bf16)) (G : S528x2048.Idx → EReal) (hL : ∀ y, View.canon L y = G y) {m : ℕ}
    (a : ℕ) (w : ∀ q, (![a, 0] : Fin 2 → ℕ) q + (⟨2, ![m, 2048]⟩ : Shape).size q ≤ S528x2048.size q) (r : Fin m) (j : Fin 2048) (r' : Fin 528) (h : a + r.val = r'.val) :
    v.readCov L (Rect.unit (s := S528x2048) ![a, 0] (⟨2, ![m, 2048]⟩ : Shape).size w).toLoadRect (ix2 r j) = G (ix2 r' j) := by
  rw [View.readCov_eq_canon']
  refine (hL _).trans (congrArg G (funext fun q => Fin.ext ?_))
  match q with
  | ⟨0, _⟩ => exact (congrArg (a + ·) (Nat.one_mul _)).trans h
  | ⟨1, _⟩ => exact (Nat.zero_add _).trans (Nat.one_mul _)

/-- The first half of the rows, before any result is stored. -/
theorem first_at (v : View sig .tc .vmem S512x2048 .f32) (x0 : Vec Ideal S512x2048 .f32) (r : Fin 256) (d : Fin 2048) :
    v.readCov (Val := Elt Ideal) [⟨Rect.unit (s := S512x2048) ![0, 0] ![512, 2048] inb_S512x2048_S512x2048_0_0, x0⟩] (Rect.unit (s := S512x2048) ![0, 0] ![256, 2048] inb_S512x2048_S256x2048_0_0).toLoadRect (ix2 r d) = x0 (ix2 (half0 r) d) := by
  rw [View.readCov_eq_canon']
  refine (whole_canon x0 _).trans (congrArg x0 (funext fun q => Fin.ext ?_))
  match q with
  | ⟨0, _⟩ => exact (Nat.zero_add _).trans (Nat.one_mul _)
  | ⟨1, _⟩ => exact (Nat.zero_add _).trans (Nat.one_mul _)

/-- The second half, after the first half's result is stored. -/
theorem second_at (v : View sig .tc .vmem S512x2048 .f32) (x0 : Vec Ideal S512x2048 .f32) (z : Vec Ideal S256x2048 .f32) (r : Fin 256) (d : Fin 2048) :
    v.readCov (Val := Elt Ideal) [⟨Rect.unit (s := S512x2048) ![0, 0] ![256, 2048] inb_S512x2048_S256x2048_0_0, z⟩, ⟨Rect.unit (s := S512x2048) ![0, 0] ![512, 2048] inb_S512x2048_S512x2048_0_0, x0⟩]
      (Rect.unit (s := S512x2048) ![256, 0] ![256, 2048] inb_S512x2048_S256x2048_256_0).toLoadRect (ix2 r d) = x0 (ix2 (half1 r) d) := by
  rw [View.readCov_eq_canon']
  refine (canon_skip _ _ ?_).trans ((whole_canon x0 _).trans (congrArg x0 (funext fun q => Fin.ext ?_)))
  · intro h
    have h2 : 256 + 1 * r.val < 0 + 256 := ((mem_rect (M := 512) (N := 2048) inb_S512x2048_S256x2048_0_0 _).mp h).1.2
    omega
  · match q with
    | ⟨0, _⟩ => exact congrArg (256 + ·) (Nat.one_mul _)
    | ⟨1, _⟩ => exact (Nat.zero_add _).trans (Nat.one_mul _)

section
variable (c : Dev nD) (i : grid0.Coords) (arg2 : Memref sig .tc .vmem S512x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x1x1x2048x512 .bf16) (harg5 : arg5.IsWhole) (arg6 : Memref sig .tc .vmem S1x1x1x2048x512 .bf16) (harg6 : arg6.IsWhole) (arg7 : Memref sig .tc .vmem S1x3x512 .f32) (harg7 : arg7.IsWhole) (arg8 : Memref sig .tc .vmem S1x3x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x2048 .bf16) (harg11 : arg11.IsWhole) (arg12 : Memref sig .tc .vmem S1x2048 .f32) (harg12 : arg12.IsWhole) (arg13 : Memref sig .tc .vmem S512x2048 .f32) (harg13 : arg13.IsWhole) (arg14 : Memref sig .tc .vmem S528x2048 .bf16) (harg14 : arg14.IsWhole) (arg15 : Memref sig .tc .vmem S528x1024 .f32) (harg15 : arg15.IsWhole)
  (x0 : Vec Ideal S512x2048 .f32) (x1 : Vec Ideal S16x2048 .f32) (x2 : Vec Ideal S1x2048 .f32) (x3 : Vec Ideal S1x1x1x2048x512 .bf16) (x4 : Vec Ideal S1x1x1x2048x512 .bf16) (x5 : Vec Ideal S1x3x512 .f32) (x6 : Vec Ideal S1x3x512 .f32) (x7 : Vec Ideal S1x1x512 .f32) (x8 : Vec Ideal S1x1x512 .f32) (x9 : Vec Ideal S1x512x2048 .bf16) (x10 : Vec Ideal S1x2048 .f32) (xo11 : Vec Ideal S512x2048 .f32) (xs0 : Vec Ideal S528x2048 .bf16)

/-- The normalized rows at the first point of a block's sweep. -/
theorem sout_first (hc0 : cond0_0 i) (hc1 : ¬cond0_1 i) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 = xnOf x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, load_row, load_down, load_rows, load_halo, load_gain]
  exact funext fun y => xn_canon x0 x1 x2 y

/-- The first point of a block's sweep. -/
theorem out_first (hc0 : cond0_0 i) (hc1 : ¬cond0_1 i) (r : Fin 512) (d : Fin 2048) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 (ix2 r d)
    = outNext (k0_pay18 (F := Ideal) i) (xnOf x0 x1 x2) x3 x4 x5 x6 x7 x8 x9 x0 r d := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, load_row, load_down, load_rows, load_halo, load_gain]
  refine step_canon (xnOf x0 x1 x2) x3 x4 _ _ _ _ _ _ ?_ ?_ ?_ ?_ ?_ ?_ x5 x6 _ _ _ _ _ _ _ _ _ ?_ ?_ ?_ ?_ ?_ ?_ x0 _ _ ?_ ?_ _ _ [⟨Rect.unit (s := S512x2048) ![0, 0] ![512, 2048] inb_S512x2048_S512x2048_0_0, x0⟩] r d
  · exact fun r l => xn_at arg14.view _ _ (xn_canon x0 x1 x2) _ _ r l _ (Nat.zero_add _)
  · exact fun r l => xn_at arg14.view _ _ (xn_canon x0 x1 x2) _ _ r l _ rfl
  · exact fun l j => cols_at x3 _ l j _ (Nat.zero_add _)
  · exact fun l j => cols_at x3 _ l j _ rfl
  · exact fun l j => cols_at x4 _ l j _ (Nat.zero_add _)
  · exact fun l j => cols_at x4 _ l j _ rfl
  · exact fun j => taps_at x5 _ j 0 rfl
  · exact fun j => taps_at x5 _ j 1 rfl
  · exact fun j => taps_at x5 _ j 2 rfl
  · exact fun j => taps_at x6 _ j 0 rfl
  · exact fun j => taps_at x6 _ j 1 rfl
  · exact fun j => taps_at x6 _ j 2 rfl
  · exact fun r d => first_at arg13.view x0 r d
  · exact fun r d => second_at arg13.view x0 _ r d

/-- A point in the middle of a block's sweep. -/
theorem out_mid (hc0 : ¬cond0_0 i) (hc1 : ¬cond0_1 i) (r : Fin 512) (d : Fin 2048) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo11 xs0 (ix2 r d)
    = outNext (k0_pay18 (F := Ideal) i) xs0 x3 x4 x5 x6 x7 x8 x9 xo11 r d := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo11 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, load_row, load_down, load_rows, load_halo, load_gain]
  refine step_canon xs0 x3 x4 _ _ _ _ _ _ ?_ ?_ ?_ ?_ ?_ ?_ x5 x6 _ _ _ _ _ _ _ _ _ ?_ ?_ ?_ ?_ ?_ ?_ xo11 _ _ ?_ ?_ _ _ [] r d
  · exact fun r l => rows_at xs0 _ r l _ (Nat.zero_add _)
  · exact fun r l => rows_at xs0 _ r l _ rfl
  · exact fun l j => cols_at x3 _ l j _ (Nat.zero_add _)
  · exact fun l j => cols_at x3 _ l j _ rfl
  · exact fun l j => cols_at x4 _ l j _ (Nat.zero_add _)
  · exact fun l j => cols_at x4 _ l j _ rfl
  · exact fun j => taps_at x5 _ j 0 rfl
  · exact fun j => taps_at x5 _ j 1 rfl
  · exact fun j => taps_at x5 _ j 2 rfl
  · exact fun j => taps_at x6 _ j 0 rfl
  · exact fun j => taps_at x6 _ j 1 rfl
  · exact fun j => taps_at x6 _ j 2 rfl
  · exact fun r d => rows_at xo11 _ r d _ (Nat.zero_add _)
  · exact fun r d => rows_at xo11 _ r d _ rfl

/-- The normalized results at the last point. -/
theorem out_last (hc0 : ¬cond0_0 i) (hc1 : cond0_1 i) (r : Fin 512) (d : Fin 2048) : out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo11 xs0 (ix2 r d)
    = nrm (outNext (k0_pay18 (F := Ideal) i) xs0 x3 x4 x5 x6 x7 x8 x9 xo11 r) (fun e => x10 (ix2 0 e)) d := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo11 xs0)]
  unfold kernelRun0_C
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, load_row, load_down, load_rows, load_halo, load_gain]
  refine nrm_canon (outNext (k0_pay18 (F := Ideal) i) xs0 x3 x4 x5 x6 x7 x8 x9 xo11) arg13.view _ _ _ _ x10 rfl rfl rfl (fun r d => ?_) r d
  refine step_canon xs0 x3 x4 _ _ _ _ _ _ ?_ ?_ ?_ ?_ ?_ ?_ x5 x6 _ _ _ _ _ _ _ _ _ ?_ ?_ ?_ ?_ ?_ ?_ xo11 _ _ ?_ ?_ _ _ [] r d
  · exact fun r l => rows_at xs0 _ r l _ (Nat.zero_add _)
  · exact fun r l => rows_at xs0 _ r l _ rfl
  · exact fun l j => cols_at x3 _ l j _ (Nat.zero_add _)
  · exact fun l j => cols_at x3 _ l j _ rfl
  · exact fun l j => cols_at x4 _ l j _ (Nat.zero_add _)
  · exact fun l j => cols_at x4 _ l j _ rfl
  · exact fun j => taps_at x5 _ j 0 rfl
  · exact fun j => taps_at x5 _ j 1 rfl
  · exact fun j => taps_at x5 _ j 2 rfl
  · exact fun j => taps_at x6 _ j 0 rfl
  · exact fun j => taps_at x6 _ j 1 rfl
  · exact fun j => taps_at x6 _ j 2 rfl
  · exact fun r d => rows_at xo11 _ r d _ (Nat.zero_add _)
  · exact fun r d => rows_at xo11 _ r d _ rfl
end

end Cert.FfnEndV

end
-- ==== Proof.FfnEndHost.lean ====
module

public import proofs.«01_k».proof.Proof.FfnEndCase
public import Idealize.ShloMosaic.Lib.Tactic.CleanTypes
public import Idealize.ShloMosaic.Lib.StableHlo.RunRead
public import Idealize.ShloMosaic.Lib.StableHlo.ReadAt

@[expose] public section

set_option maxRecDepth 16384
set_option maxHeartbeats 1000000

noncomputable section

namespace Cert.FfnEndV
open Idealize.ShloMosaic Idealize.ShloMosaic.TcCoe Idealize.ShloMosaic.Tactic Idealize.SL.Sem
open Cert.FfnEndIdeal Cert.FfnEndIdeal.Gen Cert.FfnV

/-! ## What the host pads -/

theorem pad_cw (x : Vec Ideal S4x3x11008 .f32) (i : Fin 3) (q : Fin 11264) (p : Fin 2) (f : Fin 5632) (h : q.val = 5632 * p.val + f.val) :
    shapeCast S4x3x11264 (pad S4x3x2x5632 ![0, 0, 0, 0] ![0, 0, 0, 128] ![0, 0, 0, 0] (fun i => shapeCast S4x3x2x5504 x shapeCasts_S4x3x11008_S4x3x2x5504 i)
        (sitofp (F := Ideal) FTy.f32 (constantI S_ 32 0#32)) pads_S4x3x2x5504_S4x3x2x5632_000_000_000_01280 h_S_) shapeCasts_S4x3x2x5632_S4x3x11264 (ix3 (3 : Fin 4) i q) = halfOf p (fun f => x (ix3 (3 : Fin 4) i f)) f := by
  pointwise
  by_cases hf : f.val < 5504
  · have e : ∀ w, (⟨q.val / 5632 * 5504 + q.val % 5632, w⟩ : Fin 11008) = ⟨5504 * p.val + f.val, by omega⟩ := fun w => by rw [Fin.mk.injEq]; omega
    refine Eq.trans (dif_pos ⟨by omega, by omega⟩) (Eq.trans ?_ (halfOf_pos p _ f hf).symm)
    rw [e]
  · refine Eq.trans ?_ (halfOf_neg p _ f hf).symm
    refine Eq.trans (dif_neg ?_) zero_int
    intro h'
    omega

theorem pad_cb (x : Vec Ideal S4x11008 .f32) (q : Fin 11264) (p : Fin 2) (f : Fin 5632) (h : q.val = 5632 * p.val + f.val) :
    broadcastInDim S4x1x11264 ![0, 2] bcast_S4x11264_S4x1x11264_0_2 (shapeCast S4x11264 (pad S4x2x5632 ![0, 0, 0] ![0, 0, 128] ![0, 0, 0] (fun i => shapeCast S4x2x5504 x shapeCasts_S4x11008_S4x2x5504 i)
        (sitofp (F := Ideal) FTy.f32 (constantI S_ 32 0#32)) pads_S4x2x5504_S4x2x5632_000_000_01280 h_S_) shapeCasts_S4x2x5632_S4x11264) (ix3 (3 : Fin 4) 0 q) = halfOf p (fun f => x (ix2 (3 : Fin 4) f)) f := by
  pointwise
  by_cases hf : f.val < 5504
  · have e : ∀ w, (⟨q.val / 5632 * 5504 + q.val % 5632, w⟩ : Fin 11008) = ⟨5504 * p.val + f.val, by omega⟩ := fun w => by rw [Fin.mk.injEq]; omega
    refine Eq.trans (dif_pos ⟨by omega, by omega⟩) (Eq.trans ?_ (halfOf_pos p _ f hf).symm)
    rw [e]
  · refine Eq.trans ?_ (halfOf_neg p _ f hf).symm
    refine Eq.trans (dif_neg ?_) zero_int
    intro h'
    omega

theorem pad_wdn (x : Vec Ideal S4x5504x2048 .f32) (f : Fin 5632) (d : Fin 2048) :
    truncf (F := Ideal) .bf16 (pad S4x5632x2048 ![0, 0, 0] ![0, 128, 0] ![0, 0, 0] x (sitofp (F := Ideal) FTy.f32 (constantI S_ 32 0#32)) pads_S4x5504x2048_S4x5632x2048_000_01280_000 h_S_) bitsLt_bf16_f32 (ix3 (3 : Fin 4) f d)
      = if h : f.val < 5504 then x (ix3 (3 : Fin 4) ⟨f.val, h⟩ d) else (0 : EReal) := by
  pointwise
  by_cases hf : f.val < 5504
  · rw [dif_pos hf, dif_pos hf]
  · rw [dif_neg hf, dif_neg hf]
    exact zero_int

/-! ## The blocks of a grid point, from the arrays the program is given -/

section
variable (m : (ℓ : Loc nD τ sig) → Buf (Elt Ideal) ℓ) (c : Dev nD)

theorem idx_0 : ∀ t : Fin cfg0.N, win0_0.index t (0 : Fin 2) = t.val / 11 ∧ win0_0.index t (1 : Fin 2) = 0 := by decide +kernel
theorem idx_1 : ∀ t : Fin cfg0.N, win0_1.index t (0 : Fin 2) = 32 * (t.val / 11) - 1 ∧ win0_1.index t (1 : Fin 2) = 0 := by decide +kernel
theorem idx_2 : ∀ t : Fin cfg0.N, win0_2.index t (0 : Fin 2) = 0 ∧ win0_2.index t (1 : Fin 2) = 0 := by decide +kernel
theorem idx_3 : ∀ t : Fin cfg0.N, win0_3.index t (0 : Fin 5) = 3 ∧ win0_3.index t (1 : Fin 5) = t.val % 11 ∧ win0_3.index t (2 : Fin 5) = 0 ∧ win0_3.index t (3 : Fin 5) = 0 ∧ win0_3.index t (4 : Fin 5) = 0 := by decide +kernel
theorem idx_4 : ∀ t : Fin cfg0.N, win0_4.index t (0 : Fin 5) = 3 ∧ win0_4.index t (1 : Fin 5) = t.val % 11 ∧ win0_4.index t (2 : Fin 5) = 1 ∧ win0_4.index t (3 : Fin 5) = 0 ∧ win0_4.index t (4 : Fin 5) = 0 := by decide +kernel
theorem idx_5 : ∀ t : Fin cfg0.N, win0_5.index t (0 : Fin 3) = 3 ∧ win0_5.index t (1 : Fin 3) = 0 ∧ win0_5.index t (2 : Fin 3) = t.val % 11 := by decide +kernel
theorem idx_6 : ∀ t : Fin cfg0.N, win0_6.index t (0 : Fin 3) = 3 ∧ win0_6.index t (1 : Fin 3) = 0 ∧ win0_6.index t (2 : Fin 3) = 11 + t.val % 11 := by decide +kernel
theorem idx_7 : ∀ t : Fin cfg0.N, win0_7.index t (0 : Fin 3) = 3 ∧ win0_7.index t (1 : Fin 3) = 0 ∧ win0_7.index t (2 : Fin 3) = t.val % 11 := by decide +kernel
theorem idx_8 : ∀ t : Fin cfg0.N, win0_8.index t (0 : Fin 3) = 3 ∧ win0_8.index t (1 : Fin 3) = 0 ∧ win0_8.index t (2 : Fin 3) = 11 + t.val % 11 := by decide +kernel
theorem idx_9 : ∀ t : Fin cfg0.N, win0_9.index t (0 : Fin 3) = 3 ∧ win0_9.index t (1 : Fin 3) = t.val % 11 ∧ win0_9.index t (2 : Fin 3) = 0 := by decide +kernel
theorem idx_10 : ∀ t : Fin cfg0.N, win0_10.index t (0 : Fin 2) = 0 ∧ win0_10.index t (1 : Fin 2) = 0 := by decide +kernel

theorem point_lt (t : Fin cfg0.N) : t.val < 704 := lt_of_lt_of_eq t.isLt N_0

/-- A row of a grid point's block in the whole array. -/
def gridRow (t : Fin cfg0.N) (r : Fin 512) : Fin 32768 := ⟨512 * (t.val / 11) + r.val, by have := point_lt t; omega⟩

/-- A row of a grid point's halo in the whole array. -/
def haloRow (t : Fin cfg0.N) (r : Fin 16) : Fin 32768 := ⟨16 * (32 * (t.val / 11) - 1) + r.val, by have := point_lt t; omega⟩

/-- The block of the columns a grid point works on. -/
def colBlock (t : Fin cfg0.N) : Fin 11 := ⟨t.val % 11, Nat.mod_lt _ (by decide)⟩

/-- A gate column of a grid point, among the padded columns of both halves. -/
def gateCol (t : Fin cfg0.N) (j : Fin 512) : Fin 11264 := ⟨512 * (t.val % 11) + j.val, by omega⟩
/-- A value column. -/
def valCol (t : Fin cfg0.N) (j : Fin 512) : Fin 11264 := ⟨5632 + (512 * (t.val % 11) + j.val), by omega⟩
/-- A column among the padded columns of one half. -/
def ffCol (t : Fin cfg0.N) (j : Fin 512) : Fin 5632 := ⟨512 * (t.val % 11) + j.val, by omega⟩

/-- The rows of a grid point. -/
theorem blk_x (t : Fin cfg0.N) (r : Fin 512) (d : Fin 2048) : (iblk m c 0 t : Vec Ideal S512x2048 .f32) (ix2 r d) = m ((c : Thread nD τ).loc main_arg0) (ix2 (gridRow t r) d) := by
  have h := idx_0 t
  unfold iblk
  blk_ext [V, gridRow, h.1, h.2]

/-- The rows before them. -/
theorem blk_halo (t : Fin cfg0.N) (r : Fin 16) (d : Fin 2048) : (iblk m c 1 t : Vec Ideal S16x2048 .f32) (ix2 r d) = m ((c : Thread nD τ).loc main_arg0) (ix2 (haloRow t r) d) := by
  have h := idx_1 t
  unfold iblk
  blk_ext [V, haloRow, h.1, h.2]

/-- The gate's columns of the up projection. -/
theorem blk_wg (t : Fin cfg0.N) (l : Fin 2048) (j : Fin 512) : (iblk m c 3 t : Vec Ideal S1x1x1x2048x512 .bf16) (ix5 0 0 0 l j) = m ((c : Thread nD τ).loc main_arg2) (ix5 (3 : Fin 4) (colBlock t) (0 : Fin 2) l j) := by
  obtain ⟨h0, h1, h2, h3, h4⟩ := idx_3 t
  unfold iblk
  blk_ext [V, colBlock, h0, h1, h2, h3, h4]

/-- The value's columns. -/
theorem blk_wv (t : Fin cfg0.N) (l : Fin 2048) (j : Fin 512) : (iblk m c 4 t : Vec Ideal S1x1x1x2048x512 .bf16) (ix5 0 0 0 l j) = m ((c : Thread nD τ).loc main_arg2) (ix5 (3 : Fin 4) (colBlock t) (1 : Fin 2) l j) := by
  obtain ⟨h0, h1, h2, h3, h4⟩ := idx_4 t
  unfold iblk
  blk_ext [V, colBlock, h0, h1, h2, h3, h4]

/-- The norm's gains. -/
theorem blk_gain (t : Fin cfg0.N) (d : Fin 2048) : (iblk m c 2 t : Vec Ideal S1x2048 .f32) (ix2 0 d) = m ((c : Thread nD τ).loc main_arg1) (ix1 d) := by
  have h := idx_2 t
  unfold iblk
  entry_read
  have e : ((cfg0.win 2).blk t).view.emb (ix2 0 d) = (ix2 0 d : S1x2048.Idx) := by blk_ext [h.1, h.2]
  refine (congrArg (shapeCast S1x2048 (m ((c : Thread nD τ).loc main_arg1) : Vec Ideal S2048 .f32) shapeCasts_S2048_S1x2048) e).trans ?_
  pointwise

/-- The second norm's gains. -/
theorem blk_post (t : Fin cfg0.N) (d : Fin 2048) : (iblk m c 10 t : Vec Ideal S1x2048 .f32) (ix2 0 d) = m ((c : Thread nD τ).loc main_arg6) (ix1 d) := by
  have h := idx_10 t
  unfold iblk
  entry_read
  have e : ((cfg0.win 10).blk t).view.emb (ix2 0 d) = (ix2 0 d : S1x2048.Idx) := by blk_ext [h.1, h.2]
  refine (congrArg (shapeCast S1x2048 (m ((c : Thread nD τ).loc main_arg6) : Vec Ideal S2048 .f32) shapeCasts_S2048_S1x2048) e).trans ?_
  pointwise

/-- The gate's taps. -/
theorem blk_cg (t : Fin cfg0.N) (i : Fin 3) (j : Fin 512) : (iblk m c 5 t : Vec Ideal S1x3x512 .f32) (ix3 0 i j) = halfOf 0 (fun f => (m ((c : Thread nD τ).loc main_arg3) : Vec Ideal S4x3x11008 .f32) (ix3 (3 : Fin 4) i f)) (ffCol t j) := by
  obtain ⟨h0, h1, h2⟩ := idx_5 t
  have e : ((cfg0.win 5).blk t).view.emb (ix3 0 i j) = (ix3 (3 : Fin 4) i (gateCol t j) : S4x3x11264.Idx) := by blk_ext [gateCol, valCol, h0, h1, h2]
  have key : ∀ A : Vec Ideal S4x3x11264 .f32, ((cfg0.win 5).blk t).view.read (Elt Ideal) A (ix3 0 i j) = A (ix3 (3 : Fin 4) i (gateCol t j)) := fun A => congrArg A e
  refine (key _).trans ?_
  simp only [V, hostOps0, hostOps0_1, hostOps0_2, hostOps0_3, hostOps0_4, hostOps0_5, hostOps0_6, List.flatten_cons, List.flatten_nil, List.cons_append, List.nil_append, List.append_nil]
  after_reads_simp
  simp -implicitDefEqProofs only [StableHlo.TRef.toBuf, StableHlo.TRef.ofBuf, cast_cast, cast_eq]
  exact pad_cw _ i _ 0 (ffCol t j) (by unfold gateCol; dsimp only [ffCol]; try omega)

/-- The value's taps. -/
theorem blk_cv (t : Fin cfg0.N) (i : Fin 3) (j : Fin 512) : (iblk m c 6 t : Vec Ideal S1x3x512 .f32) (ix3 0 i j) = halfOf 1 (fun f => (m ((c : Thread nD τ).loc main_arg3) : Vec Ideal S4x3x11008 .f32) (ix3 (3 : Fin 4) i f)) (ffCol t j) := by
  obtain ⟨h0, h1, h2⟩ := idx_6 t
  have e : ((cfg0.win 6).blk t).view.emb (ix3 0 i j) = (ix3 (3 : Fin 4) i (valCol t j) : S4x3x11264.Idx) := by blk_ext [gateCol, valCol, h0, h1, h2]
  have key : ∀ A : Vec Ideal S4x3x11264 .f32, ((cfg0.win 6).blk t).view.read (Elt Ideal) A (ix3 0 i j) = A (ix3 (3 : Fin 4) i (valCol t j)) := fun A => congrArg A e
  refine (key _).trans ?_
  simp only [V, hostOps0, hostOps0_1, hostOps0_2, hostOps0_3, hostOps0_4, hostOps0_5, hostOps0_6, List.flatten_cons, List.flatten_nil, List.cons_append, List.nil_append, List.append_nil]
  after_reads_simp
  simp -implicitDefEqProofs only [StableHlo.TRef.toBuf, StableHlo.TRef.ofBuf, cast_cast, cast_eq]
  exact pad_cw _ i _ 1 (ffCol t j) (by unfold valCol; dsimp only [ffCol]; try omega)

/-- The gate's bias. -/
theorem blk_bg (t : Fin cfg0.N) (j : Fin 512) : (iblk m c 7 t : Vec Ideal S1x1x512 .f32) (ix3 0 0 j) = halfOf 0 (fun f => (m ((c : Thread nD τ).loc main_arg4) : Vec Ideal S4x11008 .f32) (ix2 (3 : Fin 4) f)) (ffCol t j) := by
  obtain ⟨h0, h1, h2⟩ := idx_7 t
  have e : ((cfg0.win 7).blk t).view.emb (ix3 0 0 j) = (ix3 (3 : Fin 4) 0 (gateCol t j) : S4x1x11264.Idx) := by blk_ext [gateCol, h0, h1, h2]
  have key : ∀ A : Vec Ideal S4x1x11264 .f32, ((cfg0.win 7).blk t).view.read (Elt Ideal) A (ix3 0 0 j) = A (ix3 (3 : Fin 4) 0 (gateCol t j)) := fun A => congrArg A e
  refine (key _).trans ?_
  simp only [V, hostOps0, hostOps0_1, hostOps0_2, hostOps0_3, hostOps0_4, hostOps0_5, hostOps0_6, List.flatten_cons, List.flatten_nil, List.cons_append, List.nil_append, List.append_nil]
  after_reads_simp
  simp -implicitDefEqProofs only [StableHlo.TRef.toBuf, StableHlo.TRef.ofBuf, cast_cast, cast_eq]
  exact pad_cb _ _ 0 (ffCol t j) (by unfold gateCol; dsimp only [ffCol]; try omega)

/-- The value's bias. -/
theorem blk_bv (t : Fin cfg0.N) (j : Fin 512) : (iblk m c 8 t : Vec Ideal S1x1x512 .f32) (ix3 0 0 j) = halfOf 1 (fun f => (m ((c : Thread nD τ).loc main_arg4) : Vec Ideal S4x11008 .f32) (ix2 (3 : Fin 4) f)) (ffCol t j) := by
  obtain ⟨h0, h1, h2⟩ := idx_8 t
  have e : ((cfg0.win 8).blk t).view.emb (ix3 0 0 j) = (ix3 (3 : Fin 4) 0 (valCol t j) : S4x1x11264.Idx) := by blk_ext [valCol, h0, h1, h2]
  have key : ∀ A : Vec Ideal S4x1x11264 .f32, ((cfg0.win 8).blk t).view.read (Elt Ideal) A (ix3 0 0 j) = A (ix3 (3 : Fin 4) 0 (valCol t j)) := fun A => congrArg A e
  refine (key _).trans ?_
  simp only [V, hostOps0, hostOps0_1, hostOps0_2, hostOps0_3, hostOps0_4, hostOps0_5, hostOps0_6, List.flatten_cons, List.flatten_nil, List.cons_append, List.nil_append, List.append_nil]
  after_reads_simp
  simp -implicitDefEqProofs only [StableHlo.TRef.toBuf, StableHlo.TRef.ofBuf, cast_cast, cast_eq]
  exact pad_cb _ _ 1 (ffCol t j) (by unfold valCol; dsimp only [ffCol]; try omega)

/-- The down projection's rows. -/
theorem blk_wdn (t : Fin cfg0.N) (j : Fin 512) (d : Fin 2048) : (iblk m c 9 t : Vec Ideal S1x512x2048 .bf16) (ix3 0 j d)
    = if h : (ffCol t j).val < 5504 then (m ((c : Thread nD τ).loc main_arg5) : Vec Ideal S4x5504x2048 .f32) (ix3 (3 : Fin 4) ⟨(ffCol t j).val, h⟩ d) else (0 : EReal) := by
  obtain ⟨h0, h1, h2⟩ := idx_9 t
  have e : ((cfg0.win 9).blk t).view.emb (ix3 0 j d) = (ix3 (3 : Fin 4) (ffCol t j) d : S4x5632x2048.Idx) := by blk_ext [ffCol, h0, h1, h2]
  have key : ∀ A : Vec Ideal S4x5632x2048 .bf16, ((cfg0.win 9).blk t).view.read (Elt Ideal) A (ix3 0 j d) = A (ix3 (3 : Fin 4) (ffCol t j) d) := fun A => congrArg A e
  refine (key _).trans ?_
  simp only [V, hostOps0, hostOps0_1, hostOps0_2, hostOps0_3, hostOps0_4, hostOps0_5, hostOps0_6, List.flatten_cons, List.flatten_nil, List.cons_append, List.nil_append, List.append_nil]
  after_reads_simp
  simp -implicitDefEqProofs only [StableHlo.TRef.toBuf, StableHlo.TRef.ofBuf, cast_cast, cast_eq]
  exact pad_wdn _ (ffCol t j) d
end

end Cert.FfnEndV

end
-- ==== Proof.FfnEndGrid.lean ====
module

public import proofs.«01_k».proof.Proof.FfnEndHost

@[expose] public section

set_option maxRecDepth 16384
set_option maxHeartbeats 1000000

noncomputable section

namespace Cert.FfnEndV
open Idealize.ShloMosaic Idealize.ShloMosaic.TcCoe Idealize.ShloMosaic.Tactic Idealize.SL.Sem
open Cert.FfnEndIdeal Cert.FfnEndIdeal.Gen Cert.FfnV
/-! ## The kernel's blocks are the layer's inputs -/

section
variable (m : (ℓ : Loc nD τ sig) → Buf (Elt Ideal) ℓ) (c : Dev nD)

/-- The rows. -/
def aX (r : Fin 32768) (d : Fin 2048) : EReal := (m ((c : Thread nD τ).loc main_arg0) : Vec Ideal S32768x2048 .f32) (ix2 r d)
/-- The gain before. -/
def aG (d : Fin 2048) : EReal := (m ((c : Thread nD τ).loc main_arg1) : Vec Ideal S2048 .f32) (ix1 d)
/-- The up-projection's weights. -/
def aW (k : Fin 11) (p : Fin 2) (l : Fin 2048) (j : Fin 512) : EReal := (m ((c : Thread nD τ).loc main_arg2) : Vec Ideal S4x11x2x2048x512 .bf16) (ix5 (3 : Fin 4) k p l j)
/-- The convolution's weights. -/
def aCW (i : Fin 3) (f : Fin 11008) : EReal := (m ((c : Thread nD τ).loc main_arg3) : Vec Ideal S4x3x11008 .f32) (ix3 (3 : Fin 4) i f)
/-- The convolution's bias. -/
def aCB (f : Fin 11008) : EReal := (m ((c : Thread nD τ).loc main_arg4) : Vec Ideal S4x11008 .f32) (ix2 (3 : Fin 4) f)
/-- The down-projection's weights. -/
def aWD (f : Fin 5504) (d : Fin 2048) : EReal := (m ((c : Thread nD τ).loc main_arg5) : Vec Ideal S4x5504x2048 .f32) (ix3 (3 : Fin 4) f d)
/-- The gain after. -/
def aGP (d : Fin 2048) : EReal := (m ((c : Thread nD τ).loc main_arg6) : Vec Ideal S2048 .f32) (ix1 d)

/-- The row a line of the scratch belongs to. -/
def xsRow (b : ℕ) (y : Fin 528) : Fin 32768 := ⟨(if y.val < 16 then 16 * (32 * b - 1) + y.val else 512 * b + (y.val - 16)) % 32768, Nat.mod_lt _ (by decide)⟩

/-- The scratch of a block of rows. -/
def sXn (b : ℕ) : Vec Ideal S528x2048 .bf16 := fun y => nrm (aX m c (xsRow b (y 0))) (aG m c) (y 1)

/-- The result after some blocks of columns, of the kernel's arrays. -/
def kAcc (r : Fin 32768) (d : Fin 2048) (k : ℕ) : EReal := sAcc (aX m c) (aG m c) (aW m c) (aCW m c) (aCB m c) (aWD m c) r d k

/-- The scratch that the first point of a block of rows leaves. -/
theorem xn_eq (t : Fin cfg0.N) : xnOf (iblk m c 0 t) (iblk m c 1 t) (iblk m c 2 t) = sXn m c (t.val / 11) := by
  have ht := point_lt t
  funext y
  have hy : (y 0).val < 528 := (y 0).isLt
  have hg : (fun e => (iblk m c 2 t : Vec Ideal S1x2048 .f32) (ix2 0 e)) = aG m c := funext fun e => blk_gain m c t e
  by_cases h : (y 0).val < 16
  · refine (xnOf_halo (r := ⟨(y 0).val, h⟩) (d := y 1) (fun _ => rfl) rfl rfl).symm.trans ?_
    rw [hg]
    refine congrFun (congrArg (nrm · (aG m c)) (funext fun e => (blk_halo m c t _ e).trans ?_)) (y 1)
    refine congrArg (aX m c · e) (Fin.ext ?_)
    show 16 * (32 * (t.val / 11) - 1) + (y 0).val = (if (y 0).val < 16 then 16 * (32 * (t.val / 11) - 1) + (y 0).val else 512 * (t.val / 11) + ((y 0).val - 16)) % 32768
    rw [if_pos h]
    omega
  · refine (xnOf_body (r := ⟨(y 0).val - 16, by omega⟩) (d := y 1) (fun _ => rfl) (by show (y 0).val = 16 + ((y 0).val - 16); omega) rfl).symm.trans ?_
    rw [hg]
    refine congrFun (congrArg (nrm · (aG m c)) (funext fun e => (blk_x m c t _ e).trans ?_)) (y 1)
    refine congrArg (aX m c · e) (Fin.ext ?_)
    show 512 * (t.val / 11) + ((y 0).val - 16) = (if (y 0).val < 16 then 16 * (32 * (t.val / 11) - 1) + (y 0).val else 512 * (t.val / 11) + ((y 0).val - 16)) % 32768
    rw [if_neg h]
    omega

/-- The up-projection at a grid point, one half. -/
theorem up_at (t : Fin cfg0.N) (b : ℕ) (x : Vec Ideal S1x1x1x2048x512 .bf16) (p : Fin 2) (hx : ∀ l j, x (ix5 0 0 0 l j) = aW m c (colBlock t) p l j) (y : Fin 528) (j : Fin 512) :
    upG (sXn m c b) x y j = sUp (aX m c) (aG m c) (aW m c) (xsRow b y) p (ffCol t j) := by
  refine Finset.sum_congr rfl fun l _ => ?_
  show nrm (aX m c (xsRow b y)) (aG m c) l * x (ix5 0 0 0 l j) = _
  rw [hx]
  refine congrArg (nrm (aX m c (xsRow b y)) (aG m c) l * ·) (congr (congrFun (congrFun (congrArg (aW m c) (Fin.ext ?_)) p) l) (Fin.ext ?_))
  · show t.val % 11 = (512 * (t.val % 11) + j.val) / 512
    omega
  · show j.val = (512 * (t.val % 11) + j.val) % 512
    omega

/-- The gate half. -/
theorem up_lo (t : Fin cfg0.N) (b : ℕ) (y : Fin 528) (j : Fin 512) :
    upOf (sXn m c b) (iblk m c 3 t) (iblk m c 4 t) (ix2 y (lo j)) = sUp (aX m c) (aG m c) (aW m c) (xsRow b y) 0 (ffCol t j) :=
  (dif_pos (show (lo j).val < 512 from j.isLt)).trans (up_at m c t b _ 0 (fun l j => blk_wg m c t l j) y j)

/-- The value half. -/
theorem up_hi (t : Fin cfg0.N) (b : ℕ) (y : Fin 528) (j : Fin 512) :
    upOf (sXn m c b) (iblk m c 3 t) (iblk m c 4 t) (ix2 y (hi j)) = sUp (aX m c) (aG m c) (aW m c) (xsRow b y) 1 (ffCol t j) := by
  refine Eq.trans (dif_neg (show ¬(hi j).val < 512 by show ¬512 + j.val < 512; omega)) ((congrArg (upG _ _ _) (Fin.ext ?_)).trans (up_at m c t b _ 1 (fun l j => blk_wv m c t l j) y j))
  show 512 + j.val - 512 = j.val
  omega

/-- The first axis of a grid point. -/
theorem coord_0 : ∀ t : Fin cfg0.N, (grid0.coords t (0 : Fin 2)).val = t.val / 11 := by decide +kernel

/-- What the convolution sees of the up-projection, a row or two before as well. -/
theorem a_at (t : Fin cfg0.N) (q : Fin 1024) (p : Fin 2) (f : Fin 5632) (δ : ℕ) (hδ : δ ≤ 2) (r : Fin 512) (y : Fin 528) (hy : y.val + δ = 16 + r.val)
    (hu : ∀ y, upOf (sXn m c (t.val / 11)) (iblk m c 3 t) (iblk m c 4 t) (ix2 y q) = sUp (aX m c) (aG m c) (aW m c) (xsRow (t.val / 11) y) p f) :
    aOf (k0_pay18 (F := Ideal) (grid0.coords t)) (sXn m c (t.val / 11)) (iblk m c 3 t) (iblk m c 4 t) (ix2 y q) = sTap (aX m c) (aG m c) (aW m c) δ (gridRow t r) p f := by
  have ht := point_lt t
  have e1 : (gridRow t r).val = 512 * (t.val / 11) + r.val := rfl
  have e3 : ¬((gridRow t r).val % 4096 < δ) → xsRow (t.val / 11) y = ⟨(gridRow t r).val - δ, by omega⟩ := fun h => Fin.ext (by
    show (if y.val < 16 then 16 * (32 * (t.val / 11) - 1) + y.val else 512 * (t.val / 11) + (y.val - 16)) % 32768 = (gridRow t r).val - δ
    by_cases h2 : y.val < 16
    · rw [if_pos h2]; omega
    · rw [if_neg h2]; omega)
  by_cases h : y.val < 16
  · refine (aOf_halo (y := ix2 y q) h).trans ?_
    rw [hu, pay18_eq, coord_0]
    by_cases h0 : t.val / 11 % 8 = 0
    · rw [if_pos h0, mul_zero]
      exact (if_pos (by omega)).symm
    · rw [if_neg h0, mul_one, e3 (by omega)]
      exact (if_neg (by omega)).symm
  · refine (aOf_body (y := ix2 y q) h).trans ?_
    rw [hu, e3 (by omega)]
    exact (if_neg (by omega)).symm

/-- One grid point's step of the result. -/
theorem step_at (t : Fin cfg0.N) (xo : Vec Ideal S512x2048 .f32) (r : Fin 512) (d : Fin 2048) (hxo : xo (ix2 r d) = kAcc m c (gridRow t r) d (t.val % 11)) :
    outNext (k0_pay18 (F := Ideal) (grid0.coords t)) (sXn m c (t.val / 11)) (iblk m c 3 t) (iblk m c 4 t) (iblk m c 5 t) (iblk m c 6 t) (iblk m c 7 t) (iblk m c 8 t) (iblk m c 9 t) xo r d
      = kAcc m c (gridRow t r) d (t.val % 11 + 1) := by
  have ht := point_lt t
  unfold outNext
  rw [hxo]
  refine congrArg (kAcc m c (gridRow t r) d (t.val % 11) + ·) (Finset.sum_congr rfl fun j _ => ?_)
  have ec : sCol (t.val % 11) j = ffCol t j := Fin.ext (by show (512 * (t.val % 11) + j.val) % 5632 = 512 * (t.val % 11) + j.val; omega)
  rw [ec]
  refine congrArg₂ (· * ·) (congrArg₂ act ?_ ?_) (blk_wdn m c t j d)
  · rw [a_at m c t (lo j) 0 (ffCol t j) 0 (by decide) r _ (by show 16 + r.val + 0 = 16 + r.val; omega) (fun y => up_lo m c t _ y j),
      a_at m c t (lo j) 0 (ffCol t j) 1 (by decide) r _ (by show 15 + r.val + 1 = 16 + r.val; omega) (fun y => up_lo m c t _ y j),
      a_at m c t (lo j) 0 (ffCol t j) 2 (by decide) r _ (by show 14 + r.val + 2 = 16 + r.val; omega) (fun y => up_lo m c t _ y j)]
    exact tap_congr (blk_cg m c t 0 j) (blk_cg m c t 1 j) (blk_cg m c t 2 j) (blk_bg m c t j) rfl rfl rfl
  · rw [a_at m c t (hi j) 1 (ffCol t j) 0 (by decide) r _ (by show 16 + r.val + 0 = 16 + r.val; omega) (fun y => up_hi m c t _ y j),
      a_at m c t (hi j) 1 (ffCol t j) 1 (by decide) r _ (by show 15 + r.val + 1 = 16 + r.val; omega) (fun y => up_hi m c t _ y j),
      a_at m c t (hi j) 1 (ffCol t j) 2 (by decide) r _ (by show 14 + r.val + 2 = 16 + r.val; omega) (fun y => up_hi m c t _ y j)]
    exact tap_congr (blk_cv m c t 0 j) (blk_cv m c t 1 j) (blk_cv m c t 2 j) (blk_bv m c t j) rfl rfl rfl

/-- What the grid points leave: the rows' result so far, and their normalized rows; at the last point of a block, the result normalized. -/
theorem points (n : ℕ) (hn : n < cfg0.N) :
    (n % 11 ≠ 10 → ∀ (r : Fin 512) (d : Fin 2048), (outsAt0 m c n hn).1 (ix2 r d) = kAcc m c (gridRow ⟨n, hn⟩ r) d (n % 11 + 1)) ∧
      (outsAt0 m c n hn).2 = sXn m c (n / 11) ∧
      (n % 11 = 10 → ∀ (r : Fin 512) (d : Fin 2048), (outsAt0 m c n hn).1 (ix2 r d) = nrm (fun e => kAcc m c (gridRow ⟨n, hn⟩ r) e 11) (aGP m c) d) := by
  have first : ∀ t : Fin cfg0.N, t.val % 11 = 0 → (t.val % 11 ≠ 10 → ∀ (r : Fin 512) (d : Fin 2048), (outsAt0 m c t.val t.isLt).1 (ix2 r d) = kAcc m c (gridRow t r) d (t.val % 11 + 1)) ∧
      (outsAt0 m c t.val t.isLt).2 = sXn m c (t.val / 11) ∧
      (t.val % 11 = 10 → ∀ (r : Fin 512) (d : Fin 2048), (outsAt0 m c t.val t.isLt).1 (ix2 r d) = nrm (fun e => kAcc m c (gridRow t r) e 11) (aGP m c) d) := by
    intro t h0
    have h1 : ¬t.val % 11 = 10 := by omega
    rw [outsAt0_A m c t h0 h1]
    dsimp only
    refine ⟨fun _ r d => ?_, ?_, fun h => absurd h h1⟩
    · refine (out_first (hc0 := _) (hc1 := _) ..).trans ?_
      rw [xn_eq]
      refine step_at m c t _ r d ?_
      rw [h0]
      exact blk_x m c t r d
    · exact (sout_first (hc0 := _) (hc1 := _) ..).trans (xn_eq m c t)
  induction n with
  | zero => exact first ⟨0, hn⟩ rfl
  | succ n ih =>
    by_cases h0 : (n + 1) % 11 = 0
    · exact first ⟨n + 1, hn⟩ h0
    · obtain ⟨ih1, ih2, -⟩ := ih (by omega)
      have es : ∀ w, (outsAt0 m c (n + 1 - 1) w).2 = sXn m c ((n + 1) / 11) := fun _ => ih2.trans (by rw [show (n + 1) / 11 = n / 11 by omega])
      have hxo : ∀ (r : Fin 512) (d : Fin 2048), (outsAt0 m c n (by omega)).1 (ix2 r d) = kAcc m c (gridRow ⟨n + 1, hn⟩ r) d ((n + 1) % 11) := fun r d => by
        rw [ih1 (by omega), show (n + 1) % 11 = n % 11 + 1 by omega]
        refine congrArg (kAcc m c · d (n % 11 + 1)) (Fin.ext ?_)
        show 512 * (n / 11) + r.val = 512 * ((n + 1) / 11) + r.val
        omega
      by_cases h1 : (n + 1) % 11 = 10
      · have hC := outsAt0_C m c ⟨n + 1, hn⟩ h0 h1
        dsimp only at hC
        rw [hC, es]
        dsimp only
        refine ⟨fun h => absurd h1 h, ?_, fun _ r d => ?_⟩
        · rfl
        · refine (out_last (hc0 := _) (hc1 := _) ..).trans ?_
          refine congrFun (congr (congrArg nrm (funext fun e => (step_at m c ⟨n + 1, hn⟩ _ r e (hxo r e)).trans ?_)) (funext fun e => blk_post m c ⟨n + 1, hn⟩ e)) d
          dsimp only
          rw [h1]
      · have hB := outsAt0_B m c ⟨n + 1, hn⟩ h0 h1
        dsimp only at hB
        rw [hB, es]
        dsimp only
        refine ⟨fun _ r d => ?_, ?_, fun h => absurd h h1⟩
        · exact (out_mid (hc0 := _) (hc1 := _) ..).trans (step_at m c ⟨n + 1, hn⟩ _ r d (hxo r d))
        · rfl

/-- The kernel's result. -/
theorem result (r : Fin 32768) (d : Fin 2048) : Cert.FfnEndIdeal.Value.G11 m c (ix2 r d) = nrm (fun e => kAcc m c r e 11) (aGP m c) d := by
  have hp : Cert.FfnEndIdeal.Value.pt11Of (ix2 r d) = 11 * (r.val / 512) + 10 := by
    show 11 * (1 * (r.val / 512 - 0) + 1 * (d.val / 2048 - 0)) + 10 = 11 * (r.val / 512) + 10
    omega
  have hlt : Cert.FfnEndIdeal.Value.pt11Of (ix2 r d) < cfg0.N := by rw [hp, show cfg0.N = 704 from N_0]; omega
  have e : Cert.FfnEndIdeal.Value.G11 m c (ix2 r d) = (outsAt0 m c _ hlt).1 (Cert.FfnEndIdeal.Value.loc11Of (ix2 r d)) := by
    rw [Cert.FfnEndIdeal.Value.outsAt0_sweep]
    exact dif_pos hlt
  rw [e]
  have e1 : (Cert.FfnEndIdeal.Value.pt11Of (ix2 r d)) % 11 = 10 := by rw [hp]; omega
  refine (congrArg _ (eq_ix2 (n0 := 512) (n1 := 2048) (Cert.FfnEndIdeal.Value.loc11Of (ix2 r d)))).trans (((points m c _ hlt).2.2 e1 _ _).trans ?_)
  refine congrArg₂ (fun (a : Fin 32768) (b : Fin 2048) => nrm (fun e => kAcc m c a e 11) (aGP m c) b) (Fin.ext ?_) (Fin.ext ?_)
  · show 512 * (Cert.FfnEndIdeal.Value.pt11Of (ix2 r d) / 11) + r.val % 512 = r.val
    rw [hp]; omega
  · show d.val % 2048 = d.val
    omega
end

end Cert.FfnEndV

end
-- ==== Proof.FfnEndRef.lean ====
module

public import proofs.«01_k».proof.Proof.Gen.FfnEndRefIdeal.Run
public import proofs.«01_k».proof.Proof.FfnRef
public import Idealize.ShloMosaic.Lib.Pointwise

@[expose] public section

set_option maxRecDepth 16384
set_option maxHeartbeats 1000000

noncomputable section

namespace Cert.FfnEndV
open Idealize.ShloMosaic Idealize.ShloMosaic.TcCoe Idealize.ShloMosaic.Tactic Idealize.SL.Sem
open Cert.FfnEndRefIdeal Cert.FfnEndRefIdeal.Gen Cert.FfnEndRefIdeal.Value Idealize.ShloMosaic.StableHlo Cert.FfnV
/-! ## The reference's arrays, one after another -/

/-- One half's columns of the up-projection's weights, in order. -/
def rSide (w : Vec Ideal S4x11x2x2048x512 .bf16) : Vec Ideal S2x2048x5632 .f32 :=
  shapeCast S2x2048x5632 (transpose S2x2048x11x512 [1, 2, 0, 3] (extf (F := Ideal) .f32 (shapeCast S11x2x2048x512 (extractStridedSlice S1x11x2x2048x512 ![3, 0, 0, 0, 0] w slices_S4x11x2x2048x512_S1x11x2x2048x512_3_0_0_0_0) shapeCasts_S1x11x2x2048x512_S11x2x2048x512) bitsLt_bf16_f32) transposes_S11x2x2048x512_S2x2048x11x512_1_2_0_3) shapeCasts_S2x2048x11x512_S2x2048x5632

/-- A column of one half at an index. -/
theorem rSide_apply (w : Vec Ideal S4x11x2x2048x512 .bf16) (p : Fin 2) (l : Fin 2048) (f : Fin 5632) :
    rSide w (ix3 p l f) = w (ix5 (3 : Fin 4) (⟨f.val / 512, by omega⟩ : Fin 11) p l (⟨f.val % 512, Nat.mod_lt _ (by decide)⟩ : Fin 512)) := by
  unfold rSide
  pointwise

/-- Row 0 of the convolution's weights, at every row. -/
def rRow0 (w : Vec Ideal S4x3x11008 .f32) : Vec Ideal S8x4096x11008 .f32 :=
  broadcastInDim S8x4096x11008 ![0, 1, 2] bcast_S1x1x11008_S8x4096x11008_0_1_2 (broadcastInDim S1x1x11008 ![2] bcast_S11008_S1x1x11008_2
    (shapeCast S11008 (extractStridedSlice S1x11008 ![0, 0] (shapeCast S3x11008 (extractStridedSlice S1x3x11008 ![3, 0, 0] w slices_S4x3x11008_S1x3x11008_3_0_0) shapeCasts_S1x3x11008_S3x11008) slices_S3x11008_S1x11008_0_0) shapeCasts_S1x11008_S11008))

/-- Row 0 at an index. -/
theorem rRow0_apply (w : Vec Ideal S4x3x11008 .f32) (b : Fin 8) (s : Fin 4096) (q : Fin 11008) : rRow0 w (ix3 b s q) = w (ix3 (3 : Fin 4) (0 : Fin 3) q) := by
  unfold rRow0
  pointwise

/-- Row 1 of the convolution's weights, at every row. -/
def rRow1 (w : Vec Ideal S4x3x11008 .f32) : Vec Ideal S8x4096x11008 .f32 :=
  broadcastInDim S8x4096x11008 ![0, 1, 2] bcast_S1x1x11008_S8x4096x11008_0_1_2 (broadcastInDim S1x1x11008 ![2] bcast_S11008_S1x1x11008_2
    (shapeCast S11008 (extractStridedSlice S1x11008 ![1, 0] (shapeCast S3x11008 (extractStridedSlice S1x3x11008 ![3, 0, 0] w slices_S4x3x11008_S1x3x11008_3_0_0) shapeCasts_S1x3x11008_S3x11008) slices_S3x11008_S1x11008_1_0) shapeCasts_S1x11008_S11008))

/-- Row 1 at an index. -/
theorem rRow1_apply (w : Vec Ideal S4x3x11008 .f32) (b : Fin 8) (s : Fin 4096) (q : Fin 11008) : rRow1 w (ix3 b s q) = w (ix3 (3 : Fin 4) (1 : Fin 3) q) := by
  unfold rRow1
  pointwise

/-- Row 2 of the convolution's weights, at every row. -/
def rRow2 (w : Vec Ideal S4x3x11008 .f32) : Vec Ideal S8x4096x11008 .f32 :=
  broadcastInDim S8x4096x11008 ![0, 1, 2] bcast_S1x1x11008_S8x4096x11008_0_1_2 (broadcastInDim S1x1x11008 ![2] bcast_S11008_S1x1x11008_2
    (shapeCast S11008 (extractStridedSlice S1x11008 ![2, 0] (shapeCast S3x11008 (extractStridedSlice S1x3x11008 ![3, 0, 0] w slices_S4x3x11008_S1x3x11008_3_0_0) shapeCasts_S1x3x11008_S3x11008) slices_S3x11008_S1x11008_2_0) shapeCasts_S1x11008_S11008))

/-- Row 2 at an index. -/
theorem rRow2_apply (w : Vec Ideal S4x3x11008 .f32) (b : Fin 8) (s : Fin 4096) (q : Fin 11008) : rRow2 w (ix3 b s q) = w (ix3 (3 : Fin 4) (2 : Fin 3) q) := by
  unfold rRow2
  pointwise

/-- The bias at every row. -/
def rBias (w : Vec Ideal S4x11008 .f32) : Vec Ideal S8x4096x11008 .f32 :=
  broadcastInDim S8x4096x11008 ![0, 1, 2] bcast_S1x1x11008_S8x4096x11008_0_1_2 (broadcastInDim S1x1x11008 ![2] bcast_S11008_S1x1x11008_2
    (shapeCast S11008 (extractStridedSlice S1x11008 ![3, 0] w slices_S4x11008_S1x11008_3_0) shapeCasts_S1x11008_S11008))

/-- The bias at an index. -/
theorem rBias_apply (w : Vec Ideal S4x11008 .f32) (b : Fin 8) (s : Fin 4096) (q : Fin 11008) : rBias w (ix3 b s q) = w (ix2 (3 : Fin 4) q) := by
  unfold rBias
  pointwise

/-- The causal convolution. -/
def rConv (a : Vec Ideal S8x4096x11008 .f32) (w : Vec Ideal S4x3x11008 .f32) (cb : Vec Ideal S4x11008 .f32) : Vec Ideal S8x4096x11008 .f32 :=
  addf (F := Ideal) (φ := .f32) (addf (F := Ideal) (φ := .f32) (addf (F := Ideal) (φ := .f32) (addf (F := Ideal) (φ := .f32) (broadcastInDim S8x4096x11008 ![] bcast_S_S8x4096x11008 (constant S_ .f32 0x00000000#32)) (mulf (F := Ideal) (φ := .f32) (extractStridedSlice S8x4096x11008 ![0, 0, 0] (rPad a) slices_S8x4098x11008_S8x4096x11008_0_0_0) (rRow0 w))) (mulf (F := Ideal) (φ := .f32) (extractStridedSlice S8x4096x11008 ![0, 1, 0] (rPad a) slices_S8x4098x11008_S8x4096x11008_0_1_0) (rRow1 w))) (mulf (F := Ideal) (φ := .f32) (extractStridedSlice S8x4096x11008 ![0, 2, 0] (rPad a) slices_S8x4098x11008_S8x4096x11008_0_2_0) (rRow2 w))) (rBias cb)

/-- The convolution at an index. -/
theorem rConv_apply (a : Vec Ideal S8x4096x11008 .f32) (w : Vec Ideal S4x3x11008 .f32) (cb : Vec Ideal S4x11008 .f32) (b : Fin 8) (s : Fin 4096) (q : Fin 11008) :
    rConv a w cb (ix3 b s q) = tap (w (ix3 (3 : Fin 4) (0 : Fin 3) q)) (w (ix3 (3 : Fin 4) (1 : Fin 3) q)) (w (ix3 (3 : Fin 4) (2 : Fin 3) q)) (cb (ix2 (3 : Fin 4) q)) (rT a 0 b s q) (rT a 1 b s q) (rT a 2 b s q) := by
  have h : ∀ A0 A1 A2 B0 B1 B2 C : Vec Ideal S8x4096x11008 .f32, addf (F := Ideal) (φ := .f32) (addf (F := Ideal) (φ := .f32) (addf (F := Ideal) (φ := .f32) (addf (F := Ideal) (φ := .f32) (broadcastInDim S8x4096x11008 ![] bcast_S_S8x4096x11008 (constant S_ .f32 0x00000000#32)) (mulf (F := Ideal) (φ := .f32) A0 B0)) (mulf (F := Ideal) (φ := .f32) A1 B1)) (mulf (F := Ideal) (φ := .f32) A2 B2)) C (ix3 b s q)
      = 0 + A0 (ix3 b s q) * B0 (ix3 b s q) + A1 (ix3 b s q) * B1 (ix3 b s q) + A2 (ix3 b s q) * B2 (ix3 b s q) + C (ix3 b s q) := by
    intro A0 A1 A2 B0 B1 B2 C
    pointwise
  refine (h _ _ _ _ _ _ _).trans ?_
  rw [rTap0_apply, rTap1_apply, rTap2_apply, rRow0_apply, rRow1_apply, rRow2_apply, rBias_apply]
  unfold tap
  rw [zero_add, mul_comm (rT a 2 b s q), mul_comm (rT a 1 b s q), mul_comm (rT a 0 b s q)]
  exact congrArg (· + cb (ix2 (3 : Fin 4) q)) (sum3 _ _ _)

/-- The result: the rows and the down-projection of the hidden layer. -/
def rY (x : Vec Ideal S8x4096x2048 .f32) (h : Vec Ideal S8x4096x5504 .f32) (wd : Vec Ideal S4x5504x2048 .f32) : Vec Ideal S8x4096x2048 .f32 :=
  addf (F := Ideal) (φ := .f32) x (Host.dotGeneral (F := Ideal) (φ₁ := .f32) (φ₂ := .f32) dot_S8x4096x5504_S5504x2048_S8x4096x2048_2_0_01_1_n_n none h
    (shapeCast S5504x2048 (extractStridedSlice S1x5504x2048 ![3, 0, 0] wd slices_S4x5504x2048_S1x5504x2048_3_0_0) shapeCasts_S1x5504x2048_S5504x2048))

/-- The result at an index. -/
theorem rY_apply (x : Vec Ideal S8x4096x2048 .f32) (h : Vec Ideal S8x4096x5504 .f32) (wd : Vec Ideal S4x5504x2048 .f32) (b : Fin 8) (s : Fin 4096) (d : Fin 2048) :
    rY x h wd (ix3 b s d) = x (ix3 b s d) + ∑ f : Fin 5504, h (ix3 b s f) * wd (ix3 (3 : Fin 4) f d) := by
  unfold rY
  pointwise

section
variable (m : (ℓ : Loc nD τ sig) → Buf (Elt Ideal) ℓ) (c : Dev nD)

/-- The rows before the norm at the end, by their parts. -/
def yOf : Vec Ideal S8x4096x2048 .f32 :=
  rY (rX (m ((c : Thread nD τ).loc main_arg0))) (rAct (rConv (rUp (rNrm (rX (m ((c : Thread nD τ).loc main_arg0))) (m ((c : Thread nD τ).loc main_arg1))) (rWu (rSide (m ((c : Thread nD τ).loc main_arg2))))) (m ((c : Thread nD τ).loc main_arg3)) (m ((c : Thread nD τ).loc main_arg4)))) (m ((c : Thread nD τ).loc main_arg5))

/-- The result is those rows normalized. -/
theorem res_u : res_main_v76 (F := Ideal) m c = shapeCast S32768x2048 (rNrm (yOf m c) (m ((c : Thread nD τ).loc main_arg6))) shapeCasts_S8x4096x2048_S32768x2048 := rfl

/-- The result at an index. -/
theorem res_u_apply (b : Fin 8) (s : Fin 4096) (d : Fin 2048) : (res_main_v76 (F := Ideal) m c : Vec Ideal S32768x2048 .f32) (ix2 (rowOf b s) d)
    = nrm (fun e => yOf m c (ix3 b s e)) (fun e => (m ((c : Thread nD τ).loc main_arg6) : Vec Ideal S2048 .f32) (ix1 e)) d := by
  rw [res_u]
  exact (flat_apply (rNrm (yOf m c) (m ((c : Thread nD τ).loc main_arg6))) b s d).trans (rNrm_apply _ _ b s d)
end

end Cert.FfnEndV

end
-- ==== Proof.FfnEndSame.lean ====
module

public import proofs.«01_k».proof.Proof.FfnEndRef
public import proofs.«01_k».proof.Proof.FfnSame

@[expose] public section

set_option maxRecDepth 16384
set_option maxHeartbeats 1000000

noncomputable section

namespace Cert.FfnEndV
open Idealize.ShloMosaic Idealize.ShloMosaic.TcCoe Idealize.ShloMosaic.Tactic Idealize.SL.Sem
open Cert.FfnEndRefIdeal Cert.FfnEndRefIdeal.Gen Cert.FfnEndRefIdeal.Value Idealize.ShloMosaic.StableHlo Cert.FfnV
/-! ## The reference's result is the layer over plain functions -/

section
variable (x : Vec Ideal S32768x2048 .f32) (g : Vec Ideal S2048 .f32) (w : Vec Ideal S4x11x2x2048x512 .bf16) (cw : Vec Ideal S4x3x11008 .f32) (cb : Vec Ideal S4x11008 .f32) (wd : Vec Ideal S4x5504x2048 .f32)

/-- The up-projection's weights as a function. -/
def fW (k : Fin 11) (p : Fin 2) (l : Fin 2048) (j : Fin 512) : EReal := w (ix5 (3 : Fin 4) k p l j)
/-- The convolution's weights as a function. -/
def fCW (i : Fin 3) (f : Fin 11008) : EReal := cw (ix3 (3 : Fin 4) i f)
/-- The convolution's bias as a function. -/
def fCB (f : Fin 11008) : EReal := cb (ix2 (3 : Fin 4) f)
/-- The down-projection's weights as a function. -/
def fWD (f : Fin 5504) (d : Fin 2048) : EReal := wd (ix3 (3 : Fin 4) f d)

/-- The reference's up-projection of its arrays. -/
def rA : Vec Ideal S8x4096x11008 .f32 := rUp (rNrm (rX x) g) (rWu (rSide w))

/-- The up-projection's weights at a column of a half. -/
theorem wu_eq (l : Fin 2048) (p : Fin 2) (f : Fin 5504) : rWu (rSide w) (ix2 l (both p f)) = fW w ⟨f.val / 512, by omega⟩ p l ⟨f.val % 512, Nat.mod_lt _ (by decide)⟩ := by
  have hp : ∀ p : Fin 2, p = 0 ∨ p = 1 := by decide
  rcases hp p with rfl | rfl
  · exact (rWu_gate _ l f).trans (rSide_apply w 0 l ⟨f.val, by omega⟩)
  · exact (rWu_val _ l f).trans (rSide_apply w 1 l ⟨f.val, by omega⟩)

/-- The reference's up-projection at an index. -/
theorem rA_apply (b : Fin 8) (s : Fin 4096) (p : Fin 2) (f : Fin 5504) : rA x g w (ix3 b s (both p f)) = sUp (fX x) (fG g) (fW w) (rowOf b s) p ⟨f.val, by omega⟩ := by
  refine (rUp_apply _ _ b s _).trans (Finset.sum_congr rfl fun l _ => congrArg₂ (· * ·) ((rNrm_apply _ _ b s l).trans ?_) (wu_eq w l p f))
  exact congrFun (congrArg (nrm · (fG g)) (funext fun e => rX_apply x b s e)) l

/-- The reference's shifted up-projection at an index. -/
theorem rT_apply (δ : ℕ) (b : Fin 8) (s : Fin 4096) (p : Fin 2) (f : Fin 5504) : rT (rA x g w) δ b s (both p f) = sTap (fX x) (fG g) (fW w) δ (rowOf b s) p ⟨f.val, by omega⟩ := by
  have e : (rowOf b s).val = 4096 * b.val + s.val := rfl
  unfold rT sTap
  by_cases h : s.val < δ
  · rw [if_pos h, if_pos (by omega)]
  · rw [if_neg h, if_neg (by omega)]
    refine (rA_apply x g w b _ p f).trans (congrArg (sUp (fX x) (fG g) (fW w) · p _) (Fin.ext ?_))
    show 4096 * b.val + (s.val - δ) = 4096 * b.val + s.val - δ
    omega

/-- The reference's convolution at an index. -/
theorem conv_eq (b : Fin 8) (s : Fin 4096) (p : Fin 2) (f : Fin 5504) : rConv (rA x g w) cw cb (ix3 b s (both p f)) = sConv (fX x) (fG g) (fW w) (fCW cw) (fCB cb) (rowOf b s) p ⟨f.val, by omega⟩ := by
  refine (rConv_apply _ _ _ b s _).trans ?_
  refine tap_congr ?_ ?_ ?_ ?_ (rT_apply x g w 0 b s p f) (rT_apply x g w 1 b s p f) (rT_apply x g w 2 b s p f)
  · exact (halfOf_pos p (fCW cw 0) ⟨f.val, by omega⟩ f.isLt).symm
  · exact (halfOf_pos p (fCW cw 1) ⟨f.val, by omega⟩ f.isLt).symm
  · exact (halfOf_pos p (fCW cw 2) ⟨f.val, by omega⟩ f.isLt).symm
  · exact (halfOf_pos p (fCB cb) ⟨f.val, by omega⟩ f.isLt).symm

/-- The reference's result of finite arrays is the layer's. -/
theorem y_eq (hx : ∀ r d, IsR (fX x r d)) (hg : ∀ d, IsR (fG g d)) (hw : ∀ k p l j, IsR (fW w k p l j)) (hcw : ∀ i f, IsR (fCW cw i f)) (hcb : ∀ f, IsR (fCB cb f))
    (b : Fin 8) (s : Fin 4096) (d : Fin 2048) : rY (rX x) (rAct (rConv (rA x g w) cw cb)) wd (ix3 b s d) = sAcc (fX x) (fG g) (fW w) (fCW cw) (fCB cb) (fWD wd) (rowOf b s) d 11 := by
  rw [rY_apply, sAcc_all, sum_padded]
  refine congrArg₂ (· + ·) (rX_apply x b s d) (Finset.sum_congr rfl fun f _ => congrArg (· * fWD wd f d) ?_)
  rw [act_eq (sConv_real hx hg hw hcw hcb _ _ _), rAct_apply, conv_eq, conv_eq]
end

end Cert.FfnEndV

end
-- ==== Proof.FfnEndClaim.lean ====
/- The claims about the last convolutional feed-forward layer, which leaves its rows normalized: the frames of its kernel and of its reference, and that the two compute the same array
   of finite arguments. -/
module

public import proofs.«01_k».proof.Defs
public import proofs.«01_k».proof.Proof.Gen.FfnEnd.Frame
public import proofs.«01_k».proof.Proof.Gen.FfnEndIdeal.Frame
public import proofs.«01_k».proof.Proof.Gen.FfnEndIdeal.Value
public import proofs.«01_k».proof.Proof.Gen.FfnEndRefIdeal.Run
public import proofs.«01_k».proof.Proof.FfnEndGrid
public import proofs.«01_k».proof.Proof.FfnEndSame
public import proofs.«01_k».proof.Proof.FfnClaim
public import Idealize.ShloMosaic.Lib.ReduceAll

@[expose] public section

set_option maxHeartbeats 1000000

noncomputable section

namespace Cert.FfnEndV
open Idealize.ShloMosaic Idealize.ShloMosaic.TcCoe Idealize.SL.Sem Cert.FfnV

/-- The kernel runs and leaves its arguments as they were. -/
theorem frame_kernel : Cert.quiescent_FfnEnd (hFfnEnd := Cert.FfnEnd.Gen.facts) := fun m ρ _ => Cert.FfnEnd.Gen.frame m ρ

/-- The same over the extended reals. -/
theorem frame_ideal : Cert.quiescent_FfnEndIdeal (hFfnEndIdeal := Cert.FfnEndIdeal.Gen.facts) := fun m ρ _ => Cert.FfnEndIdeal.Gen.frame m ρ

/-- The same of finite arguments. -/
theorem frame_ideal_finite : Cert.quiescent_FfnEndIdeal_pre_finite (hFfnEndIdeal := Cert.FfnEndIdeal.Gen.facts) (hPre_finite := finite_facts) := fun m ρ _ => Cert.FfnEndIdeal.Gen.frame m ρ

/-- The reference runs and leaves its arguments as they were. -/
theorem frame_ref : Cert.quiescent_FfnEndRefIdeal (hFfnEndRefIdeal := Cert.FfnEndRefIdeal.Gen.facts) := fun m ρ _ =>
  (θ_run Cert.FfnEndRefIdeal.defs _ _).mono (fun r h => ⟨fun c => (h c).2, Idealize.ShloMosaic.sem_eq_zero_of_no_sems (by decide) r.2⟩)
    (Cert.FfnEndRefIdeal.Value.run (F := Ideal) m ρ)

/-- The same of finite arguments. -/
theorem frame_ref_finite : Cert.quiescent_FfnEndRefIdeal_pre_finite (hFfnEndRefIdeal := Cert.FfnEndRefIdeal.Gen.facts) (hPre_finite := finite_facts) := fun m ρ _ =>
  frame_ref m ρ trivial

/-- The kernel and the reference compute the same array of finite arguments. -/
theorem same_result : Cert.algebraic_FfnEndIdeal_FfnEndRefIdeal_pre_finite (hFfnEndIdeal := Cert.FfnEndIdeal.Gen.facts) (hFfnEndRefIdeal := Cert.FfnEndRefIdeal.Gen.facts) (hPre_finite := finite_facts) := by
  intro m ρ m' ρ' hfin hagree
  have hy : ∀ (c : Dev Cert.FfnEndIdeal.nD) (b : Fin 8) (s : Fin 4096) (d : Fin 2048), yOf m' c (ix3 b s d) = kAcc m c (rowOf b s) d 11 := by
    intro c b s d
    obtain ⟨h0, h1, h2, h3, h4, h5, h6⟩ := hagree c
    obtain ⟨r0, r1, r2, r3, r4⟩ := real_of_finite _ _ _ _ _ _ _ (hfin c)
    unfold yOf
    rw [h0, h1, h2, h3, h4, h5]
    exact y_eq _ _ _ _ _ _ (fun r d => r0 _) (fun d => r1 _) (fun k p l j => r2 _) (fun i f => r3 _) (fun f => r4 _) b s d
  have hrow : ∀ r : Fin 32768, ∃ (b : Fin 8) (s : Fin 4096), r = rowOf b s := fun r =>
    ⟨⟨r.val / 4096, by omega⟩, ⟨r.val % 4096, Nat.mod_lt _ (by decide)⟩, Fin.ext (by show r.val = 4096 * (r.val / 4096) + r.val % 4096; omega)⟩
  refine ⟨fun c => Cert.FfnEndIdeal.Value.G11 m c, Cert.FfnEndIdeal.Value.run m ρ, (θ_run _ _ _).mono (fun _ h c => ⟨(h c).1.trans ?_, (h c).2⟩) (Cert.FfnEndRefIdeal.Value.run m' ρ')⟩
  refine funext fun (j : Cert.FfnEndIdeal.S32768x2048.Idx) => ?_
  rw [eq_ix2 (n0 := 32768) (n1 := 2048) j]
  obtain ⟨b, s, hr⟩ := hrow (j 0)
  rw [hr]
  refine (res_u_apply m' c b s _).trans (Eq.trans ?_ (result m c _ _).symm)
  obtain ⟨h0, h1, h2, h3, h4, h5, h6⟩ := hagree c
  rw [h6]
  exact congrFun (congrArg (nrm · _) (funext fun e => hy c b s e)) _

end Cert.FfnEndV

end
-- ==== Proof.FfnMidElem.lean ====
module

public import proofs.«01_k».proof.Proof.FfnSpec
public import proofs.«01_k».proof.Proof.Gen.FfnMidIdeal.Value
public import Idealize.ShloMosaic.Lib.Pipeline.ValueKit
public import Idealize.ShloMosaic.Lib.Pointwise

@[expose] public section

set_option maxRecDepth 16384
set_option maxHeartbeats 1000000

noncomputable section

namespace Cert.FfnMidV
open Idealize.ShloMosaic Idealize.ShloMosaic.TcCoe Idealize.ShloMosaic.Tactic Idealize.SL.Sem
open Cert.FfnMidIdeal Cert.FfnMidIdeal.Gen Cert.FfnV

/-! One point's arithmetic, entry by entry. -/

theorem pay2_apply (g : Vec Ideal S1x2048 .f32) (x : Vec Ideal S16x2048 .f32) (r : Fin 16) (d : Fin 2048) :
    k0_pay2 g x (ix2 r d) = nrm (fun e => x (ix2 r e)) (fun e => g (ix2 0 e)) d := by
  pointwise [k0_pay2, nrm]

theorem pay4_apply (g : Vec Ideal S1x2048 .f32) (x : Vec Ideal S128x2048 .f32) (r : Fin 128) (d : Fin 2048) :
    k0_pay4 g x (ix2 r d) = nrm (fun e => x (ix2 r e)) (fun e => g (ix2 0 e)) d := by
  pointwise [k0_pay4, k0_pay3, nrm]

theorem pay5_apply (g : Vec Ideal S1x2048 .f32) (x : Vec Ideal S128x2048 .f32) (r : Fin 128) (d : Fin 2048) :
    k0_pay5 (k0_pay3 g) x (ix2 r d) = nrm (fun e => x (ix2 r e)) (fun e => g (ix2 0 e)) d := by
  pointwise [k0_pay5, k0_pay3, nrm]

theorem pay6_apply (g : Vec Ideal S1x2048 .f32) (x : Vec Ideal S128x2048 .f32) (r : Fin 128) (d : Fin 2048) :
    k0_pay6 (k0_pay3 g) x (ix2 r d) = nrm (fun e => x (ix2 r e)) (fun e => g (ix2 0 e)) d := by
  pointwise [k0_pay6, k0_pay3, nrm]

theorem pay9_apply (g : Vec Ideal S1x2048 .f32) (x : Vec Ideal S128x2048 .f32) (r : Fin 128) (d : Fin 2048) :
    k0_pay9 (k0_pay3 g) x (k0_pay7 x) (k0_pay8 (F := Ideal)) (ix2 r d) = nrm (fun e => x (ix2 r e)) (fun e => g (ix2 0 e)) d := by
  pointwise [k0_pay9, k0_pay3, k0_pay7, k0_pay8, nrm]

theorem pay11_apply (x : Vec Ideal S272x2048 .bf16) (w : Vec Ideal S1x1x1x2048x256 .bf16) (r : Fin 272) (j : Fin 256) :
    k0_pay11 x w (ix2 r j) = ∑ l : Fin 2048, x (ix2 r l) * w (ix5 0 0 0 l j) := by
  pointwise [k0_pay11]

theorem pay13_apply (x : Vec Ideal S272x2048 .bf16) (w : Vec Ideal S1x1x1x2048x256 .bf16) (r : Fin 272) (j : Fin 256) :
    k0_pay13 (k0_pay12 x w) (ix2 r j) = ∑ l : Fin 2048, x (ix2 r l) * w (ix5 0 0 0 l j) := by
  pointwise [k0_pay13, k0_pay12]

theorem pay14_apply (x : Vec Ideal S272x2048 .bf16) (w : Vec Ideal S1x1x1x2048x256 .bf16) (r : Fin 272) (j : Fin 256) :
    k0_pay14 x w (ix2 r j) = ∑ l : Fin 2048, x (ix2 r l) * w (ix5 0 0 0 l j) := by
  pointwise [k0_pay14]

theorem pay15_apply (x : Vec Ideal S272x2048 .bf16) (w : Vec Ideal S1x1x1x2048x256 .bf16) (r : Fin 272) (j : Fin 256) :
    k0_pay15 x w (ix2 r j) = ∑ l : Fin 2048, x (ix2 r l) * w (ix5 0 0 0 l j) := by
  pointwise [k0_pay15]

theorem pay17_apply (x : Vec Ideal S256x2048 .bf16) (w : Vec Ideal S1x1x1x2048x256 .bf16) (r : Fin 256) (j : Fin 256) :
    k0_pay17 x w (ix2 r j) = ∑ l : Fin 2048, x (ix2 r l) * w (ix5 0 0 0 l j) := by
  pointwise [k0_pay17]

theorem pay18_apply (x : Vec Ideal S256x2048 .bf16) (w : Vec Ideal S1x1x1x2048x256 .bf16) (r : Fin 256) (j : Fin 256) :
    k0_pay18 x w (ix2 r j) = ∑ l : Fin 2048, x (ix2 r l) * w (ix5 0 0 0 l j) := by
  pointwise [k0_pay18]

theorem pay19_apply (x : Vec Ideal S256x2048 .bf16) (w : Vec Ideal S1x1x1x2048x256 .bf16) (r : Fin 256) (j : Fin 256) :
    k0_pay19 x w (ix2 r j) = ∑ l : Fin 2048, x (ix2 r l) * w (ix5 0 0 0 l j) := by
  pointwise [k0_pay19]

theorem pay21_apply (x : Vec Ideal S256x2048 .bf16) (w : Vec Ideal S1x1x1x2048x256 .bf16) (r : Fin 256) (j : Fin 256) :
    k0_pay21 (k0_pay20 x w) (ix2 r j) = ∑ l : Fin 2048, x (ix2 r l) * w (ix5 0 0 0 l j) := by
  pointwise [k0_pay21, k0_pay20]

theorem pay16_apply (kp : EReal) (x : Vec Ideal S16x1024 .f32) (r : Fin 16) (j : Fin 1024) :
    k0_pay16 (F := Ideal) kp x (ix2 r j) = x (ix2 r j) * kp := by
  pointwise [k0_pay16]

theorem pay27_apply (w0g w0v w1g w1v w2g w2v bg bv : Vec Ideal S1x1x512 .f32) (a0 a1 a2 : Vec Ideal S256x1024 .f32) (xo : Vec Ideal S256x2048 .f32)
    (wd : Vec Ideal S1x512x2048 .bf16) (r : Fin 256) (d : Fin 2048) :
    k0_pay27 (k0_pay22 w0g w0v) (k0_pay25 bg bv) (k0_pay26 w1g w1v w2g w2v a0 a1) a2 xo wd (ix2 r d)
      = xo (ix2 r d) + ∑ j : Fin 512, act
          (tap (w0g (ix3 0 0 j)) (w1g (ix3 0 0 j)) (w2g (ix3 0 0 j)) (bg (ix3 0 0 j)) (a0 (ix2 r (lo j))) (a1 (ix2 r (lo j))) (a2 (ix2 r (lo j))))
          (tap (w0v (ix3 0 0 j)) (w1v (ix3 0 0 j)) (w2v (ix3 0 0 j)) (bv (ix3 0 0 j)) (a0 (ix2 r (hi j))) (a1 (ix2 r (hi j))) (a2 (ix2 r (hi j))))
          * wd (ix3 0 j d) := by
  pointwise [k0_pay27, k0_pay22, k0_pay23, k0_pay24, k0_pay25, k0_pay26, act, tap, lo, hi]

theorem pay1_apply (w0g w0v w1g w1v w2g w2v bg bv : Vec Ideal S1x1x512 .f32) (a0 a1 a2 : Vec Ideal S256x1024 .f32) (xo : Vec Ideal S256x2048 .f32)
    (wd : Vec Ideal S1x512x2048 .bf16) (r : Fin 256) (d : Fin 2048) :
    k0_pay1 (k0_pay28 (k0_pay22 w0g w0v) (k0_pay23 w1g w1v) (k0_pay24 w2g w2v) (k0_pay25 bg bv) a0 a1 a2) xo wd (ix2 r d)
      = xo (ix2 r d) + ∑ j : Fin 512, act
          (tap (w0g (ix3 0 0 j)) (w1g (ix3 0 0 j)) (w2g (ix3 0 0 j)) (bg (ix3 0 0 j)) (a0 (ix2 r (lo j))) (a1 (ix2 r (lo j))) (a2 (ix2 r (lo j))))
          (tap (w0v (ix3 0 0 j)) (w1v (ix3 0 0 j)) (w2v (ix3 0 0 j)) (bv (ix3 0 0 j)) (a0 (ix2 r (hi j))) (a1 (ix2 r (hi j))) (a2 (ix2 r (hi j))))
          * wd (ix3 0 j d) := by
  pointwise [k0_pay1, k0_pay28, k0_pay22, k0_pay23, k0_pay24, k0_pay25, act, tap, lo, hi]

theorem pay10_eq (i : grid0.Coords) : k0_pay10 (F := Ideal) i = if (i 0).val % 8 = 0 then 0 else 1 := by
  have h : ∀ b : Fin 64, (let arg0 : BitVec 32 := BitVec.ofNat 32 b.val
    let v4 : BitVec 32 := Scalar.select (Scalar.cmpi .eq 8#32 0#32) 1#32 8#32
    let v5 : BitVec 32 := Scalar.remsi arg0 v4
    let v10 : BitVec 1 := Scalar.andi (Scalar.xori (Scalar.cmpi .slt v5 0#32) (Scalar.cmpi .slt v4 0#32)) (Scalar.cmpi .ne v5 0#32)
    let v12 : BitVec 32 := Scalar.select v10 (Scalar.addi v5 v4) v5
    (Scalar.extui (Scalar.cmpi .ne v12 0#32) : BitVec 32)) = if b.val % 8 = 0 then 0#32 else 1#32 := by decide +kernel
  show ((((_ : BitVec 32).toInt : ℝ) : EReal)) = _
  rw [h (i 0)]
  by_cases h8 : (i 0).val % 8 = 0
  · rw [if_pos h8, if_pos h8]; norm_num
  · rw [if_neg h8, if_neg h8]; norm_num

end Cert.FfnMidV

end
-- ==== Proof.FfnMidUp.lean ====
module

public import proofs.«01_k».proof.Proof.FfnMidElem
public import Idealize.ShloMosaic.Lib.Pipeline.CanonAppend

@[expose] public section

set_option maxRecDepth 16384
set_option maxHeartbeats 1000000

noncomputable section

namespace Cert.FfnMidV
open Idealize.ShloMosaic Idealize.ShloMosaic.TcCoe Idealize.ShloMosaic.Tactic Idealize.SL.Sem
open Cert.FfnMidIdeal Cert.FfnMidIdeal.Gen Cert.FfnV

/-! ## The scratch of up-projected rows, and the block of results -/

/-- The stores into the scratch before the halo's rows are masked. -/
abbrev pcs4 (X : Vec Ideal S272x2048 .bf16) (a3 b3 a4 b4 : Vec Ideal S1x1x1x2048x256 .bf16) : List (View.Piece (Elt Ideal) S528x1024 .f32) :=
  [⟨Rect.unit (s := S528x1024) ![0, 768] S272x256.size inb_S528x1024_S272x256_0_768, k0_pay15 X b4⟩,
   ⟨Rect.unit (s := S528x1024) ![0, 256] S272x256.size inb_S528x1024_S272x256_0_256, k0_pay14 X b3⟩,
   ⟨Rect.unit (s := S528x1024) ![0, 512] S272x256.size inb_S528x1024_S272x256_0_512, k0_pay13 (k0_pay12 X a4)⟩,
   ⟨Rect.unit (s := S528x1024) ![0, 0] S272x256.size inb_S528x1024_S272x256_0_0, k0_pay11 X a3⟩]

/-- The stores after. -/
abbrev pcs5 (kp : EReal) (A : Vec Ideal S16x1024 .f32) (Y : Vec Ideal S256x2048 .bf16) (a3 b3 a4 b4 : Vec Ideal S1x1x1x2048x256 .bf16) : List (View.Piece (Elt Ideal) S528x1024 .f32) :=
  [⟨Rect.unit (s := S528x1024) ![272, 768] S256x256.size inb_S528x1024_S256x256_272_768, k0_pay21 (k0_pay20 Y b4)⟩,
   ⟨Rect.unit (s := S528x1024) ![272, 256] S256x256.size inb_S528x1024_S256x256_272_256, k0_pay19 Y b3⟩,
   ⟨Rect.unit (s := S528x1024) ![272, 512] S256x256.size inb_S528x1024_S256x256_272_512, k0_pay18 Y a4⟩,
   ⟨Rect.unit (s := S528x1024) ![272, 0] S256x256.size inb_S528x1024_S256x256_272_0, k0_pay17 Y a3⟩,
   ⟨Rect.unit (s := S528x1024) ![0, 0] S16x1024.size inb_S528x1024_S16x1024_0_0, k0_pay16 (F := Ideal) kp A⟩]

section
variable (xs : Vec Ideal S528x2048 .bf16) (x3 x4 : Vec Ideal S1x1x1x2048x512 .bf16)
  (X : Vec Ideal S272x2048 .bf16) (Y : Vec Ideal S256x2048 .bf16) (a3 b3 a4 b4 : Vec Ideal S1x1x1x2048x256 .bf16)
  (hX : ∀ (r : Fin 272) l, X (ix2 r l) = xs (ix2 (topRow r) l)) (hY : ∀ (r : Fin 256) l, Y (ix2 r l) = xs (ix2 (botRow r) l))
  (ha3 : ∀ l (j : Fin 256), a3 (ix5 0 0 0 l j) = x3 (ix5 0 0 0 l (half0 j))) (hb3 : ∀ l (j : Fin 256), b3 (ix5 0 0 0 l j) = x3 (ix5 0 0 0 l (half1 j)))
  (ha4 : ∀ l (j : Fin 256), a4 (ix5 0 0 0 l j) = x4 (ix5 0 0 0 l (half0 j))) (hb4 : ∀ l (j : Fin 256), b4 (ix5 0 0 0 l j) = x4 (ix5 0 0 0 l (half1 j)))
include hX ha3 hb3 ha4 hb4

/-- The rows the first four stores cover. -/
theorem canon4 (y : S528x1024.Idx) (hy : (y 0).val < 272) : View.canon (pcs4 X a3 b3 a4 b4) y = upOf xs x3 x4 y := by
  have hy1 : (y 1).val < 1024 := (y 1).isLt
  refine View.canon_apply_of_pieces (upOf xs x3 x4) _ ?_ y ?_
  · intro p hp
    simp only [List.mem_cons, List.not_mem_nil, or_false] at hp
    rcases hp with rfl | rfl | rfl | rfl <;> intro x <;> rw [eq_ix2 (n0 := 272) (n1 := 256) x]
    · exact (pay15_apply _ _ _ _).trans (upOf_hi (hX _) (fun l => hb4 l _) (by show (x 0).val = 0 + 1 * (x 0).val; omega) (by show 512 + (256 + (x 1).val) = 768 + 1 * (x 1).val; omega))
    · exact (pay14_apply _ _ _ _).trans (upOf_lo (hX _) (fun l => hb3 l _) (by show (x 0).val = 0 + 1 * (x 0).val; omega) (by show 256 + (x 1).val = 256 + 1 * (x 1).val; omega))
    · exact (pay13_apply _ _ _ _).trans (upOf_hi (hX _) (fun l => ha4 l _) (by show (x 0).val = 0 + 1 * (x 0).val; omega) (by show 512 + (x 1).val = 512 + 1 * (x 1).val; omega))
    · exact (pay11_apply _ _ _ _).trans (upOf_lo (hX _) (fun l => ha3 l _) (by show (x 0).val = 0 + 1 * (x 0).val; omega) (by show (x 1).val = 0 + 1 * (x 1).val; omega))
  · rcases (by omega : 768 ≤ (y 1).val ∨ (512 ≤ (y 1).val ∧ (y 1).val < 768) ∨ (256 ≤ (y 1).val ∧ (y 1).val < 512) ∨ (y 1).val < 256) with h | h | h | h
    · exact ⟨_, .head _, (mem_rect inb_S528x1024_S272x256_0_768 y).mpr (by omega)⟩
    · exact ⟨_, .tail _ (.tail _ (.head _)), (mem_rect inb_S528x1024_S272x256_0_512 y).mpr (by omega)⟩
    · exact ⟨_, .tail _ (.head _), (mem_rect inb_S528x1024_S272x256_0_256 y).mpr (by omega)⟩
    · exact ⟨_, .tail _ (.tail _ (.tail _ (.head _))), (mem_rect inb_S528x1024_S272x256_0_0 y).mpr (by omega)⟩

include hY in
/-- The whole scratch. -/
theorem canon9 (kp : EReal) (A : Vec Ideal S16x1024 .f32) (hA : ∀ r j, A (ix2 r j) = upOf xs x3 x4 (ix2 ⟨r.val, by omega⟩ j)) (y : S528x1024.Idx) :
    View.canon (pcs5 kp A Y a3 b3 a4 b4 ++ pcs4 X a3 b3 a4 b4) y = aOf kp xs x3 x4 y := by
  have hy0 : (y 0).val < 528 := (y 0).isLt
  have hy1 : (y 1).val < 1024 := (y 1).isLt
  by_cases hm : (y 0).val < 16 ∨ 272 ≤ (y 0).val
  · refine View.canon_append_of_pieces (aOf kp xs x3 x4) _ _ ?_ y ?_
    · intro p hp
      simp only [List.mem_cons, List.not_mem_nil, or_false] at hp
      rcases hp with rfl | rfl | rfl | rfl | rfl <;> intro x
      · rw [eq_ix2 (n0 := 256) (n1 := 256) x]
        exact (pay21_apply _ _ _ _).trans ((upOf_hi (hY _) (fun l => hb4 l _) (by show 272 + (x 0).val = 272 + 1 * (x 0).val; omega) (by show 512 + (256 + (x 1).val) = 768 + 1 * (x 1).val; omega)).trans (aOf_body (by show ¬(272 + 1 * (x 0).val < 16); omega)).symm)
      · rw [eq_ix2 (n0 := 256) (n1 := 256) x]
        exact (pay19_apply _ _ _ _).trans ((upOf_lo (hY _) (fun l => hb3 l _) (by show 272 + (x 0).val = 272 + 1 * (x 0).val; omega) (by show 256 + (x 1).val = 256 + 1 * (x 1).val; omega)).trans (aOf_body (by show ¬(272 + 1 * (x 0).val < 16); omega)).symm)
      · rw [eq_ix2 (n0 := 256) (n1 := 256) x]
        exact (pay18_apply _ _ _ _).trans ((upOf_hi (hY _) (fun l => ha4 l _) (by show 272 + (x 0).val = 272 + 1 * (x 0).val; omega) (by show 512 + (x 1).val = 512 + 1 * (x 1).val; omega)).trans (aOf_body (by show ¬(272 + 1 * (x 0).val < 16); omega)).symm)
      · rw [eq_ix2 (n0 := 256) (n1 := 256) x]
        exact (pay17_apply _ _ _ _).trans ((upOf_lo (hY _) (fun l => ha3 l _) (by show 272 + (x 0).val = 272 + 1 * (x 0).val; omega) (by show (x 1).val = 0 + 1 * (x 1).val; omega)).trans (aOf_body (by show ¬(272 + 1 * (x 0).val < 16); omega)).symm)
      · rw [eq_ix2 (n0 := 16) (n1 := 1024) x]
        have hx : (x 0).val < 16 := (x 0).isLt
        refine (pay16_apply _ _ _ _).trans ((congrArg (· * kp) ((hA _ _).trans (congrArg (upOf xs x3 x4) (funext fun a => Fin.ext ?_)))).trans (aOf_halo (by show 0 + 1 * (x 0).val < 16; omega)).symm)
        match a with
        | ⟨0, _⟩ => show (x 0).val = 0 + 1 * (x 0).val; omega
        | ⟨1, _⟩ => show (x 1).val = 0 + 1 * (x 1).val; omega
    · rcases (by omega : (y 0).val < 16 ∨ 272 ≤ (y 0).val ∧ (768 ≤ (y 1).val ∨ (512 ≤ (y 1).val ∧ (y 1).val < 768) ∨ (256 ≤ (y 1).val ∧ (y 1).val < 512) ∨ (y 1).val < 256)) with h | ⟨h0, h | h | h | h⟩
      · exact ⟨_, .tail _ (.tail _ (.tail _ (.tail _ (.head _)))), (mem_rect inb_S528x1024_S16x1024_0_0 y).mpr (by omega)⟩
      · exact ⟨_, .head _, (mem_rect inb_S528x1024_S256x256_272_768 y).mpr (by omega)⟩
      · exact ⟨_, .tail _ (.tail _ (.head _)), (mem_rect inb_S528x1024_S256x256_272_512 y).mpr (by omega)⟩
      · exact ⟨_, .tail _ (.head _), (mem_rect inb_S528x1024_S256x256_272_256 y).mpr (by omega)⟩
      · exact ⟨_, .tail _ (.tail _ (.tail _ (.head _))), (mem_rect inb_S528x1024_S256x256_272_0 y).mpr (by omega)⟩
  · have h0 : y ∉ (Rect.unit (s := S528x1024) ![272, 768] S256x256.size inb_S528x1024_S256x256_272_768).set := fun hc => by have := ((mem_rect (M := 528) (N := 1024) (m := 256) (n := 256) (a := 272) (b := 768) inb_S528x1024_S256x256_272_768 y).mp hc).1; omega
    have h1 : y ∉ (Rect.unit (s := S528x1024) ![272, 256] S256x256.size inb_S528x1024_S256x256_272_256).set := fun hc => by have := ((mem_rect (M := 528) (N := 1024) (m := 256) (n := 256) (a := 272) (b := 256) inb_S528x1024_S256x256_272_256 y).mp hc).1; omega
    have h2 : y ∉ (Rect.unit (s := S528x1024) ![272, 512] S256x256.size inb_S528x1024_S256x256_272_512).set := fun hc => by have := ((mem_rect (M := 528) (N := 1024) (m := 256) (n := 256) (a := 272) (b := 512) inb_S528x1024_S256x256_272_512 y).mp hc).1; omega
    have h3 : y ∉ (Rect.unit (s := S528x1024) ![272, 0] S256x256.size inb_S528x1024_S256x256_272_0).set := fun hc => by have := ((mem_rect (M := 528) (N := 1024) (m := 256) (n := 256) (a := 272) (b := 0) inb_S528x1024_S256x256_272_0 y).mp hc).1; omega
    have h4 : y ∉ (Rect.unit (s := S528x1024) ![0, 0] S16x1024.size inb_S528x1024_S16x1024_0_0).set := fun hc => by have := ((mem_rect (M := 528) (N := 1024) (m := 16) (n := 1024) (a := 0) (b := 0) inb_S528x1024_S16x1024_0_0 y).mp hc).1; omega
    refine (canon_skip _ _ h0).trans ((canon_skip _ _ h1).trans ((canon_skip _ _ h2).trans ((canon_skip _ _ h3).trans ((canon_skip _ _ h4).trans ?_))))
    exact (canon4 xs x3 x4 X a3 b3 a4 b4 hX ha3 hb3 ha4 hb4 y (by omega)).trans (aOf_body (by omega)).symm
end

/-- An entry of a shifted window of the scratch. -/
theorem cov_at (v : View sig .tc .vmem S528x1024 .f32) (L : List (View.Piece (Elt Ideal) S528x1024 .f32)) (G : S528x1024.Idx → EReal) (hL : ∀ y, View.canon L y = G y) {m : ℕ}
    (a : ℕ) (w : ∀ q, (![a, 0] : Fin 2 → ℕ) q + (⟨2, ![m, 1024]⟩ : Shape).size q ≤ S528x1024.size q) (r : Fin m) (j : Fin 1024) (h : a + r.val < 528) :
    v.readCov L (Rect.unit (s := S528x1024) ![a, 0] (⟨2, ![m, 1024]⟩ : Shape).size w).toLoadRect (ix2 r j) = G (ix2 ⟨a + r.val, h⟩ j) := by
  rw [View.readCov_eq_canon']
  refine (hL _).trans (congrArg G (funext fun q => Fin.ext ?_))
  match q with
  | ⟨0, _⟩ => show a + 1 * r.val = a + r.val; omega
  | ⟨1, _⟩ => show 0 + 1 * j.val = j.val; omega

section
variable (xs : Vec Ideal S528x2048 .bf16) (x3 x4 : Vec Ideal S1x1x1x2048x512 .bf16)
  (X : Vec Ideal S272x2048 .bf16) (Y : Vec Ideal S256x2048 .bf16) (a3 b3 a4 b4 : Vec Ideal S1x1x1x2048x256 .bf16)
  (hX : ∀ (r : Fin 272) l, X (ix2 r l) = xs (ix2 (topRow r) l)) (hY : ∀ (r : Fin 256) l, Y (ix2 r l) = xs (ix2 (botRow r) l))
  (ha3 : ∀ l (j : Fin 256), a3 (ix5 0 0 0 l j) = x3 (ix5 0 0 0 l (half0 j))) (hb3 : ∀ l (j : Fin 256), b3 (ix5 0 0 0 l j) = x3 (ix5 0 0 0 l (half1 j)))
  (ha4 : ∀ l (j : Fin 256), a4 (ix5 0 0 0 l j) = x4 (ix5 0 0 0 l (half0 j))) (hb4 : ∀ l (j : Fin 256), b4 (ix5 0 0 0 l j) = x4 (ix5 0 0 0 l (half1 j)))
  (x5 x6 : Vec Ideal S1x3x512 .f32) (x7 x8 : Vec Ideal S1x1x512 .f32) (x9 : Vec Ideal S1x512x2048 .bf16)
  (g0 g1 g2 v0 v1 v2 : Vec Ideal S1x1x512 .f32)
  (hg0 : ∀ j, g0 (ix3 0 0 j) = x5 (ix3 0 0 j)) (hg1 : ∀ j, g1 (ix3 0 0 j) = x5 (ix3 0 1 j)) (hg2 : ∀ j, g2 (ix3 0 0 j) = x5 (ix3 0 2 j))
  (hv0 : ∀ j, v0 (ix3 0 0 j) = x6 (ix3 0 0 j)) (hv1 : ∀ j, v1 (ix3 0 0 j) = x6 (ix3 0 1 j)) (hv2 : ∀ j, v2 (ix3 0 0 j) = x6 (ix3 0 2 j))
  (xo : Vec Ideal S512x2048 .f32) (xa xb : Vec Ideal S256x2048 .f32)
  (hxa : ∀ (r : Fin 256) d, xa (ix2 r d) = xo (ix2 (half0 r) d)) (hxb : ∀ (r : Fin 256) d, xb (ix2 r d) = xo (ix2 (half1 r) d))
include hX ha3 hb3 ha4 hb4 hY hg0 hg1 hg2 hv0 hv1 hv2 hxa hxb

/-- The block of results after a point's two stores. -/
theorem step_canon (kp : EReal) (v : View sig .tc .vmem S528x1024 .f32) (T : List (View.Piece (Elt Ideal) S512x2048 .f32)) (r : Fin 512) (d : Fin 2048) :
    View.canon (Val := Elt Ideal) (s := S512x2048) (e := .f32)
      (⟨Rect.unit (s := S512x2048) ![256, 0] S256x2048.size inb_S512x2048_S256x2048_256_0,
         k0_pay1 (k0_pay28 (k0_pay22 g0 v0) (k0_pay23 g1 v1) (k0_pay24 g2 v2) (k0_pay25 x7 x8)
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![272, 0] S256x1024.size inb_S528x1024_S256x1024_272_0).toLoadRect)
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![271, 0] S256x1024.size inb_S528x1024_S256x1024_271_0).toLoadRect)
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![270, 0] S256x1024.size inb_S528x1024_S256x1024_270_0).toLoadRect)) xb x9⟩ ::
       ⟨Rect.unit (s := S512x2048) ![0, 0] S256x2048.size inb_S512x2048_S256x2048_0_0,
         k0_pay27 (k0_pay22 g0 v0) (k0_pay25 x7 x8) (k0_pay26 g1 v1 g2 v2
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![16, 0] S256x1024.size inb_S528x1024_S256x1024_16_0).toLoadRect)
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![15, 0] S256x1024.size inb_S528x1024_S256x1024_15_0).toLoadRect))
           (v.readCov (pcs5 kp (v.readCov (pcs4 X a3 b3 a4 b4) (Rect.unit (s := S528x1024) ![0, 0] S16x1024.size inb_S528x1024_S16x1024_0_0).toLoadRect) Y a3 b3 a4 b4 ++ pcs4 X a3 b3 a4 b4) (Rect.unit (s := S528x1024) ![14, 0] S256x1024.size inb_S528x1024_S256x1024_14_0).toLoadRect) xa x9⟩ :: T) (ix2 r d)
      = outNext kp xs x3 x4 x5 x6 x7 x8 x9 xo r d := by
  have hA : ∀ (r : Fin 16) (j : Fin 1024), v.readCov (pcs4 X a3 b3 a4 b4) (Rect.unit (s := S528x1024) ![0, 0] S16x1024.size inb_S528x1024_S16x1024_0_0).toLoadRect (ix2 r j) = upOf xs x3 x4 (ix2 ⟨r.val, by omega⟩ j) := by
    intro r j
    rw [View.readCov_eq_canon']
    refine (canon4 xs x3 x4 X a3 b3 a4 b4 hX ha3 hb3 ha4 hb4 _ (by show 0 + 1 * r.val < 272; omega)).trans (congrArg (upOf xs x3 x4) (funext fun q => Fin.ext ?_))
    match q with
    | ⟨0, _⟩ => show 0 + 1 * r.val = r.val; omega
    | ⟨1, _⟩ => show 0 + 1 * j.val = j.val; omega
  have hL := canon9 xs x3 x4 X Y a3 b3 a4 b4 hX hY ha3 hb3 ha4 hb4 kp _ hA
  generalize hLL : (pcs5 kp (v.readCov (pcs4 X a3 b3 a4 b4) (Rect.unit (s := S528x1024) ![0, 0] S16x1024.size inb_S528x1024_S16x1024_0_0).toLoadRect) Y a3 b3 a4 b4 ++ pcs4 X a3 b3 a4 b4) = L at hL ⊢
  show View.canon ([_, _] ++ T) _ = _
  refine View.canon_append_of_pieces (Val := Elt Ideal) (S := S512x2048) (e := .f32) (fun y => outNext kp xs x3 x4 x5 x6 x7 x8 x9 xo (y 0) (y 1)) _ _ ?_ (ix2 r d) ?_
  · intro p hp
    simp only [List.mem_cons, List.not_mem_nil, or_false] at hp
    rcases hp with rfl | rfl <;> intro x <;> rw [eq_ix2 (n0 := 256) (n1 := 2048) x]
    · have h0 : (x 0).val < 256 := (x 0).isLt
      have e0 : (Rect.unit (s := S512x2048) ![256, 0] S256x2048.size inb_S512x2048_S256x2048_256_0).emb (ix2 (x 0) (x 1)) 0 = (⟨256 + (x 0).val, by omega⟩ : Fin 512) := Fin.ext (by show 256 + 1 * (x 0).val = 256 + (x 0).val; omega)
      have e1 : (Rect.unit (s := S512x2048) ![256, 0] S256x2048.size inb_S512x2048_S256x2048_256_0).emb (ix2 (x 0) (x 1)) 1 = (x 1 : Fin 2048) := Fin.ext (by show 0 + 1 * (x 1).val = (x 1).val; omega)
      refine (pay1_apply _ _ _ _ _ _ _ _ _ _ _ _ _ _ _).trans (Eq.trans ?_ (congrArg₂ (outNext kp xs x3 x4 x5 x6 x7 x8 x9 xo) e0 e1).symm)
      unfold outNext
      refine congrArg₂ (· + ·) (hxb _ _) (Finset.sum_congr rfl fun j _ => ?_)
      have k0 : ∀ j, _ = _ := fun j => cov_at v L _ hL 272 inb_S528x1024_S256x1024_272_0 (x 0) j (by omega)
      have k1 : ∀ j, _ = _ := fun j => cov_at v L _ hL 271 inb_S528x1024_S256x1024_271_0 (x 0) j (by omega)
      have k2 : ∀ j, _ = _ := fun j => cov_at v L _ hL 270 inb_S528x1024_S256x1024_270_0 (x 0) j (by omega)
      have f0 : (⟨272 + (x 0).val, by omega⟩ : Fin 528) = ⟨16 + (256 + (x 0).val), by omega⟩ := Fin.ext (by show 272 + (x 0).val = 16 + (256 + (x 0).val); omega)
      have f1 : (⟨271 + (x 0).val, by omega⟩ : Fin 528) = ⟨15 + (256 + (x 0).val), by omega⟩ := Fin.ext (by show 271 + (x 0).val = 15 + (256 + (x 0).val); omega)
      have f2 : (⟨270 + (x 0).val, by omega⟩ : Fin 528) = ⟨14 + (256 + (x 0).val), by omega⟩ := Fin.ext (by show 270 + (x 0).val = 14 + (256 + (x 0).val); omega)
      rw [f0] at k0
      rw [f1] at k1
      rw [f2] at k2
      exact congrArg₂ (· * ·) (congrArg₂ act (tap_congr (hg0 j) (hg1 j) (hg2 j) rfl (k0 _) (k1 _) (k2 _)) (tap_congr (hv0 j) (hv1 j) (hv2 j) rfl (k0 _) (k1 _) (k2 _))) rfl
    · have h0 : (x 0).val < 256 := (x 0).isLt
      have e0 : (Rect.unit (s := S512x2048) ![0, 0] S256x2048.size inb_S512x2048_S256x2048_0_0).emb (ix2 (x 0) (x 1)) 0 = (⟨(x 0).val, by omega⟩ : Fin 512) := Fin.ext (by show 0 + 1 * (x 0).val = (x 0).val; omega)
      have e1 : (Rect.unit (s := S512x2048) ![0, 0] S256x2048.size inb_S512x2048_S256x2048_0_0).emb (ix2 (x 0) (x 1)) 1 = (x 1 : Fin 2048) := Fin.ext (by show 0 + 1 * (x 1).val = (x 1).val; omega)
      refine (pay27_apply _ _ _ _ _ _ _ _ _ _ _ _ _ _ _).trans (Eq.trans ?_ (congrArg₂ (outNext kp xs x3 x4 x5 x6 x7 x8 x9 xo) e0 e1).symm)
      unfold outNext
      refine congrArg₂ (· + ·) (hxa _ _) (Finset.sum_congr rfl fun j _ => ?_)
      have k0 : ∀ j, _ = _ := fun j => cov_at v L _ hL 16 inb_S528x1024_S256x1024_16_0 (x 0) j (by omega)
      have k1 : ∀ j, _ = _ := fun j => cov_at v L _ hL 15 inb_S528x1024_S256x1024_15_0 (x 0) j (by omega)
      have k2 : ∀ j, _ = _ := fun j => cov_at v L _ hL 14 inb_S528x1024_S256x1024_14_0 (x 0) j (by omega)
      exact congrArg₂ (· * ·) (congrArg₂ act (tap_congr (hg0 j) (hg1 j) (hg2 j) rfl (k0 _) (k1 _) (k2 _)) (tap_congr (hv0 j) (hv1 j) (hv2 j) rfl (k0 _) (k1 _) (k2 _))) rfl
  · by_cases h : r.val < 256
    · exact ⟨_, .tail _ (.head _), (mem_rect (M := 512) (N := 2048) (m := 256) (n := 2048) inb_S512x2048_S256x2048_0_0 _).mpr ⟨⟨Nat.zero_le _, by show r.val < 0 + 256; omega⟩, Nat.zero_le _, by show d.val < 0 + 2048; omega⟩⟩
    · exact ⟨_, .head _, (mem_rect (M := 512) (N := 2048) (m := 256) (n := 2048) inb_S512x2048_S256x2048_256_0 _).mpr ⟨⟨by show 256 ≤ r.val; omega, by show r.val < 256 + 256; omega⟩, Nat.zero_le _, by show d.val < 0 + 2048; omega⟩⟩
end

end Cert.FfnMidV

end
-- ==== Proof.FfnMidCase.lean ====
module

public import proofs.«01_k».proof.Proof.FfnMidUp
public import proofs.«01_k».proof.Proof.Gen.FfnMidIdeal.Value

@[expose] public section

set_option maxRecDepth 16384
set_option maxHeartbeats 1000000

noncomputable section

namespace Cert.FfnMidV
open Idealize.ShloMosaic Idealize.ShloMosaic.TcCoe Idealize.ShloMosaic.Tactic Idealize.SL.Sem
open Cert.FfnMidIdeal Cert.FfnMidIdeal.Gen Cert.FfnV

/-! ## What each kind of grid point leaves -/

/-! ## The block of normalized rows -/

/-- The scratch of normalized rows after its stores. -/
theorem xn_canon (x0 : Vec Ideal S512x2048 .f32) (x1 : Vec Ideal S16x2048 .f32) (x2 : Vec Ideal S1x2048 .f32) (y : S528x2048.Idx) :
    View.canon (Val := Elt Ideal) (s := S528x2048) (e := .bf16)
      [⟨Rect.unit (s := S528x2048) ![400, 0] ![128, 2048] inb_S528x2048_S128x2048_400_0, k0_pay9 (k0_pay3 x2) (View.ld (S := S512x2048) x0 (Rect.unit (s := S512x2048) ![384, 0] ![128, 2048] inb_S512x2048_S128x2048_384_0))
         (k0_pay7 (View.ld (S := S512x2048) x0 (Rect.unit (s := S512x2048) ![384, 0] ![128, 2048] inb_S512x2048_S128x2048_384_0))) (k0_pay8 (F := Ideal))⟩,
       ⟨Rect.unit (s := S528x2048) ![272, 0] ![128, 2048] inb_S528x2048_S128x2048_272_0, k0_pay6 (k0_pay3 x2) (View.ld (S := S512x2048) x0 (Rect.unit (s := S512x2048) ![256, 0] ![128, 2048] inb_S512x2048_S128x2048_256_0))⟩,
       ⟨Rect.unit (s := S528x2048) ![144, 0] ![128, 2048] inb_S528x2048_S128x2048_144_0, k0_pay5 (k0_pay3 x2) (View.ld (S := S512x2048) x0 (Rect.unit (s := S512x2048) ![128, 0] ![128, 2048] inb_S512x2048_S128x2048_128_0))⟩,
       ⟨Rect.unit (s := S528x2048) ![16, 0] ![128, 2048] inb_S528x2048_S128x2048_16_0, k0_pay4 x2 (View.ld (S := S512x2048) x0 (Rect.unit (s := S512x2048) ![0, 0] ![128, 2048] inb_S512x2048_S128x2048_0_0))⟩,
       ⟨Rect.unit (s := S528x2048) ![0, 0] ![16, 2048] inb_S528x2048_S16x2048_0_0, k0_pay2 x2 x1⟩] y = xnOf x0 x1 x2 y := by
  have hy0 : (y 0).val < 528 := (y 0).isLt
  have hy1 : (y 1).val < 2048 := (y 1).isLt
  refine View.canon_apply_of_pieces (Val := Elt Ideal) (S := S528x2048) (e := .bf16) (xnOf x0 x1 x2) _ ?_ y ?_
  · intro p hp
    simp only [List.mem_cons, List.not_mem_nil, or_false] at hp
    rcases hp with rfl | rfl | rfl | rfl | rfl <;> intro x
    · rw [eq_ix2 (n0 := 128) (n1 := 2048) x]
      have h0 : (x 0).val < 128 := (x 0).isLt
      exact (pay9_apply _ _ _ _).trans (xnOf_body (r := ⟨384 + (x 0).val, by omega⟩) (fun e => rows_at x0 inb_S512x2048_S128x2048_384_0 (x 0) e _ rfl) (by show 400 + 1 * (x 0).val = 16 + (384 + (x 0).val); omega) (by show 0 + 1 * (x 1).val = (x 1).val; omega))
    · rw [eq_ix2 (n0 := 128) (n1 := 2048) x]
      have h0 : (x 0).val < 128 := (x 0).isLt
      exact (pay6_apply _ _ _ _).trans (xnOf_body (r := ⟨256 + (x 0).val, by omega⟩) (fun e => rows_at x0 inb_S512x2048_S128x2048_256_0 (x 0) e _ rfl) (by show 272 + 1 * (x 0).val = 16 + (256 + (x 0).val); omega) (by show 0 + 1 * (x 1).val = (x 1).val; omega))
    · rw [eq_ix2 (n0 := 128) (n1 := 2048) x]
      have h0 : (x 0).val < 128 := (x 0).isLt
      exact (pay5_apply _ _ _ _).trans (xnOf_body (r := ⟨128 + (x 0).val, by omega⟩) (fun e => rows_at x0 inb_S512x2048_S128x2048_128_0 (x 0) e _ rfl) (by show 144 + 1 * (x 0).val = 16 + (128 + (x 0).val); omega) (by show 0 + 1 * (x 1).val = (x 1).val; omega))
    · rw [eq_ix2 (n0 := 128) (n1 := 2048) x]
      have h0 : (x 0).val < 128 := (x 0).isLt
      exact (pay4_apply _ _ _ _).trans (xnOf_body (r := ⟨(x 0).val, by omega⟩) (fun e => rows_at x0 inb_S512x2048_S128x2048_0_0 (x 0) e _ (Nat.zero_add _)) (by show 16 + 1 * (x 0).val = 16 + (x 0).val; omega) (by show 0 + 1 * (x 1).val = (x 1).val; omega))
    · rw [eq_ix2 (n0 := 16) (n1 := 2048) x]
      exact (pay2_apply _ _ _ _).trans (xnOf_halo (r := x 0) (fun _ => rfl) (by show 0 + 1 * (x 0).val = (x 0).val; omega) (by show 0 + 1 * (x 1).val = (x 1).val; omega))
  · rcases (by omega : 400 ≤ (y 0).val ∨ (272 ≤ (y 0).val ∧ (y 0).val < 400) ∨ (144 ≤ (y 0).val ∧ (y 0).val < 272) ∨ (16 ≤ (y 0).val ∧ (y 0).val < 144) ∨ (y 0).val < 16) with h | h | h | h | h
    · exact ⟨_, .head _, (mem_rect inb_S528x2048_S128x2048_400_0 y).mpr (by omega)⟩
    · exact ⟨_, .tail _ (.head _), (mem_rect inb_S528x2048_S128x2048_272_0 y).mpr (by omega)⟩
    · exact ⟨_, .tail _ (.tail _ (.head _)), (mem_rect inb_S528x2048_S128x2048_144_0 y).mpr (by omega)⟩
    · exact ⟨_, .tail _ (.tail _ (.tail _ (.head _))), (mem_rect inb_S528x2048_S128x2048_16_0 y).mpr (by omega)⟩
    · exact ⟨_, .tail _ (.tail _ (.tail _ (.tail _ (.head _)))), (mem_rect inb_S528x2048_S16x2048_0_0 y).mpr (by omega)⟩

/-- An entry of a load from the normalized rows. -/
theorem xn_at (v : View sig .tc .vmem S528x2048 .bf16) (L : List (View.Piece (Elt Ideal) S528x2048 .bf16)) (G : S528x2048.Idx → EReal) (hL : ∀ y, View.canon L y = G y) {m : ℕ}
    (a : ℕ) (w : ∀ q, (![a, 0] : Fin 2 → ℕ) q + (⟨2, ![m, 2048]⟩ : Shape).size q ≤ S528x2048.size q) (r : Fin m) (j : Fin 2048) (r' : Fin 528) (h : a + r.val = r'.val) :
    v.readCov L (Rect.unit (s := S528x2048) ![a, 0] (⟨2, ![m, 2048]⟩ : Shape).size w).toLoadRect (ix2 r j) = G (ix2 r' j) := by
  rw [View.readCov_eq_canon']
  refine (hL _).trans (congrArg G (funext fun q => Fin.ext ?_))
  match q with
  | ⟨0, _⟩ => exact (congrArg (a + ·) (Nat.one_mul _)).trans h
  | ⟨1, _⟩ => exact (Nat.zero_add _).trans (Nat.one_mul _)

/-- The first half of the rows, before any result is stored. -/
theorem first_at (v : View sig .tc .vmem S512x2048 .f32) (x0 : Vec Ideal S512x2048 .f32) (r : Fin 256) (d : Fin 2048) :
    v.readCov (Val := Elt Ideal) [⟨Rect.unit (s := S512x2048) ![0, 0] ![512, 2048] inb_S512x2048_S512x2048_0_0, x0⟩] (Rect.unit (s := S512x2048) ![0, 0] ![256, 2048] inb_S512x2048_S256x2048_0_0).toLoadRect (ix2 r d) = x0 (ix2 (half0 r) d) := by
  rw [View.readCov_eq_canon']
  refine (whole_canon x0 _).trans (congrArg x0 (funext fun q => Fin.ext ?_))
  match q with
  | ⟨0, _⟩ => exact (Nat.zero_add _).trans (Nat.one_mul _)
  | ⟨1, _⟩ => exact (Nat.zero_add _).trans (Nat.one_mul _)

/-- The second half, after the first half's result is stored. -/
theorem second_at (v : View sig .tc .vmem S512x2048 .f32) (x0 : Vec Ideal S512x2048 .f32) (z : Vec Ideal S256x2048 .f32) (r : Fin 256) (d : Fin 2048) :
    v.readCov (Val := Elt Ideal) [⟨Rect.unit (s := S512x2048) ![0, 0] ![256, 2048] inb_S512x2048_S256x2048_0_0, z⟩, ⟨Rect.unit (s := S512x2048) ![0, 0] ![512, 2048] inb_S512x2048_S512x2048_0_0, x0⟩]
      (Rect.unit (s := S512x2048) ![256, 0] ![256, 2048] inb_S512x2048_S256x2048_256_0).toLoadRect (ix2 r d) = x0 (ix2 (half1 r) d) := by
  rw [View.readCov_eq_canon']
  refine (canon_skip _ _ ?_).trans ((whole_canon x0 _).trans (congrArg x0 (funext fun q => Fin.ext ?_)))
  · intro h
    have h2 : 256 + 1 * r.val < 0 + 256 := ((mem_rect (M := 512) (N := 2048) inb_S512x2048_S256x2048_0_0 _).mp h).1.2
    omega
  · match q with
    | ⟨0, _⟩ => exact congrArg (256 + ·) (Nat.one_mul _)
    | ⟨1, _⟩ => exact (Nat.zero_add _).trans (Nat.one_mul _)

section
variable (c : Dev nD) (i : grid0.Coords) (arg2 : Memref sig .tc .vmem S512x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S1x1x1x2048x512 .bf16) (harg5 : arg5.IsWhole) (arg6 : Memref sig .tc .vmem S1x1x1x2048x512 .bf16) (harg6 : arg6.IsWhole) (arg7 : Memref sig .tc .vmem S1x3x512 .f32) (harg7 : arg7.IsWhole) (arg8 : Memref sig .tc .vmem S1x3x512 .f32) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S1x512x2048 .bf16) (harg11 : arg11.IsWhole) (arg12 : Memref sig .tc .vmem S1x2048 .f32) (harg12 : arg12.IsWhole) (arg13 : Memref sig .tc .vmem S512x2048 .f32) (harg13 : arg13.IsWhole) (arg14 : Memref sig .tc .vmem S528x2048 .bf16) (harg14 : arg14.IsWhole) (arg15 : Memref sig .tc .vmem S528x1024 .f32) (harg15 : arg15.IsWhole)
  (x0 : Vec Ideal S512x2048 .f32) (x1 : Vec Ideal S16x2048 .f32) (x2 : Vec Ideal S1x2048 .f32) (x3 : Vec Ideal S1x1x1x2048x512 .bf16) (x4 : Vec Ideal S1x1x1x2048x512 .bf16) (x5 : Vec Ideal S1x3x512 .f32) (x6 : Vec Ideal S1x3x512 .f32) (x7 : Vec Ideal S1x1x512 .f32) (x8 : Vec Ideal S1x1x512 .f32) (x9 : Vec Ideal S1x512x2048 .bf16) (x10 : Vec Ideal S1x2048 .f32) (xo11 : Vec Ideal S512x2048 .f32) (xs0 : Vec Ideal S528x2048 .bf16)

/-- The normalized rows at the first point of a block's sweep. -/
theorem sout_first (hc0 : cond0_0 i) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = xnOf x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, load_row, load_down, load_rows, load_halo, load_gain]
  exact funext fun y => xn_canon x0 x1 x2 y

/-- The first point of a block's sweep. -/
theorem out_first (hc0 : cond0_0 i) (r : Fin 512) (d : Fin 2048) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 (ix2 r d)
    = outNext (k0_pay10 (F := Ideal) i) (xnOf x0 x1 x2) x3 x4 x5 x6 x7 x8 x9 x0 r d := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, load_row, load_down, load_rows, load_halo, load_gain]
  refine step_canon (xnOf x0 x1 x2) x3 x4 _ _ _ _ _ _ ?_ ?_ ?_ ?_ ?_ ?_ x5 x6 _ _ _ _ _ _ _ _ _ ?_ ?_ ?_ ?_ ?_ ?_ x0 _ _ ?_ ?_ _ _ [⟨Rect.unit (s := S512x2048) ![0, 0] ![512, 2048] inb_S512x2048_S512x2048_0_0, x0⟩] r d
  · exact fun r l => xn_at arg14.view _ _ (xn_canon x0 x1 x2) _ _ r l _ (Nat.zero_add _)
  · exact fun r l => xn_at arg14.view _ _ (xn_canon x0 x1 x2) _ _ r l _ rfl
  · exact fun l j => cols_at x3 _ l j _ (Nat.zero_add _)
  · exact fun l j => cols_at x3 _ l j _ rfl
  · exact fun l j => cols_at x4 _ l j _ (Nat.zero_add _)
  · exact fun l j => cols_at x4 _ l j _ rfl
  · exact fun j => taps_at x5 _ j 0 rfl
  · exact fun j => taps_at x5 _ j 1 rfl
  · exact fun j => taps_at x5 _ j 2 rfl
  · exact fun j => taps_at x6 _ j 0 rfl
  · exact fun j => taps_at x6 _ j 1 rfl
  · exact fun j => taps_at x6 _ j 2 rfl
  · exact fun r d => first_at arg13.view x0 r d
  · exact fun r d => second_at arg13.view x0 _ r d

/-- A point in the middle of a block's sweep. -/
theorem out_mid (hc0 : ¬cond0_0 i) (r : Fin 512) (d : Fin 2048) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo11 xs0 (ix2 r d)
    = outNext (k0_pay10 (F := Ideal) i) xs0 x3 x4 x5 x6 x7 x8 x9 xo11 r d := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xo11 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, load_row, load_down, load_rows, load_halo, load_gain]
  refine step_canon xs0 x3 x4 _ _ _ _ _ _ ?_ ?_ ?_ ?_ ?_ ?_ x5 x6 _ _ _ _ _ _ _ _ _ ?_ ?_ ?_ ?_ ?_ ?_ xo11 _ _ ?_ ?_ _ _ [] r d
  · exact fun r l => rows_at xs0 _ r l _ (Nat.zero_add _)
  · exact fun r l => rows_at xs0 _ r l _ rfl
  · exact fun l j => cols_at x3 _ l j _ (Nat.zero_add _)
  · exact fun l j => cols_at x3 _ l j _ rfl
  · exact fun l j => cols_at x4 _ l j _ (Nat.zero_add _)
  · exact fun l j => cols_at x4 _ l j _ rfl
  · exact fun j => taps_at x5 _ j 0 rfl
  · exact fun j => taps_at x5 _ j 1 rfl
  · exact fun j => taps_at x5 _ j 2 rfl
  · exact fun j => taps_at x6 _ j 0 rfl
  · exact fun j => taps_at x6 _ j 1 rfl
  · exact fun j => taps_at x6 _ j 2 rfl
  · exact fun r d => rows_at xo11 _ r d _ (Nat.zero_add _)
  · exact fun r d => rows_at xo11 _ r d _ rfl

end

end Cert.FfnMidV

end
-- ==== Proof.FfnMidHost.lean ====
module

public import proofs.«01_k».proof.Proof.FfnMidCase
public import Idealize.ShloMosaic.Lib.Tactic.CleanTypes
public import Idealize.ShloMosaic.Lib.StableHlo.RunRead
public import Idealize.ShloMosaic.Lib.StableHlo.ReadAt

@[expose] public section

set_option maxRecDepth 16384
set_option maxHeartbeats 1000000

noncomputable section

namespace Cert.FfnMidV
open Idealize.ShloMosaic Idealize.ShloMosaic.TcCoe Idealize.ShloMosaic.Tactic Idealize.SL.Sem
open Cert.FfnMidIdeal Cert.FfnMidIdeal.Gen Cert.FfnV

/-! ## What the host pads -/

theorem pad_cw (x : Vec Ideal S4x3x11008 .f32) (i : Fin 3) (q : Fin 11264) (p : Fin 2) (f : Fin 5632) (h : q.val = 5632 * p.val + f.val) :
    shapeCast S4x3x11264 (pad S4x3x2x5632 ![0, 0, 0, 0] ![0, 0, 0, 128] ![0, 0, 0, 0] (fun i => shapeCast S4x3x2x5504 x shapeCasts_S4x3x11008_S4x3x2x5504 i)
        (sitofp (F := Ideal) FTy.f32 (constantI S_ 32 0#32)) pads_S4x3x2x5504_S4x3x2x5632_000_000_000_01280 h_S_) shapeCasts_S4x3x2x5632_S4x3x11264 (ix3 (1 : Fin 4) i q) = halfOf p (fun f => x (ix3 (1 : Fin 4) i f)) f := by
  pointwise
  by_cases hf : f.val < 5504
  · have e : ∀ w, (⟨q.val / 5632 * 5504 + q.val % 5632, w⟩ : Fin 11008) = ⟨5504 * p.val + f.val, by omega⟩ := fun w => by rw [Fin.mk.injEq]; omega
    refine Eq.trans (dif_pos ⟨by omega, by omega⟩) (Eq.trans ?_ (halfOf_pos p _ f hf).symm)
    rw [e]
  · refine Eq.trans ?_ (halfOf_neg p _ f hf).symm
    refine Eq.trans (dif_neg ?_) zero_int
    intro h'
    omega

theorem pad_cb (x : Vec Ideal S4x11008 .f32) (q : Fin 11264) (p : Fin 2) (f : Fin 5632) (h : q.val = 5632 * p.val + f.val) :
    broadcastInDim S4x1x11264 ![0, 2] bcast_S4x11264_S4x1x11264_0_2 (shapeCast S4x11264 (pad S4x2x5632 ![0, 0, 0] ![0, 0, 128] ![0, 0, 0] (fun i => shapeCast S4x2x5504 x shapeCasts_S4x11008_S4x2x5504 i)
        (sitofp (F := Ideal) FTy.f32 (constantI S_ 32 0#32)) pads_S4x2x5504_S4x2x5632_000_000_01280 h_S_) shapeCasts_S4x2x5632_S4x11264) (ix3 (1 : Fin 4) 0 q) = halfOf p (fun f => x (ix2 (1 : Fin 4) f)) f := by
  pointwise
  by_cases hf : f.val < 5504
  · have e : ∀ w, (⟨q.val / 5632 * 5504 + q.val % 5632, w⟩ : Fin 11008) = ⟨5504 * p.val + f.val, by omega⟩ := fun w => by rw [Fin.mk.injEq]; omega
    refine Eq.trans (dif_pos ⟨by omega, by omega⟩) (Eq.trans ?_ (halfOf_pos p _ f hf).symm)
    rw [e]
  · refine Eq.trans ?_ (halfOf_neg p _ f hf).symm
    refine Eq.trans (dif_neg ?_) zero_int
    intro h'
    omega

theorem pad_wdn (x : Vec Ideal S4x5504x2048 .f32) (f : Fin 5632) (d : Fin 2048) :
    truncf (F := Ideal) .bf16 (pad S4x5632x2048 ![0, 0, 0] ![0, 128, 0] ![0, 0, 0] x (sitofp (F := Ideal) FTy.f32 (constantI S_ 32 0#32)) pads_S4x5504x2048_S4x5632x2048_000_01280_000 h_S_) bitsLt_bf16_f32 (ix3 (1 : Fin 4) f d)
      = if h : f.val < 5504 then x (ix3 (1 : Fin 4) ⟨f.val, h⟩ d) else (0 : EReal) := by
  pointwise
  by_cases hf : f.val < 5504
  · rw [dif_pos hf, dif_pos hf]
  · rw [dif_neg hf, dif_neg hf]
    exact zero_int

/-! ## The blocks of a grid point, from the arrays the program is given -/

section
variable (m : (ℓ : Loc nD τ sig) → Buf (Elt Ideal) ℓ) (c : Dev nD)

theorem idx_0 : ∀ t : Fin cfg0.N, win0_0.index t (0 : Fin 2) = t.val / 11 ∧ win0_0.index t (1 : Fin 2) = 0 := by decide +kernel
theorem idx_1 : ∀ t : Fin cfg0.N, win0_1.index t (0 : Fin 2) = 32 * (t.val / 11) - 1 ∧ win0_1.index t (1 : Fin 2) = 0 := by decide +kernel
theorem idx_2 : ∀ t : Fin cfg0.N, win0_2.index t (0 : Fin 2) = 0 ∧ win0_2.index t (1 : Fin 2) = 0 := by decide +kernel
theorem idx_3 : ∀ t : Fin cfg0.N, win0_3.index t (0 : Fin 5) = 1 ∧ win0_3.index t (1 : Fin 5) = t.val % 11 ∧ win0_3.index t (2 : Fin 5) = 0 ∧ win0_3.index t (3 : Fin 5) = 0 ∧ win0_3.index t (4 : Fin 5) = 0 := by decide +kernel
theorem idx_4 : ∀ t : Fin cfg0.N, win0_4.index t (0 : Fin 5) = 1 ∧ win0_4.index t (1 : Fin 5) = t.val % 11 ∧ win0_4.index t (2 : Fin 5) = 1 ∧ win0_4.index t (3 : Fin 5) = 0 ∧ win0_4.index t (4 : Fin 5) = 0 := by decide +kernel
theorem idx_5 : ∀ t : Fin cfg0.N, win0_5.index t (0 : Fin 3) = 1 ∧ win0_5.index t (1 : Fin 3) = 0 ∧ win0_5.index t (2 : Fin 3) = t.val % 11 := by decide +kernel
theorem idx_6 : ∀ t : Fin cfg0.N, win0_6.index t (0 : Fin 3) = 1 ∧ win0_6.index t (1 : Fin 3) = 0 ∧ win0_6.index t (2 : Fin 3) = 11 + t.val % 11 := by decide +kernel
theorem idx_7 : ∀ t : Fin cfg0.N, win0_7.index t (0 : Fin 3) = 1 ∧ win0_7.index t (1 : Fin 3) = 0 ∧ win0_7.index t (2 : Fin 3) = t.val % 11 := by decide +kernel
theorem idx_8 : ∀ t : Fin cfg0.N, win0_8.index t (0 : Fin 3) = 1 ∧ win0_8.index t (1 : Fin 3) = 0 ∧ win0_8.index t (2 : Fin 3) = 11 + t.val % 11 := by decide +kernel
theorem idx_9 : ∀ t : Fin cfg0.N, win0_9.index t (0 : Fin 3) = 1 ∧ win0_9.index t (1 : Fin 3) = t.val % 11 ∧ win0_9.index t (2 : Fin 3) = 0 := by decide +kernel

theorem point_lt (t : Fin cfg0.N) : t.val < 704 := lt_of_lt_of_eq t.isLt N_0

/-- A row of a grid point's block in the whole array. -/
def gridRow (t : Fin cfg0.N) (r : Fin 512) : Fin 32768 := ⟨512 * (t.val / 11) + r.val, by have := point_lt t; omega⟩

/-- A row of a grid point's halo in the whole array. -/
def haloRow (t : Fin cfg0.N) (r : Fin 16) : Fin 32768 := ⟨16 * (32 * (t.val / 11) - 1) + r.val, by have := point_lt t; omega⟩

/-- The block of the columns a grid point works on. -/
def colBlock (t : Fin cfg0.N) : Fin 11 := ⟨t.val % 11, Nat.mod_lt _ (by decide)⟩

/-- A gate column of a grid point, among the padded columns of both halves. -/
def gateCol (t : Fin cfg0.N) (j : Fin 512) : Fin 11264 := ⟨512 * (t.val % 11) + j.val, by omega⟩
/-- A value column. -/
def valCol (t : Fin cfg0.N) (j : Fin 512) : Fin 11264 := ⟨5632 + (512 * (t.val % 11) + j.val), by omega⟩
/-- A column among the padded columns of one half. -/
def ffCol (t : Fin cfg0.N) (j : Fin 512) : Fin 5632 := ⟨512 * (t.val % 11) + j.val, by omega⟩

/-- The rows of a grid point. -/
theorem blk_x (t : Fin cfg0.N) (r : Fin 512) (d : Fin 2048) : (iblk m c 0 t : Vec Ideal S512x2048 .f32) (ix2 r d) = m ((c : Thread nD τ).loc main_arg0) (ix2 (gridRow t r) d) := by
  have h := idx_0 t
  unfold iblk
  blk_ext [V, gridRow, h.1, h.2]

/-- The rows before them. -/
theorem blk_halo (t : Fin cfg0.N) (r : Fin 16) (d : Fin 2048) : (iblk m c 1 t : Vec Ideal S16x2048 .f32) (ix2 r d) = m ((c : Thread nD τ).loc main_arg0) (ix2 (haloRow t r) d) := by
  have h := idx_1 t
  unfold iblk
  blk_ext [V, haloRow, h.1, h.2]

/-- The gate's columns of the up projection. -/
theorem blk_wg (t : Fin cfg0.N) (l : Fin 2048) (j : Fin 512) : (iblk m c 3 t : Vec Ideal S1x1x1x2048x512 .bf16) (ix5 0 0 0 l j) = m ((c : Thread nD τ).loc main_arg2) (ix5 (1 : Fin 4) (colBlock t) (0 : Fin 2) l j) := by
  obtain ⟨h0, h1, h2, h3, h4⟩ := idx_3 t
  unfold iblk
  blk_ext [V, colBlock, h0, h1, h2, h3, h4]

/-- The value's columns. -/
theorem blk_wv (t : Fin cfg0.N) (l : Fin 2048) (j : Fin 512) : (iblk m c 4 t : Vec Ideal S1x1x1x2048x512 .bf16) (ix5 0 0 0 l j) = m ((c : Thread nD τ).loc main_arg2) (ix5 (1 : Fin 4) (colBlock t) (1 : Fin 2) l j) := by
  obtain ⟨h0, h1, h2, h3, h4⟩ := idx_4 t
  unfold iblk
  blk_ext [V, colBlock, h0, h1, h2, h3, h4]

/-- The norm's gains. -/
theorem blk_gain (t : Fin cfg0.N) (d : Fin 2048) : (iblk m c 2 t : Vec Ideal S1x2048 .f32) (ix2 0 d) = m ((c : Thread nD τ).loc main_arg1) (ix1 d) := by
  have h := idx_2 t
  unfold iblk
  entry_read
  have e : ((cfg0.win 2).blk t).view.emb (ix2 0 d) = (ix2 0 d : S1x2048.Idx) := by blk_ext [h.1, h.2]
  refine (congrArg (shapeCast S1x2048 (m ((c : Thread nD τ).loc main_arg1) : Vec Ideal S2048 .f32) shapeCasts_S2048_S1x2048) e).trans ?_
  pointwise

/-- The gate's taps. -/
theorem blk_cg (t : Fin cfg0.N) (i : Fin 3) (j : Fin 512) : (iblk m c 5 t : Vec Ideal S1x3x512 .f32) (ix3 0 i j) = halfOf 0 (fun f => (m ((c : Thread nD τ).loc main_arg3) : Vec Ideal S4x3x11008 .f32) (ix3 (1 : Fin 4) i f)) (ffCol t j) := by
  obtain ⟨h0, h1, h2⟩ := idx_5 t
  have e : ((cfg0.win 5).blk t).view.emb (ix3 0 i j) = (ix3 (1 : Fin 4) i (gateCol t j) : S4x3x11264.Idx) := by blk_ext [gateCol, valCol, h0, h1, h2]
  have key : ∀ A : Vec Ideal S4x3x11264 .f32, ((cfg0.win 5).blk t).view.read (Elt Ideal) A (ix3 0 i j) = A (ix3 (1 : Fin 4) i (gateCol t j)) := fun A => congrArg A e
  refine (key _).trans ?_
  simp only [V, hostOps0, hostOps0_1, hostOps0_2, hostOps0_3, hostOps0_4, hostOps0_5, hostOps0_6, List.flatten_cons, List.flatten_nil, List.cons_append, List.nil_append, List.append_nil]
  after_reads_simp
  simp -implicitDefEqProofs only [StableHlo.TRef.toBuf, StableHlo.TRef.ofBuf, cast_cast, cast_eq]
  exact pad_cw _ i _ 0 (ffCol t j) (by unfold gateCol; dsimp only [ffCol]; try omega)

/-- The value's taps. -/
theorem blk_cv (t : Fin cfg0.N) (i : Fin 3) (j : Fin 512) : (iblk m c 6 t : Vec Ideal S1x3x512 .f32) (ix3 0 i j) = halfOf 1 (fun f => (m ((c : Thread nD τ).loc main_arg3) : Vec Ideal S4x3x11008 .f32) (ix3 (1 : Fin 4) i f)) (ffCol t j) := by
  obtain ⟨h0, h1, h2⟩ := idx_6 t
  have e : ((cfg0.win 6).blk t).view.emb (ix3 0 i j) = (ix3 (1 : Fin 4) i (valCol t j) : S4x3x11264.Idx) := by blk_ext [gateCol, valCol, h0, h1, h2]
  have key : ∀ A : Vec Ideal S4x3x11264 .f32, ((cfg0.win 6).blk t).view.read (Elt Ideal) A (ix3 0 i j) = A (ix3 (1 : Fin 4) i (valCol t j)) := fun A => congrArg A e
  refine (key _).trans ?_
  simp only [V, hostOps0, hostOps0_1, hostOps0_2, hostOps0_3, hostOps0_4, hostOps0_5, hostOps0_6, List.flatten_cons, List.flatten_nil, List.cons_append, List.nil_append, List.append_nil]
  after_reads_simp
  simp -implicitDefEqProofs only [StableHlo.TRef.toBuf, StableHlo.TRef.ofBuf, cast_cast, cast_eq]
  exact pad_cw _ i _ 1 (ffCol t j) (by unfold valCol; dsimp only [ffCol]; try omega)

/-- The gate's bias. -/
theorem blk_bg (t : Fin cfg0.N) (j : Fin 512) : (iblk m c 7 t : Vec Ideal S1x1x512 .f32) (ix3 0 0 j) = halfOf 0 (fun f => (m ((c : Thread nD τ).loc main_arg4) : Vec Ideal S4x11008 .f32) (ix2 (1 : Fin 4) f)) (ffCol t j) := by
  obtain ⟨h0, h1, h2⟩ := idx_7 t
  have e : ((cfg0.win 7).blk t).view.emb (ix3 0 0 j) = (ix3 (1 : Fin 4) 0 (gateCol t j) : S4x1x11264.Idx) := by blk_ext [gateCol, h0, h1, h2]
  have key : ∀ A : Vec Ideal S4x1x11264 .f32, ((cfg0.win 7).blk t).view.read (Elt Ideal) A (ix3 0 0 j) = A (ix3 (1 : Fin 4) 0 (gateCol t j)) := fun A => congrArg A e
  refine (key _).trans ?_
  simp only [V, hostOps0, hostOps0_1, hostOps0_2, hostOps0_3, hostOps0_4, hostOps0_5, hostOps0_6, List.flatten_cons, List.flatten_nil, List.cons_append, List.nil_append, List.append_nil]
  after_reads_simp
  simp -implicitDefEqProofs only [StableHlo.TRef.toBuf, StableHlo.TRef.ofBuf, cast_cast, cast_eq]
  exact pad_cb _ _ 0 (ffCol t j) (by unfold gateCol; dsimp only [ffCol]; try omega)

/-- The value's bias. -/
theorem blk_bv (t : Fin cfg0.N) (j : Fin 512) : (iblk m c 8 t : Vec Ideal S1x1x512 .f32) (ix3 0 0 j) = halfOf 1 (fun f => (m ((c : Thread nD τ).loc main_arg4) : Vec Ideal S4x11008 .f32) (ix2 (1 : Fin 4) f)) (ffCol t j) := by
  obtain ⟨h0, h1, h2⟩ := idx_8 t
  have e : ((cfg0.win 8).blk t).view.emb (ix3 0 0 j) = (ix3 (1 : Fin 4) 0 (valCol t j) : S4x1x11264.Idx) := by blk_ext [valCol, h0, h1, h2]
  have key : ∀ A : Vec Ideal S4x1x11264 .f32, ((cfg0.win 8).blk t).view.read (Elt Ideal) A (ix3 0 0 j) = A (ix3 (1 : Fin 4) 0 (valCol t j)) := fun A => congrArg A e
  refine (key _).trans ?_
  simp only [V, hostOps0, hostOps0_1, hostOps0_2, hostOps0_3, hostOps0_4, hostOps0_5, hostOps0_6, List.flatten_cons, List.flatten_nil, List.cons_append, List.nil_append, List.append_nil]
  after_reads_simp
  simp -implicitDefEqProofs only [StableHlo.TRef.toBuf, StableHlo.TRef.ofBuf, cast_cast, cast_eq]
  exact pad_cb _ _ 1 (ffCol t j) (by unfold valCol; dsimp only [ffCol]; try omega)

/-- The down projection's rows. -/
theorem blk_wdn (t : Fin cfg0.N) (j : Fin 512) (d : Fin 2048) : (iblk m c 9 t : Vec Ideal S1x512x2048 .bf16) (ix3 0 j d)
    = if h : (ffCol t j).val < 5504 then (m ((c : Thread nD τ).loc main_arg5) : Vec Ideal S4x5504x2048 .f32) (ix3 (1 : Fin 4) ⟨(ffCol t j).val, h⟩ d) else (0 : EReal) := by
  obtain ⟨h0, h1, h2⟩ := idx_9 t
  have e : ((cfg0.win 9).blk t).view.emb (ix3 0 j d) = (ix3 (1 : Fin 4) (ffCol t j) d : S4x5632x2048.Idx) := by blk_ext [ffCol, h0, h1, h2]
  have key : ∀ A : Vec Ideal S4x5632x2048 .bf16, ((cfg0.win 9).blk t).view.read (Elt Ideal) A (ix3 0 j d) = A (ix3 (1 : Fin 4) (ffCol t j) d) := fun A => congrArg A e
  refine (key _).trans ?_
  simp only [V, hostOps0, hostOps0_1, hostOps0_2, hostOps0_3, hostOps0_4, hostOps0_5, hostOps0_6, List.flatten_cons, List.flatten_nil, List.cons_append, List.nil_append, List.append_nil]
  after_reads_simp
  simp -implicitDefEqProofs only [StableHlo.TRef.toBuf, StableHlo.TRef.ofBuf, cast_cast, cast_eq]
  exact pad_wdn _ (ffCol t j) d
end

end Cert.FfnMidV

end
-- ==== Proof.FfnMidGrid.lean ====
module

public import proofs.«01_k».proof.Proof.FfnMidHost

@[expose] public section

set_option maxRecDepth 16384
set_option maxHeartbeats 1000000

noncomputable section

namespace Cert.FfnMidV
open Idealize.ShloMosaic Idealize.ShloMosaic.TcCoe Idealize.ShloMosaic.Tactic Idealize.SL.Sem
open Cert.FfnMidIdeal Cert.FfnMidIdeal.Gen Cert.FfnV
/-! ## The kernel's blocks are the layer's inputs -/

section
variable (m : (ℓ : Loc nD τ sig) → Buf (Elt Ideal) ℓ) (c : Dev nD)

/-- The rows. -/
def aX (r : Fin 32768) (d : Fin 2048) : EReal := (m ((c : Thread nD τ).loc main_arg0) : Vec Ideal S32768x2048 .f32) (ix2 r d)
/-- The gain before. -/
def aG (d : Fin 2048) : EReal := (m ((c : Thread nD τ).loc main_arg1) : Vec Ideal S2048 .f32) (ix1 d)
/-- The up-projection's weights. -/
def aW (k : Fin 11) (p : Fin 2) (l : Fin 2048) (j : Fin 512) : EReal := (m ((c : Thread nD τ).loc main_arg2) : Vec Ideal S4x11x2x2048x512 .bf16) (ix5 (1 : Fin 4) k p l j)
/-- The convolution's weights. -/
def aCW (i : Fin 3) (f : Fin 11008) : EReal := (m ((c : Thread nD τ).loc main_arg3) : Vec Ideal S4x3x11008 .f32) (ix3 (1 : Fin 4) i f)
/-- The convolution's bias. -/
def aCB (f : Fin 11008) : EReal := (m ((c : Thread nD τ).loc main_arg4) : Vec Ideal S4x11008 .f32) (ix2 (1 : Fin 4) f)
/-- The down-projection's weights. -/
def aWD (f : Fin 5504) (d : Fin 2048) : EReal := (m ((c : Thread nD τ).loc main_arg5) : Vec Ideal S4x5504x2048 .f32) (ix3 (1 : Fin 4) f d)

/-- The row a line of the scratch belongs to. -/
def xsRow (b : ℕ) (y : Fin 528) : Fin 32768 := ⟨(if y.val < 16 then 16 * (32 * b - 1) + y.val else 512 * b + (y.val - 16)) % 32768, Nat.mod_lt _ (by decide)⟩

/-- The scratch of a block of rows. -/
def sXn (b : ℕ) : Vec Ideal S528x2048 .bf16 := fun y => nrm (aX m c (xsRow b (y 0))) (aG m c) (y 1)

/-- The result after some blocks of columns, of the kernel's arrays. -/
def kAcc (r : Fin 32768) (d : Fin 2048) (k : ℕ) : EReal := sAcc (aX m c) (aG m c) (aW m c) (aCW m c) (aCB m c) (aWD m c) r d k

/-- The scratch that the first point of a block of rows leaves. -/
theorem xn_eq (t : Fin cfg0.N) : xnOf (iblk m c 0 t) (iblk m c 1 t) (iblk m c 2 t) = sXn m c (t.val / 11) := by
  have ht := point_lt t
  funext y
  have hy : (y 0).val < 528 := (y 0).isLt
  have hg : (fun e => (iblk m c 2 t : Vec Ideal S1x2048 .f32) (ix2 0 e)) = aG m c := funext fun e => blk_gain m c t e
  by_cases h : (y 0).val < 16
  · refine (xnOf_halo (r := ⟨(y 0).val, h⟩) (d := y 1) (fun _ => rfl) rfl rfl).symm.trans ?_
    rw [hg]
    refine congrFun (congrArg (nrm · (aG m c)) (funext fun e => (blk_halo m c t _ e).trans ?_)) (y 1)
    refine congrArg (aX m c · e) (Fin.ext ?_)
    show 16 * (32 * (t.val / 11) - 1) + (y 0).val = (if (y 0).val < 16 then 16 * (32 * (t.val / 11) - 1) + (y 0).val else 512 * (t.val / 11) + ((y 0).val - 16)) % 32768
    rw [if_pos h]
    omega
  · refine (xnOf_body (r := ⟨(y 0).val - 16, by omega⟩) (d := y 1) (fun _ => rfl) (by show (y 0).val = 16 + ((y 0).val - 16); omega) rfl).symm.trans ?_
    rw [hg]
    refine congrFun (congrArg (nrm · (aG m c)) (funext fun e => (blk_x m c t _ e).trans ?_)) (y 1)
    refine congrArg (aX m c · e) (Fin.ext ?_)
    show 512 * (t.val / 11) + ((y 0).val - 16) = (if (y 0).val < 16 then 16 * (32 * (t.val / 11) - 1) + (y 0).val else 512 * (t.val / 11) + ((y 0).val - 16)) % 32768
    rw [if_neg h]
    omega

/-- The up-projection at a grid point, one half. -/
theorem up_at (t : Fin cfg0.N) (b : ℕ) (x : Vec Ideal S1x1x1x2048x512 .bf16) (p : Fin 2) (hx : ∀ l j, x (ix5 0 0 0 l j) = aW m c (colBlock t) p l j) (y : Fin 528) (j : Fin 512) :
    upG (sXn m c b) x y j = sUp (aX m c) (aG m c) (aW m c) (xsRow b y) p (ffCol t j) := by
  refine Finset.sum_congr rfl fun l _ => ?_
  show nrm (aX m c (xsRow b y)) (aG m c) l * x (ix5 0 0 0 l j) = _
  rw [hx]
  refine congrArg (nrm (aX m c (xsRow b y)) (aG m c) l * ·) (congr (congrFun (congrFun (congrArg (aW m c) (Fin.ext ?_)) p) l) (Fin.ext ?_))
  · show t.val % 11 = (512 * (t.val % 11) + j.val) / 512
    omega
  · show j.val = (512 * (t.val % 11) + j.val) % 512
    omega

/-- The gate half. -/
theorem up_lo (t : Fin cfg0.N) (b : ℕ) (y : Fin 528) (j : Fin 512) :
    upOf (sXn m c b) (iblk m c 3 t) (iblk m c 4 t) (ix2 y (lo j)) = sUp (aX m c) (aG m c) (aW m c) (xsRow b y) 0 (ffCol t j) :=
  (dif_pos (show (lo j).val < 512 from j.isLt)).trans (up_at m c t b _ 0 (fun l j => blk_wg m c t l j) y j)

/-- The value half. -/
theorem up_hi (t : Fin cfg0.N) (b : ℕ) (y : Fin 528) (j : Fin 512) :
    upOf (sXn m c b) (iblk m c 3 t) (iblk m c 4 t) (ix2 y (hi j)) = sUp (aX m c) (aG m c) (aW m c) (xsRow b y) 1 (ffCol t j) := by
  refine Eq.trans (dif_neg (show ¬(hi j).val < 512 by show ¬512 + j.val < 512; omega)) ((congrArg (upG _ _ _) (Fin.ext ?_)).trans (up_at m c t b _ 1 (fun l j => blk_wv m c t l j) y j))
  show 512 + j.val - 512 = j.val
  omega

/-- The first axis of a grid point. -/
theorem coord_0 : ∀ t : Fin cfg0.N, (grid0.coords t (0 : Fin 2)).val = t.val / 11 := by decide +kernel

/-- What the convolution sees of the up-projection, a row or two before as well. -/
theorem a_at (t : Fin cfg0.N) (q : Fin 1024) (p : Fin 2) (f : Fin 5632) (δ : ℕ) (hδ : δ ≤ 2) (r : Fin 512) (y : Fin 528) (hy : y.val + δ = 16 + r.val)
    (hu : ∀ y, upOf (sXn m c (t.val / 11)) (iblk m c 3 t) (iblk m c 4 t) (ix2 y q) = sUp (aX m c) (aG m c) (aW m c) (xsRow (t.val / 11) y) p f) :
    aOf (k0_pay10 (F := Ideal) (grid0.coords t)) (sXn m c (t.val / 11)) (iblk m c 3 t) (iblk m c 4 t) (ix2 y q) = sTap (aX m c) (aG m c) (aW m c) δ (gridRow t r) p f := by
  have ht := point_lt t
  have e1 : (gridRow t r).val = 512 * (t.val / 11) + r.val := rfl
  have e3 : ¬((gridRow t r).val % 4096 < δ) → xsRow (t.val / 11) y = ⟨(gridRow t r).val - δ, by omega⟩ := fun h => Fin.ext (by
    show (if y.val < 16 then 16 * (32 * (t.val / 11) - 1) + y.val else 512 * (t.val / 11) + (y.val - 16)) % 32768 = (gridRow t r).val - δ
    by_cases h2 : y.val < 16
    · rw [if_pos h2]; omega
    · rw [if_neg h2]; omega)
  by_cases h : y.val < 16
  · refine (aOf_halo (y := ix2 y q) h).trans ?_
    rw [hu, pay10_eq, coord_0]
    by_cases h0 : t.val / 11 % 8 = 0
    · rw [if_pos h0, mul_zero]
      exact (if_pos (by omega)).symm
    · rw [if_neg h0, mul_one, e3 (by omega)]
      exact (if_neg (by omega)).symm
  · refine (aOf_body (y := ix2 y q) h).trans ?_
    rw [hu, e3 (by omega)]
    exact (if_neg (by omega)).symm

/-- One grid point's step of the result. -/
theorem step_at (t : Fin cfg0.N) (xo : Vec Ideal S512x2048 .f32) (r : Fin 512) (d : Fin 2048) (hxo : xo (ix2 r d) = kAcc m c (gridRow t r) d (t.val % 11)) :
    outNext (k0_pay10 (F := Ideal) (grid0.coords t)) (sXn m c (t.val / 11)) (iblk m c 3 t) (iblk m c 4 t) (iblk m c 5 t) (iblk m c 6 t) (iblk m c 7 t) (iblk m c 8 t) (iblk m c 9 t) xo r d
      = kAcc m c (gridRow t r) d (t.val % 11 + 1) := by
  have ht := point_lt t
  unfold outNext
  rw [hxo]
  refine congrArg (kAcc m c (gridRow t r) d (t.val % 11) + ·) (Finset.sum_congr rfl fun j _ => ?_)
  have ec : sCol (t.val % 11) j = ffCol t j := Fin.ext (by show (512 * (t.val % 11) + j.val) % 5632 = 512 * (t.val % 11) + j.val; omega)
  rw [ec]
  refine congrArg₂ (· * ·) (congrArg₂ act ?_ ?_) (blk_wdn m c t j d)
  · rw [a_at m c t (lo j) 0 (ffCol t j) 0 (by decide) r _ (by show 16 + r.val + 0 = 16 + r.val; omega) (fun y => up_lo m c t _ y j),
      a_at m c t (lo j) 0 (ffCol t j) 1 (by decide) r _ (by show 15 + r.val + 1 = 16 + r.val; omega) (fun y => up_lo m c t _ y j),
      a_at m c t (lo j) 0 (ffCol t j) 2 (by decide) r _ (by show 14 + r.val + 2 = 16 + r.val; omega) (fun y => up_lo m c t _ y j)]
    exact tap_congr (blk_cg m c t 0 j) (blk_cg m c t 1 j) (blk_cg m c t 2 j) (blk_bg m c t j) rfl rfl rfl
  · rw [a_at m c t (hi j) 1 (ffCol t j) 0 (by decide) r _ (by show 16 + r.val + 0 = 16 + r.val; omega) (fun y => up_hi m c t _ y j),
      a_at m c t (hi j) 1 (ffCol t j) 1 (by decide) r _ (by show 15 + r.val + 1 = 16 + r.val; omega) (fun y => up_hi m c t _ y j),
      a_at m c t (hi j) 1 (ffCol t j) 2 (by decide) r _ (by show 14 + r.val + 2 = 16 + r.val; omega) (fun y => up_hi m c t _ y j)]
    exact tap_congr (blk_cv m c t 0 j) (blk_cv m c t 1 j) (blk_cv m c t 2 j) (blk_bv m c t j) rfl rfl rfl

/-- What the grid points leave: the rows' result so far, and their normalized rows. -/
theorem points (n : ℕ) (hn : n < cfg0.N) :
    (∀ (r : Fin 512) (d : Fin 2048), (outsAt0 m c n hn).1 (ix2 r d) = kAcc m c (gridRow ⟨n, hn⟩ r) d (n % 11 + 1)) ∧ (outsAt0 m c n hn).2 = sXn m c (n / 11) := by
  have first : ∀ t : Fin cfg0.N, t.val % 11 = 0 → (∀ (r : Fin 512) (d : Fin 2048), (outsAt0 m c t.val t.isLt).1 (ix2 r d) = kAcc m c (gridRow t r) d (t.val % 11 + 1)) ∧
      (outsAt0 m c t.val t.isLt).2 = sXn m c (t.val / 11) := by
    intro t h0
    rw [outsAt0_A m c t h0]
    dsimp only
    refine ⟨fun r d => ?_, ?_⟩
    · refine (out_first (hc0 := _) ..).trans ?_
      rw [xn_eq]
      refine step_at m c t _ r d ?_
      rw [h0]
      exact blk_x m c t r d
    · exact (sout_first (hc0 := _) ..).trans (xn_eq m c t)
  induction n with
  | zero => exact first ⟨0, hn⟩ rfl
  | succ n ih =>
    by_cases h0 : (n + 1) % 11 = 0
    · exact first ⟨n + 1, hn⟩ h0
    · obtain ⟨ih1, ih2⟩ := ih (by omega)
      have es : ∀ w, (outsAt0 m c (n + 1 - 1) w).2 = sXn m c ((n + 1) / 11) := fun _ => ih2.trans (by rw [show (n + 1) / 11 = n / 11 by omega])
      have hxo : ∀ (r : Fin 512) (d : Fin 2048), (outsAt0 m c n (by omega)).1 (ix2 r d) = kAcc m c (gridRow ⟨n + 1, hn⟩ r) d ((n + 1) % 11) := fun r d => by
        rw [ih1, show (n + 1) % 11 = n % 11 + 1 by omega]
        refine congrArg (kAcc m c · d (n % 11 + 1)) (Fin.ext ?_)
        show 512 * (n / 11) + r.val = 512 * ((n + 1) / 11) + r.val
        omega
      have hB := outsAt0_B m c ⟨n + 1, hn⟩ h0
      dsimp only at hB
      rw [hB, es]
      dsimp only
      refine ⟨fun r d => ?_, ?_⟩
      · exact (out_mid (hc0 := _) ..).trans (step_at m c ⟨n + 1, hn⟩ _ r d (hxo r d))
      · rfl

/-- The kernel's result. -/
theorem result (r : Fin 32768) (d : Fin 2048) : Cert.FfnMidIdeal.Value.G11 m c (ix2 r d) = kAcc m c r d 11 := by
  have hp : Cert.FfnMidIdeal.Value.pt11Of (ix2 r d) = 11 * (r.val / 512) + 10 := by
    show 11 * (1 * (r.val / 512 - 0) + 1 * (d.val / 2048 - 0)) + 10 = 11 * (r.val / 512) + 10
    omega
  have hlt : Cert.FfnMidIdeal.Value.pt11Of (ix2 r d) < cfg0.N := by rw [hp, show cfg0.N = 704 from N_0]; omega
  have e : Cert.FfnMidIdeal.Value.G11 m c (ix2 r d) = (outsAt0 m c _ hlt).1 (Cert.FfnMidIdeal.Value.loc11Of (ix2 r d)) := by
    rw [Cert.FfnMidIdeal.Value.outsAt0_sweep]
    exact dif_pos hlt
  rw [e]
  refine (congrArg _ (eq_ix2 (n0 := 512) (n1 := 2048) (Cert.FfnMidIdeal.Value.loc11Of (ix2 r d)))).trans (((points m c _ hlt).1 _ _).trans ?_)
  have e1 : (Cert.FfnMidIdeal.Value.pt11Of (ix2 r d)) % 11 + 1 = 11 := by rw [hp]; omega
  rw [e1]
  refine congrFun (congrArg₂ (kAcc m c) (Fin.ext ?_) (Fin.ext ?_)) 11
  · show 512 * (Cert.FfnMidIdeal.Value.pt11Of (ix2 r d) / 11) + r.val % 512 = r.val
    rw [hp]; omega
  · show d.val % 2048 = d.val
    omega

end

end Cert.FfnMidV

end
-- ==== Proof.FfnMidRef.lean ====
module

public import proofs.«01_k».proof.Proof.Gen.FfnMidRefIdeal.Run
public import proofs.«01_k».proof.Proof.FfnRef
public import Idealize.ShloMosaic.Lib.Pointwise

@[expose] public section

set_option maxRecDepth 16384
set_option maxHeartbeats 1000000

noncomputable section

namespace Cert.FfnMidV
open Idealize.ShloMosaic Idealize.ShloMosaic.TcCoe Idealize.ShloMosaic.Tactic Idealize.SL.Sem
open Cert.FfnMidRefIdeal Cert.FfnMidRefIdeal.Gen Cert.FfnMidRefIdeal.Value Idealize.ShloMosaic.StableHlo Cert.FfnV
/-! ## The reference's arrays, one after another -/

/-- One half's columns of the up-projection's weights, in order. -/
def rSide (w : Vec Ideal S4x11x2x2048x512 .bf16) : Vec Ideal S2x2048x5632 .f32 :=
  shapeCast S2x2048x5632 (transpose S2x2048x11x512 [1, 2, 0, 3] (extf (F := Ideal) .f32 (shapeCast S11x2x2048x512 (extractStridedSlice S1x11x2x2048x512 ![1, 0, 0, 0, 0] w slices_S4x11x2x2048x512_S1x11x2x2048x512_1_0_0_0_0) shapeCasts_S1x11x2x2048x512_S11x2x2048x512) bitsLt_bf16_f32) transposes_S11x2x2048x512_S2x2048x11x512_1_2_0_3) shapeCasts_S2x2048x11x512_S2x2048x5632

/-- A column of one half at an index. -/
theorem rSide_apply (w : Vec Ideal S4x11x2x2048x512 .bf16) (p : Fin 2) (l : Fin 2048) (f : Fin 5632) :
    rSide w (ix3 p l f) = w (ix5 (1 : Fin 4) (⟨f.val / 512, by omega⟩ : Fin 11) p l (⟨f.val % 512, Nat.mod_lt _ (by decide)⟩ : Fin 512)) := by
  unfold rSide
  pointwise

/-- Row 0 of the convolution's weights, at every row. -/
def rRow0 (w : Vec Ideal S4x3x11008 .f32) : Vec Ideal S8x4096x11008 .f32 :=
  broadcastInDim S8x4096x11008 ![0, 1, 2] bcast_S1x1x11008_S8x4096x11008_0_1_2 (broadcastInDim S1x1x11008 ![2] bcast_S11008_S1x1x11008_2
    (shapeCast S11008 (extractStridedSlice S1x11008 ![0, 0] (shapeCast S3x11008 (extractStridedSlice S1x3x11008 ![1, 0, 0] w slices_S4x3x11008_S1x3x11008_1_0_0) shapeCasts_S1x3x11008_S3x11008) slices_S3x11008_S1x11008_0_0) shapeCasts_S1x11008_S11008))

/-- Row 0 at an index. -/
theorem rRow0_apply (w : Vec Ideal S4x3x11008 .f32) (b : Fin 8) (s : Fin 4096) (q : Fin 11008) : rRow0 w (ix3 b s q) = w (ix3 (1 : Fin 4) (0 : Fin 3) q) := by
  unfold rRow0
  pointwise

/-- Row 1 of the convolution's weights, at every row. -/
def rRow1 (w : Vec Ideal S4x3x11008 .f32) : Vec Ideal S8x4096x11008 .f32 :=
  broadcastInDim S8x4096x11008 ![0, 1, 2] bcast_S1x1x11008_S8x4096x11008_0_1_2 (broadcastInDim S1x1x11008 ![2] bcast_S11008_S1x1x11008_2
    (shapeCast S11008 (extractStridedSlice S1x11008 ![1, 0] (shapeCast S3x11008 (extractStridedSlice S1x3x11008 ![1, 0, 0] w slices_S4x3x11008_S1x3x11008_1_0_0) shapeCasts_S1x3x11008_S3x11008) slices_S3x11008_S1x11008_1_0) shapeCasts_S1x11008_S11008))

/-- Row 1 at an index. -/
theorem rRow1_apply (w : Vec Ideal S4x3x11008 .f32) (b : Fin 8) (s : Fin 4096) (q : Fin 11008) : rRow1 w (ix3 b s q) = w (ix3 (1 : Fin 4) (1 : Fin 3) q) := by
  unfold rRow1
  pointwise

/-- Row 2 of the convolution's weights, at every row. -/
def rRow2 (w : Vec Ideal S4x3x11008 .f32) : Vec Ideal S8x4096x11008 .f32 :=
  broadcastInDim S8x4096x11008 ![0, 1, 2] bcast_S1x1x11008_S8x4096x11008_0_1_2 (broadcastInDim S1x1x11008 ![2] bcast_S11008_S1x1x11008_2
    (shapeCast S11008 (extractStridedSlice S1x11008 ![2, 0] (shapeCast S3x11008 (extractStridedSlice S1x3x11008 ![1, 0, 0] w slices_S4x3x11008_S1x3x11008_1_0_0) shapeCasts_S1x3x11008_S3x11008) slices_S3x11008_S1x11008_2_0) shapeCasts_S1x11008_S11008))

/-- Row 2 at an index. -/
theorem rRow2_apply (w : Vec Ideal S4x3x11008 .f32) (b : Fin 8) (s : Fin 4096) (q : Fin 11008) : rRow2 w (ix3 b s q) = w (ix3 (1 : Fin 4) (2 : Fin 3) q) := by
  unfold rRow2
  pointwise

/-- The bias at every row. -/
def rBias (w : Vec Ideal S4x11008 .f32) : Vec Ideal S8x4096x11008 .f32 :=
  broadcastInDim S8x4096x11008 ![0, 1, 2] bcast_S1x1x11008_S8x4096x11008_0_1_2 (broadcastInDim S1x1x11008 ![2] bcast_S11008_S1x1x11008_2
    (shapeCast S11008 (extractStridedSlice S1x11008 ![1, 0] w slices_S4x11008_S1x11008_1_0) shapeCasts_S1x11008_S11008))

/-- The bias at an index. -/
theorem rBias_apply (w : Vec Ideal S4x11008 .f32) (b : Fin 8) (s : Fin 4096) (q : Fin 11008) : rBias w (ix3 b s q) = w (ix2 (1 : Fin 4) q) := by
  unfold rBias
  pointwise

/-- The causal convolution. -/
def rConv (a : Vec Ideal S8x4096x11008 .f32) (w : Vec Ideal S4x3x11008 .f32) (cb : Vec Ideal S4x11008 .f32) : Vec Ideal S8x4096x11008 .f32 :=
  addf (F := Ideal) (φ := .f32) (addf (F := Ideal) (φ := .f32) (addf (F := Ideal) (φ := .f32) (addf (F := Ideal) (φ := .f32) (broadcastInDim S8x4096x11008 ![] bcast_S_S8x4096x11008 (constant S_ .f32 0x00000000#32)) (mulf (F := Ideal) (φ := .f32) (extractStridedSlice S8x4096x11008 ![0, 0, 0] (rPad a) slices_S8x4098x11008_S8x4096x11008_0_0_0) (rRow0 w))) (mulf (F := Ideal) (φ := .f32) (extractStridedSlice S8x4096x11008 ![0, 1, 0] (rPad a) slices_S8x4098x11008_S8x4096x11008_0_1_0) (rRow1 w))) (mulf (F := Ideal) (φ := .f32) (extractStridedSlice S8x4096x11008 ![0, 2, 0] (rPad a) slices_S8x4098x11008_S8x4096x11008_0_2_0) (rRow2 w))) (rBias cb)

/-- The convolution at an index. -/
theorem rConv_apply (a : Vec Ideal S8x4096x11008 .f32) (w : Vec Ideal S4x3x11008 .f32) (cb : Vec Ideal S4x11008 .f32) (b : Fin 8) (s : Fin 4096) (q : Fin 11008) :
    rConv a w cb (ix3 b s q) = tap (w (ix3 (1 : Fin 4) (0 : Fin 3) q)) (w (ix3 (1 : Fin 4) (1 : Fin 3) q)) (w (ix3 (1 : Fin 4) (2 : Fin 3) q)) (cb (ix2 (1 : Fin 4) q)) (rT a 0 b s q) (rT a 1 b s q) (rT a 2 b s q) := by
  have h : ∀ A0 A1 A2 B0 B1 B2 C : Vec Ideal S8x4096x11008 .f32, addf (F := Ideal) (φ := .f32) (addf (F := Ideal) (φ := .f32) (addf (F := Ideal) (φ := .f32) (addf (F := Ideal) (φ := .f32) (broadcastInDim S8x4096x11008 ![] bcast_S_S8x4096x11008 (constant S_ .f32 0x00000000#32)) (mulf (F := Ideal) (φ := .f32) A0 B0)) (mulf (F := Ideal) (φ := .f32) A1 B1)) (mulf (F := Ideal) (φ := .f32) A2 B2)) C (ix3 b s q)
      = 0 + A0 (ix3 b s q) * B0 (ix3 b s q) + A1 (ix3 b s q) * B1 (ix3 b s q) + A2 (ix3 b s q) * B2 (ix3 b s q) + C (ix3 b s q) := by
    intro A0 A1 A2 B0 B1 B2 C
    pointwise
  refine (h _ _ _ _ _ _ _).trans ?_
  rw [rTap0_apply, rTap1_apply, rTap2_apply, rRow0_apply, rRow1_apply, rRow2_apply, rBias_apply]
  unfold tap
  rw [zero_add, mul_comm (rT a 2 b s q), mul_comm (rT a 1 b s q), mul_comm (rT a 0 b s q)]
  exact congrArg (· + cb (ix2 (1 : Fin 4) q)) (sum3 _ _ _)

/-- The result: the rows and the down-projection of the hidden layer. -/
def rY (x : Vec Ideal S8x4096x2048 .f32) (h : Vec Ideal S8x4096x5504 .f32) (wd : Vec Ideal S4x5504x2048 .f32) : Vec Ideal S8x4096x2048 .f32 :=
  addf (F := Ideal) (φ := .f32) x (Host.dotGeneral (F := Ideal) (φ₁ := .f32) (φ₂ := .f32) dot_S8x4096x5504_S5504x2048_S8x4096x2048_2_0_01_1_n_n none h
    (shapeCast S5504x2048 (extractStridedSlice S1x5504x2048 ![1, 0, 0] wd slices_S4x5504x2048_S1x5504x2048_1_0_0) shapeCasts_S1x5504x2048_S5504x2048))

/-- The result at an index. -/
theorem rY_apply (x : Vec Ideal S8x4096x2048 .f32) (h : Vec Ideal S8x4096x5504 .f32) (wd : Vec Ideal S4x5504x2048 .f32) (b : Fin 8) (s : Fin 4096) (d : Fin 2048) :
    rY x h wd (ix3 b s d) = x (ix3 b s d) + ∑ f : Fin 5504, h (ix3 b s f) * wd (ix3 (1 : Fin 4) f d) := by
  unfold rY
  pointwise

section
variable (m : (ℓ : Loc nD τ sig) → Buf (Elt Ideal) ℓ) (c : Dev nD)

/-- The result, by its parts. -/
def yOf : Vec Ideal S8x4096x2048 .f32 :=
  rY (rX (m ((c : Thread nD τ).loc main_arg0))) (rAct (rConv (rUp (rNrm (rX (m ((c : Thread nD τ).loc main_arg0))) (m ((c : Thread nD τ).loc main_arg1))) (rWu (rSide (m ((c : Thread nD τ).loc main_arg2))))) (m ((c : Thread nD τ).loc main_arg3)) (m ((c : Thread nD τ).loc main_arg4)))) (m ((c : Thread nD τ).loc main_arg5))

/-- The result is the composition of the parts. -/
theorem res_y : res_main_v63 (F := Ideal) m c = shapeCast S32768x2048 (yOf m c) shapeCasts_S8x4096x2048_S32768x2048 := rfl

/-- The result at an index. -/
theorem res_y_apply (b : Fin 8) (s : Fin 4096) (d : Fin 2048) : (res_main_v63 (F := Ideal) m c : Vec Ideal S32768x2048 .f32) (ix2 (rowOf b s) d) = yOf m c (ix3 b s d) := by
  rw [res_y]
  exact flat_apply _ b s d

end

end Cert.FfnMidV

end
-- ==== Proof.FfnMidSame.lean ====
module

public import proofs.«01_k».proof.Proof.FfnMidRef
public import proofs.«01_k».proof.Proof.FfnSame

@[expose] public section

set_option maxRecDepth 16384
set_option maxHeartbeats 1000000

noncomputable section

namespace Cert.FfnMidV
open Idealize.ShloMosaic Idealize.ShloMosaic.TcCoe Idealize.ShloMosaic.Tactic Idealize.SL.Sem
open Cert.FfnMidRefIdeal Cert.FfnMidRefIdeal.Gen Cert.FfnMidRefIdeal.Value Idealize.ShloMosaic.StableHlo Cert.FfnV
/-! ## The reference's result is the layer over plain functions -/

section
variable (x : Vec Ideal S32768x2048 .f32) (g : Vec Ideal S2048 .f32) (w : Vec Ideal S4x11x2x2048x512 .bf16) (cw : Vec Ideal S4x3x11008 .f32) (cb : Vec Ideal S4x11008 .f32) (wd : Vec Ideal S4x5504x2048 .f32)

/-- The up-projection's weights as a function. -/
def fW (k : Fin 11) (p : Fin 2) (l : Fin 2048) (j : Fin 512) : EReal := w (ix5 (1 : Fin 4) k p l j)
/-- The convolution's weights as a function. -/
def fCW (i : Fin 3) (f : Fin 11008) : EReal := cw (ix3 (1 : Fin 4) i f)
/-- The convolution's bias as a function. -/
def fCB (f : Fin 11008) : EReal := cb (ix2 (1 : Fin 4) f)
/-- The down-projection's weights as a function. -/
def fWD (f : Fin 5504) (d : Fin 2048) : EReal := wd (ix3 (1 : Fin 4) f d)

/-- The reference's up-projection of its arrays. -/
def rA : Vec Ideal S8x4096x11008 .f32 := rUp (rNrm (rX x) g) (rWu (rSide w))

/-- The up-projection's weights at a column of a half. -/
theorem wu_eq (l : Fin 2048) (p : Fin 2) (f : Fin 5504) : rWu (rSide w) (ix2 l (both p f)) = fW w ⟨f.val / 512, by omega⟩ p l ⟨f.val % 512, Nat.mod_lt _ (by decide)⟩ := by
  have hp : ∀ p : Fin 2, p = 0 ∨ p = 1 := by decide
  rcases hp p with rfl | rfl
  · exact (rWu_gate _ l f).trans (rSide_apply w 0 l ⟨f.val, by omega⟩)
  · exact (rWu_val _ l f).trans (rSide_apply w 1 l ⟨f.val, by omega⟩)

/-- The reference's up-projection at an index. -/
theorem rA_apply (b : Fin 8) (s : Fin 4096) (p : Fin 2) (f : Fin 5504) : rA x g w (ix3 b s (both p f)) = sUp (fX x) (fG g) (fW w) (rowOf b s) p ⟨f.val, by omega⟩ := by
  refine (rUp_apply _ _ b s _).trans (Finset.sum_congr rfl fun l _ => congrArg₂ (· * ·) ((rNrm_apply _ _ b s l).trans ?_) (wu_eq w l p f))
  exact congrFun (congrArg (nrm · (fG g)) (funext fun e => rX_apply x b s e)) l

/-- The reference's shifted up-projection at an index. -/
theorem rT_apply (δ : ℕ) (b : Fin 8) (s : Fin 4096) (p : Fin 2) (f : Fin 5504) : rT (rA x g w) δ b s (both p f) = sTap (fX x) (fG g) (fW w) δ (rowOf b s) p ⟨f.val, by omega⟩ := by
  have e : (rowOf b s).val = 4096 * b.val + s.val := rfl
  unfold rT sTap
  by_cases h : s.val < δ
  · rw [if_pos h, if_pos (by omega)]
  · rw [if_neg h, if_neg (by omega)]
    refine (rA_apply x g w b _ p f).trans (congrArg (sUp (fX x) (fG g) (fW w) · p _) (Fin.ext ?_))
    show 4096 * b.val + (s.val - δ) = 4096 * b.val + s.val - δ
    omega

/-- The reference's convolution at an index. -/
theorem conv_eq (b : Fin 8) (s : Fin 4096) (p : Fin 2) (f : Fin 5504) : rConv (rA x g w) cw cb (ix3 b s (both p f)) = sConv (fX x) (fG g) (fW w) (fCW cw) (fCB cb) (rowOf b s) p ⟨f.val, by omega⟩ := by
  refine (rConv_apply _ _ _ b s _).trans ?_
  refine tap_congr ?_ ?_ ?_ ?_ (rT_apply x g w 0 b s p f) (rT_apply x g w 1 b s p f) (rT_apply x g w 2 b s p f)
  · exact (halfOf_pos p (fCW cw 0) ⟨f.val, by omega⟩ f.isLt).symm
  · exact (halfOf_pos p (fCW cw 1) ⟨f.val, by omega⟩ f.isLt).symm
  · exact (halfOf_pos p (fCW cw 2) ⟨f.val, by omega⟩ f.isLt).symm
  · exact (halfOf_pos p (fCB cb) ⟨f.val, by omega⟩ f.isLt).symm

/-- The reference's result of finite arrays is the layer's. -/
theorem y_eq (hx : ∀ r d, IsR (fX x r d)) (hg : ∀ d, IsR (fG g d)) (hw : ∀ k p l j, IsR (fW w k p l j)) (hcw : ∀ i f, IsR (fCW cw i f)) (hcb : ∀ f, IsR (fCB cb f))
    (b : Fin 8) (s : Fin 4096) (d : Fin 2048) : rY (rX x) (rAct (rConv (rA x g w) cw cb)) wd (ix3 b s d) = sAcc (fX x) (fG g) (fW w) (fCW cw) (fCB cb) (fWD wd) (rowOf b s) d 11 := by
  rw [rY_apply, sAcc_all, sum_padded]
  refine congrArg₂ (· + ·) (rX_apply x b s d) (Finset.sum_congr rfl fun f _ => congrArg (· * fWD wd f d) ?_)
  rw [act_eq (sConv_real hx hg hw hcw hcb _ _ _), rAct_apply, conv_eq, conv_eq]
end

end Cert.FfnMidV

end
-- ==== Proof.FfnMidClaim.lean ====
/- The claims about a convolutional feed-forward layer with no norm after it: the frames of its kernel and of its reference, and that the two compute the same array
   of finite arguments. -/
module

public import proofs.«01_k».proof.Defs
public import proofs.«01_k».proof.Proof.Gen.FfnMid.Frame
public import proofs.«01_k».proof.Proof.Gen.FfnMidIdeal.Frame
public import proofs.«01_k».proof.Proof.Gen.FfnMidIdeal.Value
public import proofs.«01_k».proof.Proof.Gen.FfnMidRefIdeal.Run
public import proofs.«01_k».proof.Proof.FfnMidGrid
public import proofs.«01_k».proof.Proof.FfnMidSame
public import proofs.«01_k».proof.Proof.FfnClaim
public import Idealize.ShloMosaic.Lib.ReduceAll

@[expose] public section

set_option maxHeartbeats 1000000

noncomputable section

namespace Cert.FfnMidV
open Idealize.ShloMosaic Idealize.ShloMosaic.TcCoe Idealize.SL.Sem Cert.FfnV

/-- What the precondition's operations need of their shapes. -/
theorem finite6_facts : Cert.Pre_finite6.Facts where
  bcast_S_S32768x2048 := by decide
  reducesTo_S32768x2048_S_d0_1 := by decide
  h_S_ := by decide
  bcast_S_S2048 := by decide
  reducesTo_S2048_S_d0 := by decide
  bitsLt_bf16_f32 := by decide
  bcast_S_S4x11x2x2048x512 := by decide
  reducesTo_S4x11x2x2048x512_S_d0_1_2_3_4 := by decide
  bcast_S_S4x3x11008 := by decide
  reducesTo_S4x3x11008_S_d0_1_2 := by decide
  bcast_S_S4x11008 := by decide
  reducesTo_S4x11008_S_d0_1 := by decide

/-- The kernel runs and leaves its arguments as they were. -/
theorem frame_kernel : Cert.quiescent_FfnMid (hFfnMid := Cert.FfnMid.Gen.facts) := fun m ρ _ => Cert.FfnMid.Gen.frame m ρ

/-- The same over the extended reals. -/
theorem frame_ideal : Cert.quiescent_FfnMidIdeal (hFfnMidIdeal := Cert.FfnMidIdeal.Gen.facts) := fun m ρ _ => Cert.FfnMidIdeal.Gen.frame m ρ

/-- The same of finite arguments. -/
theorem frame_ideal_finite : Cert.quiescent_FfnMidIdeal_pre_finite6 (hFfnMidIdeal := Cert.FfnMidIdeal.Gen.facts) (hPre_finite6 := finite6_facts) := fun m ρ _ => Cert.FfnMidIdeal.Gen.frame m ρ

/-- The reference runs and leaves its arguments as they were. -/
theorem frame_ref : Cert.quiescent_FfnMidRefIdeal (hFfnMidRefIdeal := Cert.FfnMidRefIdeal.Gen.facts) := fun m ρ _ =>
  (θ_run Cert.FfnMidRefIdeal.defs _ _).mono (fun r h => ⟨fun c => (h c).2, Idealize.ShloMosaic.sem_eq_zero_of_no_sems (by decide) r.2⟩)
    (Cert.FfnMidRefIdeal.Value.run (F := Ideal) m ρ)

/-- The same of finite arguments. -/
theorem frame_ref_finite : Cert.quiescent_FfnMidRefIdeal_pre_finite6 (hFfnMidRefIdeal := Cert.FfnMidRefIdeal.Gen.facts) (hPre_finite6 := finite6_facts) := fun m ρ _ =>
  frame_ref m ρ trivial

instance : Subsingleton Cert.Pre_finite6.S_.Idx := ⟨fun a b => funext fun i => i.elim0⟩

/-- The precondition's first five arrays are real everywhere. -/
theorem real_of_finite6 (x : Vec Ideal Cert.FfnMidIdeal.S32768x2048 .f32) (g : Vec Ideal Cert.FfnMidIdeal.S2048 .f32) (w : Vec Ideal Cert.FfnMidIdeal.S4x11x2x2048x512 .bf16)
    (cw : Vec Ideal Cert.FfnMidIdeal.S4x3x11008 .f32) (cb : Vec Ideal Cert.FfnMidIdeal.S4x11008 .f32) (wd : Vec Ideal Cert.FfnMidIdeal.S4x5504x2048 .f32)
    (h : @Cert.Pre_finite6.fn finite6_facts Ideal _ x g w cw cb wd = fun _ => 1#1) :
    (∀ i, IsR (x i)) ∧ (∀ i, IsR (g i)) ∧ (∀ i, IsR (w i)) ∧ (∀ i, IsR (cw i)) ∧ ∀ i, IsR (cb i) := by
  have h0 := congrFun h (fun i => i.elim0)
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨fun i => real_of_lt (Host.reduce_andi_all _ _ _ _ _ e0 i), fun i => real_of_lt (Host.reduce_andi_all _ _ _ _ _ e1 i), fun i => real_of_lt (Host.reduce_andi_all _ _ _ _ _ e2 i),
    fun i => real_of_lt (Host.reduce_andi_all _ _ _ _ _ e3 i), fun i => real_of_lt (Host.reduce_andi_all _ _ _ _ _ e4 i)⟩

/-- The kernel and the reference compute the same array of finite arguments. -/
theorem same_result : Cert.algebraic_FfnMidIdeal_FfnMidRefIdeal_pre_finite6 (hFfnMidIdeal := Cert.FfnMidIdeal.Gen.facts) (hFfnMidRefIdeal := Cert.FfnMidRefIdeal.Gen.facts) (hPre_finite6 := finite6_facts) := by
  intro m ρ m' ρ' hfin hagree
  have hy : ∀ (c : Dev Cert.FfnMidIdeal.nD) (b : Fin 8) (s : Fin 4096) (d : Fin 2048), yOf m' c (ix3 b s d) = kAcc m c (rowOf b s) d 11 := by
    intro c b s d
    obtain ⟨h0, h1, h2, h3, h4, h5⟩ := hagree c
    obtain ⟨r0, r1, r2, r3, r4⟩ := real_of_finite6 _ _ _ _ _ _ (hfin c)
    unfold yOf
    rw [h0, h1, h2, h3, h4, h5]
    exact y_eq _ _ _ _ _ _ (fun r d => r0 _) (fun d => r1 _) (fun k p l j => r2 _) (fun i f => r3 _) (fun f => r4 _) b s d
  have hrow : ∀ r : Fin 32768, ∃ (b : Fin 8) (s : Fin 4096), r = rowOf b s := fun r =>
    ⟨⟨r.val / 4096, by omega⟩, ⟨r.val % 4096, Nat.mod_lt _ (by decide)⟩, Fin.ext (by show r.val = 4096 * (r.val / 4096) + r.val % 4096; omega)⟩
  refine ⟨fun c => Cert.FfnMidIdeal.Value.G11 m c, Cert.FfnMidIdeal.Value.run m ρ, (θ_run _ _ _).mono (fun _ h c => ⟨(h c).1.trans ?_, (h c).2⟩) (Cert.FfnMidRefIdeal.Value.run m' ρ')⟩
  refine funext fun (j : Cert.FfnMidIdeal.S32768x2048.Idx) => ?_
  rw [eq_ix2 (n0 := 32768) (n1 := 2048) j]
  obtain ⟨b, s, hr⟩ := hrow (j 0)
  rw [hr]
  exact (res_y_apply m' c b s _).trans ((hy c b s _).trans (result m c _ _).symm)

end Cert.FfnMidV

end
-- ==== Proof.lean ====
/- The proof of every claim of `Cert.Claim`: of the GLA mixer (`Cert.GlaV`), and of the convolutional feed-forward layer with a second result normalized for the next
   mixer (`Cert.FfnV`), with its one result normalized in place (`Cert.FfnEndV`), and with its one result as it is (`Cert.FfnMidV`). -/
module

public import proofs.«01_k».proof.Defs
public import proofs.«01_k».proof.Proof.Gen.Gla
public import proofs.«01_k».proof.Proof.Gen.Gla.Skeleton
public import proofs.«01_k».proof.Proof.Gen.Gla.Loops
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Loops
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaIdeal.Value
public import proofs.«01_k».proof.Proof.Gen.GlaRefIdeal.Run
public import proofs.«01_k».proof.Proof.Gen.GlaRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal
public import proofs.«01_k».proof.Proof.Gen.FfnEnd.Frame
public import proofs.«01_k».proof.Proof.Gen.FfnEndIdeal.Frame
public import proofs.«01_k».proof.Proof.Gen.FfnEndIdeal.Value
public import proofs.«01_k».proof.Proof.Gen.FfnEndRefIdeal.Run
public import proofs.«01_k».proof.Proof.Gen.FfnMid.Frame
public import proofs.«01_k».proof.Proof.Gen.FfnMidIdeal.Frame
public import proofs.«01_k».proof.Proof.Gen.FfnMidIdeal.Value
public import proofs.«01_k».proof.Proof.Gen.FfnMidRefIdeal.Run
public import proofs.«01_k».proof.Proof.GlaClaim
public import proofs.«01_k».proof.Proof.FfnClaim
public import proofs.«01_k».proof.Proof.FfnEndClaim
public import proofs.«01_k».proof.Proof.FfnMidClaim
public import Idealize.ShloMosaic.Adequacy
public import Idealize.ShloMosaic.Init

@[expose] public section

noncomputable section

namespace Cert.Proof

open Idealize.ShloMosaic Idealize.SL.Sem Cert.Gla

/-- Every claim: of the GLA mixer and of the convolutional feed-forward layer in each of its three forms. -/
theorem claim : Cert.Claim := ⟨Cert.Gla.Gen.facts, Cert.GlaIdeal.Gen.facts, Cert.GlaRefIdeal.Gen.facts, Cert.Ffn.Gen.facts, Cert.FfnIdeal.Gen.facts, Cert.FfnRefIdeal.Gen.facts,
  Cert.FfnEnd.Gen.facts, Cert.FfnEndIdeal.Gen.facts, Cert.FfnEndRefIdeal.Gen.facts, Cert.FfnMid.Gen.facts, Cert.FfnMidIdeal.Gen.facts, Cert.FfnMidRefIdeal.Gen.facts, Cert.FfnV.finite_facts, Cert.FfnMidV.finite6_facts,
  Cert.GlaV.frame_kernel, Cert.GlaV.frame_ideal, Cert.GlaV.frame_ref,
  Cert.FfnV.frame_kernel, Cert.FfnV.frame_ideal, Cert.FfnV.frame_ideal_finite, Cert.FfnV.frame_ref, Cert.FfnV.frame_ref_finite,
  Cert.FfnEndV.frame_kernel, Cert.FfnEndV.frame_ideal, Cert.FfnEndV.frame_ideal_finite, Cert.FfnEndV.frame_ref, Cert.FfnEndV.frame_ref_finite,
  Cert.FfnMidV.frame_kernel, Cert.FfnMidV.frame_ideal, Cert.FfnMidV.frame_ideal_finite, Cert.FfnMidV.frame_ref, Cert.FfnMidV.frame_ref_finite,
  trivial, Cert.GlaV.same_result, trivial, Cert.FfnV.same_result, trivial, Cert.FfnEndV.same_result, trivial, Cert.FfnMidV.same_result⟩

end Cert.Proof

end
